-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)) (v4 : (c : Dev Cert.KernelIdeal.nD) → Buf (Elt Ideal) ((c.tc : Thread Cert.KernelIdeal.nD Cert.KernelIdeal.τ).loc Cert.KernelIdeal.main_v33_4)) (v5 : (c : Dev Cert.KernelIdeal.nD) → Buf (Elt Ideal) ((c.tc : Thread Cert.KernelIdeal.nD Cert.KernelIdeal.τ).loc Cert.KernelIdeal.main_v33_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_v33_4) = v4 c
          ∧ r.2.mem ((c.tc : Thread Cert.KernelIdeal.nD Cert.KernelIdeal.τ).loc Cert.KernelIdeal.main_v33_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v92) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)) (v5 : (c : Dev Cert.Kernel3Ideal.nD) → Buf (Elt Ideal) ((c.tc : Thread Cert.Kernel3Ideal.nD Cert.Kernel3Ideal.τ).loc Cert.Kernel3Ideal.main_v7_5)) (v6 : (c : Dev Cert.Kernel3Ideal.nD) → Buf (Elt Ideal) ((c.tc : Thread Cert.Kernel3Ideal.nD Cert.Kernel3Ideal.τ).loc Cert.Kernel3Ideal.main_v7_6)) (v7 : (c : Dev Cert.Kernel3Ideal.nD) → Buf (Elt Ideal) ((c.tc : Thread Cert.Kernel3Ideal.nD Cert.Kernel3Ideal.τ).loc Cert.Kernel3Ideal.main_v7_7)) (v8 : (c : Dev Cert.Kernel3Ideal.nD) → Buf (Elt Ideal) ((c.tc : Thread Cert.Kernel3Ideal.nD Cert.Kernel3Ideal.τ).loc Cert.Kernel3Ideal.main_v7_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_v7_5) = v5 c
          ∧ r.2.mem ((c.tc : Thread Cert.Kernel3Ideal.nD Cert.Kernel3Ideal.τ).loc Cert.Kernel3Ideal.main_v7_6) = v6 c
          ∧ r.2.mem ((c.tc : Thread Cert.Kernel3Ideal.nD Cert.Kernel3Ideal.τ).loc Cert.Kernel3Ideal.main_v7_7) = v7 c
          ∧ r.2.mem ((c.tc : Thread Cert.Kernel3Ideal.nD Cert.Kernel3Ideal.τ).loc Cert.Kernel3Ideal.main_v7_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v148) = v2 c
          ∧ r.2.mem ((c.tc : Thread Cert.Reference3Ideal.nD Cert.Reference3Ideal.τ).loc Cert.Reference3Ideal.main_v149) = v3 c
          ∧ r.2.mem ((c.tc : Thread Cert.Reference3Ideal.nD Cert.Reference3Ideal.τ).loc Cert.Reference3Ideal.main_v115) = v4 c
          ∧ r.2.mem ((c.tc : Thread Cert.Reference3Ideal.nD Cert.Reference3Ideal.τ).loc Cert.Reference3Ideal.main_v150) = v5 c
          ∧ r.2.mem ((c.tc : Thread Cert.Reference3Ideal.nD Cert.Reference3Ideal.τ).loc Cert.Reference3Ideal.main_v117) = v6 c
          ∧ r.2.mem ((c.tc : Thread Cert.Reference3Ideal.nD Cert.Reference3Ideal.τ).loc Cert.Reference3Ideal.main_v116) = v7 c
          ∧ r.2.mem ((c.tc : Thread Cert.Reference3Ideal.nD Cert.Reference3Ideal.τ).loc Cert.Reference3Ideal.main_v147) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)) (v2 : (c : Dev Cert.Kernel6Ideal.nD) → Buf (Elt Ideal) ((c.tc : Thread Cert.Kernel6Ideal.nD Cert.Kernel6Ideal.τ).loc Cert.Kernel6Ideal.main_v22_2)) (v3 : (c : Dev Cert.Kernel6Ideal.nD) → Buf (Elt Ideal) ((c.tc : Thread Cert.Kernel6Ideal.nD Cert.Kernel6Ideal.τ).loc Cert.Kernel6Ideal.main_v22_3)) (v4 : (c : Dev Cert.Kernel6Ideal.nD) → Buf (Elt Ideal) ((c.tc : Thread Cert.Kernel6Ideal.nD Cert.Kernel6Ideal.τ).loc Cert.Kernel6Ideal.main_v22_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_v22_2) = v2 c
          ∧ r.2.mem ((c.tc : Thread Cert.Kernel6Ideal.nD Cert.Kernel6Ideal.τ).loc Cert.Kernel6Ideal.main_v22_3) = v3 c
          ∧ r.2.mem ((c.tc : Thread Cert.Kernel6Ideal.nD Cert.Kernel6Ideal.τ).loc Cert.Kernel6Ideal.main_v22_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_v76) = v2 c
          ∧ r.2.mem ((c.tc : Thread Cert.Reference6Ideal.nD Cert.Reference6Ideal.τ).loc Cert.Reference6Ideal.main_v77) = v3 c
          ∧ r.2.mem ((c.tc : Thread Cert.Reference6Ideal.nD Cert.Reference6Ideal.τ).loc Cert.Reference6Ideal.main_v78) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg1) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_v27) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩

class Facts : Prop where
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S1024x1024 .f32) (main_arg3 : FVec F S1x1024 .f32) (main_arg4 : FVec F S1x1024 .f32) (main_arg5 : FVec F S1024x4096 .f32) (main_arg6 : FVec F S4096x1024 .f32) (main_arg7 : FVec F S4096x1024 .f32) : IVec S1x1024 1 × IVec S1x1024 1 × IVec S1024x4096 1 × IVec S4096x1024 1 × IVec S4096x1024 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg4
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4096 .f32 := Host.absf main_arg5
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg6
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg7
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite3.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩

class Facts : Prop where
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S1024x1024 .f32) (main_arg3 : FVec F S1x1024 .f32) (main_arg4 : FVec F S1x1024 .f32) (main_arg5 : FVec F S1024x4096 .f32) (main_arg6 : FVec F S4096x1024 .f32) (main_arg7 : FVec F S1x1024 .f32) (main_arg8 : FVec F S1x1024 .f32) (main_arg9 : FVec F S4096x1024 .f32) : IVec S1x1024 1 × IVec S1x1024 1 × IVec S4096x1024 1 :=
  let main_v0 : FVec F S1x1024 .f32 := Host.absf main_arg7
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg8
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg9
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Kernel.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S256x1024 : Shape := ⟨2, ![256, 1024]⟩
abbrev S256x4096 : Shape := ⟨2, ![256, 4096]⟩
abbrev S256x1 : Shape := ⟨2, ![256, 1]⟩
abbrev S4 : Shape := ⟨1, ![4]⟩
abbrev S1024x256 : Shape := ⟨2, ![1024, 256]⟩
abbrev S1x1024x1024 : Shape := ⟨3, ![1, 1024, 1024]⟩
abbrev S1 : Shape := ⟨1, ![1]⟩
abbrev S1024 : Shape := ⟨1, ![1024]⟩
abbrev S256 : Shape := ⟨1, ![256]⟩

abbrev nBuf : Space → Nat
  | .hbm => 53
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .bf16⟩
  | .hbm, ⟨40, _⟩ => ⟨S1024x4x1024, .f32⟩
  | .hbm, ⟨41, _⟩ => ⟨S4x1024x1024, .f32⟩
  | .hbm, ⟨42, _⟩ => ⟨S4x1024x1024, .bf16⟩
  | .hbm, ⟨43, _⟩ => ⟨S4x1024x1024, .f32⟩
  | .hbm, ⟨44, _⟩ => ⟨S4x1024x1024, .bf16⟩
  | .hbm, ⟨45, _⟩ => ⟨S4096x1024, .bf16⟩
  | .hbm, ⟨46, _⟩ => ⟨S1024x1024, .bf16⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S1x1024, .f32⟩
  | .hbm, ⟨52, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S4x1024x1024, .bf16⟩
  | .local _ .vmem, ⟨12, _⟩ => ⟨S4x1024x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | .local _ .vmem, ⟨22, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v33_2 : Ref sig .tc := ⟨.hbm, 49, rfl⟩
abbrev main_v33_3 : Ref sig .tc := ⟨.hbm, 50, rfl⟩
abbrev main_v33_4 : Ref sig .tc := ⟨.hbm, 51, rfl⟩
abbrev main_v33_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S4096x1024, .f32⟩
  | 2 => ⟨S1024x1024, .f32⟩
  | 3 => ⟨S1x1024, .f32⟩
  | 4 => ⟨S1x1024, .f32⟩
  | 5 => ⟨S1024x4096, .f32⟩
  | 6 => ⟨S4096x1024, .f32⟩
  | 7 => ⟨S4096x1024, .f32⟩
  | 8 => ⟨S4096x1024, .f32⟩
  | 9 => ⟨S4096x1024, .f32⟩
  | 10 => ⟨S1024, .f32⟩
  | 11 => ⟨S1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .i1⟩
  | 55 => ⟨S_, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S1024x4096, .f32⟩
  | 72 => ⟨S4096x1024, .f32⟩
  | 73 => ⟨S4096x4096, .f32⟩
  | 74 => ⟨S4096x4096, .f32⟩
  | 75 => ⟨S_, .f32⟩
  | 76 => ⟨S4096x4096, .f32⟩
  | 77 => ⟨S4096x4096, .f32⟩
  | 78 => ⟨S4096x1024, .f32⟩
  | 79 => ⟨S1024x4096, .f32⟩
  | 80 => ⟨S4096x1024, .f32⟩
  | 81 => ⟨S4096x1024, .f32⟩
  | 82 => ⟨S_, .f32⟩
  | 83 => ⟨S1024, .f32⟩
  | 84 => ⟨S1x1024, .f32⟩
  | 85 => ⟨S_, .f32⟩
  | 86 => ⟨S1024, .f32⟩
  | 87 => ⟨S4096x1024, .f32⟩
  | 88 => ⟨S_, .f32⟩
  | 89 => ⟨S1024, .f32⟩
  | 90 => ⟨S1x1024, .f32⟩
  | 91 => ⟨S4096x1024, .f32⟩
  | 92 => ⟨S4096x1024, .f32⟩
  | 93 => ⟨S_, .f32⟩
  | 94 => ⟨S1024, .f32⟩
  | 95 => ⟨S4096x1024, .f32⟩
  | 96 => ⟨S_, .f32⟩
  | 97 => ⟨S4096, .f32⟩
  | 98 => ⟨S4096x1, .f32⟩
  | 99 => ⟨S4096x1024, .f32⟩
  | 100 => ⟨S4096x1024, .f32⟩
  | 101 => ⟨S4096x1, .f32⟩
  | 102 => ⟨S4096x1024, .f32⟩
  | 103 => ⟨S_, .f32⟩
  | 104 => ⟨S4096, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096, .f32⟩
  | 111 => ⟨S4096x1024, .f32⟩
  | 112 => ⟨S4096x1024, .f32⟩
  | 113 => ⟨S4096x1024, .f32⟩
  | 114 => ⟨S_, .f32⟩
  | 115 => ⟨S4096, .f32⟩
  | 116 => ⟨S4096x1, .f32⟩
  | 117 => ⟨S4096x1024, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x1024, .f32⟩
  | 125 => ⟨S4096x1024, .f32⟩
  | 126 => ⟨S1x1024, .f32⟩
  | 127 => ⟨S1x1024, .f32⟩
  | _ => ⟨S4096x1024, .f32⟩

abbrev hbmTy0_1 (i : Nat) : BufTy := match i % 128 with
  | 0 => ⟨S1024x1024, .f32⟩
  | 1 => ⟨S1024x1024, .f32⟩
  | 2 => ⟨S4096x1024, .f32⟩
  | 3 => ⟨S1024x4x1024, .f32⟩
  | 4 => ⟨S4x1024x1024, .f32⟩
  | 5 => ⟨S4096x1024, .f32⟩
  | 6 => ⟨S4096x1024, .bf16⟩
  | 7 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_17 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_21 : Ref sig .tc := ⟨.hbm, 119, rfl⟩
abbrev main_v87 : Ref sig .tc := ⟨.hbm, 120, rfl⟩
abbrev main_v88 : Ref sig .tc := ⟨.hbm, 121, rfl⟩
abbrev main_cst_22 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩

abbrev nD : Nat := 1
abbrev τ : Topo := Topo.v7x

variable {F : FTy → Type} [FloatOps F]
-- ==== Kernel2.lean ====
abbrev S4096x512 : Shape := ⟨2, ![4096, 512]⟩
abbrev S4096x128 : Shape := ⟨2, ![4096, 128]⟩
abbrev S4096x1024 : Shape := ⟨2, ![4096, 1024]⟩
abbrev S1x512 : Shape := ⟨2, ![1, 512]⟩
abbrev S8x128x128 : Shape := ⟨3, ![8, 128, 128]⟩
abbrev S128x512 : Shape := ⟨2, ![128, 512]⟩
abbrev S8 : Shape := ⟨1, ![8]⟩
abbrev S1024x4096 : Shape := ⟨2, ![1024, 4096]⟩
abbrev S4096x4096 : Shape := ⟨2, ![4096, 4096]⟩
abbrev S_ : Shape := ⟨0, ![]⟩
abbrev S4096x1536 : Shape := ⟨2, ![4096, 1536]⟩
abbrev S4096x256 : Shape := ⟨2, ![4096, 256]⟩
abbrev S128x128 : Shape := ⟨2, ![128, 128]⟩
abbrev S8x128 : Shape := ⟨2, ![8, 128]⟩
abbrev S512x512 : Shape := ⟨2, ![512, 512]⟩
abbrev S512x128 : Shape := ⟨2, ![512, 128]⟩
abbrev S512x1024 : Shape := ⟨2, ![512, 1024]⟩
abbrev S512x4096 : Shape := ⟨2, ![512, 4096]⟩
abbrev S512x1536 : Shape := ⟨2, ![512, 1536]⟩
abbrev S4x128x256 : Shape := ⟨3, ![4, 128, 256]⟩
abbrev S4 : Shape := ⟨1, ![4]⟩
abbrev S1x128x128 : Shape := ⟨3, ![1, 128, 128]⟩
abbrev S128x256 : Shape := ⟨2, ![128, 256]⟩
abbrev S1x128x256 : Shape := ⟨3, ![1, 128, 256]⟩
abbrev S1 : Shape := ⟨1, ![1]⟩
abbrev S1x128 : Shape := ⟨2, ![1, 128]⟩
abbrev S256x128 : Shape := ⟨2, ![256, 128]⟩
abbrev S1024x1024 : Shape := ⟨2, ![1024, 1024]⟩
abbrev S128 : Shape := ⟨1, ![128]⟩
abbrev S128x1 : Shape := ⟨2, ![128, 1]⟩
abbrev S64x128 : Shape := ⟨2, ![64, 128]⟩
abbrev S64x512 : Shape := ⟨2, ![64, 512]⟩
abbrev S512x256 : Shape := ⟨2, ![512, 256]⟩
abbrev S64x256 : Shape := ⟨2, ![64, 256]⟩
abbrev S1x1 : Shape := ⟨2, ![1, 1]⟩
abbrev S512 : Shape := ⟨1, ![512]⟩

abbrev nBuf : Space → Nat
  | .hbm => 30
  | .vmem => 44
  | .smem => 1
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x128, .bf16⟩
  | .hbm, ⟨4, _⟩ => ⟨S4096x128, .bf16⟩
  | .hbm, ⟨5, _⟩ => ⟨S4096x1024, .bf16⟩
  | .hbm, ⟨6, _⟩ => ⟨S4096x128, .f32⟩
  | .hbm, ⟨7, _⟩ => ⟨S4096x128, .f32⟩
  | .hbm, ⟨8, _⟩ => ⟨S1x512, .f32⟩
  | .hbm, ⟨9, _⟩ => ⟨S1x512, .f32⟩
  | .hbm, ⟨10, _⟩ => ⟨S8x128x128, .f32⟩
  | .hbm, ⟨11, _⟩ => ⟨S128x512, .f32⟩
  | .hbm, ⟨12, _⟩ => ⟨S8, .f32⟩
  | .hbm, ⟨13, _⟩ => ⟨S4096x1024, .f32⟩
  | .hbm, ⟨14, _⟩ => ⟨S1024x4096, .f32⟩
  | .hbm, ⟨15, _⟩ => ⟨S4096x1024, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S4096x1024, .bf16⟩
  | .hbm, ⟨22, _⟩ => ⟨S4096x1536, .bf16⟩
  | .hbm, ⟨23, _⟩ => ⟨S4096x256, .f32⟩
  | .hbm, ⟨24, _⟩ => ⟨S4096x1024, .f32⟩
  | .hbm, ⟨25, _⟩ => ⟨S1x512, .f32⟩
  | .hbm, ⟨26, _⟩ => ⟨S1x512, .f32⟩
  | .hbm, ⟨27, _⟩ => ⟨S8x128x128, .f32⟩
  | .hbm, ⟨28, _⟩ => ⟨S128x128, .f32⟩
  | .hbm, ⟨29, _⟩ => ⟨S8x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S128x128, .bf16⟩
  | .local _ .vmem, ⟨9, _⟩ => ⟨S128x128, .bf16⟩
  | .local _ .vmem, ⟨10, _⟩ => ⟨S512x128, .bf16⟩
  | .local _ .vmem, ⟨11, _⟩ => ⟨S512x128, .bf16⟩
  | .local _ .vmem, ⟨12, _⟩ => ⟨S128x128, .bf16⟩
  | .local _ .vmem, ⟨13, _⟩ => ⟨S128x128, .bf16⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x512, .f32⟩
  | .local _ .vmem, ⟨25, _⟩ => ⟨S1x512, .f32⟩
  | .local _ .vmem, ⟨26, _⟩ => ⟨S8x128x128, .f32⟩
  | .local _ .vmem, ⟨27, _⟩ => ⟨S128x512, .f32⟩
  | .local _ .vmem, ⟨28, _⟩ => ⟨S512x4096, .bf16⟩
  | .local _ .vmem, ⟨29, _⟩ => ⟨S512x4096, .bf16⟩
  | .local _ .vmem, ⟨30, _⟩ => ⟨S512x1024, .bf16⟩
  | .local _ .vmem, ⟨31, _⟩ => ⟨S512x1024, .bf16⟩
  | .local _ .vmem, ⟨32, _⟩ => ⟨S512x1536, .bf16⟩
  | .local _ .vmem, ⟨33, _⟩ => ⟨S512x1536, .bf16⟩
  | .local _ .vmem, ⟨34, _⟩ => ⟨S4096x256, .f32⟩
  | .local _ .vmem, ⟨35, _⟩ => ⟨S1x512, .f32⟩
  | .local _ .vmem, ⟨36, _⟩ => ⟨S1x512, .f32⟩
  | .local _ .vmem, ⟨37, _⟩ => ⟨S8x128x128, .f32⟩
  | .local _ .vmem, ⟨38, _⟩ => ⟨S128x128, .f32⟩
  | .local _ .vmem, ⟨39, _⟩ => ⟨S8x128, .f32⟩
  | .local _ .vmem, ⟨40, _⟩ => ⟨S128x512, .f32⟩
  | .local _ .vmem, ⟨41, _⟩ => ⟨S4x128x256, .bf16⟩
  | .local _ .vmem, ⟨42, _⟩ => ⟨S4x128x256, .bf16⟩
  | .local _ .vmem, ⟨43, _⟩ => ⟨S4096x1024, .f32⟩
  | .local _ .smem, ⟨0, _⟩ => ⟨S8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v5_4 : Ref sig .tc := ⟨.hbm, 26, rfl⟩
abbrev main_v5_5 : Ref sig .tc := ⟨.hbm, 27, rfl⟩
abbrev main_v5_6 : Ref sig .tc := ⟨.hbm, 28, rfl⟩
abbrev main_v5_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c4_i32 : BitVec 32 := 4#32
  let arg0 : BitVec 32 := BitVec.ofNat 32 (i 0).val
  let v20 : BitVec 32 := Scalar.muli c4_i32 arg0
  let c0_i32_3 : BitVec 32 := 0#32
  let v21 : BitVec 32 := Scalar.addi v20 c0_i32_3
  let c128_i32_349 : BitVec 32 := 128#32
  let v854 : BitVec 32 := Scalar.muli v21 c128_i32_349
  v854
def k0_off1 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c128_i32_349 : BitVec 32 := 128#32
  let v854 : BitVec 32 := Scalar.muli v21 c128_i32_349
  let v855 : BitVec 32 := v854
  let v870 : Index := Scalar.indexCast v855
  let c0_354 : Index := 0#32
  ![v870.toNat, 0]
def k0_off2 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c128_i32_349 : BitVec 32 := 128#32
  let v854 : BitVec 32 := Scalar.muli v21 c128_i32_349
  let v855 : BitVec 32 := v854
  let v873 : Index := Scalar.indexCast v855
  let c128_355 : Index := 128#32
  ![v873.toNat, 128]
def k0_mult2 (i : grid0.Coords) : BitVec 32 :=
  let c4_i32 : BitVec 32 := 4#32
  let arg0 : BitVec 32 := BitVec.ofNat 32 (i 0).val
  let v20 : BitVec 32 := Scalar.muli c4_i32 arg0
  let c0_i32_3 : BitVec 32 := 0#32
  let v21 : BitVec 32 := Scalar.addi v20 c0_i32_3
  let c1_i32_356 : BitVec 32 := 1#32
  let v875 : BitVec 32 := Scalar.subi v21 c1_i32_356
  let c0_i32_357 : BitVec 32 := 0#32
  let v876 : BitVec 32 := Scalar.maxsi v875 c0_i32_357
  let c128_i32_358 : BitVec 32 := 128#32
  let v877 : BitVec 32 := Scalar.muli v876 c128_i32_358
  v877
def k0_off3 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c1_i32_356 : BitVec 32 := 1#32
  let v875 : BitVec 32 := Scalar.subi v21 c1_i32_356
  let c0_i32_357 : BitVec 32 := 0#32
  let v876 : BitVec 32 := Scalar.maxsi v875 c0_i32_357
  let c128_i32_358 : BitVec 32 := 128#32
  let v877 : BitVec 32 := Scalar.muli v876 c128_i32_358
  let v878 : BitVec 32 := v877
  let v879 : Index := Scalar.indexCast v878
  let c0_359 : Index := 0#32
  ![v879.toNat, 0]
def k0_off4 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c1_i32_356 : BitVec 32 := 1#32
  let v875 : BitVec 32 := Scalar.subi v21 c1_i32_356
  let c0_i32_357 : BitVec 32 := 0#32
  let v876 : BitVec 32 := Scalar.maxsi v875 c0_i32_357
  let c128_i32_358 : BitVec 32 := 128#32
  let v877 : BitVec 32 := Scalar.muli v876 c128_i32_358
  let v878 : BitVec 32 := v877
  let v899 : Index := Scalar.indexCast v878
  let c128_366 : Index := 128#32
  ![v899.toNat, 128]
def k0_mult3 (i : grid0.Coords) : BitVec 32 :=
  let c4_i32_384 : BitVec 32 := 4#32
  let arg0 : BitVec 32 := BitVec.ofNat 32 (i 0).val
  let v940 : BitVec 32 := Scalar.muli c4_i32_384 arg0
  let c1_i32_385 : BitVec 32 := 1#32
  let v941 : BitVec 32 := Scalar.addi v940 c1_i32_385
  let c128_i32_748 : BitVec 32 := 128#32
  let v1774 : BitVec 32 := Scalar.muli v941 c128_i32_748
  v1774
def k0_mult4 (i : grid0.Coords) : BitVec 32 :=
  let c4_i32_384 : BitVec 32 := 4#32
  let arg0 : BitVec 32 := BitVec.ofNat 32 (i 0).val
  let v940 : BitVec 32 := Scalar.muli c4_i32_384 arg0
  let c1_i32_385 : BitVec 32 := 1#32
  let v941 : BitVec 32 := Scalar.addi v940 c1_i32_385
  let c1_i32_756 : BitVec 32 := 1#32
  let v1795 : BitVec 32 := Scalar.subi v941 c1_i32_756
  let c0_i32_757 : BitVec 32 := 0#32
  let v1796 : BitVec 32 := Scalar.maxsi v1795 c0_i32_757
  let c128_i32_758 : BitVec 32 := 128#32
  let v1797 : BitVec 32 := Scalar.muli v1796 c128_i32_758
  v1797
def k0_mult5 (i : grid0.Coords) : BitVec 32 :=
  let c4_i32_784 : BitVec 32 := 4#32
  let arg0 : BitVec 32 := BitVec.ofNat 32 (i 0).val
  let v1860 : BitVec 32 := Scalar.muli c4_i32_784 arg0
  let c2_i32_785 : BitVec 32 := 2#32
  let v1861 : BitVec 32 := Scalar.addi v1860 c2_i32_785
  let c128_i32_1147 : BitVec 32 := 128#32
  let v2694 : BitVec 32 := Scalar.muli v1861 c128_i32_1147
  v2694
def k0_mult6 (i : grid0.Coords) : BitVec 32 :=
  let c4_i32_784 : BitVec 32 := 4#32
  let arg0 : BitVec 32 := BitVec.ofNat 32 (i 0).val
  let v1860 : BitVec 32 := Scalar.muli c4_i32_784 arg0
  let c2_i32_785 : BitVec 32 := 2#32
  let v1861 : BitVec 32 := Scalar.addi v1860 c2_i32_785
  let c1_i32_1155 : BitVec 32 := 1#32
  let v2715 : BitVec 32 := Scalar.subi v1861 c1_i32_1155
  let c0_i32_1156 : BitVec 32 := 0#32
  let v2716 : BitVec 32 := Scalar.maxsi v2715 c0_i32_1156
  let c128_i32_1157 : BitVec 32 := 128#32
  let v2717 : BitVec 32 := Scalar.muli v2716 c128_i32_1157
  v2717
def k0_mult7 (i : grid0.Coords) : BitVec 32 :=
  let c4_i32_1183 : BitVec 32 := 4#32
  let arg0 : BitVec 32 := BitVec.ofNat 32 (i 0).val
  let v2780 : BitVec 32 := Scalar.muli c4_i32_1183 arg0
  let c3_i32_1184 : BitVec 32 := 3#32
  let v2781 : BitVec 32 := Scalar.addi v2780 c3_i32_1184
  let c128_i32_1546 : BitVec 32 := 128#32
  let v3614 : BitVec 32 := Scalar.muli v2781 c128_i32_1546
  v3614
def k0_mult8 (i : grid0.Coords) : BitVec 32 :=
  let c4_i32_1183 : BitVec 32 := 4#32
  let arg0 : BitVec 32 := BitVec.ofNat 32 (i 0).val
  let v2780 : BitVec 32 := Scalar.muli c4_i32_1183 arg0
  let c3_i32_1184 : BitVec 32 := 3#32
  let v2781 : BitVec 32 := Scalar.addi v2780 c3_i32_1184
  let c1_i32_1554 : BitVec 32 := 1#32
  let v3635 : BitVec 32 := Scalar.subi v2781 c1_i32_1554
  let c0_i32_1555 : BitVec 32 := 0#32
  let v3636 : BitVec 32 := Scalar.maxsi v3635 c0_i32_1555
  let c128_i32_1556 : BitVec 32 := 128#32
  let v3637 : BitVec 32 := Scalar.muli v3636 c128_i32_1556
  v3637
def k0_cond6 (i : grid0.Coords) : BitVec 1 :=
  let arg0 : BitVec 32 := BitVec.ofNat 32 (i 0).val
  let c7_i32_1582 : BitVec 32 := 7#32
  let v3700 : BitVec 1 := Scalar.cmpi .eq arg0 c7_i32_1582
  let v3701 : BitVec 32 := Scalar.extui v3700
  let c0_i32_1587 : BitVec 32 := 0#32
  let v3702 : BitVec 1 := Scalar.cmpi .ne v3701 c0_i32_1587
  v3702

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4096x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== Reference2Ideal.lean ====
abbrev S4096x512 : Shape := ⟨2, ![4096, 512]⟩
abbrev S4096x128 : Shape := ⟨2, ![4096, 128]⟩
abbrev S4096x1024 : Shape := ⟨2, ![4096, 1024]⟩
abbrev S1x512 : Shape := ⟨2, ![1, 512]⟩
abbrev S8x128x128 : Shape := ⟨3, ![8, 128, 128]⟩
abbrev S128x512 : Shape := ⟨2, ![128, 512]⟩
abbrev S8 : Shape := ⟨1, ![8]⟩
abbrev S1024x4096 : Shape := ⟨2, ![1024, 4096]⟩
abbrev S_ : Shape := ⟨0, ![]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x128, .bf16⟩
  | .hbm, ⟨4, _⟩ => ⟨S4096x128, .bf16⟩
  | .hbm, ⟨5, _⟩ => ⟨S4096x1024, .bf16⟩
  | .hbm, ⟨6, _⟩ => ⟨S4096x128, .f32⟩
  | .hbm, ⟨7, _⟩ => ⟨S4096x128, .f32⟩
  | .hbm, ⟨8, _⟩ => ⟨S1x512, .f32⟩
  | .hbm, ⟨9, _⟩ => ⟨S1x512, .f32⟩
  | .hbm, ⟨10, _⟩ => ⟨S8x128x128, .f32⟩
  | .hbm, ⟨11, _⟩ => ⟨S128x512, .f32⟩
  | .hbm, ⟨12, _⟩ => ⟨S8, .f32⟩
  | .hbm, ⟨13, _⟩ => ⟨S4096x1024, .f32⟩
  | .hbm, ⟨14, _⟩ => ⟨S1024x4096, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S1024x4096, .f32⟩
  | .hbm, ⟨25, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_call0_cst : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1 : Shape := ⟨2, ![4096, 1]⟩
abbrev S4096x4096 : Shape := ⟨2, ![4096, 4096]⟩
abbrev S512x1024 : Shape := ⟨2, ![512, 1024]⟩
abbrev S512x1 : Shape := ⟨2, ![512, 1]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024 : Shape := ⟨1, ![1024]⟩

abbrev nBuf : Space → Nat
  | .hbm => 26
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4x1024x1024, .f32⟩
  | .hbm, ⟨14, _⟩ => ⟨S4x1024x1024, .bf16⟩
  | .hbm, ⟨15, _⟩ => ⟨S4096x1024, .bf16⟩
  | .hbm, ⟨16, _⟩ => ⟨S1024x1024, .bf16⟩
  | .hbm, ⟨17, _⟩ => ⟨S4096x1024, .f32⟩
  | .hbm, ⟨18, _⟩ => ⟨S4096x1, .f32⟩
  | .hbm, ⟨19, _⟩ => ⟨S4096x1024, .bf16⟩
  | .hbm, ⟨20, _⟩ => ⟨S4096x4096, .bf16⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x1024, .bf16⟩
  | .local _ .vmem, ⟨18, _⟩ => ⟨S512x1024, .bf16⟩
  | .local _ .vmem, ⟨19, _⟩ => ⟨S512x4096, .bf16⟩
  | .local _ .vmem, ⟨20, _⟩ => ⟨S512x4096, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_v7_7 : Ref sig .tc := ⟨.hbm, 24, rfl⟩
abbrev main_v7_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x4096 : Shape := ⟨2, ![4096, 4096]⟩

abbrev nBuf : Space → Nat
  | .hbm => 202
  | .vmem => 0
  | .smem => 0
  | _ => 0

abbrev hbmTy0_0 (i : Nat) : BufTy := match i % 128 with
  | 0 => ⟨S4096x1024, .f32⟩
  | 1 => ⟨S4096x1024, .f32⟩
  | 2 => ⟨S1024x1024, .f32⟩
  | 3 => ⟨S1x1024, .f32⟩
  | 4 => ⟨S1x1024, .f32⟩
  | 5 => ⟨S1024x4096, .f32⟩
  | 6 => ⟨S4096x1024, .f32⟩
  | 7 => ⟨S1x1024, .f32⟩
  | 8 => ⟨S1x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1, .f32⟩
  | 34 => ⟨S4096x1024, .f32⟩
  | 35 => ⟨S4096x1024, .f32⟩
  | 36 => ⟨S4096x1024, .f32⟩
  | 37 => ⟨S4096x1024, .f32⟩
  | 38 => ⟨S1024, .f32⟩
  | 39 => ⟨S1x1024, .f32⟩
  | 40 => ⟨S4096x1024, .f32⟩
  | 41 => ⟨S4096x1024, .f32⟩
  | 42 => ⟨S1024, .f32⟩
  | 43 => ⟨S1x1024, .f32⟩
  | 44 => ⟨S4096x1024, .f32⟩
  | 45 => ⟨S4096x1024, .f32⟩
  | 46 => ⟨S4096x4096, .f32⟩
  | 47 => ⟨S_, .f32⟩
  | 48 => ⟨S4096x4096, .f32⟩
  | 49 => ⟨S4096x4096, .f32⟩
  | 50 => ⟨S_, .f32⟩
  | 51 => ⟨S4096x1024, .f32⟩
  | 52 => ⟨S4096x1024, .f32⟩
  | 53 => ⟨S4096x4096, .f32⟩
  | 54 => ⟨S4096x1024, .f32⟩
  | 55 => ⟨S4096x1024, .f32⟩
  | 56 => ⟨S1024, .f32⟩
  | 57 => ⟨S1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S_, .f32⟩
  | 79 => ⟨S4096x1, .f32⟩
  | 80 => ⟨S4096x1, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1024, .f32⟩
  | 87 => ⟨S4096x1024, .f32⟩
  | 88 => ⟨S1x1024, .f32⟩
  | 89 => ⟨S4096x1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S_, .f32⟩
  | 100 => ⟨S4096, .f32⟩
  | 101 => ⟨S_, .f32⟩
  | 102 => ⟨S4096, .f32⟩
  | 103 => ⟨S4096, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S4096, .f32⟩
  | 112 => ⟨S_, .f32⟩
  | 113 => ⟨S4096, .f32⟩
  | 114 => ⟨S4096, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S4096x1024, .f32⟩
  | 123 => ⟨S_, .f32⟩
  | 124 => ⟨S1024, .f32⟩
  | 125 => ⟨S1x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1024, .f32⟩
  | 8 => ⟨S4096x1, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S4096x1024, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096, .f32⟩
  | 31 => ⟨S4096x1024, .f32⟩
  | 32 => ⟨S4096x1024, .f32⟩
  | 33 => ⟨S1x1024, .f32⟩
  | 34 => ⟨S1x1024, .f32⟩
  | 35 => ⟨S1024, .f32⟩
  | 36 => ⟨S1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S4096x1024, .f32⟩
  | 53 => ⟨S4096x1024, .f32⟩
  | 54 => ⟨S_, .f32⟩
  | 55 => ⟨S4096x1, .f32⟩
  | 56 => ⟨S4096x1, .f32⟩
  | 57 => ⟨S4096x1, .f32⟩
  | 58 => ⟨S4096x1024, .f32⟩
  | 59 => ⟨S4096x1024, .f32⟩
  | 60 => ⟨S1x1024, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S4096x1024, .bf16⟩
  | 72 => ⟨S4096x4096, .bf16⟩
  | 73 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_cst_18 : Ref sig .tc := ⟨.hbm, 108, rfl⟩
abbrev main_cst_19 : Ref sig .tc := ⟨.hbm, 109, rfl⟩
abbrev main_v77 : Ref sig .tc := ⟨.hbm, 110, rfl⟩
abbrev main_v78 : Ref sig .tc := ⟨.hbm, 111, rfl⟩
abbrev main_cst_20 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_21 : Ref sig .tc := ⟨.hbm, 117, rfl⟩
abbrev main_v83 : Ref sig .tc := ⟨.hbm, 118, rfl⟩
abbrev main_v84 : Ref sig .tc := ⟨.hbm, 119, rfl⟩
abbrev main_cst_22 : Ref sig .tc := ⟨.hbm, 120, rfl⟩
abbrev main_v85 : Ref sig .tc := ⟨.hbm, 121, rfl⟩
abbrev main_v86 : Ref sig .tc := ⟨.hbm, 122, rfl⟩
abbrev main_cst_23 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_24 : Ref sig .tc := ⟨.hbm, 128, rfl⟩
abbrev main_v91 : Ref sig .tc := ⟨.hbm, 129, rfl⟩
abbrev main_v92 : Ref sig .tc := ⟨.hbm, 130, rfl⟩
abbrev main_cst_25 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_26 : Ref sig .tc := ⟨.hbm, 138, rfl⟩
abbrev main_v99 : Ref sig .tc := ⟨.hbm, 139, rfl⟩
abbrev main_v100 : Ref sig .tc := ⟨.hbm, 140, rfl⟩
abbrev main_cst_27 : Ref sig .tc := ⟨.hbm, 141, rfl⟩
abbrev main_v101 : Ref sig .tc := ⟨.hbm, 142, rfl⟩
abbrev main_v102 : Ref sig .tc := ⟨.hbm, 143, rfl⟩
abbrev main_cst_28 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_29 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_30 : Ref sig .tc := ⟨.hbm, 154, rfl⟩
abbrev main_v111 : Ref sig .tc := ⟨.hbm, 155, rfl⟩
abbrev main_v112 : Ref sig .tc := ⟨.hbm, 156, rfl⟩
abbrev main_cst_31 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_32 : Ref sig .tc := ⟨.hbm, 165, rfl⟩
abbrev main_v120 : Ref sig .tc := ⟨.hbm, 166, rfl⟩
abbrev main_v121 : Ref sig .tc := ⟨.hbm, 167, rfl⟩
abbrev main_cst_33 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_34 : Ref sig .tc := ⟨.hbm, 174, rfl⟩
abbrev main_v127 : Ref sig .tc := ⟨.hbm, 175, rfl⟩
abbrev main_v128 : Ref sig .tc := ⟨.hbm, 176, rfl⟩
abbrev main_cst_35 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_36 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_37 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩

abbrev nD : Nat := 1
abbrev τ : Topo := Topo.v7x

variable {F : FTy → Type} [FloatOps F]
-- ==== Kernel4.lean ====
abbrev S1024x1792 : Shape := ⟨2, ![1024, 1792]⟩
abbrev S4096x1792 : Shape := ⟨2, ![4096, 1792]⟩
abbrev S4096x1024 : Shape := ⟨2, ![4096, 1024]⟩
abbrev S4096x1536 : Shape := ⟨2, ![4096, 1536]⟩
abbrev S4096x256 : Shape := ⟨2, ![4096, 256]⟩
abbrev S1792x1024 : Shape := ⟨2, ![1792, 1024]⟩
abbrev S1024x1536 : Shape := ⟨2, ![1024, 1536]⟩
abbrev S1024x256 : Shape := ⟨2, ![1024, 256]⟩
abbrev S1024x1024 : Shape := ⟨2, ![1024, 1024]⟩
abbrev S1536x1024 : Shape := ⟨2, ![1536, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1024x1792, .f32⟩
  | .hbm, ⟨1, _⟩ => ⟨S4096x1792, .f32⟩
  | .hbm, ⟨2, _⟩ => ⟨S4096x1024, .f32⟩
  | .hbm, ⟨3, _⟩ => ⟨S4096x1536, .f32⟩
  | .hbm, ⟨4, _⟩ => ⟨S4096x1536, .bf16⟩
  | .hbm, ⟨5, _⟩ => ⟨S4096x256, .f32⟩
  | .hbm, ⟨6, _⟩ => ⟨S1792x1024, .f32⟩
  | .hbm, ⟨7, _⟩ => ⟨S1792x1024, .bf16⟩
  | .hbm, ⟨8, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | .local _ .vmem, ⟨6, _⟩ => ⟨S1792x1024, .bf16⟩
  | .local _ .vmem, ⟨7, _⟩ => ⟨S1024x1024, .f32⟩
  | .local _ .vmem, ⟨8, _⟩ => ⟨S1024x1024, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S1024x1792 : Shape := ⟨2, ![1024, 1792]⟩
abbrev S4096x1792 : Shape := ⟨2, ![4096, 1792]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S4096x1792, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1792, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x1792 : Shape := ⟨2, ![1024, 1792]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1792x1024 : Shape := ⟨2, ![1792, 1024]⟩
abbrev S4096x512 : Shape := ⟨2, ![4096, 512]⟩
abbrev S1024x1024 : Shape := ⟨2, ![1024, 1024]⟩
abbrev S1024x128 : Shape := ⟨2, ![1024, 128]⟩
abbrev S1024x512 : Shape := ⟨2, ![1024, 512]⟩
abbrev S512x1024 : Shape := ⟨2, ![512, 1024]⟩
abbrev S128x1024 : Shape := ⟨2, ![128, 1024]⟩

abbrev nBuf : Space → Nat
  | .hbm => 34
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1792, .f32⟩
  | .hbm, ⟨2, _⟩ => ⟨S4096, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S4096x32, .f32⟩
  | .hbm, ⟨26, _⟩ => ⟨S4096x128, .f32⟩
  | .hbm, ⟨27, _⟩ => ⟨S1792x1024, .f32⟩
  | .hbm, ⟨28, _⟩ => ⟨S1792x1024, .bf16⟩
  | .hbm, ⟨29, _⟩ => ⟨S4096x512, .f32⟩
  | .hbm, ⟨30, _⟩ => ⟨S4096x512, .f32⟩
  | .hbm, ⟨31, _⟩ => ⟨S4096x512, .bf16⟩
  | .hbm, ⟨32, _⟩ => ⟨S4096x128, .bf16⟩
  | .hbm, ⟨33, _⟩ => ⟨S4096x128, .bf16⟩
  | .local _ .vmem, ⟨0, _⟩ => ⟨S1024x1024, .f32⟩
  | .local _ .vmem, ⟨1, _⟩ => ⟨S1024x1024, .f32⟩
  | .local _ .vmem, ⟨2, _⟩ => ⟨S1792x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev main_v22_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x1024 : Shape := ⟨2, ![4096, 1024]⟩
abbrev S1024x1792 : Shape := ⟨2, ![1024, 1792]⟩
abbrev S4096 : Shape := ⟨1, ![4096]⟩
abbrev S4096x1792 : Shape := ⟨2, ![4096, 1792]⟩
abbrev S4096x512 : Shape := ⟨2, ![4096, 512]⟩
abbrev S4096x128 : Shape := ⟨2, ![4096, 128]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x2x64 : Shape := ⟨3, ![4096, 2, 64]⟩
abbrev S4096x2x32 : Shape := ⟨3, ![4096, 2, 32]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1792, .f32⟩
  | .hbm, ⟨2, _⟩ => ⟨S4096, .i32⟩
  | .hbm, ⟨3, _⟩ => ⟨S4096x1792, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x8x64, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x1x32, .f32⟩
  | .hbm, ⟨32, _⟩ => ⟨S4096x32, .f32⟩
  | .hbm, ⟨33, _⟩ => ⟨S4096x1x32, .f32⟩
  | .hbm, ⟨34, _⟩ => ⟨S4096x8x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x64, .f32⟩
  | .hbm, ⟨47, _⟩ => ⟨S4096x512, .f32⟩
  | .hbm, ⟨48, _⟩ => ⟨S4096x2x64, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x1x32, .f32⟩
  | .hbm, ⟨71, _⟩ => ⟨S4096x32, .f32⟩
  | .hbm, ⟨72, _⟩ => ⟨S4096x1x32, .f32⟩
  | .hbm, ⟨73, _⟩ => ⟨S4096x2x32, .f32⟩
  | .hbm, ⟨74, _⟩ => ⟨S4096x2x32, .f32⟩
  | .hbm, ⟨75, _⟩ => ⟨S4096x2x32, .f32⟩
  | .hbm, ⟨76, _⟩ => ⟨S4096x2x32, .f32⟩
  | .hbm, ⟨77, _⟩ => ⟨S4096x2x32, .f32⟩
  | .hbm, ⟨78, _⟩ => ⟨S4096x2x32, .f32⟩
  | .hbm, ⟨79, _⟩ => ⟨S4096x2x32, .f32⟩
  | .hbm, ⟨80, _⟩ => ⟨S4096x2x32, .f32⟩
  | .hbm, ⟨81, _⟩ => ⟨S4096x2x32, .f32⟩
  | .hbm, ⟨82, _⟩ => ⟨S4096x2x32, .f32⟩
  | .hbm, ⟨83, _⟩ => ⟨S4096x2x32, .f32⟩
  | .hbm, ⟨84, _⟩ => ⟨S4096x2x32, .f32⟩
  | .hbm, ⟨85, _⟩ => ⟨S4096x2x64, .f32⟩
  | .hbm, ⟨86, _⟩ => ⟨S4096x128, .f32⟩
  | .hbm, ⟨87, _⟩ => ⟨S4096x512, .bf16⟩
  | .hbm, ⟨88, _⟩ => ⟨S4096x128, .bf16⟩
  | .hbm, ⟨89, _⟩ => ⟨S4096x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩

abbrev nD : Nat := 1
abbrev τ : Topo := Topo.v7x

variable {F : FTy → Type} [FloatOps F]
-- ==== Kernel7.lean ====
abbrev S1024x1024 : Shape := ⟨2, ![1024, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S1024x1024 : Shape := ⟨2, ![1024, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1024x448 : Shape := ⟨2, ![1024, 448]⟩
abbrev S448x1024 : Shape := ⟨2, ![448, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1024x448, .f32⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S448x1024, .f32⟩
  | .hbm, ⟨5, _⟩ => ⟨S448x1024, .f32⟩
  | .hbm, ⟨6, _⟩ => ⟨S448x1024, .f32⟩
  | .hbm, ⟨7, _⟩ => ⟨S448x1024, .f32⟩
  | .hbm, ⟨8, _⟩ => ⟨S448x1024, .f32⟩
  | .hbm, ⟨9, _⟩ => ⟨S448x1024, .f32⟩
  | .hbm, ⟨10, _⟩ => ⟨S448x1024, .f32⟩
  | .hbm, ⟨11, _⟩ => ⟨S448x1024, .f32⟩
  | .local _ .vmem, ⟨0, _⟩ => ⟨S448x1024, .f32⟩
  | .local _ .vmem, ⟨1, _⟩ => ⟨S448x1024, .f32⟩
  | .local _ .vmem, ⟨2, _⟩ => ⟨S448x1024, .f32⟩
  | .local _ .vmem, ⟨3, _⟩ => ⟨S448x1024, .f32⟩
  | .local _ .vmem, ⟨4, _⟩ => ⟨S448x1024, .f32⟩
  | .local _ .vmem, ⟨5, _⟩ => ⟨S448x1024, .f32⟩
  | .local _ .vmem, ⟨6, _⟩ => ⟨S448x1024, .f32⟩
  | .local _ .vmem, ⟨7, _⟩ => ⟨S448x1024, .f32⟩
  | _, _ => ⟨S1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S448x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S1024x448 : Shape := ⟨2, ![1024, 448]⟩
abbrev S_ : Shape := ⟨0, ![]⟩
abbrev S448x1024 : Shape := ⟨2, ![448, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x448, .f32⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S_, .f32⟩
  | .hbm, ⟨5, _⟩ => ⟨S1024x448, .f32⟩
  | .hbm, ⟨6, _⟩ => ⟨S1024x448, .f32⟩
  | .hbm, ⟨7, _⟩ => ⟨S_, .f32⟩
  | .hbm, ⟨8, _⟩ => ⟨S1024x448, .f32⟩
  | .hbm, ⟨9, _⟩ => ⟨S1024x448, .f32⟩
  | .hbm, ⟨10, _⟩ => ⟨S1024x448, .f32⟩
  | .hbm, ⟨11, _⟩ => ⟨S_, .f32⟩
  | .hbm, ⟨12, _⟩ => ⟨S1024x448, .f32⟩
  | .hbm, ⟨13, _⟩ => ⟨S1024x448, .f32⟩
  | .hbm, ⟨14, _⟩ => ⟨S1024x448, .f32⟩
  | .hbm, ⟨15, _⟩ => ⟨S_, .f32⟩
  | .hbm, ⟨16, _⟩ => ⟨S1024x448, .f32⟩
  | .hbm, ⟨17, _⟩ => ⟨S1024x448, .f32⟩
  | .hbm, ⟨18, _⟩ => ⟨S1024x448, .f32⟩
  | .hbm, ⟨19, _⟩ => ⟨S_, .f32⟩
  | .hbm, ⟨20, _⟩ => ⟨S1024x448, .f32⟩
  | .hbm, ⟨21, _⟩ => ⟨S1024x448, .f32⟩
  | .hbm, ⟨22, _⟩ => ⟨S_, .f32⟩
  | .hbm, ⟨23, _⟩ => ⟨S1024x448, .f32⟩
  | .hbm, ⟨24, _⟩ => ⟨S1024x448, .f32⟩
  | .hbm, ⟨25, _⟩ => ⟨S1024x448, .f32⟩
  | .hbm, ⟨26, _⟩ => ⟨S_, .f32⟩
  | .hbm, ⟨27, _⟩ => ⟨S1024x448, .f32⟩
  | .hbm, ⟨28, _⟩ => ⟨S1024x448, .f32⟩
  | .hbm, ⟨29, _⟩ => ⟨S1024x448, .f32⟩
  | .hbm, ⟨30, _⟩ => ⟨S_, .f32⟩
  | .hbm, ⟨31, _⟩ => ⟨S1024x448, .f32⟩
  | .hbm, ⟨32, _⟩ => ⟨S1024x448, .f32⟩
  | .hbm, ⟨33, _⟩ => ⟨S1024x448, .f32⟩
  | .hbm, ⟨34, _⟩ => ⟨S_, .f32⟩
  | .hbm, ⟨35, _⟩ => ⟨S1024x448, .f32⟩
  | .hbm, ⟨36, _⟩ => ⟨S1024x448, .f32⟩
  | .hbm, ⟨37, _⟩ => ⟨S448x1024, .f32⟩
  | .hbm, ⟨38, _⟩ => ⟨S448x1024, .f32⟩
  | .hbm, ⟨39, _⟩ => ⟨S448x1024, .f32⟩
  | .hbm, ⟨40, _⟩ => ⟨S448x1024, .f32⟩
  | _, _ => ⟨S1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Setup.lean ====
module

public import proofs.«01_k».proof.Proof.Gen.KernelIdeal.Frame
public import Idealize.ShloMosaic.Lib.Pipeline.FrameValue
public import proofs.«01_k».proof.Proof.Gen.KernelIdeal.Skeleton
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch

The kernel's gradient of the first feed-forward weight leaves through copies the body itself starts, so the
launch is taken over the resource algebra of a pipeline whose body has transfers of its own. -/

/-- The host operations before the kernel run, and the kernel's launch follows them. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The result the body's own copies write. -/
def R0 : Finset (Ref sig .tc) := {main_v33_0}

/-- No operand left in HBM is only read. -/
def H0 : Finset (Ref sig .tc) := {}
/-- What is only read is no window. -/
theorem H0_sub : H0 ⊆ Pipeline.restRefs sig spec0 := by decide
/-- The copied array is no window and not only read. -/
theorem R0_sub : R0 ⊆ Pipeline.restRefs sig spec0 \ H0 := by decide

/-! ## The branches of the body -/

/-- The body is at the first point of the grid. -/
abbrev AtFirst (i : grid0.Coords) : Prop := (Scalar.cmpi .ne (Scalar.extui (Scalar.cmpi .eq (BitVec.ofNat 32 (i 0).val) 0#32)) 0#32) = 1#1
/-- The body is at the last point of the grid. -/
abbrev AtLast (i : grid0.Coords) : Prop := (Scalar.cmpi .ne (Scalar.extui (Scalar.cmpi .eq (BitVec.ofNat 32 (i 0).val) 15#32)) 0#32) = 1#1
/-- The first step of the grid. -/
theorem atFirst_iff : ∀ t : Fin cfg0.N, AtFirst (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [AtFirst, e0]
    word_cmp
   : ∀ t : Fin grid0.N, AtFirst (grid0.coords t) ↔ t.val % 16 = 0)
/-- The last step of the grid. -/
theorem atLast_iff : ∀ t : Fin cfg0.N, AtLast (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [AtLast, e0]
    word_cmp
   : ∀ t : Fin grid0.N, AtLast (grid0.coords t) ↔ t.val % 16 = 15)

/-! ## The body's operands -/

/-- The buffers the body is called with: one per staged operand, and the accumulator the kernel keeps in VMEM. -/
structure Args where
  a1 : Memref sig .tc .vmem S256x1024 .f32
  h1 : a1.IsWhole
  a2 : Memref sig .tc .vmem S256x4096 .bf16
  h2 : a2.IsWhole
  a3 : Memref sig .tc .vmem S256x1024 .bf16
  h3 : a3.IsWhole
  a4 : Memref sig .tc .vmem S256x1024 .f32
  h4 : a4.IsWhole
  a5 : Memref sig .tc .vmem S256x1 .f32
  h5 : a5.IsWhole
  a6 : Memref sig .tc .vmem S1x1024 .f32
  h6 : a6.IsWhole
  a7 : Memref sig .tc .vmem S4x1024x1024 .bf16
  h7 : a7.IsWhole
  a8 : Memref sig .tc .vmem S4x1024x1024 .bf16
  h8 : a8.IsWhole
  a9 : Memref sig .tc .vmem S1024x1024 .bf16
  h9 : a9.IsWhole
  a11 : Memref sig .tc .vmem S256x1024 .f32
  h11 : a11.IsWhole
  a12 : Memref sig .tc .vmem S256x1024 .bf16
  h12 : a12.IsWhole
  a13 : Memref sig .tc .vmem S256x1024 .bf16
  h13 : a13.IsWhole
  a14 : Memref sig .tc .vmem S1x1024 .f32
  h14 : a14.IsWhole
  a15 : Memref sig .tc .vmem S1x1024 .f32
  h15 : a15.IsWhole
  a16 : Memref sig .tc .vmem S4096x1024 .f32
  h16 : a16.IsWhole

/-- The kernel's accumulator in VMEM. -/
abbrev accM : Memref sig .tc .vmem S4096x1024 .f32 := Memref.whole cc0_scratch0

/-- The buffers at grid point `t`. -/
abbrev args (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := accM
  h16 := Memref.isWhole_whole _

/-- The values of the staged inputs. -/
structure Ins (F : FTy → Type) [FloatOps F] where
  x0 : Vec F S256x1024 .f32
  x1 : Vec F S256x4096 .bf16
  x2 : Vec F S256x1024 .bf16
  x3 : Vec F S256x1024 .f32
  x4 : Vec F S256x1 .f32
  x5 : Vec F S1x1024 .f32
  x6 : Vec F S4x1024x1024 .bf16
  x7 : Vec F S4x1024x1024 .bf16
  x8 : Vec F S1024x1024 .bf16

/-- The inputs' blocks at grid point `t`. -/
abbrev ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t

/-- The body holds every input buffer at its value. -/
def insOwned (c : Dev nD) (A : Args) (X : Ins F) : sProp 𝕄 :=
  iprop(owns (c : Thread nD τ) A.a1 fullShare X.x0 ∗ owns (c : Thread nD τ) A.a2 fullShare X.x1 ∗ owns (c : Thread nD τ) A.a3 fullShare X.x2 ∗ owns (c : Thread nD τ) A.a4 fullShare X.x3 ∗ owns (c : Thread nD τ) A.a5 fullShare X.x4 ∗ owns (c : Thread nD τ) A.a6 fullShare X.x5 ∗ owns (c : Thread nD τ) A.a7 fullShare X.x6 ∗ owns (c : Thread nD τ) A.a8 fullShare X.x7 ∗ owns (c : Thread nD τ) A.a9 fullShare X.x8)

/-- The contents of the result the body's copies write, and that result held at them. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbM : Memref sig .tc .hbm S4096x1024 .f32 := Memref.whole main_v33_0

/-- The semaphores of the body's own copies. -/
abbrev osem0 : Fin 4 → SemLoc sig := fun j => (![SemLoc.dma 22, SemLoc.dma 23, SemLoc.dma 24, SemLoc.dma 25] : Fin 4 → SemLoc sig) j
/-- The call's own semaphores are its own. -/
theorem ownSemFacts0 : Pipeline.OwnSemFacts spec0 osem0 := by decide

/-- The semaphores of the body's own copies are at zero. -/
def cellsZero (c : Dev nD) : sProp 𝕄 := iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)

/-- The call's own semaphores, listed. -/
theorem ownSems00_eq (c : Dev nD) :
    (Pipeline.ownSems0 (Ix := Unit) (Name := ℕ) (U := Pipeline.UD sig nD τ) (Lvl := ℕ) (Val := Elt F) (τ := τ) osem0 c : sProp 𝕄) = cellsZero c := by
  rw [Pipeline.ownSems0_eq_of_list c osem0 [0, 1, 2, 3] (by decide) (by decide)]; rfl
/-- Nothing is only read. -/
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
/-- The copied array at entry. -/
theorem heldV0_eq (c : Dev nD) :
    (Pipeline.routed R0 c ((V m) c) : sProp 𝕄) = iprop(hbPt c hbM (V m c main_v33_0)) := by
  unfold Pipeline.routed; rw [BI.bigSep_eq_bigSepL_of_eq [main_v33_0] (by decide) (by decide)]; rfl

/-- What the launch hands the kernel beside its windows: the accumulator at anything, the semaphores at zero and
    the copied result at its contents before the launch. -/
theorem launch_in_eq (c : Dev nD) :
    (Pipeline.ΦDRG osem0 spec0 H0 R0 (V m) (V m) c : sProp 𝕄)
      = iprop(iprop((∃ d, owns (c : Thread nD τ) accM fullShare d)) ∗ (∃ r, prngReg c r) ∗ cellsZero c ∗ iprop(emp) ∗ iprop(hbPt c hbM (V m c main_v33_0))) := by
  rw [Pipeline.ΦDRG_eq, scopedRest0_eq, ownSems00_eq, hbmPts0_eq, heldV0_eq]; simp only [accM, owns_whole]; try rfl

/-! ## The copied blocks of rows do not overlap -/

/-- The four blocks of rows the body copies out are pairwise disjoint. -/
structure RowsDisjoint : Prop where
  d10 : Disjoint (((Memref.whole main_v33_0).slice (Rect.unit (s := S4096x1024) ![1024, 0] S1024x1024.size inb_S4096x1024_S1024x1024_1024_0) (fun _ => rfl))).view.set (((Memref.whole main_v33_0).slice (Rect.unit (s := S4096x1024) ![0, 0] S1024x1024.size inb_S4096x1024_S1024x1024_0_0) (fun _ => rfl))).view.set
  d20 : Disjoint (((Memref.whole main_v33_0).slice (Rect.unit (s := S4096x1024) ![2048, 0] S1024x1024.size inb_S4096x1024_S1024x1024_2048_0) (fun _ => rfl))).view.set (((Memref.whole main_v33_0).slice (Rect.unit (s := S4096x1024) ![0, 0] S1024x1024.size inb_S4096x1024_S1024x1024_0_0) (fun _ => rfl))).view.set
  d21 : Disjoint (((Memref.whole main_v33_0).slice (Rect.unit (s := S4096x1024) ![2048, 0] S1024x1024.size inb_S4096x1024_S1024x1024_2048_0) (fun _ => rfl))).view.set (((Memref.whole main_v33_0).slice (Rect.unit (s := S4096x1024) ![1024, 0] S1024x1024.size inb_S4096x1024_S1024x1024_1024_0) (fun _ => rfl))).view.set
  d30 : Disjoint (((Memref.whole main_v33_0).slice (Rect.unit (s := S4096x1024) ![3072, 0] S1024x1024.size inb_S4096x1024_S1024x1024_3072_0) (fun _ => rfl))).view.set (((Memref.whole main_v33_0).slice (Rect.unit (s := S4096x1024) ![0, 0] S1024x1024.size inb_S4096x1024_S1024x1024_0_0) (fun _ => rfl))).view.set
  d31 : Disjoint (((Memref.whole main_v33_0).slice (Rect.unit (s := S4096x1024) ![3072, 0] S1024x1024.size inb_S4096x1024_S1024x1024_3072_0) (fun _ => rfl))).view.set (((Memref.whole main_v33_0).slice (Rect.unit (s := S4096x1024) ![1024, 0] S1024x1024.size inb_S4096x1024_S1024x1024_1024_0) (fun _ => rfl))).view.set
  d32 : Disjoint (((Memref.whole main_v33_0).slice (Rect.unit (s := S4096x1024) ![3072, 0] S1024x1024.size inb_S4096x1024_S1024x1024_3072_0) (fun _ => rfl))).view.set (((Memref.whole main_v33_0).slice (Rect.unit (s := S4096x1024) ![2048, 0] S1024x1024.size inb_S4096x1024_S1024x1024_2048_0) (fun _ => rfl))).view.set

/-- The four row blocks are disjoint. -/
theorem rowsDisjoint : RowsDisjoint where
  d10 := View.disjoint_slice_of_disj (Memref.whole main_v33_0).view (Rect.unit (s := S4096x1024) ![1024, 0] S1024x1024.size inb_S4096x1024_S1024x1024_1024_0) (Rect.unit (s := S4096x1024) ![0, 0] S1024x1024.size inb_S4096x1024_S1024x1024_0_0) (by decide +kernel)
  d20 := View.disjoint_slice_of_disj (Memref.whole main_v33_0).view (Rect.unit (s := S4096x1024) ![2048, 0] S1024x1024.size inb_S4096x1024_S1024x1024_2048_0) (Rect.unit (s := S4096x1024) ![0, 0] S1024x1024.size inb_S4096x1024_S1024x1024_0_0) (by decide +kernel)
  d21 := View.disjoint_slice_of_disj (Memref.whole main_v33_0).view (Rect.unit (s := S4096x1024) ![2048, 0] S1024x1024.size inb_S4096x1024_S1024x1024_2048_0) (Rect.unit (s := S4096x1024) ![1024, 0] S1024x1024.size inb_S4096x1024_S1024x1024_1024_0) (by decide +kernel)
  d30 := View.disjoint_slice_of_disj (Memref.whole main_v33_0).view (Rect.unit (s := S4096x1024) ![3072, 0] S1024x1024.size inb_S4096x1024_S1024x1024_3072_0) (Rect.unit (s := S4096x1024) ![0, 0] S1024x1024.size inb_S4096x1024_S1024x1024_0_0) (by decide +kernel)
  d31 := View.disjoint_slice_of_disj (Memref.whole main_v33_0).view (Rect.unit (s := S4096x1024) ![3072, 0] S1024x1024.size inb_S4096x1024_S1024x1024_3072_0) (Rect.unit (s := S4096x1024) ![1024, 0] S1024x1024.size inb_S4096x1024_S1024x1024_1024_0) (by decide +kernel)
  d32 := View.disjoint_slice_of_disj (Memref.whole main_v33_0).view (Rect.unit (s := S4096x1024) ![3072, 0] S1024x1024.size inb_S4096x1024_S1024x1024_3072_0) (Rect.unit (s := S4096x1024) ![2048, 0] S1024x1024.size inb_S4096x1024_S1024x1024_2048_0) (by decide +kernel)

end Cert.KernelIdeal.Run

end
-- ==== Proof.RunA.lean ====
module

public import proofs.«01_k».proof.Proof.Setup

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the first point of the grid: the accumulators are set to zero before they are added to. The run finds the stores each result's buffer and the accumulator end with, and what the
    copied result then holds. -/
def kernelRunA (c : Dev nD) (i : grid0.Coords) (A : Args) (hc0 : AtFirst i) (hc1 : ¬AtLast i) (X : Ins F)  (fw : HbBuf (F := F) c hbM) :
    Σ' (L9 : List (View.Piece (Elt F) S256x1024 .f32)), Σ' (L10 : List (View.Piece (Elt F) S256x1024 .bf16)), Σ' (L11 : List (View.Piece (Elt F) S256x1024 .bf16)), Σ' (L12 : List (View.Piece (Elt F) S1x1024 .f32)), Σ' (L13 : List (View.Piece (Elt F) S1x1024 .f32)), Σ' (LS : List (View.Piece (Elt F) S4096x1024 .f32)), { gw : HbBuf (F := F) c hbM //
      ∀ (W : Waits sig Unit) (K : PUnit → sProp 𝕄),
        iprop(insOwned c A X ∗ (∃ d, owns (c : Thread nD τ) A.a11 fullShare d) ∗ (∃ d, owns (c : Thread nD τ) A.a12 fullShare d) ∗ (∃ d, owns (c : Thread nD τ) A.a13 fullShare d) ∗ (∃ d, owns (c : Thread nD τ) A.a14 fullShare d) ∗ (∃ d, owns (c : Thread nD τ) A.a15 fullShare d) ∗ (∃ d, owns (c : Thread nD τ) A.a16 fullShare d) ∗ cellsZero c ∗ hbPt c hbM fw ∗ owes (c : Thread nD τ) 0 W
            ∗ (iprop(insOwned c A X ∗ (∃ f, A.a11.view.loc (c : Thread nD τ) ↦[A.a11.view.set]{fullShare} A.a11.view.writes (Elt F) f L9) ∗ (∃ f, A.a12.view.loc (c : Thread nD τ) ↦[A.a12.view.set]{fullShare} A.a12.view.writes (Elt F) f L10) ∗ (∃ f, A.a13.view.loc (c : Thread nD τ) ↦[A.a13.view.set]{fullShare} A.a13.view.writes (Elt F) f L11) ∗ (∃ f, A.a14.view.loc (c : Thread nD τ) ↦[A.a14.view.set]{fullShare} A.a14.view.writes (Elt F) f L12) ∗ (∃ f, A.a15.view.loc (c : Thread nD τ) ↦[A.a15.view.set]{fullShare} A.a15.view.writes (Elt F) f L13) ∗ (∃ f, A.a16.view.loc (c : Thread nD τ) ↦[A.a16.view.set]{fullShare} A.a16.view.writes (Elt F) f LS) ∗ cellsZero c ∗ hbPt c hbM gw ∗ (∃ W', owes (c : Thread nD τ) 0 W')) -∗ K ⟨⟩))
          ⊢ wp frame (wpE (defs₀ (F := F)) Variants.none c none) Set.univ (cc0_ffn_bwd_ln1 i A.a1 A.h1 A.a2 A.h2 A.a3 A.h3 A.a4 A.h4 A.a5 A.h5 A.a6 A.h6 A.a7 A.h7 A.a8 A.h8 A.a9 A.h9 (Memref.whole main_v33_0) (Memref.isWhole_whole _) A.a11 A.h11 A.a12 A.h12 A.a13 A.h13 A.a14 A.h14 A.a15 A.h15 A.a16 A.h16 cc0_scratch1) K } := by
  refine ⟨?_, ?_, ?_, ?_, ?_, ?_, ?_, fun W K => ?run⟩
  case run =>
    skip
    simp only [cc0_ffn_bwd_ln1_eq_skeleton]; unfold cc0_ffn_bwd_ln1_skel
    simp only [k0_part1_eq_skeleton, k0_part2_eq_skeleton, k0_part3_eq_skeleton, k0_part4_eq_skeleton]
    unfold insOwned cellsZero owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%d12, %f12, -, H12⟩, ⟨%d13, %f13, -, H13⟩, ⟨%ds, %fs, -, HS⟩, ⟨Hq0, Hq1, Hq2, Hq3⟩, Hh, HW, Hk⟩
    obtain rfl := A.h1.eq_unread hf0; obtain rfl := A.h2.eq_unread hf1; obtain rfl := A.h3.eq_unread hf2; obtain rfl := A.h4.eq_unread hf3; obtain rfl := A.h5.eq_unread hf4; obtain rfl := A.h6.eq_unread hf5; obtain rfl := A.h7.eq_unread hf6; obtain rfl := A.h8.eq_unread hf7; obtain rfl := A.h9.eq_unread hf8
    sl_exec (disch := first | sl_exact hc0 | sl_exact hc1)
    sl_step
    iapply Hk
    isplitl [H0 H1 H2 H3 H4 H5 H6 H7 H8]
    · isplitl [H0]
      · iexists _; isplitr; · ipureintro; exact A.h1.read_unread _
        iexact H0
      isplitl [H1]
      · iexists _; isplitr; · ipureintro; exact A.h2.read_unread _
        iexact H1
      isplitl [H2]
      · iexists _; isplitr; · ipureintro; exact A.h3.read_unread _
        iexact H2
      isplitl [H3]
      · iexists _; isplitr; · ipureintro; exact A.h4.read_unread _
        iexact H3
      isplitl [H4]
      · iexists _; isplitr; · ipureintro; exact A.h5.read_unread _
        iexact H4
      isplitl [H5]
      · iexists _; isplitr; · ipureintro; exact A.h6.read_unread _
        iexact H5
      isplitl [H6]
      · iexists _; isplitr; · ipureintro; exact A.h7.read_unread _
        iexact H6
      isplitl [H7]
      · iexists _; isplitr; · ipureintro; exact A.h8.read_unread _
        iexact H7
      iexists _; isplitr; · ipureintro; exact A.h9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.KernelIdeal.Run

end
-- ==== Proof.RunB.lean ====
module

public import proofs.«01_k».proof.Proof.RunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a point between the first and the last. The run finds the stores each result's buffer and the accumulator end with, and what the
    copied result then holds. -/
def kernelRunB (c : Dev nD) (i : grid0.Coords) (A : Args) (hc0 : ¬AtFirst i) (hc1 : ¬AtLast i) (X : Ins F) (xo12 : Vec F S1x1024 .f32) (xo13 : Vec F S1x1024 .f32) (xs : Vec F S4096x1024 .f32) (fw : HbBuf (F := F) c hbM) :
    Σ' (L9 : List (View.Piece (Elt F) S256x1024 .f32)), Σ' (L10 : List (View.Piece (Elt F) S256x1024 .bf16)), Σ' (L11 : List (View.Piece (Elt F) S256x1024 .bf16)), Σ' (L12 : List (View.Piece (Elt F) S1x1024 .f32)), Σ' (L13 : List (View.Piece (Elt F) S1x1024 .f32)), Σ' (LS : List (View.Piece (Elt F) S4096x1024 .f32)), { gw : HbBuf (F := F) c hbM //
      ∀ (W : Waits sig Unit) (K : PUnit → sProp 𝕄),
        iprop(insOwned c A X ∗ (∃ d, owns (c : Thread nD τ) A.a11 fullShare d) ∗ (∃ d, owns (c : Thread nD τ) A.a12 fullShare d) ∗ (∃ d, owns (c : Thread nD τ) A.a13 fullShare d) ∗ owns (c : Thread nD τ) A.a14 fullShare xo12 ∗ owns (c : Thread nD τ) A.a15 fullShare xo13 ∗ owns (c : Thread nD τ) A.a16 fullShare xs ∗ cellsZero c ∗ hbPt c hbM fw ∗ owes (c : Thread nD τ) 0 W
            ∗ (iprop(insOwned c A X ∗ (∃ f, A.a11.view.loc (c : Thread nD τ) ↦[A.a11.view.set]{fullShare} A.a11.view.writes (Elt F) f L9) ∗ (∃ f, A.a12.view.loc (c : Thread nD τ) ↦[A.a12.view.set]{fullShare} A.a12.view.writes (Elt F) f L10) ∗ (∃ f, A.a13.view.loc (c : Thread nD τ) ↦[A.a13.view.set]{fullShare} A.a13.view.writes (Elt F) f L11) ∗ (∃ f, A.a14.view.loc (c : Thread nD τ) ↦[A.a14.view.set]{fullShare} A.a14.view.writes (Elt F) f L12) ∗ (∃ f, A.a15.view.loc (c : Thread nD τ) ↦[A.a15.view.set]{fullShare} A.a15.view.writes (Elt F) f L13) ∗ (∃ f, A.a16.view.loc (c : Thread nD τ) ↦[A.a16.view.set]{fullShare} A.a16.view.writes (Elt F) f LS) ∗ cellsZero c ∗ hbPt c hbM gw ∗ (∃ W', owes (c : Thread nD τ) 0 W')) -∗ K ⟨⟩))
          ⊢ wp frame (wpE (defs₀ (F := F)) Variants.none c none) Set.univ (cc0_ffn_bwd_ln1 i A.a1 A.h1 A.a2 A.h2 A.a3 A.h3 A.a4 A.h4 A.a5 A.h5 A.a6 A.h6 A.a7 A.h7 A.a8 A.h8 A.a9 A.h9 (Memref.whole main_v33_0) (Memref.isWhole_whole _) A.a11 A.h11 A.a12 A.h12 A.a13 A.h13 A.a14 A.h14 A.a15 A.h15 A.a16 A.h16 cc0_scratch1) K } := by
  refine ⟨?_, ?_, ?_, ?_, ?_, ?_, ?_, fun W K => ?run⟩
  case run =>
    skip
    simp only [cc0_ffn_bwd_ln1_eq_skeleton]; unfold cc0_ffn_bwd_ln1_skel
    simp only [k0_part1_eq_skeleton, k0_part2_eq_skeleton, k0_part3_eq_skeleton, k0_part4_eq_skeleton]
    unfold insOwned cellsZero owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%f12, %hf12, H12⟩, ⟨%f13, %hf13, H13⟩, ⟨%fs, %hfs, HS⟩, ⟨Hq0, Hq1, Hq2, Hq3⟩, Hh, HW, Hk⟩
    obtain rfl := A.h1.eq_unread hf0; obtain rfl := A.h2.eq_unread hf1; obtain rfl := A.h3.eq_unread hf2; obtain rfl := A.h4.eq_unread hf3; obtain rfl := A.h5.eq_unread hf4; obtain rfl := A.h6.eq_unread hf5; obtain rfl := A.h7.eq_unread hf6; obtain rfl := A.h8.eq_unread hf7; obtain rfl := A.h9.eq_unread hf8; obtain rfl := A.h14.eq_unread hf12; obtain rfl := A.h15.eq_unread hf13; obtain rfl := A.h16.eq_unread hfs
    sl_exec (disch := first | sl_exact hc0 | sl_exact hc1)
    sl_step
    iapply Hk
    isplitl [H0 H1 H2 H3 H4 H5 H6 H7 H8]
    · isplitl [H0]
      · iexists _; isplitr; · ipureintro; exact A.h1.read_unread _
        iexact H0
      isplitl [H1]
      · iexists _; isplitr; · ipureintro; exact A.h2.read_unread _
        iexact H1
      isplitl [H2]
      · iexists _; isplitr; · ipureintro; exact A.h3.read_unread _
        iexact H2
      isplitl [H3]
      · iexists _; isplitr; · ipureintro; exact A.h4.read_unread _
        iexact H3
      isplitl [H4]
      · iexists _; isplitr; · ipureintro; exact A.h5.read_unread _
        iexact H4
      isplitl [H5]
      · iexists _; isplitr; · ipureintro; exact A.h6.read_unread _
        iexact H5
      isplitl [H6]
      · iexists _; isplitr; · ipureintro; exact A.h7.read_unread _
        iexact H6
      isplitl [H7]
      · iexists _; isplitr; · ipureintro; exact A.h8.read_unread _
        iexact H7
      iexists _; isplitr; · ipureintro; exact A.h9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.KernelIdeal.Run

end
-- ==== Proof.RunC.lean ====
module

public import proofs.«01_k».proof.Proof.RunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in
/-- The body at the last point of the grid: each block of rows of the accumulator is copied to the result once it is complete, and all copies are waited for. The run finds the stores each result's buffer and the accumulator end with, and what the
    copied result then holds. -/
def kernelRunC (c : Dev nD) (i : grid0.Coords) (A : Args) (hc0 : ¬AtFirst i) (hc1 : AtLast i) (hd : RowsDisjoint) (X : Ins F) (xo12 : Vec F S1x1024 .f32) (xo13 : Vec F S1x1024 .f32) (xs : Vec F S4096x1024 .f32) (fw : HbBuf (F := F) c hbM) :
    Σ' (L9 : List (View.Piece (Elt F) S256x1024 .f32)), Σ' (L10 : List (View.Piece (Elt F) S256x1024 .bf16)), Σ' (L11 : List (View.Piece (Elt F) S256x1024 .bf16)), Σ' (L12 : List (View.Piece (Elt F) S1x1024 .f32)), Σ' (L13 : List (View.Piece (Elt F) S1x1024 .f32)), Σ' (LS : List (View.Piece (Elt F) S4096x1024 .f32)), { gw : HbBuf (F := F) c hbM //
      ∀ (W : Waits sig Unit) (K : PUnit → sProp 𝕄),
        iprop(insOwned c A X ∗ (∃ d, owns (c : Thread nD τ) A.a11 fullShare d) ∗ (∃ d, owns (c : Thread nD τ) A.a12 fullShare d) ∗ (∃ d, owns (c : Thread nD τ) A.a13 fullShare d) ∗ owns (c : Thread nD τ) A.a14 fullShare xo12 ∗ owns (c : Thread nD τ) A.a15 fullShare xo13 ∗ owns (c : Thread nD τ) A.a16 fullShare xs ∗ cellsZero c ∗ hbPt c hbM fw ∗ owes (c : Thread nD τ) 0 W
            ∗ (iprop(insOwned c A X ∗ (∃ f, A.a11.view.loc (c : Thread nD τ) ↦[A.a11.view.set]{fullShare} A.a11.view.writes (Elt F) f L9) ∗ (∃ f, A.a12.view.loc (c : Thread nD τ) ↦[A.a12.view.set]{fullShare} A.a12.view.writes (Elt F) f L10) ∗ (∃ f, A.a13.view.loc (c : Thread nD τ) ↦[A.a13.view.set]{fullShare} A.a13.view.writes (Elt F) f L11) ∗ (∃ f, A.a14.view.loc (c : Thread nD τ) ↦[A.a14.view.set]{fullShare} A.a14.view.writes (Elt F) f L12) ∗ (∃ f, A.a15.view.loc (c : Thread nD τ) ↦[A.a15.view.set]{fullShare} A.a15.view.writes (Elt F) f L13) ∗ (∃ f, A.a16.view.loc (c : Thread nD τ) ↦[A.a16.view.set]{fullShare} A.a16.view.writes (Elt F) f LS) ∗ cellsZero c ∗ hbPt c hbM gw ∗ (∃ W', owes (c : Thread nD τ) 0 W')) -∗ K ⟨⟩))
          ⊢ wp frame (wpE (defs₀ (F := F)) Variants.none c none) Set.univ (cc0_ffn_bwd_ln1 i A.a1 A.h1 A.a2 A.h2 A.a3 A.h3 A.a4 A.h4 A.a5 A.h5 A.a6 A.h6 A.a7 A.h7 A.a8 A.h8 A.a9 A.h9 (Memref.whole main_v33_0) (Memref.isWhole_whole _) A.a11 A.h11 A.a12 A.h12 A.a13 A.h13 A.a14 A.h14 A.a15 A.h15 A.a16 A.h16 cc0_scratch1) K } := by
  refine ⟨?_, ?_, ?_, ?_, ?_, ?_, ?_, fun W K => ?run⟩
  case run =>
    obtain ⟨d10, d20, d21, d30, d31, d32⟩ := hd
    simp only [cc0_ffn_bwd_ln1_eq_skeleton]; unfold cc0_ffn_bwd_ln1_skel
    simp only [k0_part1_eq_skeleton, k0_part2_eq_skeleton, k0_part3_eq_skeleton, k0_part4_eq_skeleton]
    unfold insOwned cellsZero owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%f12, %hf12, H12⟩, ⟨%f13, %hf13, H13⟩, ⟨%fs, %hfs, HS⟩, ⟨Hq0, Hq1, Hq2, Hq3⟩, Hh, HW, Hk⟩
    obtain rfl := A.h1.eq_unread hf0; obtain rfl := A.h2.eq_unread hf1; obtain rfl := A.h3.eq_unread hf2; obtain rfl := A.h4.eq_unread hf3; obtain rfl := A.h5.eq_unread hf4; obtain rfl := A.h6.eq_unread hf5; obtain rfl := A.h7.eq_unread hf6; obtain rfl := A.h8.eq_unread hf7; obtain rfl := A.h9.eq_unread hf8; obtain rfl := A.h14.eq_unread hf12; obtain rfl := A.h15.eq_unread hf13; obtain rfl := A.h16.eq_unread hfs
    sl_exec (disch := first | sl_exact hc0 | sl_exact hc1)
    sl_step
    iapply Hk
    isplitl [H0 H1 H2 H3 H4 H5 H6 H7 H8]
    · isplitl [H0]
      · iexists _; isplitr; · ipureintro; exact A.h1.read_unread _
        iexact H0
      isplitl [H1]
      · iexists _; isplitr; · ipureintro; exact A.h2.read_unread _
        iexact H1
      isplitl [H2]
      · iexists _; isplitr; · ipureintro; exact A.h3.read_unread _
        iexact H2
      isplitl [H3]
      · iexists _; isplitr; · ipureintro; exact A.h4.read_unread _
        iexact H3
      isplitl [H4]
      · iexists _; isplitr; · ipureintro; exact A.h5.read_unread _
        iexact H4
      isplitl [H5]
      · iexists _; isplitr; · ipureintro; exact A.h6.read_unread _
        iexact H5
      isplitl [H6]
      · iexists _; isplitr; · ipureintro; exact A.h7.read_unread _
        iexact H6
      isplitl [H7]
      · iexists _; isplitr; · ipureintro; exact A.h8.read_unread _
        iexact H7
      iexists _; isplitr; · ipureintro; exact A.h9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.KernelIdeal.Run

end
-- ==== Proof.Frame.lean ====
module

public import proofs.«01_k».proof.Proof.RunC
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- One of the buffers of output 9, through which its contents are stated. -/
abbrev VO9 : View sig .tc .vmem S256x1024 .f32 := (Memref.whole cc0_stg9_0 : Memref sig .tc .vmem S256x1024 .f32).view
/-- One of the buffers of output 10, through which its contents are stated. -/
abbrev VO10 : View sig .tc .vmem S256x1024 .bf16 := (Memref.whole cc0_stg10_0 : Memref sig .tc .vmem S256x1024 .bf16).view
/-- One of the buffers of output 11, through which its contents are stated. -/
abbrev VO11 : View sig .tc .vmem S256x1024 .bf16 := (Memref.whole cc0_stg11_0 : Memref sig .tc .vmem S256x1024 .bf16).view
/-- One of the buffers of output 12, through which its contents are stated. -/
abbrev VO12 : View sig .tc .vmem S1x1024 .f32 := (Memref.whole cc0_stg12_0 : Memref sig .tc .vmem S1x1024 .f32).view
/-- One of the buffers of output 13, through which its contents are stated. -/
abbrev VO13 : View sig .tc .vmem S1x1024 .f32 := (Memref.whole cc0_stg13_0 : Memref sig .tc .vmem S1x1024 .f32).view
/-- The accumulator as a view. -/
abbrev VOS : View sig .tc .vmem S4096x1024 .f32 := accM.view

/-- What the body leaves: each output's block, the accumulator, and the copied result. -/
structure Outs (F : FTy → Type) [FloatOps F] (c : Dev nD) where
  o9 : Vec F S256x1024 .f32
  o10 : Vec F S256x1024 .bf16
  o11 : Vec F S256x1024 .bf16
  o12 : Vec F S1x1024 .f32
  o13 : Vec F S1x1024 .f32
  acc : Vec F S4096x1024 .f32
  hb : HbBuf (F := F) c hbM

/-- The run of the body at a first point. -/
abbrev runA (c : Dev nD) (i : grid0.Coords) (A : Args) (hc0 : AtFirst i) (hc1 : ¬AtLast i) (X : Ins F) (fw : HbBuf (F := F) c hbM) := kernelRunA c i A hc0 hc1 X fw

/-- First step: the stores fill window 9. -/
theorem coverA9 (c : Dev nD) (i : grid0.Coords) (A : Args) (hc0 : AtFirst i) (hc1 : ¬AtLast i) (X : Ins F) (fw : HbBuf (F := F) c hbM) (y : S256x1024.Idx) : ∃ pc ∈ (runA c i A hc0 hc1 X fw).1, y ∈ pc.1.set :=
  View.cover_of_tiledL (runA c i A hc0 hc1 X fw).1 S256x1024.size (by sl_kernel_rfl) y
/-- First step: the stores fill window 10. -/
theorem coverA10 (c : Dev nD) (i : grid0.Coords) (A : Args) (hc0 : AtFirst i) (hc1 : ¬AtLast i) (X : Ins F) (fw : HbBuf (F := F) c hbM) (y : S256x1024.Idx) : ∃ pc ∈ (runA c i A hc0 hc1 X fw).2.1, y ∈ pc.1.set :=
  View.cover_of_tiledL (runA c i A hc0 hc1 X fw).2.1 S256x1024.size (by sl_kernel_rfl) y
/-- First step: the stores fill window 11. -/
theorem coverA11 (c : Dev nD) (i : grid0.Coords) (A : Args) (hc0 : AtFirst i) (hc1 : ¬AtLast i) (X : Ins F) (fw : HbBuf (F := F) c hbM) (y : S256x1024.Idx) : ∃ pc ∈ (runA c i A hc0 hc1 X fw).2.2.1, y ∈ pc.1.set :=
  View.cover_of_tiledL (runA c i A hc0 hc1 X fw).2.2.1 S256x1024.size (by sl_kernel_rfl) y
/-- First step: the stores fill window 12. -/
theorem coverA12 (c : Dev nD) (i : grid0.Coords) (A : Args) (hc0 : AtFirst i) (hc1 : ¬AtLast i) (X : Ins F) (fw : HbBuf (F := F) c hbM) (y : S1x1024.Idx) : ∃ pc ∈ (runA c i A hc0 hc1 X fw).2.2.2.1, y ∈ pc.1.set :=
  View.cover_of_tiledL (runA c i A hc0 hc1 X fw).2.2.2.1 S1x1024.size (by sl_kernel_rfl) y
/-- First step: the stores fill window 13. -/
theorem coverA13 (c : Dev nD) (i : grid0.Coords) (A : Args) (hc0 : AtFirst i) (hc1 : ¬AtLast i) (X : Ins F) (fw : HbBuf (F := F) c hbM) (y : S1x1024.Idx) : ∃ pc ∈ (runA c i A hc0 hc1 X fw).2.2.2.2.1, y ∈ pc.1.set :=
  View.cover_of_tiledL (runA c i A hc0 hc1 X fw).2.2.2.2.1 S1x1024.size (by sl_kernel_rfl) y
/-- First step: the stores fill the accumulator. -/
theorem coverAS (c : Dev nD) (i : grid0.Coords) (A : Args) (hc0 : AtFirst i) (hc1 : ¬AtLast i) (X : Ins F) (fw : HbBuf (F := F) c hbM) (y : S4096x1024.Idx) : ∃ pc ∈ (runA c i A hc0 hc1 X fw).2.2.2.2.2.1, y ∈ pc.1.set :=
  View.cover_of_wholeMem (runA c i A hc0 hc1 X fw).2.2.2.2.2.1 (by sl_whole_mem) y

/-- What the body leaves at a first point: the found stores read back. -/
def outsA (c : Dev nD) (i : grid0.Coords) (A : Args) (hc0 : AtFirst i) (hc1 : ¬AtLast i) (X : Ins F) (fw : HbBuf (F := F) c hbM) : Outs F c where
  o9 := VO9.read (Elt F) (VO9.writes (Elt F) VO9.junk (runA c i A hc0 hc1 X fw).1)
  o10 := VO10.read (Elt F) (VO10.writes (Elt F) VO10.junk (runA c i A hc0 hc1 X fw).2.1)
  o11 := VO11.read (Elt F) (VO11.writes (Elt F) VO11.junk (runA c i A hc0 hc1 X fw).2.2.1)
  o12 := VO12.read (Elt F) (VO12.writes (Elt F) VO12.junk (runA c i A hc0 hc1 X fw).2.2.2.1)
  o13 := VO13.read (Elt F) (VO13.writes (Elt F) VO13.junk (runA c i A hc0 hc1 X fw).2.2.2.2.1)
  acc := VOS.read (Elt F) (VOS.writes (Elt F) VOS.junk (runA c i A hc0 hc1 X fw).2.2.2.2.2.1)
  hb := (runA c i A hc0 hc1 X fw).2.2.2.2.2.2.1

/-- The run of the body at a middle point, over what the point before left. -/
abbrev runB (c : Dev nD) (i : grid0.Coords) (A : Args) (hc0 : ¬AtFirst i) (hc1 : ¬AtLast i) (X : Ins F) (P : Outs F c) := kernelRunB c i A hc0 hc1 X P.o12 P.o13 P.acc P.hb

/-- Middle step: the stores fill window 9. -/
theorem coverB9 (c : Dev nD) (i : grid0.Coords) (A : Args) (hc0 : ¬AtFirst i) (hc1 : ¬AtLast i) (X : Ins F) (P : Outs F c) (y : S256x1024.Idx) : ∃ pc ∈ (runB c i A hc0 hc1 X P).1, y ∈ pc.1.set :=
  View.cover_of_tiledL (runB c i A hc0 hc1 X P).1 S256x1024.size (by sl_kernel_rfl) y
/-- Middle step: the stores fill window 10. -/
theorem coverB10 (c : Dev nD) (i : grid0.Coords) (A : Args) (hc0 : ¬AtFirst i) (hc1 : ¬AtLast i) (X : Ins F) (P : Outs F c) (y : S256x1024.Idx) : ∃ pc ∈ (runB c i A hc0 hc1 X P).2.1, y ∈ pc.1.set :=
  View.cover_of_tiledL (runB c i A hc0 hc1 X P).2.1 S256x1024.size (by sl_kernel_rfl) y
/-- Middle step: the stores fill window 11. -/
theorem coverB11 (c : Dev nD) (i : grid0.Coords) (A : Args) (hc0 : ¬AtFirst i) (hc1 : ¬AtLast i) (X : Ins F) (P : Outs F c) (y : S256x1024.Idx) : ∃ pc ∈ (runB c i A hc0 hc1 X P).2.2.1, y ∈ pc.1.set :=
  View.cover_of_tiledL (runB c i A hc0 hc1 X P).2.2.1 S256x1024.size (by sl_kernel_rfl) y
/-- Middle step: the stores fill window 12. -/
theorem coverB12 (c : Dev nD) (i : grid0.Coords) (A : Args) (hc0 : ¬AtFirst i) (hc1 : ¬AtLast i) (X : Ins F) (P : Outs F c) (y : S1x1024.Idx) : ∃ pc ∈ (runB c i A hc0 hc1 X P).2.2.2.1, y ∈ pc.1.set :=
  View.cover_of_tiledL (runB c i A hc0 hc1 X P).2.2.2.1 S1x1024.size (by sl_kernel_rfl) y
/-- Middle step: the stores fill window 13. -/
theorem coverB13 (c : Dev nD) (i : grid0.Coords) (A : Args) (hc0 : ¬AtFirst i) (hc1 : ¬AtLast i) (X : Ins F) (P : Outs F c) (y : S1x1024.Idx) : ∃ pc ∈ (runB c i A hc0 hc1 X P).2.2.2.2.1, y ∈ pc.1.set :=
  View.cover_of_tiledL (runB c i A hc0 hc1 X P).2.2.2.2.1 S1x1024.size (by sl_kernel_rfl) y
/-- Middle step: the stores fill the accumulator. -/
theorem coverBS (c : Dev nD) (i : grid0.Coords) (A : Args) (hc0 : ¬AtFirst i) (hc1 : ¬AtLast i) (X : Ins F) (P : Outs F c) (y : S4096x1024.Idx) : ∃ pc ∈ (runB c i A hc0 hc1 X P).2.2.2.2.2.1, y ∈ pc.1.set :=
  View.cover_of_tiledL (runB c i A hc0 hc1 X P).2.2.2.2.2.1 S1024x1024.size (by sl_kernel_rfl) y

/-- What the body leaves at a middle point: the found stores read back. -/
def outsB (c : Dev nD) (i : grid0.Coords) (A : Args) (hc0 : ¬AtFirst i) (hc1 : ¬AtLast i) (X : Ins F) (P : Outs F c) : Outs F c where
  o9 := VO9.read (Elt F) (VO9.writes (Elt F) VO9.junk (runB c i A hc0 hc1 X P).1)
  o10 := VO10.read (Elt F) (VO10.writes (Elt F) VO10.junk (runB c i A hc0 hc1 X P).2.1)
  o11 := VO11.read (Elt F) (VO11.writes (Elt F) VO11.junk (runB c i A hc0 hc1 X P).2.2.1)
  o12 := VO12.read (Elt F) (VO12.writes (Elt F) VO12.junk (runB c i A hc0 hc1 X P).2.2.2.1)
  o13 := VO13.read (Elt F) (VO13.writes (Elt F) VO13.junk (runB c i A hc0 hc1 X P).2.2.2.2.1)
  acc := VOS.read (Elt F) (VOS.writes (Elt F) VOS.junk (runB c i A hc0 hc1 X P).2.2.2.2.2.1)
  hb := (runB c i A hc0 hc1 X P).2.2.2.2.2.2.1

/-- The run of the body at a last point, over what the point before left. -/
abbrev runC (c : Dev nD) (i : grid0.Coords) (A : Args) (hc0 : ¬AtFirst i) (hc1 : AtLast i) (X : Ins F) (P : Outs F c) := kernelRunC c i A hc0 hc1 rowsDisjoint X P.o12 P.o13 P.acc P.hb

/-- Last step: the stores fill window 9. -/
theorem coverC9 (c : Dev nD) (i : grid0.Coords) (A : Args) (hc0 : ¬AtFirst i) (hc1 : AtLast i) (X : Ins F) (P : Outs F c) (y : S256x1024.Idx) : ∃ pc ∈ (runC c i A hc0 hc1 X P).1, y ∈ pc.1.set :=
  View.cover_of_tiledL (runC c i A hc0 hc1 X P).1 S256x1024.size (by sl_kernel_rfl) y
/-- Last step: the stores fill window 10. -/
theorem coverC10 (c : Dev nD) (i : grid0.Coords) (A : Args) (hc0 : ¬AtFirst i) (hc1 : AtLast i) (X : Ins F) (P : Outs F c) (y : S256x1024.Idx) : ∃ pc ∈ (runC c i A hc0 hc1 X P).2.1, y ∈ pc.1.set :=
  View.cover_of_tiledL (runC c i A hc0 hc1 X P).2.1 S256x1024.size (by sl_kernel_rfl) y
/-- Last step: the stores fill window 11. -/
theorem coverC11 (c : Dev nD) (i : grid0.Coords) (A : Args) (hc0 : ¬AtFirst i) (hc1 : AtLast i) (X : Ins F) (P : Outs F c) (y : S256x1024.Idx) : ∃ pc ∈ (runC c i A hc0 hc1 X P).2.2.1, y ∈ pc.1.set :=
  View.cover_of_tiledL (runC c i A hc0 hc1 X P).2.2.1 S256x1024.size (by sl_kernel_rfl) y
/-- Last step: the stores fill window 12. -/
theorem coverC12 (c : Dev nD) (i : grid0.Coords) (A : Args) (hc0 : ¬AtFirst i) (hc1 : AtLast i) (X : Ins F) (P : Outs F c) (y : S1x1024.Idx) : ∃ pc ∈ (runC c i A hc0 hc1 X P).2.2.2.1, y ∈ pc.1.set :=
  View.cover_of_tiledL (runC c i A hc0 hc1 X P).2.2.2.1 S1x1024.size (by sl_kernel_rfl) y
/-- Last step: the stores fill window 13. -/
theorem coverC13 (c : Dev nD) (i : grid0.Coords) (A : Args) (hc0 : ¬AtFirst i) (hc1 : AtLast i) (X : Ins F) (P : Outs F c) (y : S1x1024.Idx) : ∃ pc ∈ (runC c i A hc0 hc1 X P).2.2.2.2.1, y ∈ pc.1.set :=
  View.cover_of_tiledL (runC c i A hc0 hc1 X P).2.2.2.2.1 S1x1024.size (by sl_kernel_rfl) y
/-- Last step: the stores fill the accumulator. -/
theorem coverCS (c : Dev nD) (i : grid0.Coords) (A : Args) (hc0 : ¬AtFirst i) (hc1 : AtLast i) (X : Ins F) (P : Outs F c) (y : S4096x1024.Idx) : ∃ pc ∈ (runC c i A hc0 hc1 X P).2.2.2.2.2.1, y ∈ pc.1.set :=
  View.cover_of_tiledL (runC c i A hc0 hc1 X P).2.2.2.2.2.1 S1024x1024.size (by sl_kernel_rfl) y

/-- What the body leaves at a last point: the found stores read back. -/
def outsC (c : Dev nD) (i : grid0.Coords) (A : Args) (hc0 : ¬AtFirst i) (hc1 : AtLast i) (X : Ins F) (P : Outs F c) : Outs F c where
  o9 := VO9.read (Elt F) (VO9.writes (Elt F) VO9.junk (runC c i A hc0 hc1 X P).1)
  o10 := VO10.read (Elt F) (VO10.writes (Elt F) VO10.junk (runC c i A hc0 hc1 X P).2.1)
  o11 := VO11.read (Elt F) (VO11.writes (Elt F) VO11.junk (runC c i A hc0 hc1 X P).2.2.1)
  o12 := VO12.read (Elt F) (VO12.writes (Elt F) VO12.junk (runC c i A hc0 hc1 X P).2.2.2.1)
  o13 := VO13.read (Elt F) (VO13.writes (Elt F) VO13.junk (runC c i A hc0 hc1 X P).2.2.2.2.1)
  acc := VOS.read (Elt F) (VOS.writes (Elt F) VOS.junk (runC c i A hc0 hc1 X P).2.2.2.2.2.1)
  hb := (runC c i A hc0 hc1 X P).2.2.2.2.2.2.1

/-! ## The outputs after each point -/

/-- What the outputs, the accumulator and the copied result hold after the point at position `n`. -/
def outsAt (c : Dev nD) : (n : ℕ) → n < cfg0.N → Outs F c
  | 0, hn => outsA c (grid0.coords ⟨0, hn⟩) (args ⟨0, hn⟩) ((atFirst_iff ⟨0, hn⟩).mpr (Nat.zero_mod _))
      (fun h => by have h1 := (atLast_iff ⟨0, hn⟩).mp h; dsimp only at h1; omega) (ins m c ⟨0, hn⟩) (V m c main_v33_0)
  | n + 1, hn =>
    if h1 : (n + 1) % 16 = 15 then
      outsC c (grid0.coords ⟨n + 1, hn⟩) (args ⟨n + 1, hn⟩) (fun h => by have h0 := (atFirst_iff ⟨n + 1, hn⟩).mp h; dsimp only at h0; omega)
        ((atLast_iff ⟨n + 1, hn⟩).mpr h1) (ins m c ⟨n + 1, hn⟩) (outsAt c n (Nat.lt_of_succ_lt hn))
    else
      outsB c (grid0.coords ⟨n + 1, hn⟩) (args ⟨n + 1, hn⟩)
        (fun h => by have h0 := (atFirst_iff ⟨n + 1, hn⟩).mp h; have hN : n + 1 < 16 := lt_of_lt_of_eq hn (show cfg0.N = 16 from N_0); dsimp only at h0; omega)
        (fun h => h1 ((atLast_iff ⟨n + 1, hn⟩).mp h)) (ins m c ⟨n + 1, hn⟩) (outsAt c n (Nat.lt_of_succ_lt hn))

/-- The first step is not the last. -/
theorem not_last {t : Fin cfg0.N} (h : t.val % 16 = 0) : ¬AtLast (grid0.coords t) := fun h' => by
  have := (atLast_iff t).mp h'; omega
/-- The last step is not the first. -/
theorem not_first {t : Fin cfg0.N} (h : t.val % 16 = 15) : ¬AtFirst (grid0.coords t) := fun h' => by
  have := (atFirst_iff t).mp h'; omega

/-- The first point. -/
theorem outsAt_A (c : Dev nD) (t : Fin cfg0.N) (h0 : t.val % 16 = 0) :
    outsAt m c t.val t.isLt = outsA c (grid0.coords t) (args t) ((atFirst_iff t).mpr h0) (not_last h0) (ins m c t) (V m c main_v33_0) := by
  obtain ⟨n, hn⟩ := t
  cases n with
  | zero => rfl
  | succ n => exfalso; have hN : n + 1 < 16 := lt_of_lt_of_eq hn (show cfg0.N = 16 from N_0); dsimp only at h0; omega

/-- A middle point, over what the point before left. -/
theorem outsAt_B (c : Dev nD) (t : Fin cfg0.N) (h0 : ¬t.val % 16 = 0) (h1 : ¬t.val % 16 = 15) :
    outsAt m c t.val t.isLt = outsB c (grid0.coords t) (args t) (fun h => h0 ((atFirst_iff t).mp h)) (fun h => h1 ((atLast_iff t).mp h)) (ins m c t)
      (outsAt m c (t.val - 1) (Nat.lt_of_le_of_lt (Nat.sub_le _ _) t.isLt)) := by
  obtain ⟨n, hn⟩ := t
  cases n with
  | zero => exact absurd (Nat.zero_mod _) h0
  | succ n => exact (dif_neg h1).trans rfl

/-- The last point, over what the point before left. -/
theorem outsAt_C (c : Dev nD) (t : Fin cfg0.N) (h1 : t.val % 16 = 15) :
    outsAt m c t.val t.isLt = outsC c (grid0.coords t) (args t) (not_first h1) ((atLast_iff t).mpr h1) (ins m c t)
      (outsAt m c (t.val - 1) (Nat.lt_of_le_of_lt (Nat.sub_le _ _) t.isLt)) := by
  obtain ⟨n, hn⟩ := t
  cases n with
  | zero => exfalso; dsimp only at h1; omega
  | succ n => exact (dif_pos h1).trans rfl

/-! ## The pipeline's data -/

/-- Before position `n`: at the start what the launch hands over; afterwards the accumulator and the copied result
    at what the point before left, the semaphores at zero. -/
def Phi (c : Dev nD) : (n : ℕ) → n ≤ cfg0.N → sProp 𝕄
  | 0, _ => Pipeline.ΦDRG osem0 spec0 H0 R0 (V m) (V m) c
  | n + 1, hn => iprop(iprop(owns (c : Thread nD τ) accM fullShare (outsAt m c n hn).acc) ∗ (∃ r, prngReg c r) ∗ cellsZero c ∗ iprop(emp) ∗ iprop(hbPt c hbM (outsAt m c n hn).hb))

/-- The invariant before the first step. -/
theorem Phi_zero (c : Dev nD) (n : ℕ) (h : n ≤ cfg0.N) (hz : n = 0) : Phi m c n h = Pipeline.ΦDRG osem0 spec0 H0 R0 (V m) (V m) c := by
  subst hz; rfl

/-- The invariant after a step. -/
theorem Phi_pos (c : Dev nD) (n : ℕ) (h : n ≤ cfg0.N) (hz : n ≠ 0) :
    Phi m c n h = iprop(iprop(owns (c : Thread nD τ) accM fullShare (outsAt m c (n - 1) (by omega)).acc) ∗ (∃ r, prngReg c r) ∗ cellsZero c ∗ iprop(emp) ∗ iprop(hbPt c hbM (outsAt m c (n - 1) (by omega)).hb)) := by
  cases n with
  | zero => exact absurd rfl hz
  | succ n => rfl

/-- The pipeline's data: the arrays as the launch finds them, each input's buffer at its block, each output's at
    what the body leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).o9
    | ⟨10, _⟩ => (outsAt m c t.val t.isLt).o10
    | ⟨11, _⟩ => (outsAt m c t.val t.isLt).o11
    | ⟨12, _⟩ => (outsAt m c t.val t.isLt).o12
    | ⟨13, _⟩ => (outsAt m c t.val t.isLt).o13
  Φ t := Phi m c t.val (Nat.le_of_lt_succ t.isLt)
  q _ := fullShare
  owed _ := 0

/-- The arrays at entry. -/
theorem A_eq (c : Dev nD) (w : Fin cfg0.W) : (dats m 0 c).A w = V m c (Pipeline.arrRef spec0 w) := by
  dsimp only [dats]

/-- The invariant at the start of a step. -/
theorem Phi_castSucc (c : Dev nD) (t : Fin cfg0.N) :
    (dats m 0 c).Φ t.castSucc = Phi m c t.val (Nat.le_of_lt t.isLt) := by
  dsimp only [dats]; exact Pipeline.Dat.Φ_castSucc (Phi m c) t

/-- Window 0 after a step. -/
theorem after0_0 (c : Dev nD) (t : Fin cfg0.N) : (dats m 0 c).after 0 t = iblk m c 0 t := by dsimp only [dats]
/-- Window 1 after a step. -/
theorem after0_1 (c : Dev nD) (t : Fin cfg0.N) : (dats m 0 c).after 1 t = iblk m c 1 t := by dsimp only [dats]
/-- Window 2 after a step. -/
theorem after0_2 (c : Dev nD) (t : Fin cfg0.N) : (dats m 0 c).after 2 t = iblk m c 2 t := by dsimp only [dats]
/-- Window 3 after a step. -/
theorem after0_3 (c : Dev nD) (t : Fin cfg0.N) : (dats m 0 c).after 3 t = iblk m c 3 t := by dsimp only [dats]
/-- Window 4 after a step. -/
theorem after0_4 (c : Dev nD) (t : Fin cfg0.N) : (dats m 0 c).after 4 t = iblk m c 4 t := by dsimp only [dats]
/-- Window 5 after a step. -/
theorem after0_5 (c : Dev nD) (t : Fin cfg0.N) : (dats m 0 c).after 5 t = iblk m c 5 t := by dsimp only [dats]
/-- Window 6 after a step. -/
theorem after0_6 (c : Dev nD) (t : Fin cfg0.N) : (dats m 0 c).after 6 t = iblk m c 6 t := by dsimp only [dats]
/-- Window 7 after a step. -/
theorem after0_7 (c : Dev nD) (t : Fin cfg0.N) : (dats m 0 c).after 7 t = iblk m c 7 t := by dsimp only [dats]
/-- Window 8 after a step. -/
theorem after0_8 (c : Dev nD) (t : Fin cfg0.N) : (dats m 0 c).after 8 t = iblk m c 8 t := by dsimp only [dats]
/-- Window 9 after a step. -/
theorem after0_9 (c : Dev nD) (t : Fin cfg0.N) : (dats m 0 c).after 9 t = (outsAt m c t.val t.isLt).o9 := by dsimp only [dats]
/-- Window 10 after a step. -/
theorem after0_10 (c : Dev nD) (t : Fin cfg0.N) : (dats m 0 c).after 10 t = (outsAt m c t.val t.isLt).o10 := by dsimp only [dats]
/-- Window 11 after a step. -/
theorem after0_11 (c : Dev nD) (t : Fin cfg0.N) : (dats m 0 c).after 11 t = (outsAt m c t.val t.isLt).o11 := by dsimp only [dats]
/-- Window 12 after a step. -/
theorem after0_12 (c : Dev nD) (t : Fin cfg0.N) : (dats m 0 c).after 12 t = (outsAt m c t.val t.isLt).o12 := by dsimp only [dats]
/-- Window 13 after a step. -/
theorem after0_13 (c : Dev nD) (t : Fin cfg0.N) : (dats m 0 c).after 13 t = (outsAt m c t.val t.isLt).o13 := by dsimp only [dats]

/-! An input's buffer holds its block at every point. -/

/-- Window 0 before a step. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0 m c]; unfold Dat.blockOf iblk; rw [A_eq m c]; try rfl) t d).trans
    (by unfold Dat.fetched Dat.blockOf iblk; rw [A_eq m c]; try rfl)
/-- Window 1 before a step. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1 m c]; unfold Dat.blockOf iblk; rw [A_eq m c]; try rfl) t d).trans
    (by unfold Dat.fetched Dat.blockOf iblk; rw [A_eq m c]; try rfl)
/-- Window 2 before a step. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2 m c]; unfold Dat.blockOf iblk; rw [A_eq m c]; try rfl) t d).trans
    (by unfold Dat.fetched Dat.blockOf iblk; rw [A_eq m c]; try rfl)
/-- Window 3 before a step. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3 m c]; unfold Dat.blockOf iblk; rw [A_eq m c]; try rfl) t d).trans
    (by unfold Dat.fetched Dat.blockOf iblk; rw [A_eq m c]; try rfl)
/-- Window 4 before a step. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4 m c]; unfold Dat.blockOf iblk; rw [A_eq m c]; try rfl) t d).trans
    (by unfold Dat.fetched Dat.blockOf iblk; rw [A_eq m c]; try rfl)
/-- Window 5 before a step. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5 m c]; unfold Dat.blockOf iblk; rw [A_eq m c]; try rfl) t d).trans
    (by unfold Dat.fetched Dat.blockOf iblk; rw [A_eq m c]; try rfl)
/-- Window 6 before a step. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6 m c]; unfold Dat.blockOf iblk; rw [A_eq m c]; try rfl) t d).trans
    (by unfold Dat.fetched Dat.blockOf iblk; rw [A_eq m c]; try rfl)
/-- Window 7 before a step. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7 m c]; unfold Dat.blockOf iblk; rw [A_eq m c]; try rfl) t d).trans
    (by unfold Dat.fetched Dat.blockOf iblk; rw [A_eq m c]; try rfl)
/-- Window 8 before a step. -/
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8 m c]; unfold Dat.blockOf iblk; rw [A_eq m c]; try rfl) t d).trans
    (by unfold Dat.fetched Dat.blockOf iblk; rw [A_eq m c]; try rfl)
/-- After the first point, output 12's buffer holds what the point before left. -/
theorem before0_12 (c : Dev nD) (t : Fin cfg0.N) (h0 : ¬t.val % 16 = 0) (d) :
    (dats m 0 c).before 12 t d = (outsAt m c (t.val - 1) (Nat.lt_of_le_of_lt (Nat.sub_le _ _) t.isLt)).o12 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
/-- After the first point, output 13's buffer holds what the point before left. -/
theorem before0_13 (c : Dev nD) (t : Fin cfg0.N) (h0 : ¬t.val % 16 = 0) (d) :
    (dats m 0 c).before 13 t d = (outsAt m c (t.val - 1) (Nat.lt_of_le_of_lt (Nat.sub_le _ _) t.isLt)).o13 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (args t).a1 fullShare ((dats m 0 c).before 0 t d)) ∗ (∃ d, owns (c : Thread nD τ) (args t).a2 fullShare ((dats m 0 c).before 1 t d)) ∗ (∃ d, owns (c : Thread nD τ) (args t).a3 fullShare ((dats m 0 c).before 2 t d)) ∗ (∃ d, owns (c : Thread nD τ) (args t).a4 fullShare ((dats m 0 c).before 3 t d)) ∗ (∃ d, owns (c : Thread nD τ) (args t).a5 fullShare ((dats m 0 c).before 4 t d)) ∗ (∃ d, owns (c : Thread nD τ) (args t).a6 fullShare ((dats m 0 c).before 5 t d)) ∗ (∃ d, owns (c : Thread nD τ) (args t).a7 fullShare ((dats m 0 c).before 6 t d)) ∗ (∃ d, owns (c : Thread nD τ) (args t).a8 fullShare ((dats m 0 c).before 7 t d)) ∗ (∃ d, owns (c : Thread nD τ) (args t).a9 fullShare ((dats m 0 c).before 8 t d)) ∗ (∃ d, owns (c : Thread nD τ) (args t).a11 fullShare ((dats m 0 c).before 9 t d)) ∗ (∃ d, owns (c : Thread nD τ) (args t).a12 fullShare ((dats m 0 c).before 10 t d)) ∗ (∃ d, owns (c : Thread nD τ) (args t).a13 fullShare ((dats m 0 c).before 11 t d)) ∗ (∃ d, owns (c : Thread nD τ) (args t).a14 fullShare ((dats m 0 c).before 12 t d)) ∗ (∃ d, owns (c : Thread nD τ) (args t).a15 fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (args t).a1 fullShare ((dats m 0 c).after 0 t) ∗ owns (c : Thread nD τ) (args t).a2 fullShare ((dats m 0 c).after 1 t) ∗ owns (c : Thread nD τ) (args t).a3 fullShare ((dats m 0 c).after 2 t) ∗ owns (c : Thread nD τ) (args t).a4 fullShare ((dats m 0 c).after 3 t) ∗ owns (c : Thread nD τ) (args t).a5 fullShare ((dats m 0 c).after 4 t) ∗ owns (c : Thread nD τ) (args t).a6 fullShare ((dats m 0 c).after 5 t) ∗ owns (c : Thread nD τ) (args t).a7 fullShare ((dats m 0 c).after 6 t) ∗ owns (c : Thread nD τ) (args t).a8 fullShare ((dats m 0 c).after 7 t) ∗ owns (c : Thread nD τ) (args t).a9 fullShare ((dats m 0 c).after 8 t) ∗ owns (c : Thread nD τ) (args t).a11 fullShare ((dats m 0 c).after 9 t) ∗ owns (c : Thread nD τ) (args t).a12 fullShare ((dats m 0 c).after 10 t) ∗ owns (c : Thread nD τ) (args t).a13 fullShare ((dats m 0 c).after 11 t) ∗ owns (c : Thread nD τ) (args t).a14 fullShare ((dats m 0 c).after 12 t) ∗ owns (c : Thread nD τ) (args t).a15 fullShare ((dats m 0 c).after 13 t))

set_option maxHeartbeats 8000000 in
/-- The body at any point of the grid, from the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Phi m c (t.val + 1) t.isLt from rfl, Phi,
    after0_0, after0_1, after0_2, after0_3, after0_4, after0_5, after0_6, after0_7, after0_8, after0_9, after0_10, after0_11, after0_12, after0_13]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · rw [Phi_castSucc m c t, Phi_zero m c _ _ (by omega), launch_in_eq]
    rw [outsAt_A m c t h0]
    unfold outsA; dsimp only
    iintro ⟨⟨HS, Hg, Hq, -, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA c (grid0.coords t) (args t) ((atFirst_iff t).mpr h0) (not_last h0) (ins m c t) (V m c main_v33_0)).2.2.2.2.2.2.2 W _)
    isplitl [H0 H1 H2 H3 H4 H5 H6 H7 H8]
    · unfold insOwned
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    isplitl [Hq]; · iexact Hq
    isplitl [Hh]; · iexact Hh
    isplitl [HW]; · iexact HW
    iintro ⟨Hin, ⟨%e9, H9⟩, ⟨%e10, H10⟩, ⟨%e11, H11⟩, ⟨%e12, H12⟩, ⟨%e13, H13⟩, ⟨%es, HS⟩, Hq, Hh, ⟨%W', HW'⟩⟩
    isplitl [HS Hg Hq Hh]
    · isplitl [HS]
      · unfold owns; iexists _; isplitr
        swap; · iexact HS
        ipureintro; exact View.read_writes_of_cover _ _ _ _ _ (coverAS c (grid0.coords t) (args t) ((atFirst_iff t).mpr h0) (not_last h0) (ins m c t) (V m c main_v33_0))
      isplitl [Hg]; · iexact Hg
      isplitl [Hq]; · iexact Hq
      isplitr; · iempintro
      iexact Hh
    isplitl [HW']
    · iexists W'; isplitr; · ipureintro; exact fun _ _ => Or.inl trivial
      iexact HW'
    unfold insOwned
    icases Hin with ⟨H0, H1, H2, H3, H4, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverA9 c (grid0.coords t) (args t) ((atFirst_iff t).mpr h0) (not_last h0) (ins m c t) (V m c main_v33_0))
    isplitl [H10]
    · unfold owns; iexists _; isplitr
      swap; · iexact H10
      ipureintro; exact View.read_writes_of_cover _ _ _ _ _ (coverA10 c (grid0.coords t) (args t) ((atFirst_iff t).mpr h0) (not_last h0) (ins m c t) (V m c main_v33_0))
    isplitl [H11]
    · unfold owns; iexists _; isplitr
      swap; · iexact H11
      ipureintro; exact View.read_writes_of_cover _ _ _ _ _ (coverA11 c (grid0.coords t) (args t) ((atFirst_iff t).mpr h0) (not_last h0) (ins m c t) (V m c main_v33_0))
    isplitl [H12]
    · unfold owns; iexists _; isplitr
      swap; · iexact H12
      ipureintro; exact View.read_writes_of_cover _ _ _ _ _ (coverA12 c (grid0.coords t) (args t) ((atFirst_iff t).mpr h0) (not_last h0) (ins m c t) (V m c main_v33_0))
    unfold owns; iexists _; isplitr
    swap; · iexact H13
    ipureintro; exact View.read_writes_of_cover _ _ _ _ _ (coverA13 c (grid0.coords t) (args t) ((atFirst_iff t).mpr h0) (not_last h0) (ins m c t) (V m c main_v33_0))
  · by_cases h1 : t.val % 16 = 15
    · rw [Phi_castSucc m c t, Phi_pos m c _ _ (by omega)]
      rw [outsAt_C m c t h1]
      simp only [before0_12 m c t h0, before0_13 m c t h0]
      generalize outsAt m c (t.val - 1) (Nat.lt_of_le_of_lt (Nat.sub_le _ _) t.isLt) = P
      unfold outsC; dsimp only
      iintro ⟨⟨HS, Hg, Hq, -, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runC c (grid0.coords t) (args t) (not_first h1) ((atLast_iff t).mpr h1) (ins m c t) P).2.2.2.2.2.2.2 W _)
      isplitl [H0 H1 H2 H3 H4 H5 H6 H7 H8]
      · unfold insOwned
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexists _; iexact H9
      isplitl [H10]; · iexists _; iexact H10
      isplitl [H11]; · iexists _; iexact H11
      isplitl [H12]; · iexact H12
      isplitl [H13]; · iexact H13
      isplitl [HS]; · iexact HS
      isplitl [Hq]; · iexact Hq
      isplitl [Hh]; · iexact Hh
      isplitl [HW]; · iexact HW
      iintro ⟨Hin, ⟨%e9, H9⟩, ⟨%e10, H10⟩, ⟨%e11, H11⟩, ⟨%e12, H12⟩, ⟨%e13, H13⟩, ⟨%es, HS⟩, Hq, Hh, ⟨%W', HW'⟩⟩
      isplitl [HS Hg Hq Hh]
      · isplitl [HS]
        · unfold owns; iexists _; isplitr
          swap; · iexact HS
          ipureintro; exact View.read_writes_of_cover _ _ _ _ _ (coverCS c (grid0.coords t) (args t) (not_first h1) ((atLast_iff t).mpr h1) (ins m c t) P)
        isplitl [Hg]; · iexact Hg
        isplitl [Hq]; · iexact Hq
        isplitr; · iempintro
        iexact Hh
      isplitl [HW']
      · iexists W'; isplitr; · ipureintro; exact fun _ _ => Or.inl trivial
        iexact HW'
      unfold insOwned
      icases Hin with ⟨H0, H1, H2, H3, H4, H5, H6, H7, H8⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC9 c (grid0.coords t) (args t) (not_first h1) ((atLast_iff t).mpr h1) (ins m c t) P)
      isplitl [H10]
      · unfold owns; iexists _; isplitr
        swap; · iexact H10
        ipureintro; exact View.read_writes_of_cover _ _ _ _ _ (coverC10 c (grid0.coords t) (args t) (not_first h1) ((atLast_iff t).mpr h1) (ins m c t) P)
      isplitl [H11]
      · unfold owns; iexists _; isplitr
        swap; · iexact H11
        ipureintro; exact View.read_writes_of_cover _ _ _ _ _ (coverC11 c (grid0.coords t) (args t) (not_first h1) ((atLast_iff t).mpr h1) (ins m c t) P)
      isplitl [H12]
      · unfold owns; iexists _; isplitr
        swap; · iexact H12
        ipureintro; exact View.read_writes_of_cover _ _ _ _ _ (coverC12 c (grid0.coords t) (args t) (not_first h1) ((atLast_iff t).mpr h1) (ins m c t) P)
      unfold owns; iexists _; isplitr
      swap; · iexact H13
      ipureintro; exact View.read_writes_of_cover _ _ _ _ _ (coverC13 c (grid0.coords t) (args t) (not_first h1) ((atLast_iff t).mpr h1) (ins m c t) P)
    · rw [Phi_castSucc m c t, Phi_pos m c _ _ (by omega)]
      rw [outsAt_B m c t h0 h1]
      simp only [before0_12 m c t h0, before0_13 m c t h0]
      generalize outsAt m c (t.val - 1) (Nat.lt_of_le_of_lt (Nat.sub_le _ _) t.isLt) = P
      unfold outsB; dsimp only
      iintro ⟨⟨HS, Hg, Hq, -, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runB c (grid0.coords t) (args t) (fun h => h0 ((atFirst_iff t).mp h)) (fun h => h1 ((atLast_iff t).mp h)) (ins m c t) P).2.2.2.2.2.2.2 W _)
      isplitl [H0 H1 H2 H3 H4 H5 H6 H7 H8]
      · unfold insOwned
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexists _; iexact H9
      isplitl [H10]; · iexists _; iexact H10
      isplitl [H11]; · iexists _; iexact H11
      isplitl [H12]; · iexact H12
      isplitl [H13]; · iexact H13
      isplitl [HS]; · iexact HS
      isplitl [Hq]; · iexact Hq
      isplitl [Hh]; · iexact Hh
      isplitl [HW]; · iexact HW
      iintro ⟨Hin, ⟨%e9, H9⟩, ⟨%e10, H10⟩, ⟨%e11, H11⟩, ⟨%e12, H12⟩, ⟨%e13, H13⟩, ⟨%es, HS⟩, Hq, Hh, ⟨%W', HW'⟩⟩
      isplitl [HS Hg Hq Hh]
      · isplitl [HS]
        · unfold owns; iexists _; isplitr
          swap; · iexact HS
          ipureintro; exact View.read_writes_of_cover _ _ _ _ _ (coverBS c (grid0.coords t) (args t) (fun h => h0 ((atFirst_iff t).mp h)) (fun h => h1 ((atLast_iff t).mp h)) (ins m c t) P)
        isplitl [Hg]; · iexact Hg
        isplitl [Hq]; · iexact Hq
        isplitr; · iempintro
        iexact Hh
      isplitl [HW']
      · iexists W'; isplitr; · ipureintro; exact fun _ _ => Or.inl trivial
        iexact HW'
      unfold insOwned
      icases Hin with ⟨H0, H1, H2, H3, H4, H5, H6, H7, H8⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverB9 c (grid0.coords t) (args t) (fun h => h0 ((atFirst_iff t).mp h)) (fun h => h1 ((atLast_iff t).mp h)) (ins m c t) P)
      isplitl [H10]
      · unfold owns; iexists _; isplitr
        swap; · iexact H10
        ipureintro; exact View.read_writes_of_cover _ _ _ _ _ (coverB10 c (grid0.coords t) (args t) (fun h => h0 ((atFirst_iff t).mp h)) (fun h => h1 ((atLast_iff t).mp h)) (ins m c t) P)
      isplitl [H11]
      · unfold owns; iexists _; isplitr
        swap; · iexact H11
        ipureintro; exact View.read_writes_of_cover _ _ _ _ _ (coverB11 c (grid0.coords t) (args t) (fun h => h0 ((atFirst_iff t).mp h)) (fun h => h1 ((atLast_iff t).mp h)) (ins m c t) P)
      isplitl [H12]
      · unfold owns; iexists _; isplitr
        swap; · iexact H12
        ipureintro; exact View.read_writes_of_cover _ _ _ _ _ (coverB12 c (grid0.coords t) (args t) (fun h => h0 ((atFirst_iff t).mp h)) (fun h => h1 ((atLast_iff t).mp h)) (ins m c t) P)
      unfold owns; iexists _; isplitr
      swap; · iexact H13
      ipureintro; exact View.read_writes_of_cover _ _ _ _ _ (coverB13 c (grid0.coords t) (args t) (fun h => h0 ((atFirst_iff t).mp h)) (fun h => h1 ((atLast_iff t).mp h)) (ins m c t) P)

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- Every step runs and keeps the invariant. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of the whole program -/

/-- The last point of the grid. -/
abbrev tLast : Fin cfg0.N := ⟨15, by rw [show cfg0.N = 16 from N_0]; decide⟩

/-- The buffers no window stages, after the launch: the copied result at what the last point leaves. -/
def hbG (c : Dev nD) : (b : Ref sig .tc) → Buf (Elt F) ((c : Thread nD τ).loc b) :=
  Function.update ((V m) c) main_v33_0 (outsAt m c tLast.val tLast.isLt).hb
/-- The copied array holds the last step's copies. -/
theorem hbG_at (c : Dev nD) : hbG m c main_v33_0 = (outsAt m c tLast.val tLast.isLt).hb := by
  unfold hbG; simp only [Function.update_self]

/-- What the launch takes back. -/
theorem launch_out_eq (c : Dev nD) :
    (Pipeline.ΦDRG osem0 spec0 H0 R0 (V m) (hbG m) c : sProp 𝕄)
      = iprop(iprop((∃ d, owns (c : Thread nD τ) accM fullShare d)) ∗ (∃ r, prngReg c r) ∗ cellsZero c ∗ iprop(emp) ∗ iprop(hbPt c hbM (outsAt m c tLast.val tLast.isLt).hb)) := by
  have hR : (Pipeline.routed R0 c (hbG m c) : sProp 𝕄) = iprop(hbPt c hbM (outsAt m c tLast.val tLast.isLt).hb) := by
    unfold Pipeline.routed; rw [BI.bigSep_eq_bigSepL_of_eq [main_v33_0] (by decide) (by decide)]
    simp only [BI.bigSepL_singleton, hbG_at]; try rfl
  rw [Pipeline.ΦDRG_eq, scopedRest0_eq, ownSems00_eq, hbmPts0_eq, hR]; simp only [accM, owns_whole]; try rfl

/-- Entry gives the invariant. -/
theorem hin (c : Dev nD) : Pipeline.ΦDRG osem0 spec0 H0 R0 (V m) (V m) c ⊢ (dats m 0 c).Φ 0 := by
  rw [show (dats m 0 c).Φ 0 = Phi m c 0 (Nat.zero_le _) from rfl, Phi_zero m c 0 _ rfl]
  try exact Idealize.SL.BI.Entails.refl _

/-- The invariant gives the exit. -/
theorem hout (c : Dev nD) : (dats m 0 c).Φ (Fin.last cfg0.N) ⊢ Pipeline.ΦDRG osem0 spec0 H0 R0 (V m) (hbG m) c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 16 := N_0; omega), launch_out_eq]
  iintro ⟨HS, Hg, Hq, He, Hh⟩
  isplitl [HS]
  · iexists _; iexact HS
  isplitl [Hg]; · iexact Hg
  isplitl [Hq]; · iexact Hq
  isplitl [He]; · iexact He
  iexact Hh

set_option backward.isDefEq.respectTransparency.types false in
/-- Every execution ends, with every array of the pipeline and the copied result at their computed contents, every
    other buffer as the launch found it, and every semaphore at zero. -/
theorem run_main : θ_run defs (onTc (τ := τ) (main (F := F))) (s₀ m ρ)
    (fun r => (Pipeline.FramePostRG cfgs (dats m) 0 R0 (V m) (hbG m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG m)
    (hin := hin m) (hout := hout m)

/-- Every execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).1 5).trans (((dats m 0 c).arrAt_in 5 rfl _).trans ((A_eq m c 5).trans (V_main_arg3 m c))),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c),
      ((h.1.toR c).1 0).trans (((dats m 0 c).arrAt_in 0 rfl _).trans ((A_eq m c 0).trans (V_main_arg7 m c)))⟩, h.2⟩) (run_main m ρ)

end Cert.KernelIdeal.Run

end
-- ==== Proof.Rows.lean ====
module

public import Idealize.ShloMosaic.Lib.Pointwise

@[expose] public section

noncomputable section

/-! The mathematics of the call, one token (one row) at a time, over the extended reals. -/

namespace Cert.Rows

open Idealize.ShloMosaic

/-- The literal two. -/
abbrev two : EReal := Ideal.ofBits FTy.f32 0x40000000#32
/-- The literal that scales the residual branch. -/
abbrev alpha : EReal := Ideal.ofBits FTy.f32 0x3F9837F0#32
/-- The literal 1024, the length of a row. -/
abbrev len : EReal := Ideal.ofBits FTy.f32 0x44800000#32
/-- The literal that guards the variance. -/
abbrev eps : EReal := Ideal.ofBits FTy.f32 0x3727C5AC#32

/-- The gradient of the pre-activation: of `relu(p)²` it is twice the rectified value. -/
def dpre (dz : Fin 1024 → EReal) (r : Fin 4096 → EReal) (w2 : Fin 4096 → Fin 1024 → EReal) (e : Fin 4096) : EReal :=
  (∑ d, dz d * w2 e d) * (two * r e)

/-- The gradient of the feed-forward input: the residual branch and the two products. -/
def dx1 (dz : Fin 1024 → EReal) (r : Fin 4096 → EReal) (w2 : Fin 4096 → Fin 1024 → EReal) (w1 : Fin 1024 → Fin 4096 → EReal)
    (d : Fin 1024) : EReal :=
  alpha * dz d + ∑ e, dpre dz r w2 e * w1 d e

/-- The gradient through the row normalisation, in the closed form over the normalised row. -/
def dnorm (dy xh : Fin 1024 → EReal) (rs : EReal) (d : Fin 1024) : EReal :=
  rs * (dy d - Ideal.div (∑ k, dy k) len - xh d * Ideal.div (∑ k, dy k * xh k) len)

/-- The mean of a row. -/
def mean (z : Fin 1024 → EReal) : EReal := Ideal.div (∑ k, z k) len
/-- The row less its mean. -/
def cen (z : Fin 1024 → EReal) (d : Fin 1024) : EReal := z d - mean z
/-- The variance of a row. -/
def var (z : Fin 1024 → EReal) : EReal := Ideal.div (∑ k, cen z k * cen z k) len
/-- The reciprocal standard deviation. -/
def rstd (z : Fin 1024 → EReal) : EReal := Ideal.rsqrt (var z + eps)
/-- The normalised row. -/
def xhat (z : Fin 1024 → EReal) (d : Fin 1024) : EReal := cen z d * rstd z
/-- The normalised row scaled and shifted. -/
def x1 (z g b : Fin 1024 → EReal) (d : Fin 1024) : EReal := xhat z d * g d + b d
/-- The pre-activation. -/
def pre (z g b : Fin 1024 → EReal) (w1 : Fin 1024 → Fin 4096 → EReal) (e : Fin 4096) : EReal := ∑ d, x1 z g b d * w1 d e
/-- The rectified pre-activation. -/
def relu (z g b : Fin 1024 → EReal) (w1 : Fin 1024 → Fin 4096 → EReal) (e : Fin 4096) : EReal := max (pre z g b w1 e) 0

/-- The row of `residual + heads · w_out` at token `i`. -/
def zrow (A0 A1 : FVec Ideal ⟨2, ![4096, 1024]⟩ .f32) (A2 : FVec Ideal ⟨2, ![1024, 1024]⟩ .f32) (i : Fin 4096) (d : Fin 1024) : EReal :=
  A1 (ix2 i d) + ∑ k : Fin 1024, A0 (ix2 i k) * A2 (ix2 k d)
/-- The single row of a scale or a shift. -/
def vec (A : FVec Ideal ⟨2, ![1, 1024]⟩ .f32) (d : Fin 1024) : EReal := A (ix2 0 d)
/-- A matrix by its row and column. -/
def mat {N M : ℕ} (A : FVec Ideal ⟨2, ![N, M]⟩ .f32) (i : Fin N) (d : Fin M) : EReal := A (ix2 i d)

/-- A sum over the hidden width is the four sums over its quarters. -/
theorem sum_quarters (f : Fin 4096 → EReal) :
    ∑ e, f e = (∑ e : Fin 1024, f ⟨0 + e, by omega⟩) + (∑ e : Fin 1024, f ⟨1024 + e, by omega⟩)
      + (∑ e : Fin 1024, f ⟨2048 + e, by omega⟩) + (∑ e : Fin 1024, f ⟨3072 + e, by omega⟩) := by
  rw [Fin.sum_univ_tiles 4 1024 rfl f, Fin.sum_univ_four]; rfl

end Cert.Rows
-- ==== Proof.Tile.lean ====
module

public import proofs.«01_k».proof.Proof.Gen.KernelIdeal.Skeleton
public import proofs.«01_k».proof.Proof.Rows

@[expose] public section

set_option maxRecDepth 16384

noncomputable section

/-! What one grid point computes on its tile of 256 tokens, read at one entry. The weights come in four quarters of the hidden width. -/

namespace Cert.KernelIdeal.Tile

open Idealize.ShloMosaic Idealize.ShloMosaic.TcCoe Idealize.SL.Sem
open Cert.KernelIdeal Cert.KernelIdeal.Gen
open Cert (Rows.dpre Rows.dx1 Rows.dnorm)

variable {x0 : Vec Ideal S256x1024 .f32} {x2 : Vec Ideal S256x1024 .bf16} {s0 s1 s2 s3 q0 q1 q2 q3 : Vec Ideal S1x1024x1024 .bf16}
  {r0 r1 r2 r3 : Vec Ideal S256x1024 .bf16} {x3 : Vec Ideal S256x1024 .f32} {x4 : Vec Ideal S256x1 .f32} {x5 : Vec Ideal S1x1024 .f32}
  {x8 : Vec Ideal S1024x1024 .bf16} {a : Vec Ideal S1024x1024 .f32} {g : Vec Ideal S1x1024 .f32}

/-- One quarter of the weight gradient's tile: what was there, and the tile's products. -/
def quarter (x2 : Vec Ideal S256x1024 .bf16) (x0 : Vec Ideal S256x1024 .f32) (s : Vec Ideal S1x1024x1024 .bf16) (r : Vec Ideal S256x1024 .bf16)
    (a : Vec Ideal S1024x1024 .f32) (d e : Fin 1024) : EReal :=
  a (ix2 d e) + ∑ t : Fin 256, x2 (ix2 t d) * ((∑ k : Fin 1024, x0 (ix2 t k) * s (ix3 0 e k)) * (Rows.two * r (ix2 t e)))

/-- Quarter 0 of a step is the common formula. -/
theorem quarter0 (d e : Fin 1024) : k0_pay11 x0 x2 s0 r0 a (ix2 d e) = quarter x2 x0 s0 r0 a d e := by
  pointwise [k0_pay11, k0_pay8, k0_pay10, k0_pay7, quarter]
/-- Quarter 1 of a step is the common formula. -/
theorem quarter1 (d e : Fin 1024) : k0_pay13 (k0_pay7 x0) (k0_pay8 x2) s1 r1 a (ix2 d e) = quarter x2 x0 s1 r1 a d e := by
  pointwise [k0_pay13, k0_pay8, k0_pay12, k0_pay7, quarter]
/-- Quarter 2 of a step is the common formula. -/
theorem quarter2 (d e : Fin 1024) : k0_pay18 (k0_pay8 x2) (k0_pay15 (k0_pay7 x0) s2) (k0_pay16 r2) (FloatOps.ofBits FTy.f32 1073741824#32) a (ix2 d e)
    = quarter x2 x0 s2 r2 a d e := by
  pointwise [k0_pay18, k0_pay8, k0_pay7, k0_pay15, k0_pay16, k0_pay17, quarter]
/-- Quarter 3 of a step is the common formula. -/
theorem quarter3 (d e : Fin 1024) : k0_pay21 (k0_pay7 x0) (k0_pay8 x2) s3 r3 a (ix2 d e) = quarter x2 x0 s3 r3 a d e := by
  pointwise [k0_pay21, k0_pay8, k0_pay20, k0_pay7, quarter]

/-- The tile's quarters are the row functions' quarters. -/
structure Quarters (t : Fin 256) (x0 : Vec Ideal S256x1024 .f32) (s0 s1 s2 s3 q0 q1 q2 q3 : Vec Ideal S1x1024x1024 .bf16) (r0 r1 r2 r3 : Vec Ideal S256x1024 .bf16)
    (dz : Fin 1024 → EReal) (r : Fin 4096 → EReal) (w2 : Fin 4096 → Fin 1024 → EReal) (w1 : Fin 1024 → Fin 4096 → EReal) : Prop where
  hx : ∀ d, x0 (ix2 t d) = dz d
  hr0 : ∀ e : Fin 1024, r0 (ix2 t e) = r ⟨0 + e, by omega⟩
  hr1 : ∀ e : Fin 1024, r1 (ix2 t e) = r ⟨1024 + e, by omega⟩
  hr2 : ∀ e : Fin 1024, r2 (ix2 t e) = r ⟨2048 + e, by omega⟩
  hr3 : ∀ e : Fin 1024, r3 (ix2 t e) = r ⟨3072 + e, by omega⟩
  hs0 : ∀ e d : Fin 1024, s0 (ix3 0 e d) = w2 ⟨0 + e, by omega⟩ d
  hs1 : ∀ e d : Fin 1024, s1 (ix3 0 e d) = w2 ⟨1024 + e, by omega⟩ d
  hs2 : ∀ e d : Fin 1024, s2 (ix3 0 e d) = w2 ⟨2048 + e, by omega⟩ d
  hs3 : ∀ e d : Fin 1024, s3 (ix3 0 e d) = w2 ⟨3072 + e, by omega⟩ d
  hq0 : ∀ d e : Fin 1024, q0 (ix3 0 d e) = w1 d ⟨0 + e, by omega⟩
  hq1 : ∀ d e : Fin 1024, q1 (ix3 0 d e) = w1 d ⟨1024 + e, by omega⟩
  hq2 : ∀ d e : Fin 1024, q2 (ix3 0 d e) = w1 d ⟨2048 + e, by omega⟩
  hq3 : ∀ d e : Fin 1024, q3 (ix3 0 d e) = w1 d ⟨3072 + e, by omega⟩

variable {t : Fin 256} {dz : Fin 1024 → EReal} {r : Fin 4096 → EReal} {w2 : Fin 4096 → Fin 1024 → EReal} {w1 : Fin 1024 → Fin 4096 → EReal}

/-- The first three quarters' part of the feed-forward input's gradient. -/
abbrev part (x0 : Vec Ideal S256x1024 .f32) (s0 s1 s2 q0 q1 q2 : Vec Ideal S1x1024x1024 .bf16) (r0 r1 r2 : Vec Ideal S256x1024 .bf16) : FVec Ideal S256x1024 .f32 :=
  k0_pay19 (k0_pay14 (k0_pay7 x0) (k0_pay9 x0) (k0_pay10 x0 s0 r0) q0 s1 r1 q1) (k0_pay15 (k0_pay7 x0) s2) (k0_pay16 r2) (FloatOps.ofBits FTy.f32 1073741824#32) q2

/-- The gradient of the feed-forward input at one entry of the tile. -/
theorem dx1_at (H : Quarters t x0 s0 s1 s2 s3 q0 q1 q2 q3 r0 r1 r2 r3 dz r w2 w1) (d : Fin 1024) :
    k0_pay22 (part x0 s0 s1 s2 q0 q1 q2 r0 r1 r2) (k0_pay20 (k0_pay7 x0) s3 r3) q3 (ix2 t d) = Rows.dx1 dz r w2 w1 d := by
  pointwise [k0_pay22, part, k0_pay19, k0_pay14, k0_pay7, k0_pay9, k0_pay10, k0_pay15, k0_pay16, k0_pay20, k0_pay17, k0_pay12]
  simp only [H.hx, H.hr0, H.hr1, H.hr2, H.hr3, H.hs0, H.hs1, H.hs2, H.hs3, H.hq0, H.hq1, H.hq2, H.hq3]
  unfold Rows.dx1
  rw [Rows.sum_quarters]
  simp only [Rows.dpre, ← add_assoc]

/-- The gradient through the row normalisation at one entry of the tile. -/
theorem dnorm_at (H : Quarters t x0 s0 s1 s2 s3 q0 q1 q2 q3 r0 r1 r2 r3 dz r w2 w1) (d : Fin 1024) :
    k0_pay1 (k0_pay23 x3) (k0_pay26 (part x0 s0 s1 s2 q0 q1 q2 r0 r1 r2) (k0_pay20 (k0_pay7 x0) s3 r3) q3 x5) (k0_pay27 x4)
      (k0_pay28 (part x0 s0 s1 s2 q0 q1 q2 r0 r1 r2) (k0_pay20 (k0_pay7 x0) s3 r3) q3 x5)
      (k0_pay29 (part x0 s0 s1 s2 q0 q1 q2 r0 r1 r2) (k0_pay20 (k0_pay7 x0) s3 r3) q3 x3 x5) (FloatOps.ofBits FTy.f32 1149239296#32) (ix2 t d)
    = Rows.dnorm (fun k => Rows.dx1 dz r w2 w1 k * x5 (ix2 0 k)) (fun k => x3 (ix2 t k)) (x4 (ix2 t 0)) d := by
  have h := dx1_at H
  generalize part x0 s0 s1 s2 q0 q1 q2 r0 r1 r2 = v at h ⊢
  generalize k0_pay20 (k0_pay7 x0) s3 r3 = w at h ⊢
  pointwise [k0_pay1, k0_pay23, k0_pay26, k0_pay27, k0_pay28, k0_pay29]
  simp only [h, Rows.dnorm]

/-- The gradient of the concatenated heads at one entry of the tile. -/
theorem dcat_at {f : Fin 1024 → EReal} (v102 v118 : FVec Ideal S256x1024 .f32) (v120 v124 v127 : FVec Ideal S256x1 .f32)
    (c : Ideal .f32) (h : ∀ d, k0_pay1 v102 v118 v120 v124 v127 c (ix2 t d) = f d) (k : Fin 1024) :
    k0_pay3 v102 v118 v120 v124 v127 c x8 (ix2 t k) = ∑ d, f d * x8 (ix2 k d) := by
  pointwise [k0_pay3, k0_pay2]
  simp only [h]

/-- The scale's gradient after the tile. -/
theorem dgain_at {F : Fin 256 → Fin 1024 → EReal} (v : FVec Ideal S256x1024 .f32) (w : FVec Ideal S256x1024 .bf16)
    (h : ∀ t d, k0_pay22 v w q0 (ix2 t d) = F t d) (d : Fin 1024) :
    k0_pay24 v w q0 x3 g (ix2 0 d) = g (ix2 0 d) + ∑ t, F t d * x3 (ix2 t d) := by
  pointwise [k0_pay24, k0_pay23]
  simp only [h]

/-- The shift's gradient after the tile. -/
theorem dshift_at {F : Fin 256 → Fin 1024 → EReal} (v : FVec Ideal S256x1024 .f32) (w : FVec Ideal S256x1024 .bf16)
    (h : ∀ t d, k0_pay22 v w q0 (ix2 t d) = F t d) (d : Fin 1024) :
    k0_pay25 v w q0 g (ix2 0 d) = g (ix2 0 d) + ∑ t, F t d := by
  pointwise [k0_pay25, k0_pay23]
  simp only [h]

end Cert.KernelIdeal.Tile
-- ==== Proof.Blocks.lean ====
module

public import Idealize.ShloMosaic.Lib.Pipeline.ValueKit
public import Idealize.ShloMosaic.Lib.WritesUnit

@[expose] public section

noncomputable section

/-! Blocks of whole rows written into a matrix: which block an entry reads. -/

namespace Cert.Blocks

open Idealize.ShloMosaic Idealize.ShloMosaic.TcCoe

variable {Val : EltTy → Type} [∀ e, Nonempty (Val e)] {el : EltTy} {N W C : ℕ}

/-- An entry inside the newest block reads that block. -/
theorem canon_hit (k : ℕ) (inb : ∀ a, (![k, 0] : Fin 2 → ℕ) a + (![W, C] : Fin 2 → ℕ) a ≤ (⟨2, ![N, C]⟩ : Shape).size a)
    (w : (Rect.unit (s := ⟨2, ![N, C]⟩) ![k, 0] ![W, C] inb).shape.Idx → Val el) (L : List (View.Piece Val ⟨2, ![N, C]⟩ el)) (r : Fin N) (d : Fin W) (e : Fin C) (h : r.val = k + d.val) :
    View.canon ((⟨Rect.unit (s := ⟨2, ![N, C]⟩) ![k, 0] ![W, C] inb, w⟩ : View.Piece Val ⟨2, ![N, C]⟩ el) :: L) (ix2 r e) = w (ix2 d e) := by
  have hy : (Rect.unit (s := ⟨2, ![N, C]⟩) ![k, 0] ![W, C] inb).emb (ix2 d e : (⟨2, ![W, C]⟩ : Shape).Idx) = (ix2 r e : (⟨2, ![N, C]⟩ : Shape).Idx) := by
    funext a; apply Fin.ext
    match a with
    | 0 => show k + 1 * d.val = r.val; omega
    | 1 => show 0 + 1 * e.val = e.val; omega
  rw [← hy]
  exact View.canon_cons_emb _ w L _

/-- An entry outside the newest block's rows reads what was written before. -/
theorem canon_miss (k : ℕ) (inb : ∀ a, (![k, 0] : Fin 2 → ℕ) a + (![W, C] : Fin 2 → ℕ) a ≤ (⟨2, ![N, C]⟩ : Shape).size a)
    (w : (Rect.unit (s := ⟨2, ![N, C]⟩) ![k, 0] ![W, C] inb).shape.Idx → Val el) (L : List (View.Piece Val ⟨2, ![N, C]⟩ el)) (r : Fin N) (e : Fin C) (h : r.val < k ∨ k + W ≤ r.val) :
    View.canon ((⟨Rect.unit (s := ⟨2, ![N, C]⟩) ![k, 0] ![W, C] inb, w⟩ : View.Piece Val ⟨2, ![N, C]⟩ el) :: L) (ix2 r e) = View.canon L (ix2 r e) := by
  refine View.canon_cons_of_not_mem _ _ fun hm => ?_
  rw [Rect.mem_set_unit] at hm
  have h0 := hm (0 : Fin 2)
  have h1 : k ≤ r.val ∧ r.val < k + W := h0
  omega

/-- A block loaded out of what was written reads the matrix at its rows. -/
theorem load_at {sig : RefSig} {κ : Kind} {sp : Space} (v : View sig κ sp (⟨2, ![N, C]⟩ : Shape) el) (L : List (View.Piece Val ⟨2, ![N, C]⟩ el))
    (k : ℕ) (inb : ∀ a, (![k, 0] : Fin 2 → ℕ) a + (![W, C] : Fin 2 → ℕ) a ≤ (⟨2, ![N, C]⟩ : Shape).size a) (r : Fin N) (d : Fin W) (e : Fin C) (h : r.val = k + d.val) :
    v.readCov L (Rect.unit (s := ⟨2, ![N, C]⟩) ![k, 0] ![W, C] inb).toLoadRect (ix2 d e) = View.canon L (ix2 r e) := by
  rw [View.readCov_eq_canon']
  have hy : (Rect.unit (s := ⟨2, ![N, C]⟩) ![k, 0] ![W, C] inb).toLoadRect.idx (ix2 d e : (⟨2, ![W, C]⟩ : Shape).Idx) = (ix2 r e : (⟨2, ![N, C]⟩ : Shape).Idx) := by
    funext a; apply Fin.ext
    match a with
    | 0 => show k + 1 * d.val = r.val; omega
    | 1 => show 0 + 1 * e.val = e.val; omega
  exact congrArg (View.canon L) hy

/-- A block just written reads back as it was written, whatever lay there before. -/
theorem read_back {sig : RefSig} {κ : Kind} {sp : Space} (v : View sig κ sp (⟨2, ![N, C]⟩ : Shape) el) (f : v.ty.Contents Val)
    (k : ℕ) (inb : ∀ a, (![k, 0] : Fin 2 → ℕ) a + (![W, C] : Fin 2 → ℕ) a ≤ (⟨2, ![N, C]⟩ : Shape).size a)
    (w : (⟨2, ![W, C]⟩ : Shape).Idx → Val el) (L : List (View.Piece Val ⟨2, ![N, C]⟩ el)) (x : (⟨2, ![W, C]⟩ : Shape).Idx) :
    (ReadAs.same (Val := Val) (s := (⟨2, ![W, C]⟩ : Shape)) (e := el)).apply (View.read Val (v.slice (Rect.unit (s := ⟨2, ![N, C]⟩) ![k, 0] ![W, C] inb))
      (v.writes Val f ((⟨Rect.unit (s := ⟨2, ![N, C]⟩) ![k, 0] ![W, C] inb, w⟩ : View.Piece Val ⟨2, ![N, C]⟩ el) :: L))) x = w x :=
  View.read_writes_cons_emb v f (Rect.unit (s := ⟨2, ![N, C]⟩) ![k, 0] ![W, C] inb) w L x

/-- An entry inside the newest block written through a view reads that block. -/
theorem written_hit {sig : RefSig} {κ : Kind} {sp : Space} (v : View sig κ sp (⟨2, ![N, C]⟩ : Shape) el) (f : v.ty.Contents Val)
    (k : ℕ) (inb : ∀ a, (![k, 0] : Fin 2 → ℕ) a + (![W, C] : Fin 2 → ℕ) a ≤ (⟨2, ![N, C]⟩ : Shape).size a)
    (w : (Rect.unit (s := ⟨2, ![N, C]⟩) ![k, 0] ![W, C] inb).shape.Idx → Val el) (L : List (View.Piece Val ⟨2, ![N, C]⟩ el)) (r : Fin N) (d : Fin W) (e : Fin C) (h : r.val = k + d.val) :
    View.read Val v (v.writes Val f ((⟨Rect.unit (s := ⟨2, ![N, C]⟩) ![k, 0] ![W, C] inb, w⟩ : View.Piece Val ⟨2, ![N, C]⟩ el) :: L)) (ix2 r e) = w (ix2 d e) :=
  View.read_writes_cons_rows_of_mem v f inb w L (ix2 r e) (ix2 d e) rfl h rfl

/-- An entry outside the newest block written through a view reads what was written before. -/
theorem written_miss {sig : RefSig} {κ : Kind} {sp : Space} (v : View sig κ sp (⟨2, ![N, C]⟩ : Shape) el) (f : v.ty.Contents Val)
    (k : ℕ) (inb : ∀ a, (![k, 0] : Fin 2 → ℕ) a + (![W, C] : Fin 2 → ℕ) a ≤ (⟨2, ![N, C]⟩ : Shape).size a)
    (w : (Rect.unit (s := ⟨2, ![N, C]⟩) ![k, 0] ![W, C] inb).shape.Idx → Val el) (L : List (View.Piece Val ⟨2, ![N, C]⟩ el)) (r : Fin N) (e : Fin C) (h : r.val < k ∨ k + W ≤ r.val) :
    View.read Val v (v.writes Val f ((⟨Rect.unit (s := ⟨2, ![N, C]⟩) ![k, 0] ![W, C] inb, w⟩ : View.Piece Val ⟨2, ![N, C]⟩ el) :: L)) (ix2 r e)
      = View.read Val v (v.writes Val f L) (ix2 r e) :=
  View.read_writes_cons_rows_of_not_mem (W := W) v f inb w L (ix2 r e) rfl rfl h

end Cert.Blocks
-- ==== Proof.ValA.lean ====
module

public import proofs.«01_k».proof.Proof.Frame
public import proofs.«01_k».proof.Proof.Tile
public import proofs.«01_k».proof.Proof.Blocks
public import Idealize.ShloMosaic.Lib.Pipeline.ValueKit

@[expose] public section

set_option maxRecDepth 16384

noncomputable section

/-! What the body leaves at a grid point, read at one entry, over the extended reals. -/

namespace Cert.KernelIdeal.Run

open Idealize.ShloMosaic Idealize.ShloMosaic.TcCoe Idealize.ShloMosaic.Tactic
open Cert.KernelIdeal.Gen

/-- The tile's row of the incoming gradient. -/
def tdz (X : Ins Ideal) (t : Fin 256) (d : Fin 1024) : EReal := X.x0 (ix2 t d)
/-- The tile's row of the rectified pre-activation. -/
def tr (X : Ins Ideal) (t : Fin 256) (e : Fin 4096) : EReal := X.x1 (ix2 t e)
/-- The second weight, out of its quarters. -/
def tw2 (X : Ins Ideal) (e : Fin 4096) (d : Fin 1024) : EReal := X.x7 (ix3 (⟨e / 1024, by omega⟩ : Fin 4) (⟨e % 1024, by omega⟩ : Fin 1024) d)
/-- The first weight, out of its quarters. -/
def tw1 (X : Ins Ideal) (d : Fin 1024) (e : Fin 4096) : EReal := X.x6 (ix3 (⟨e / 1024, by omega⟩ : Fin 4) d (⟨e % 1024, by omega⟩ : Fin 1024))
/-- The tile's gradient of the feed-forward input. -/
def tdx1 (X : Ins Ideal) (t : Fin 256) (d : Fin 1024) : EReal := Rows.dx1 (tdz X t) (tr X t) (tw2 X) (tw1 X) d
/-- The tile's gradient through the normalisation. -/
def tdz1 (X : Ins Ideal) (t : Fin 256) (d : Fin 1024) : EReal :=
  Rows.dnorm (fun k => tdx1 X t k * X.x5 (ix2 0 k)) (fun k => X.x3 (ix2 t k)) (X.x4 (ix2 t 0)) d
/-- The tile's part of the first weight's gradient. -/
def tgw (X : Ins Ideal) (d : Fin 1024) (e : Fin 4096) : EReal := ∑ t : Fin 256, X.x2 (ix2 t d) * Rows.dpre (tdz X t) (tr X t) (tw2 X) e

/-- One quarter of the weight gradient's tile is what was there and the tile's part. -/
theorem quarter_eq (X : Ins Ideal) (s : Vec Ideal S1x1024x1024 .bf16) (r : Vec Ideal S256x1024 .bf16) (a : Vec Ideal S1024x1024 .f32) (d e : Fin 1024)
    (E : Fin 4096) (v : EReal) (ha : a (ix2 d e) = v) (hs : ∀ k : Fin 1024, s (ix3 0 e k) = tw2 X E k) (hr : ∀ t : Fin 256, r (ix2 t e) = tr X t E) :
    Tile.quarter X.x2 X.x0 s r a d e = v + tgw X d E := by
  simp only [Tile.quarter, tgw, Rows.dpre, tdz, ha, hs, hr]

/-- Where row `r`, column `e` of the weight gradient's buffer lies: the weight's row is `r % 1024`, its column that of the quarter `r / 1024`. -/
def tgwRow (X : Ins Ideal) (r : Fin 4096) (e : Fin 1024) : EReal := tgw X ⟨r % 1024, by omega⟩ ⟨r / 1024 * 1024 + e, by omega⟩

/-- The normalisation gradient left at a first point. -/
theorem outA_o9 (c : Dev nD) (i : grid0.Coords) (A : Args) (hc0 : AtFirst i) (hc1 : ¬AtLast i) (X : Ins Ideal) (fw : HbBuf (F := Ideal) c hbM) (t : Fin 256) (d : Fin 1024) :
    (outsA c i A hc0 hc1 X fw).o9 (ix2 t d) = tdz1 X t d := by
  dsimp only [outsA]
  unfold runA
  frame_out
  refine Tile.dnorm_at (dz := tdz X t) (r := tr X t) (w2 := tw2 X) (w1 := tw1 X) ?_ d
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The same rounded at a first point. -/
theorem outA_o10 (c : Dev nD) (i : grid0.Coords) (A : Args) (hc0 : AtFirst i) (hc1 : ¬AtLast i) (X : Ins Ideal) (fw : HbBuf (F := Ideal) c hbM) (t : Fin 256) (d : Fin 1024) :
    (outsA c i A hc0 hc1 X fw).o10 (ix2 t d) = tdz1 X t d := by
  dsimp only [outsA]
  unfold runA
  frame_out
  pointwise [k0_pay2]
  refine Tile.dnorm_at (dz := tdz X t) (r := tr X t) (w2 := tw2 X) (w1 := tw1 X) ?_ d
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The heads' gradient left at a first point. -/
theorem outA_o11 (c : Dev nD) (i : grid0.Coords) (A : Args) (hc0 : AtFirst i) (hc1 : ¬AtLast i) (X : Ins Ideal) (fw : HbBuf (F := Ideal) c hbM) (t : Fin 256) (d : Fin 1024) :
    (outsA c i A hc0 hc1 X fw).o11 (ix2 t d) = ∑ k, tdz1 X t k * X.x8 (ix2 d k) := by
  dsimp only [outsA]
  unfold runA
  frame_out
  refine Tile.dcat_at (x8 := X.x8) (f := tdz1 X t) _ _ _ _ _ _ (fun k => ?_) d
  refine Tile.dnorm_at (dz := tdz X t) (r := tr X t) (w2 := tw2 X) (w1 := tw1 X) ?_ k
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The scale's gradient left at a first point. -/
theorem outA_o12 (c : Dev nD) (i : grid0.Coords) (A : Args) (hc0 : AtFirst i) (hc1 : ¬AtLast i) (X : Ins Ideal) (fw : HbBuf (F := Ideal) c hbM) (d : Fin 1024) :
    (outsA c i A hc0 hc1 X fw).o12 (ix2 0 d) = 0 + ∑ t : Fin 256, tdx1 X t d * X.x3 (ix2 t d) := by
  dsimp only [outsA]
  unfold runA
  frame_out
  refine (Tile.dgain_at (F := tdx1 X) _ _ (fun t d => ?_) d).trans ?_
  · refine Tile.dx1_at (dz := tdz X t) (r := tr X t) (w2 := tw2 X) (w1 := tw1 X) ?_ d
    exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])
  · congr 1
    pointwise [k0_pay4, k0_pay5]

/-- The shift's gradient left at a first point. -/
theorem outA_o13 (c : Dev nD) (i : grid0.Coords) (A : Args) (hc0 : AtFirst i) (hc1 : ¬AtLast i) (X : Ins Ideal) (fw : HbBuf (F := Ideal) c hbM) (d : Fin 1024) :
    (outsA c i A hc0 hc1 X fw).o13 (ix2 0 d) = 0 + ∑ t : Fin 256, tdx1 X t d := by
  dsimp only [outsA]
  unfold runA
  frame_out
  refine (Tile.dshift_at (F := tdx1 X) _ _ (fun t d => ?_) d).trans ?_
  · refine Tile.dx1_at (dz := tdz X t) (r := tr X t) (w2 := tw2 X) (w1 := tw1 X) ?_ d
    exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])
  · congr 1
    pointwise [k0_pay4, k0_pay5]

/-- The weight gradient kept at a first point. -/
theorem outA_acc (c : Dev nD) (i : grid0.Coords) (A : Args) (hc0 : AtFirst i) (hc1 : ¬AtLast i) (X : Ins Ideal) (fw : HbBuf (F := Ideal) c hbM) (r : Fin 4096) (e : Fin 1024) :
    (outsA c i A hc0 hc1 X fw).acc (ix2 r e) = 0 + tgwRow X r e := by
  dsimp only [outsA]
  unfold runA
  frame_out
  have hr := r.isLt
  unfold tgwRow
  by_cases h0 : r.val < 1024
  · obtain ⟨d, hd⟩ : ∃ d : Fin 1024, r.val = 0 + d.val := ⟨⟨r.val - 0, by omega⟩, (by show r.val = 0 + (r.val - 0); omega)⟩
    have hE : (⟨r / 1024 * 1024 + e, by omega⟩ : Fin 4096) = ⟨0 + e, by omega⟩ := Fin.ext (by show r.val / 1024 * 1024 + e.val = 0 + e.val; omega)
    have hD : (⟨r % 1024, by omega⟩ : Fin 1024) = d := Fin.ext (by show r.val % 1024 = d.val; omega)
    rw [hE, hD]
    refine (Blocks.canon_miss 3072 _ _ _ r e (by omega)).trans ?_
    refine (Blocks.canon_miss 2048 _ _ _ r e (by omega)).trans ?_
    refine (Blocks.canon_miss 1024 _ _ _ r e (by omega)).trans ?_
    refine (Blocks.canon_hit 0 _ _ _ r d e hd).trans ?_
    refine (Tile.quarter0 d e).trans (quarter_eq X _ _ _ d e ⟨0 + e, by omega⟩ _ ?_ (fun k => by pointwise [tw2]; refine congrArg X.x7 ?_; idx_ext <;> omega) (fun t => by pointwise [tr]))
    refine (Blocks.load_at _ _ 0 _ r d e hd).trans ?_
    refine (Blocks.canon_hit 0 _ _ _ r r e (by omega)).trans ?_
    pointwise [k0_pay6]
  by_cases h1 : r.val < 2048
  · obtain ⟨d, hd⟩ : ∃ d : Fin 1024, r.val = 1024 + d.val := ⟨⟨r.val - 1024, by omega⟩, (by show r.val = 1024 + (r.val - 1024); omega)⟩
    have hE : (⟨r / 1024 * 1024 + e, by omega⟩ : Fin 4096) = ⟨1024 + e, by omega⟩ := Fin.ext (by show r.val / 1024 * 1024 + e.val = 1024 + e.val; omega)
    have hD : (⟨r % 1024, by omega⟩ : Fin 1024) = d := Fin.ext (by show r.val % 1024 = d.val; omega)
    rw [hE, hD]
    refine (Blocks.canon_miss 3072 _ _ _ r e (by omega)).trans ?_
    refine (Blocks.canon_miss 2048 _ _ _ r e (by omega)).trans ?_
    refine (Blocks.canon_hit 1024 _ _ _ r d e hd).trans ?_
    refine (Tile.quarter1 d e).trans (quarter_eq X _ _ _ d e ⟨1024 + e, by omega⟩ _ ?_ (fun k => by pointwise [tw2]; refine congrArg X.x7 ?_; idx_ext <;> omega) (fun t => by pointwise [tr]))
    refine (Blocks.load_at _ _ 1024 _ r d e hd).trans ?_
    refine (Blocks.canon_miss 0 _ _ _ r e (by omega)).trans ?_
    refine (Blocks.canon_hit 0 _ _ _ r r e (by omega)).trans ?_
    pointwise [k0_pay6]
  by_cases h2 : r.val < 3072
  · obtain ⟨d, hd⟩ : ∃ d : Fin 1024, r.val = 2048 + d.val := ⟨⟨r.val - 2048, by omega⟩, (by show r.val = 2048 + (r.val - 2048); omega)⟩
    have hE : (⟨r / 1024 * 1024 + e, by omega⟩ : Fin 4096) = ⟨2048 + e, by omega⟩ := Fin.ext (by show r.val / 1024 * 1024 + e.val = 2048 + e.val; omega)
    have hD : (⟨r % 1024, by omega⟩ : Fin 1024) = d := Fin.ext (by show r.val % 1024 = d.val; omega)
    rw [hE, hD]
    refine (Blocks.canon_miss 3072 _ _ _ r e (by omega)).trans ?_
    refine (Blocks.canon_hit 2048 _ _ _ r d e hd).trans ?_
    refine (Tile.quarter2 d e).trans (quarter_eq X _ _ _ d e ⟨2048 + e, by omega⟩ _ ?_ (fun k => by pointwise [tw2]; refine congrArg X.x7 ?_; idx_ext <;> omega) (fun t => by pointwise [tr]))
    refine (Blocks.load_at _ _ 2048 _ r d e hd).trans ?_
    refine (Blocks.canon_miss 1024 _ _ _ r e (by omega)).trans ?_
    refine (Blocks.canon_miss 0 _ _ _ r e (by omega)).trans ?_
    refine (Blocks.canon_hit 0 _ _ _ r r e (by omega)).trans ?_
    pointwise [k0_pay6]
  · obtain ⟨d, hd⟩ : ∃ d : Fin 1024, r.val = 3072 + d.val := ⟨⟨r.val - 3072, by omega⟩, (by show r.val = 3072 + (r.val - 3072); omega)⟩
    have hE : (⟨r / 1024 * 1024 + e, by omega⟩ : Fin 4096) = ⟨3072 + e, by omega⟩ := Fin.ext (by show r.val / 1024 * 1024 + e.val = 3072 + e.val; omega)
    have hD : (⟨r % 1024, by omega⟩ : Fin 1024) = d := Fin.ext (by show r.val % 1024 = d.val; omega)
    rw [hE, hD]
    refine (Blocks.canon_hit 3072 _ _ _ r d e hd).trans ?_
    refine (Tile.quarter3 d e).trans (quarter_eq X _ _ _ d e ⟨3072 + e, by omega⟩ _ ?_ (fun k => by pointwise [tw2]; refine congrArg X.x7 ?_; idx_ext <;> omega) (fun t => by pointwise [tr]))
    refine (Blocks.load_at _ _ 3072 _ r d e hd).trans ?_
    refine (Blocks.canon_miss 2048 _ _ _ r e (by omega)).trans ?_
    refine (Blocks.canon_miss 1024 _ _ _ r e (by omega)).trans ?_
    refine (Blocks.canon_miss 0 _ _ _ r e (by omega)).trans ?_
    refine (Blocks.canon_hit 0 _ _ _ r r e (by omega)).trans ?_
    pointwise [k0_pay6]

end Cert.KernelIdeal.Run
-- ==== Proof.Entry.lean ====
module

public import proofs.«01_k».proof.Proof.ValA
public import Idealize.ShloMosaic.Lib.Claim

@[expose] public section

set_option maxRecDepth 16384

noncomputable section

/-! The arrays the call reads, as functions of the program's arguments; and each grid point's tile of them. -/

namespace Cert.KernelIdeal.Run

open Idealize.ShloMosaic Idealize.ShloMosaic.TcCoe Idealize.ShloMosaic.Tactic
open Cert.KernelIdeal.Gen

variable (m : (ℓ : Loc nD τ sig) → Buf (Elt Ideal) ℓ)

/-- Token `i`'s row before the normalisation. -/
abbrev zr (c : Dev nD) (i : Fin 4096) : Fin 1024 → EReal :=
  Rows.zrow (m ((c.tc : Thread nD τ).loc main_arg0)) (m ((c.tc : Thread nD τ).loc main_arg1)) (m ((c.tc : Thread nD τ).loc main_arg2)) i
/-- The normalisation's scale. -/
abbrev gr (c : Dev nD) : Fin 1024 → EReal := Rows.vec (m ((c.tc : Thread nD τ).loc main_arg3))
/-- The normalisation's shift. -/
abbrev br (c : Dev nD) : Fin 1024 → EReal := Rows.vec (m ((c.tc : Thread nD τ).loc main_arg4))
/-- The first weight. -/
abbrev w1r (c : Dev nD) : Fin 1024 → Fin 4096 → EReal := Rows.mat (m ((c.tc : Thread nD τ).loc main_arg5))
/-- The second weight. -/
abbrev w2r (c : Dev nD) : Fin 4096 → Fin 1024 → EReal := Rows.mat (m ((c.tc : Thread nD τ).loc main_arg6))
/-- The output projection. -/
abbrev wor (c : Dev nD) : Fin 1024 → Fin 1024 → EReal := Rows.mat (m ((c.tc : Thread nD τ).loc main_arg2))
/-- The incoming gradient. -/
abbrev dzr (c : Dev nD) : Fin 4096 → Fin 1024 → EReal := Rows.mat (m ((c.tc : Thread nD τ).loc main_arg7))

/-- The normalised rows the call reads. -/
theorem entry_xhat (c : Dev nD) (i : Fin 4096) (d : Fin 1024) : V m c main_v17 (ix2 i d) = Rows.xhat (zr m c i) d := by
  entry_read
  pointwise [Rows.xhat, Rows.rstd, Rows.var, Rows.cen, Rows.mean, zr, Rows.zrow]
/-- The reciprocal deviations the call reads. -/
theorem entry_rstd (c : Dev nD) (i : Fin 4096) : V m c main_v15 (ix2 i 0) = Rows.rstd (zr m c i) := by
  entry_read
  pointwise [Rows.xhat, Rows.rstd, Rows.var, Rows.cen, Rows.mean, zr, Rows.zrow]
/-- The norm's output the call reads. -/
theorem entry_x1 (c : Dev nD) (i : Fin 4096) (d : Fin 1024) : V m c main_v31 (ix2 i d) = Rows.x1 (zr m c i) (gr m c) (br m c) d := by
  entry_read
  pointwise [Rows.x1, Rows.vec, gr, br, Rows.xhat, Rows.rstd, Rows.var, Rows.cen, Rows.mean, zr, Rows.zrow]
/-- The rectified pre-activation the call reads. -/
theorem entry_r (c : Dev nD) (i : Fin 4096) (e : Fin 4096) : V m c main_v25 (ix2 i e) = Rows.relu (zr m c i) (gr m c) (br m c) (w1r m c) e := by
  entry_read
  pointwise [Rows.relu, Rows.pre, w1r, Rows.mat, Rows.x1, Rows.vec, gr, br, Rows.xhat, Rows.rstd, Rows.var, Rows.cen, Rows.mean, zr, Rows.zrow]
/-- The chunks of `w_ff1` the call reads. -/
theorem entry_w1 (c : Dev nD) (j : Fin 4) (d e : Fin 1024) : V m c main_v28 (ix3 j d e) = w1r m c d ⟨j * 1024 + e, by omega⟩ := by
  entry_read
  pointwise [w1r, Rows.mat]
/-- The chunks of `w_ff2` the call reads. -/
theorem entry_w2 (c : Dev nD) (j : Fin 4) (e d : Fin 1024) : V m c main_v30 (ix3 j e d) = w2r m c ⟨j * 1024 + e, by omega⟩ d := by
  entry_read
  pointwise [w2r, Rows.mat]
/-- The `w_out` the call reads. -/
theorem entry_wo (c : Dev nD) (k d : Fin 1024) : V m c main_v32 (ix2 k d) = wor m c k d := by
  entry_read
  pointwise [wor, Rows.mat]

end Cert.KernelIdeal.Run
-- ==== Proof.Point.lean ====
module

public import proofs.«01_k».proof.Proof.Entry

@[expose] public section

set_option maxRecDepth 16384

noncomputable section

/-! Each grid point's tile of the arrays the call reads. -/

namespace Cert.KernelIdeal.Run

open Idealize.ShloMosaic Idealize.ShloMosaic.TcCoe Idealize.ShloMosaic.Tactic
open Cert.KernelIdeal.Gen

variable (m : (ℓ : Loc nD τ sig) → Buf (Elt Ideal) ℓ)

/-- The block each window shows at a step. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![0, 0, 0] ∧ win0_8.index t = ![0, 0]
    ∧ win0_9.index t = ![t.val, 0] ∧ win0_10.index t = ![t.val, 0] ∧ win0_11.index t = ![t.val, 0] ∧ win0_12.index t = ![0, 0] ∧ win0_13.index t = ![0, 0] ∧ t.val < 16 :=
  (by decide +kernel : ∀ t : Fin grid0.N, _)

/-- The token at position `s` of grid point `t`'s tile. -/
def tok (t : Fin cfg0.N) (s : Fin 256) : Fin 4096 := ⟨t.val * 256 + s.val, by have := (idx t).2.2.2.2.2.2.2.2.2.2.2.2.2.2; omega⟩

/-- Window 0 shows these places of its array. -/
theorem block0 (c : Dev nD) (t : Fin cfg0.N) (s : Fin 256) (d : Fin 1024) : (show FVec Ideal S256x1024 .f32 from iblk m c 0 t) (ix2 s d) = V m c main_arg7 (ix2 (tok t s) d) := by
  unfold tok; blk_ext [iblk, idx t]
/-- Window 1 shows these places of its array. -/
theorem block1 (c : Dev nD) (t : Fin cfg0.N) (s : Fin 256) (e : Fin 4096) : (show FVec Ideal S256x4096 .bf16 from iblk m c 1 t) (ix2 s e) = V m c main_v25 (ix2 (tok t s) e) := by
  unfold tok; blk_ext [iblk, idx t]
/-- Window 2 shows these places of its array. -/
theorem block2 (c : Dev nD) (t : Fin cfg0.N) (s : Fin 256) (d : Fin 1024) : (show FVec Ideal S256x1024 .bf16 from iblk m c 2 t) (ix2 s d) = V m c main_v31 (ix2 (tok t s) d) := by
  unfold tok; blk_ext [iblk, idx t]
/-- Window 3 shows these places of its array. -/
theorem block3 (c : Dev nD) (t : Fin cfg0.N) (s : Fin 256) (d : Fin 1024) : (show FVec Ideal S256x1024 .f32 from iblk m c 3 t) (ix2 s d) = V m c main_v17 (ix2 (tok t s) d) := by
  unfold tok; blk_ext [iblk, idx t]
/-- Window 4 shows these places of its array. -/
theorem block4 (c : Dev nD) (t : Fin cfg0.N) (s : Fin 256) : (show FVec Ideal S256x1 .f32 from iblk m c 4 t) (ix2 s 0) = V m c main_v15 (ix2 (tok t s) 0) := by
  unfold tok; blk_ext [iblk, idx t]
/-- Window 5 shows these places of its array. -/
theorem block5 (c : Dev nD) (t : Fin cfg0.N) (d : Fin 1024) : (show FVec Ideal S1x1024 .f32 from iblk m c 5 t) (ix2 0 d) = V m c main_arg3 (ix2 0 d) := by
  blk_ext [iblk, idx t]
/-- Window 6 shows these places of its array. -/
theorem block6 (c : Dev nD) (t : Fin cfg0.N) (j : Fin 4) (d e : Fin 1024) : (show FVec Ideal S4x1024x1024 .bf16 from iblk m c 6 t) (ix3 j d e) = V m c main_v28 (ix3 j d e) := by
  blk_ext [iblk, idx t]
/-- Window 7 shows these places of its array. -/
theorem block7 (c : Dev nD) (t : Fin cfg0.N) (j : Fin 4) (e d : Fin 1024) : (show FVec Ideal S4x1024x1024 .bf16 from iblk m c 7 t) (ix3 j e d) = V m c main_v30 (ix3 j e d) := by
  blk_ext [iblk, idx t]
/-- Window 8 shows these places of its array. -/
theorem block8 (c : Dev nD) (t : Fin cfg0.N) (k d : Fin 1024) : (show FVec Ideal S1024x1024 .bf16 from iblk m c 8 t) (ix2 k d) = V m c main_v32 (ix2 k d) := by
  blk_ext [iblk, idx t]

/-- The incoming gradient of a step. -/
theorem tile_dz (c : Dev nD) (t : Fin cfg0.N) (s : Fin 256) : tdz (ins m c t) s = dzr m c (tok t s) :=
  funext fun d => block0 m c t s d
/-- The rectified pre-activation of a step. -/
theorem tile_r (c : Dev nD) (t : Fin cfg0.N) (s : Fin 256) : tr (ins m c t) s = Rows.relu (zr m c (tok t s)) (gr m c) (br m c) (w1r m c) :=
  funext fun e => (block1 m c t s e).trans (entry_r m c (tok t s) e)
/-- The norm's output of a step. -/
theorem tile_x1 (c : Dev nD) (t : Fin cfg0.N) (s : Fin 256) (d : Fin 1024) :
    (show FVec Ideal S256x1024 .bf16 from iblk m c 2 t) (ix2 s d) = Rows.x1 (zr m c (tok t s)) (gr m c) (br m c) d :=
  (block2 m c t s d).trans (entry_x1 m c (tok t s) d)
/-- The normalised rows of a step. -/
theorem tile_xhat (c : Dev nD) (t : Fin cfg0.N) (s : Fin 256) (d : Fin 1024) :
    (show FVec Ideal S256x1024 .f32 from iblk m c 3 t) (ix2 s d) = Rows.xhat (zr m c (tok t s)) d :=
  (block3 m c t s d).trans (entry_xhat m c (tok t s) d)
/-- The reciprocal deviations of a step. -/
theorem tile_rstd (c : Dev nD) (t : Fin cfg0.N) (s : Fin 256) : (show FVec Ideal S256x1 .f32 from iblk m c 4 t) (ix2 s 0) = Rows.rstd (zr m c (tok t s)) :=
  (block4 m c t s).trans (entry_rstd m c (tok t s))
/-- The norm's scale. -/
theorem tile_g (c : Dev nD) (t : Fin cfg0.N) (d : Fin 1024) : (show FVec Ideal S1x1024 .f32 from iblk m c 5 t) (ix2 0 d) = gr m c d :=
  block5 m c t d
/-- The `w_ff1` of a step. -/
theorem tile_w1 (c : Dev nD) (t : Fin cfg0.N) : tw1 (ins m c t) = w1r m c := by
  funext d e
  have he : (⟨(⟨e.val / 1024, by omega⟩ : Fin 4).val * 1024 + (⟨e.val % 1024, by omega⟩ : Fin 1024).val, by omega⟩ : Fin 4096) = e := Fin.ext (by show e.val / 1024 * 1024 + e.val % 1024 = e.val; omega)
  exact (block6 m c t ⟨e.val / 1024, by omega⟩ d ⟨e.val % 1024, by omega⟩).trans
    ((entry_w1 m c ⟨e.val / 1024, by omega⟩ d ⟨e.val % 1024, by omega⟩).trans (congrArg _ he))
/-- The `w_ff2` of a step. -/
theorem tile_w2 (c : Dev nD) (t : Fin cfg0.N) : tw2 (ins m c t) = w2r m c := by
  funext e d
  have he : (⟨(⟨e.val / 1024, by omega⟩ : Fin 4).val * 1024 + (⟨e.val % 1024, by omega⟩ : Fin 1024).val, by omega⟩ : Fin 4096) = e := Fin.ext (by show e.val / 1024 * 1024 + e.val % 1024 = e.val; omega)
  exact (block7 m c t ⟨e.val / 1024, by omega⟩ ⟨e.val % 1024, by omega⟩ d).trans
    ((entry_w2 m c ⟨e.val / 1024, by omega⟩ ⟨e.val % 1024, by omega⟩ d).trans (congrArg (fun x => w2r m c x d) he))
/-- The `w_out` of a step. -/
theorem tile_wo (c : Dev nD) (t : Fin cfg0.N) (k d : Fin 1024) : (show FVec Ideal S1024x1024 .bf16 from iblk m c 8 t) (ix2 k d) = wor m c k d :=
  (block8 m c t k d).trans (entry_wo m c k d)

/-- The gradient of the pre-activation, token by token. -/
def gdpre (c : Dev nD) (i : Fin 4096) (e : Fin 4096) : EReal :=
  Rows.dpre (dzr m c i) (Rows.relu (zr m c i) (gr m c) (br m c) (w1r m c)) (w2r m c) e
/-- The gradient of the feed-forward input, token by token. -/
def gdx1 (c : Dev nD) (i : Fin 4096) (d : Fin 1024) : EReal :=
  Rows.dx1 (dzr m c i) (Rows.relu (zr m c i) (gr m c) (br m c) (w1r m c)) (w2r m c) (w1r m c) d
/-- The gradient through the normalisation, token by token. -/
def gdz1 (c : Dev nD) (i : Fin 4096) (d : Fin 1024) : EReal :=
  Rows.dnorm (fun k => gdx1 m c i k * gr m c k) (Rows.xhat (zr m c i)) (Rows.rstd (zr m c i)) d

/-- A step's gradient of the norm's output. -/
theorem tile_dx1 (c : Dev nD) (t : Fin cfg0.N) (s : Fin 256) (d : Fin 1024) : tdx1 (ins m c t) s d = gdx1 m c (tok t s) d := by
  unfold tdx1 gdx1
  rw [tile_dz, tile_r, tile_w1, tile_w2]
/-- A step's gradient of the norm's input. -/
theorem tile_dz1 (c : Dev nD) (t : Fin cfg0.N) (s : Fin 256) (d : Fin 1024) : tdz1 (ins m c t) s d = gdz1 m c (tok t s) d := by
  unfold tdz1 gdz1
  have h1 : (fun k => tdx1 (ins m c t) s k * (ins m c t).x5 (ix2 0 k)) = fun k => gdx1 m c (tok t s) k * gr m c k :=
    funext fun k => congrArg₂ (· * ·) (tile_dx1 m c t s k) (tile_g m c t k)
  have h2 : (fun k => (ins m c t).x3 (ix2 s k)) = Rows.xhat (zr m c (tok t s)) := funext fun k => tile_xhat m c t s k
  have h3 : (ins m c t).x4 (ix2 s 0) = Rows.rstd (zr m c (tok t s)) := tile_rstd m c t s
  rw [h1, h2, h3]
/-- A step's part of the gradient of `w_ff1`. -/
theorem tile_gw (c : Dev nD) (t : Fin cfg0.N) (d : Fin 1024) (e : Fin 4096) :
    tgw (ins m c t) d e = ∑ s : Fin 256, Rows.x1 (zr m c (tok t s)) (gr m c) (br m c) d * gdpre m c (tok t s) e := by
  unfold tgw gdpre
  simp only [tile_dz, tile_r, tile_w2]
  exact Finset.sum_congr rfl fun s _ => congrArg (· * _) (tile_x1 m c t s d)

end Cert.KernelIdeal.Run
-- ==== Proof.ValB.lean ====
module

public import proofs.«01_k».proof.Proof.Frame
public import proofs.«01_k».proof.Proof.ValA
public import proofs.«01_k».proof.Proof.Blocks
public import Idealize.ShloMosaic.Lib.Pipeline.ValueKit

@[expose] public section

set_option maxRecDepth 16384

noncomputable section

/-! What the body leaves at a middle grid point, read at one entry, over the extended reals. -/

namespace Cert.KernelIdeal.Run

open Idealize.ShloMosaic Idealize.ShloMosaic.TcCoe Idealize.ShloMosaic.Tactic
open Cert.KernelIdeal.Gen

/-- The normalisation gradient left at a middle point. -/
theorem outB_o9 (c : Dev nD) (i : grid0.Coords) (A : Args) (hc0 : ¬AtFirst i) (hc1 : ¬AtLast i) (X : Ins Ideal) (P : Outs Ideal c) (t : Fin 256) (d : Fin 1024) :
    (outsB c i A hc0 hc1 X P).o9 (ix2 t d) = tdz1 X t d := by
  dsimp only [outsB]
  unfold runB
  frame_out
  refine Tile.dnorm_at (dz := tdz X t) (r := tr X t) (w2 := tw2 X) (w1 := tw1 X) ?_ d
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The same rounded at a middle point. -/
theorem outB_o10 (c : Dev nD) (i : grid0.Coords) (A : Args) (hc0 : ¬AtFirst i) (hc1 : ¬AtLast i) (X : Ins Ideal) (P : Outs Ideal c) (t : Fin 256) (d : Fin 1024) :
    (outsB c i A hc0 hc1 X P).o10 (ix2 t d) = tdz1 X t d := by
  dsimp only [outsB]
  unfold runB
  frame_out
  pointwise [k0_pay2]
  refine Tile.dnorm_at (dz := tdz X t) (r := tr X t) (w2 := tw2 X) (w1 := tw1 X) ?_ d
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The heads' gradient left at a middle point. -/
theorem outB_o11 (c : Dev nD) (i : grid0.Coords) (A : Args) (hc0 : ¬AtFirst i) (hc1 : ¬AtLast i) (X : Ins Ideal) (P : Outs Ideal c) (t : Fin 256) (d : Fin 1024) :
    (outsB c i A hc0 hc1 X P).o11 (ix2 t d) = ∑ k, tdz1 X t k * X.x8 (ix2 d k) := by
  dsimp only [outsB]
  unfold runB
  frame_out
  refine Tile.dcat_at (x8 := X.x8) (f := tdz1 X t) _ _ _ _ _ _ (fun k => ?_) d
  refine Tile.dnorm_at (dz := tdz X t) (r := tr X t) (w2 := tw2 X) (w1 := tw1 X) ?_ k
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The scale's gradient left at a middle point. -/
theorem outB_o12 (c : Dev nD) (i : grid0.Coords) (A : Args) (hc0 : ¬AtFirst i) (hc1 : ¬AtLast i) (X : Ins Ideal) (P : Outs Ideal c) (d : Fin 1024) :
    (outsB c i A hc0 hc1 X P).o12 (ix2 0 d) = P.o12 (ix2 0 d) + ∑ t : Fin 256, tdx1 X t d * X.x3 (ix2 t d) := by
  dsimp only [outsB]
  unfold runB
  frame_out
  refine (Tile.dgain_at (F := tdx1 X) _ _ (fun t d => ?_) d).trans ?_
  · refine Tile.dx1_at (dz := tdz X t) (r := tr X t) (w2 := tw2 X) (w1 := tw1 X) ?_ d
    exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])
  · rfl

/-- The shift's gradient left at a middle point. -/
theorem outB_o13 (c : Dev nD) (i : grid0.Coords) (A : Args) (hc0 : ¬AtFirst i) (hc1 : ¬AtLast i) (X : Ins Ideal) (P : Outs Ideal c) (d : Fin 1024) :
    (outsB c i A hc0 hc1 X P).o13 (ix2 0 d) = P.o13 (ix2 0 d) + ∑ t : Fin 256, tdx1 X t d := by
  dsimp only [outsB]
  unfold runB
  frame_out
  refine (Tile.dshift_at (F := tdx1 X) _ _ (fun t d => ?_) d).trans ?_
  · refine Tile.dx1_at (dz := tdz X t) (r := tr X t) (w2 := tw2 X) (w1 := tw1 X) ?_ d
    exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])
  · rfl

/-- The weight gradient kept at a middle point. -/
theorem outB_acc (c : Dev nD) (i : grid0.Coords) (A : Args) (hc0 : ¬AtFirst i) (hc1 : ¬AtLast i) (X : Ins Ideal) (P : Outs Ideal c) (r : Fin 4096) (e : Fin 1024) :
    (outsB c i A hc0 hc1 X P).acc (ix2 r e) = P.acc (ix2 r e) + tgwRow X r e := by
  dsimp only [outsB]
  unfold runB
  frame_out
  have hr := r.isLt
  unfold tgwRow
  by_cases h0 : r.val < 1024
  · obtain ⟨d, hd⟩ : ∃ d : Fin 1024, r.val = 0 + d.val := ⟨⟨r.val - 0, by omega⟩, (by show r.val = 0 + (r.val - 0); omega)⟩
    have hE : (⟨r / 1024 * 1024 + e, by omega⟩ : Fin 4096) = ⟨0 + e, by omega⟩ := Fin.ext (by show r.val / 1024 * 1024 + e.val = 0 + e.val; omega)
    have hD : (⟨r % 1024, by omega⟩ : Fin 1024) = d := Fin.ext (by show r.val % 1024 = d.val; omega)
    rw [hE, hD]
    refine (Blocks.canon_miss 3072 _ _ _ r e (by omega)).trans ?_
    refine (Blocks.canon_miss 2048 _ _ _ r e (by omega)).trans ?_
    refine (Blocks.canon_miss 1024 _ _ _ r e (by omega)).trans ?_
    refine (Blocks.canon_hit 0 _ _ _ r d e hd).trans ?_
    refine (Tile.quarter0 d e).trans (quarter_eq X _ _ _ d e ⟨0 + e, by omega⟩ _ ?_ (fun k => by pointwise [tw2]; refine congrArg X.x7 ?_; idx_ext <;> omega) (fun t => by pointwise [tr]))
    pointwise []
    refine congrArg P.acc ?_; idx_ext <;> omega
  by_cases h1 : r.val < 2048
  · obtain ⟨d, hd⟩ : ∃ d : Fin 1024, r.val = 1024 + d.val := ⟨⟨r.val - 1024, by omega⟩, (by show r.val = 1024 + (r.val - 1024); omega)⟩
    have hE : (⟨r / 1024 * 1024 + e, by omega⟩ : Fin 4096) = ⟨1024 + e, by omega⟩ := Fin.ext (by show r.val / 1024 * 1024 + e.val = 1024 + e.val; omega)
    have hD : (⟨r % 1024, by omega⟩ : Fin 1024) = d := Fin.ext (by show r.val % 1024 = d.val; omega)
    rw [hE, hD]
    refine (Blocks.canon_miss 3072 _ _ _ r e (by omega)).trans ?_
    refine (Blocks.canon_miss 2048 _ _ _ r e (by omega)).trans ?_
    refine (Blocks.canon_hit 1024 _ _ _ r d e hd).trans ?_
    refine (Tile.quarter1 d e).trans (quarter_eq X _ _ _ d e ⟨1024 + e, by omega⟩ _ ?_ (fun k => by pointwise [tw2]; refine congrArg X.x7 ?_; idx_ext <;> omega) (fun t => by pointwise [tr]))
    pointwise []
    refine congrArg P.acc ?_; idx_ext <;> omega
  by_cases h2 : r.val < 3072
  · obtain ⟨d, hd⟩ : ∃ d : Fin 1024, r.val = 2048 + d.val := ⟨⟨r.val - 2048, by omega⟩, (by show r.val = 2048 + (r.val - 2048); omega)⟩
    have hE : (⟨r / 1024 * 1024 + e, by omega⟩ : Fin 4096) = ⟨2048 + e, by omega⟩ := Fin.ext (by show r.val / 1024 * 1024 + e.val = 2048 + e.val; omega)
    have hD : (⟨r % 1024, by omega⟩ : Fin 1024) = d := Fin.ext (by show r.val % 1024 = d.val; omega)
    rw [hE, hD]
    refine (Blocks.canon_miss 3072 _ _ _ r e (by omega)).trans ?_
    refine (Blocks.canon_hit 2048 _ _ _ r d e hd).trans ?_
    refine (Tile.quarter2 d e).trans (quarter_eq X _ _ _ d e ⟨2048 + e, by omega⟩ _ ?_ (fun k => by pointwise [tw2]; refine congrArg X.x7 ?_; idx_ext <;> omega) (fun t => by pointwise [tr]))
    pointwise []
    refine congrArg P.acc ?_; idx_ext <;> omega
  · obtain ⟨d, hd⟩ : ∃ d : Fin 1024, r.val = 3072 + d.val := ⟨⟨r.val - 3072, by omega⟩, (by show r.val = 3072 + (r.val - 3072); omega)⟩
    have hE : (⟨r / 1024 * 1024 + e, by omega⟩ : Fin 4096) = ⟨3072 + e, by omega⟩ := Fin.ext (by show r.val / 1024 * 1024 + e.val = 3072 + e.val; omega)
    have hD : (⟨r % 1024, by omega⟩ : Fin 1024) = d := Fin.ext (by show r.val % 1024 = d.val; omega)
    rw [hE, hD]
    refine (Blocks.canon_hit 3072 _ _ _ r d e hd).trans ?_
    refine (Tile.quarter3 d e).trans (quarter_eq X _ _ _ d e ⟨3072 + e, by omega⟩ _ ?_ (fun k => by pointwise [tw2]; refine congrArg X.x7 ?_; idx_ext <;> omega) (fun t => by pointwise [tr]))
    pointwise []
    refine congrArg P.acc ?_; idx_ext <;> omega

end Cert.KernelIdeal.Run
-- ==== Proof.ValC.lean ====
module

public import proofs.«01_k».proof.Proof.Frame
public import proofs.«01_k».proof.Proof.ValA
public import proofs.«01_k».proof.Proof.Blocks
public import Idealize.ShloMosaic.Lib.Pipeline.ValueKit

@[expose] public section

set_option maxRecDepth 16384

noncomputable section

/-! What the body leaves at a last grid point, read at one entry, over the extended reals. -/

namespace Cert.KernelIdeal.Run

open Idealize.ShloMosaic Idealize.ShloMosaic.TcCoe Idealize.ShloMosaic.Tactic
open Cert.KernelIdeal.Gen

/-- The normalisation gradient left at a last point. -/
theorem outC_o9 (c : Dev nD) (i : grid0.Coords) (A : Args) (hc0 : ¬AtFirst i) (hc1 : AtLast i) (X : Ins Ideal) (P : Outs Ideal c) (t : Fin 256) (d : Fin 1024) :
    (outsC c i A hc0 hc1 X P).o9 (ix2 t d) = tdz1 X t d := by
  dsimp only [outsC]
  unfold runC
  frame_out
  refine Tile.dnorm_at (dz := tdz X t) (r := tr X t) (w2 := tw2 X) (w1 := tw1 X) ?_ d
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The same rounded at a last point. -/
theorem outC_o10 (c : Dev nD) (i : grid0.Coords) (A : Args) (hc0 : ¬AtFirst i) (hc1 : AtLast i) (X : Ins Ideal) (P : Outs Ideal c) (t : Fin 256) (d : Fin 1024) :
    (outsC c i A hc0 hc1 X P).o10 (ix2 t d) = tdz1 X t d := by
  dsimp only [outsC]
  unfold runC
  frame_out
  pointwise [k0_pay2]
  refine Tile.dnorm_at (dz := tdz X t) (r := tr X t) (w2 := tw2 X) (w1 := tw1 X) ?_ d
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The heads' gradient left at a last point. -/
theorem outC_o11 (c : Dev nD) (i : grid0.Coords) (A : Args) (hc0 : ¬AtFirst i) (hc1 : AtLast i) (X : Ins Ideal) (P : Outs Ideal c) (t : Fin 256) (d : Fin 1024) :
    (outsC c i A hc0 hc1 X P).o11 (ix2 t d) = ∑ k, tdz1 X t k * X.x8 (ix2 d k) := by
  dsimp only [outsC]
  unfold runC
  frame_out
  refine Tile.dcat_at (x8 := X.x8) (f := tdz1 X t) _ _ _ _ _ _ (fun k => ?_) d
  refine Tile.dnorm_at (dz := tdz X t) (r := tr X t) (w2 := tw2 X) (w1 := tw1 X) ?_ k
  exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])

/-- The scale's gradient left at a last point. -/
theorem outC_o12 (c : Dev nD) (i : grid0.Coords) (A : Args) (hc0 : ¬AtFirst i) (hc1 : AtLast i) (X : Ins Ideal) (P : Outs Ideal c) (d : Fin 1024) :
    (outsC c i A hc0 hc1 X P).o12 (ix2 0 d) = P.o12 (ix2 0 d) + ∑ t : Fin 256, tdx1 X t d * X.x3 (ix2 t d) := by
  dsimp only [outsC]
  unfold runC
  frame_out
  refine (Tile.dgain_at (F := tdx1 X) _ _ (fun t d => ?_) d).trans ?_
  · refine Tile.dx1_at (dz := tdz X t) (r := tr X t) (w2 := tw2 X) (w1 := tw1 X) ?_ d
    exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])
  · rfl

/-- The shift's gradient left at a last point. -/
theorem outC_o13 (c : Dev nD) (i : grid0.Coords) (A : Args) (hc0 : ¬AtFirst i) (hc1 : AtLast i) (X : Ins Ideal) (P : Outs Ideal c) (d : Fin 1024) :
    (outsC c i A hc0 hc1 X P).o13 (ix2 0 d) = P.o13 (ix2 0 d) + ∑ t : Fin 256, tdx1 X t d := by
  dsimp only [outsC]
  unfold runC
  frame_out
  refine (Tile.dshift_at (F := tdx1 X) _ _ (fun t d => ?_) d).trans ?_
  · refine Tile.dx1_at (dz := tdz X t) (r := tr X t) (w2 := tw2 X) (w1 := tw1 X) ?_ d
    exact by
      constructor
      · intro d; rfl
      all_goals first
        | (intro e d; pointwise [tw2]; refine congrArg X.x7 ?_; idx_ext <;> omega)
        | (intro d e; pointwise [tw1]; refine congrArg X.x6 ?_; idx_ext <;> omega)
        | (intro e; pointwise [tr])
  · rfl

/-- The copied result's contents are what its view reads. -/
theorem hb_read (f : main_v33_0.ty.Contents (Elt Ideal)) (L : List (View.Piece (Elt Ideal) S4096x1024 .f32)) (y : S4096x1024.Idx) :
    (View.whole main_v33_0).writes (Elt Ideal) f L y = View.read (Elt Ideal) (View.whole main_v33_0) ((View.whole main_v33_0).writes (Elt Ideal) f L) y := rfl

/-- The weight gradient copied out at a last point. -/
theorem outC_hb (c : Dev nD) (i : grid0.Coords) (A : Args) (hc0 : ¬AtFirst i) (hc1 : AtLast i) (X : Ins Ideal) (P : Outs Ideal c) (r : Fin 4096) (e : Fin 1024) :
    (outsC c i A hc0 hc1 X P).hb (ix2 r e) = P.acc (ix2 r e) + tgwRow X r e := by
  dsimp only [outsC]
  unfold runC
  frame_out
  have hr := r.isLt
  refine (hb_read _ _ _).trans ?_
  unfold tgwRow
  by_cases h0 : r.val < 1024
  · obtain ⟨d, hd⟩ : ∃ d : Fin 1024, r.val = 0 + d.val := ⟨⟨r.val - 0, by omega⟩, (by show r.val = 0 + (r.val - 0); omega)⟩
    have hE : (⟨r / 1024 * 1024 + e, by omega⟩ : Fin 4096) = ⟨0 + e, by omega⟩ := Fin.ext (by show r.val / 1024 * 1024 + e.val = 0 + e.val; omega)
    have hD : (⟨r % 1024, by omega⟩ : Fin 1024) = d := Fin.ext (by show r.val % 1024 = d.val; omega)
    rw [hE, hD]
    refine (Blocks.written_miss (View.whole main_v33_0) _ 3072 _ _ _ r e (by omega)).trans ?_
    refine (Blocks.written_miss (View.whole main_v33_0) _ 2048 _ _ _ r e (by omega)).trans ?_
    refine (Blocks.written_miss (View.whole main_v33_0) _ 1024 _ _ _ r e (by omega)).trans ?_
    refine (Blocks.written_hit (View.whole main_v33_0) _ 0 _ _ _ r d e hd).trans ?_
    refine (Blocks.read_back A.a16.view _ 0 _ _ _ _).trans ?_
    refine (Tile.quarter0 d e).trans (quarter_eq X _ _ _ d e ⟨0 + e, by omega⟩ _ ?_ (fun k => by pointwise [tw2]; refine congrArg X.x7 ?_; idx_ext <;> omega) (fun t => by pointwise [tr]))
    pointwise []
    refine congrArg P.acc ?_; idx_ext <;> omega
  by_cases h1 : r.val < 2048
  · obtain ⟨d, hd⟩ : ∃ d : Fin 1024, r.val = 1024 + d.val := ⟨⟨r.val - 1024, by omega⟩, (by show r.val = 1024 + (r.val - 1024); omega)⟩
    have hE : (⟨r / 1024 * 1024 + e, by omega⟩ : Fin 4096) = ⟨1024 + e, by omega⟩ := Fin.ext (by show r.val / 1024 * 1024 + e.val = 1024 + e.val; omega)
    have hD : (⟨r % 1024, by omega⟩ : Fin 1024) = d := Fin.ext (by show r.val % 1024 = d.val; omega)
    rw [hE, hD]
    refine (Blocks.written_miss (View.whole main_v33_0) _ 3072 _ _ _ r e (by omega)).trans ?_
    refine (Blocks.written_miss (View.whole main_v33_0) _ 2048 _ _ _ r e (by omega)).trans ?_
    refine (Blocks.written_hit (View.whole main_v33_0) _ 1024 _ _ _ r d e hd).trans ?_
    refine (Blocks.read_back A.a16.view _ 1024 _ _ _ _).trans ?_
    refine (Tile.quarter1 d e).trans (quarter_eq X _ _ _ d e ⟨1024 + e, by omega⟩ _ ?_ (fun k => by pointwise [tw2]; refine congrArg X.x7 ?_; idx_ext <;> omega) (fun t => by pointwise [tr]))
    pointwise []
    refine congrArg P.acc ?_; idx_ext <;> omega
  by_cases h2 : r.val < 3072
  · obtain ⟨d, hd⟩ : ∃ d : Fin 1024, r.val = 2048 + d.val := ⟨⟨r.val - 2048, by omega⟩, (by show r.val = 2048 + (r.val - 2048); omega)⟩
    have hE : (⟨r / 1024 * 1024 + e, by omega⟩ : Fin 4096) = ⟨2048 + e, by omega⟩ := Fin.ext (by show r.val / 1024 * 1024 + e.val = 2048 + e.val; omega)
    have hD : (⟨r % 1024, by omega⟩ : Fin 1024) = d := Fin.ext (by show r.val % 1024 = d.val; omega)
    rw [hE, hD]
    refine (Blocks.written_miss (View.whole main_v33_0) _ 3072 _ _ _ r e (by omega)).trans ?_
    refine (Blocks.written_hit (View.whole main_v33_0) _ 2048 _ _ _ r d e hd).trans ?_
    refine (Blocks.read_back A.a16.view _ 2048 _ _ _ _).trans ?_
    refine (Tile.quarter2 d e).trans (quarter_eq X _ _ _ d e ⟨2048 + e, by omega⟩ _ ?_ (fun k => by pointwise [tw2]; refine congrArg X.x7 ?_; idx_ext <;> omega) (fun t => by pointwise [tr]))
    pointwise []
    refine congrArg P.acc ?_; idx_ext <;> omega
  · obtain ⟨d, hd⟩ : ∃ d : Fin 1024, r.val = 3072 + d.val := ⟨⟨r.val - 3072, by omega⟩, (by show r.val = 3072 + (r.val - 3072); omega)⟩
    have hE : (⟨r / 1024 * 1024 + e, by omega⟩ : Fin 4096) = ⟨3072 + e, by omega⟩ := Fin.ext (by show r.val / 1024 * 1024 + e.val = 3072 + e.val; omega)
    have hD : (⟨r % 1024, by omega⟩ : Fin 1024) = d := Fin.ext (by show r.val % 1024 = d.val; omega)
    rw [hE, hD]
    refine (Blocks.written_hit (View.whole main_v33_0) _ 3072 _ _ _ r d e hd).trans ?_
    refine (Blocks.read_back A.a16.view _ 3072 _ _ _ _).trans ?_
    refine (Tile.quarter3 d e).trans (quarter_eq X _ _ _ d e ⟨3072 + e, by omega⟩ _ ?_ (fun k => by pointwise [tw2]; refine congrArg X.x7 ?_; idx_ext <;> omega) (fun t => by pointwise [tr]))
    pointwise []
    refine congrArg P.acc ?_; idx_ext <;> omega

end Cert.KernelIdeal.Run
-- ==== Proof.Final.lean ====
module

public import proofs.«01_k».proof.Proof.Point
public import proofs.«01_k».proof.Proof.ValB
public import proofs.«01_k».proof.Proof.ValC

@[expose] public section

set_option maxRecDepth 16384

noncomputable section

/-! The six results of the call, as functions of the program's arguments. -/

namespace Cert.KernelIdeal.Run

open Idealize.ShloMosaic Idealize.ShloMosaic.TcCoe Idealize.ShloMosaic.Tactic
open Idealize.ShloMosaic.Pipeline (Dat)
open Cert.KernelIdeal.Gen

variable (m : (ℓ : Loc nD τ sig) → Buf (Elt Ideal) ℓ)

/-- The normalisation gradient that every grid point leaves. -/
theorem at_o9 (c : Dev nD) (t : Fin cfg0.N) (s : Fin 256) (d : Fin 1024) : (outsAt m c t.val t.isLt).o9 (ix2 s d) = gdz1 m c (tok t s) d := by
  by_cases h0 : t.val % 16 = 0
  · rw [outsAt_A m c t h0]; exact (outA_o9 _ _ _ _ _ _ _ s d).trans (tile_dz1 m c t s d)
  by_cases h1 : t.val % 16 = 15
  · rw [outsAt_C m c t h1]; exact (outC_o9 _ _ _ _ _ _ _ s d).trans (tile_dz1 m c t s d)
  · rw [outsAt_B m c t h0 h1]; exact (outB_o9 _ _ _ _ _ _ _ s d).trans (tile_dz1 m c t s d)
/-- The rounded normalisation gradient that every grid point leaves. -/
theorem at_o10 (c : Dev nD) (t : Fin cfg0.N) (s : Fin 256) (d : Fin 1024) : (outsAt m c t.val t.isLt).o10 (ix2 s d) = gdz1 m c (tok t s) d := by
  by_cases h0 : t.val % 16 = 0
  · rw [outsAt_A m c t h0]; exact (outA_o10 _ _ _ _ _ _ _ s d).trans (tile_dz1 m c t s d)
  by_cases h1 : t.val % 16 = 15
  · rw [outsAt_C m c t h1]; exact (outC_o10 _ _ _ _ _ _ _ s d).trans (tile_dz1 m c t s d)
  · rw [outsAt_B m c t h0 h1]; exact (outB_o10 _ _ _ _ _ _ _ s d).trans (tile_dz1 m c t s d)

/-- The gradient of the concatenated heads, token by token. -/
def gdcat (c : Dev nD) (i : Fin 4096) (k : Fin 1024) : EReal := ∑ d : Fin 1024, gdz1 m c i d * wor m c k d

/-- A step's rows of the heads' gradient. -/
theorem tile_dcat (c : Dev nD) (t : Fin cfg0.N) (s : Fin 256) (k : Fin 1024) :
    ∑ d, tdz1 (ins m c t) s d * (ins m c t).x8 (ix2 k d) = gdcat m c (tok t s) k :=
  Finset.sum_congr rfl fun d _ => congrArg₂ (· * ·) (tile_dz1 m c t s d) (tile_wo m c t k d)

/-- The heads' gradient that every grid point leaves. -/
theorem at_o11 (c : Dev nD) (t : Fin cfg0.N) (s : Fin 256) (d : Fin 1024) : (outsAt m c t.val t.isLt).o11 (ix2 s d) = gdcat m c (tok t s) d := by
  by_cases h0 : t.val % 16 = 0
  · rw [outsAt_A m c t h0]; exact (outA_o11 _ _ _ _ _ _ _ s d).trans (tile_dcat m c t s d)
  by_cases h1 : t.val % 16 = 15
  · rw [outsAt_C m c t h1]; exact (outC_o11 _ _ _ _ _ _ _ s d).trans (tile_dcat m c t s d)
  · rw [outsAt_B m c t h0 h1]; exact (outB_o11 _ _ _ _ _ _ _ s d).trans (tile_dcat m c t s d)

/-- A quantity that the first point sets and every later one adds to is, after the last, the sum over the points. -/
theorem sum_points (f : (n : ℕ) → n < cfg0.N → EReal) (G : Fin cfg0.N → EReal) (h0 : ∀ h, f 0 h = 0 + G ⟨0, h⟩)
    (hs : ∀ n (h : n + 1 < cfg0.N), f (n + 1) h = f n (Nat.lt_of_succ_lt h) + G ⟨n + 1, h⟩) (n : ℕ) (h : n < cfg0.N) :
    f n h = ∑ k : Fin (n + 1), G ⟨k.val, by omega⟩ := by
  induction n with
  | zero => rw [h0]; simp
  | succ n ih => rw [hs, ih, Fin.sum_univ_castSucc (n := n + 1)]; rfl

/-- A sum over the grid's points and a tile's tokens is the sum over all tokens. -/
theorem sum_tokens (G : Fin 4096 → EReal) (h : 15 < cfg0.N) :
    ∑ k : Fin (15 + 1), (∑ s : Fin 256, G (tok ⟨k.val, by omega⟩ s)) = ∑ i : Fin 4096, G i := by
  rw [Fin.sum_univ_tiles 16 256 rfl G]; rfl

/-- The scale gradient after step `n`: the tokens so far. -/
theorem at_o12 (c : Dev nD) (n : ℕ) (h : n < cfg0.N) (d : Fin 1024) : (outsAt m c n h).o12 (ix2 0 d)
    = ∑ k : Fin (n + 1), ∑ s : Fin 256, gdx1 m c (tok ⟨k.val, by omega⟩ s) d * Rows.xhat (zr m c (tok ⟨k.val, by omega⟩ s)) d := by
  have e : ∀ t : Fin cfg0.N, ∑ s : Fin 256, tdx1 (ins m c t) s d * (ins m c t).x3 (ix2 s d)
      = ∑ s : Fin 256, gdx1 m c (tok t s) d * Rows.xhat (zr m c (tok t s)) d :=
    fun t => Finset.sum_congr rfl fun s _ => congrArg₂ (· * ·) (tile_dx1 m c t s d) (tile_xhat m c t s d)
  refine sum_points (fun n h => (outsAt m c n h).o12 (ix2 0 d)) (fun t => ∑ s : Fin 256, gdx1 m c (tok t s) d * Rows.xhat (zr m c (tok t s)) d) (fun h => ?_) (fun n h => ?_) n h
  · show (outsAt m c (⟨0, h⟩ : Fin cfg0.N).val _).o12 (ix2 0 d) = _
    rw [outsAt_A m c ⟨0, h⟩ rfl]
    exact (outA_o12 _ _ _ _ _ _ _ d).trans (congrArg (0 + ·) (e ⟨0, h⟩))
  · have hN : n + 1 < 16 := lt_of_lt_of_eq h N_0
    show (outsAt m c (⟨n + 1, h⟩ : Fin cfg0.N).val _).o12 (ix2 0 d) = _
    by_cases h1 : (n + 1) % 16 = 15
    · rw [outsAt_C m c ⟨n + 1, h⟩ h1]
      exact (outC_o12 _ _ _ _ _ _ _ d).trans (congrArg (_ + ·) (e ⟨n + 1, h⟩))
    · rw [outsAt_B m c ⟨n + 1, h⟩ (by show ¬(n + 1) % 16 = 0; omega) h1]
      exact (outB_o12 _ _ _ _ _ _ _ d).trans (congrArg (_ + ·) (e ⟨n + 1, h⟩))

/-- The shift gradient after step `n`: the tokens so far. -/
theorem at_o13 (c : Dev nD) (n : ℕ) (h : n < cfg0.N) (d : Fin 1024) : (outsAt m c n h).o13 (ix2 0 d)
    = ∑ k : Fin (n + 1), ∑ s : Fin 256, gdx1 m c (tok ⟨k.val, by omega⟩ s) d := by
  have e : ∀ t : Fin cfg0.N, ∑ s : Fin 256, tdx1 (ins m c t) s d = ∑ s : Fin 256, gdx1 m c (tok t s) d :=
    fun t => Finset.sum_congr rfl fun s _ => tile_dx1 m c t s d
  refine sum_points (fun n h => (outsAt m c n h).o13 (ix2 0 d)) (fun t => ∑ s : Fin 256, gdx1 m c (tok t s) d) (fun h => ?_) (fun n h => ?_) n h
  · show (outsAt m c (⟨0, h⟩ : Fin cfg0.N).val _).o13 (ix2 0 d) = _
    rw [outsAt_A m c ⟨0, h⟩ rfl]
    exact (outA_o13 _ _ _ _ _ _ _ d).trans (congrArg (0 + ·) (e ⟨0, h⟩))
  · have hN : n + 1 < 16 := lt_of_lt_of_eq h N_0
    show (outsAt m c (⟨n + 1, h⟩ : Fin cfg0.N).val _).o13 (ix2 0 d) = _
    by_cases h1 : (n + 1) % 16 = 15
    · rw [outsAt_C m c ⟨n + 1, h⟩ h1]
      exact (outC_o13 _ _ _ _ _ _ _ d).trans (congrArg (_ + ·) (e ⟨n + 1, h⟩))
    · rw [outsAt_B m c ⟨n + 1, h⟩ (by show ¬(n + 1) % 16 = 0; omega) h1]
      exact (outB_o13 _ _ _ _ _ _ _ d).trans (congrArg (_ + ·) (e ⟨n + 1, h⟩))

/-- The weight gradient's entry that one token adds to row `r`, column `e` of its buffer. -/
def ggw (c : Dev nD) (i : Fin 4096) (r : Fin 4096) (e : Fin 1024) : EReal :=
  Rows.x1 (zr m c i) (gr m c) (br m c) ⟨r % 1024, by omega⟩ * gdpre m c i ⟨r / 1024 * 1024 + e, by omega⟩

/-- A step's contribution to the gradient of `w_ff1`. -/
theorem tile_ggw (c : Dev nD) (t : Fin cfg0.N) (r : Fin 4096) (e : Fin 1024) : tgwRow (ins m c t) r e = ∑ s : Fin 256, ggw m c (tok t s) r e :=
  tile_gw m c t _ _

/-- The accumulator after a point that is not the last, by the same recursion as the other sums. -/
theorem acc_first (c : Dev nD) (h : 0 < cfg0.N) (r : Fin 4096) (e : Fin 1024) : (outsAt m c 0 h).acc (ix2 r e)
    = 0 + ∑ s : Fin 256, ggw m c (tok ⟨0, h⟩ s) r e := by
  show (outsAt m c (⟨0, h⟩ : Fin cfg0.N).val _).acc (ix2 r e) = _
  rw [outsAt_A m c ⟨0, h⟩ rfl]
  exact (outA_acc _ _ _ _ _ _ _ r e).trans (congrArg (0 + ·) (tile_ggw m c ⟨0, h⟩ r e))

/-- A later step adds its contribution. -/
theorem acc_step (c : Dev nD) (n : ℕ) (h : n + 1 < cfg0.N) (hl : n + 1 < 15) (r : Fin 4096) (e : Fin 1024) : (outsAt m c (n + 1) h).acc (ix2 r e)
    = (outsAt m c n (Nat.lt_of_succ_lt h)).acc (ix2 r e) + ∑ s : Fin 256, ggw m c (tok ⟨n + 1, h⟩ s) r e := by
  show (outsAt m c (⟨n + 1, h⟩ : Fin cfg0.N).val _).acc (ix2 r e) = _
  rw [outsAt_B m c ⟨n + 1, h⟩ (by show ¬(n + 1) % 16 = 0; omega) (by show ¬(n + 1) % 16 = 15; omega)]
  exact (outB_acc _ _ _ _ _ _ _ r e).trans (congrArg (_ + ·) (tile_ggw m c ⟨n + 1, h⟩ r e))

/-- The accumulator after step `n`: the tokens so far. -/
theorem at_acc (c : Dev nD) (n : ℕ) (h : n < cfg0.N) (hl : n < 15) (r : Fin 4096) (e : Fin 1024) : (outsAt m c n h).acc (ix2 r e)
    = ∑ k : Fin (n + 1), ∑ s : Fin 256, ggw m c (tok ⟨k.val, by omega⟩ s) r e := by
  induction n with
  | zero => rw [acc_first]; simp
  | succ n ih => rw [acc_step m c n h hl, ih (Nat.lt_of_succ_lt h) (by omega), Fin.sum_univ_castSucc (n := n + 1)]; rfl

/-- What the last point copies out is its predecessor's accumulator and its own share. -/
theorem hb_step (c : Dev nD) (h : 14 + 1 < cfg0.N) (r : Fin 4096) (e : Fin 1024) : (outsAt m c (14 + 1) h).hb (ix2 r e)
    = (outsAt m c 14 (Nat.lt_of_succ_lt h)).acc (ix2 r e) + ∑ s : Fin 256, ggw m c (tok ⟨14 + 1, h⟩ s) r e := by
  show (outsAt m c (⟨14 + 1, h⟩ : Fin cfg0.N).val _).hb (ix2 r e) = _
  rw [outsAt_C m c ⟨14 + 1, h⟩ (by show (14 + 1) % 16 = 15; rfl)]
  exact (outC_hb _ _ _ _ _ _ _ r e).trans (congrArg (_ + ·) (tile_ggw m c ⟨14 + 1, h⟩ r e))

/-- The weight gradient copied out by the last point. -/
theorem final_hb (c : Dev nD) (h : 14 + 1 < cfg0.N) (r : Fin 4096) (e : Fin 1024) : (outsAt m c (14 + 1) h).hb (ix2 r e) = ∑ i : Fin 4096, ggw m c i r e := by
  rw [hb_step m c h r e, at_acc m c 14 (Nat.lt_of_succ_lt h) (by omega) r e]
  have := sum_tokens (fun i => ggw m c i r e) h
  rw [Fin.sum_univ_castSucc (n := 15)] at this
  exact this

end Cert.KernelIdeal.Run
-- ==== Proof.Arrays.lean ====
module

public import proofs.«01_k».proof.Proof.Final

@[expose] public section

set_option maxRecDepth 16384

noncomputable section

/-! The result arrays of the call after the whole grid. -/

namespace Cert.KernelIdeal.Run

open Idealize.ShloMosaic Idealize.ShloMosaic.TcCoe Idealize.ShloMosaic.Tactic
open Idealize.ShloMosaic.Pipeline (Dat)
open Idealize.SL.Sem
open Cert.KernelIdeal.Gen

variable (m : (ℓ : Loc nD τ sig) → Buf (Elt Ideal) ℓ)

/-- Where the output windows' blocks lie. -/
theorem idxOut : ∀ t : Fin cfg0.N, win0_9.index t = ![t.val, 0] ∧ win0_10.index t = ![t.val, 0] ∧ win0_11.index t = ![t.val, 0]
    ∧ win0_12.index t = ![0, 0] ∧ win0_13.index t = ![0, 0] ∧ t.val < 16 := (by decide +kernel : ∀ t : Fin grid0.N, _)

/-- The gradients of the normalisation's input as one array. -/
def Adz1 (c : Dev nD) : FVec Ideal S4096x1024 .f32 := fun y => gdz1 m c (y 0) (y 1)
def Adcat (c : Dev nD) : FVec Ideal S4096x1024 .f32 := fun y => gdcat m c (y 0) (y 1)
def Adg (c : Dev nD) : FVec Ideal S1x1024 .f32 := fun y => ∑ i : Fin 4096, gdx1 m c i (y 1) * Rows.xhat (zr m c i) (y 1)
def Adb (c : Dev nD) : FVec Ideal S1x1024 .f32 := fun y => ∑ i : Fin 4096, gdx1 m c i (y 1)
def Agw (c : Dev nD) : FVec Ideal S4096x1024 .f32 := fun y => ∑ i : Fin 4096, ggw m c i (y 0) (y 1)

/-- The gradient of the normalisation's input. -/
theorem final9 (c : Dev nD) : (dats m 0 c).arrAt 9 (cfgs 0).N = Adz1 m c := by
  refine (dats m 0 c).arrAt_eq_of_covers 9 _ (by decide +kernel) fun t hf y => ?_
  blk_simp
  rw [after0_9]
  obtain ⟨s, d, rfl⟩ : ∃ (s : Fin 256) (d : Fin 1024), y = ix2 s d := ⟨y 0, y 1, by blk_ext []⟩
  refine (at_o9 m c t s d).trans ?_
  unfold Adz1
  refine congrArg₂ (gdz1 m c) (Fin.ext ?_) (Fin.ext ?_)
  · blk_simp [idxOut t, tok]
  · blk_simp [idxOut t]

/-- Its rounded copy, the same array over the real numbers. -/
theorem final10 (c : Dev nD) : (dats m 0 c).arrAt 10 (cfgs 0).N = Adz1 m c := by
  refine (dats m 0 c).arrAt_eq_of_covers 10 _ (by decide +kernel) fun t hf y => ?_
  blk_simp
  rw [after0_10]
  obtain ⟨s, d, rfl⟩ : ∃ (s : Fin 256) (d : Fin 1024), y = ix2 s d := ⟨y 0, y 1, by blk_ext []⟩
  refine (at_o10 m c t s d).trans ?_
  unfold Adz1
  refine congrArg₂ (gdz1 m c) (Fin.ext ?_) (Fin.ext ?_)
  · blk_simp [idxOut t, tok]
  · blk_simp [idxOut t]

/-- The gradient of the concatenated heads. -/
theorem final11 (c : Dev nD) : (dats m 0 c).arrAt 11 (cfgs 0).N = Adcat m c := by
  refine (dats m 0 c).arrAt_eq_of_covers 11 _ (by decide +kernel) fun t hf y => ?_
  blk_simp
  rw [after0_11]
  obtain ⟨s, d, rfl⟩ : ∃ (s : Fin 256) (d : Fin 1024), y = ix2 s d := ⟨y 0, y 1, by blk_ext []⟩
  refine (at_o11 m c t s d).trans ?_
  unfold Adcat
  refine congrArg₂ (gdcat m c) (Fin.ext ?_) (Fin.ext ?_)
  · blk_simp [idxOut t, tok]
  · blk_simp [idxOut t]

/-- The gradient of the normalisation's gain, summed over the tokens. -/
theorem last12 (c : Dev nD) (h : 15 < cfg0.N) (d : Fin 1024) : (outsAt m c 15 h).o12 (ix2 0 d) = ∑ i : Fin 4096, gdx1 m c i d * Rows.xhat (zr m c i) d :=
  (at_o12 m c 15 h d).trans (sum_tokens (fun i => gdx1 m c i d * Rows.xhat (zr m c i) d) h)

/-- The norm scale gradient, after the grid. -/
theorem final12 (c : Dev nD) : (dats m 0 c).arrAt 12 (cfgs 0).N = Adg m c := by
  refine (dats m 0 c).arrAt_eq_of_covers 12 _ (by decide +kernel) fun t hf y => ?_
  have ht : t.val = 15 := by have h1 := (flush0_12 t).mp hf; have h2 := (idxOut t).2.2.2.2.2; omega
  blk_simp
  rw [after0_12]
  obtain ⟨d, rfl⟩ : ∃ (d : Fin 1024), y = ix2 0 d := ⟨y 1, by blk_ext []⟩
  have hn : ∀ (n : ℕ) (h : n < cfg0.N), n = 15 → (outsAt m c n h).o12 (ix2 0 d) = Adg m c (ix2 0 d) := by
    intro n h e; subst e; exact last12 m c h d
  refine (hn t.val t.isLt ht).trans ?_
  blk_ext [idxOut t]

/-- The gradient of its shift. -/
theorem last13 (c : Dev nD) (h : 15 < cfg0.N) (d : Fin 1024) : (outsAt m c 15 h).o13 (ix2 0 d) = ∑ i : Fin 4096, gdx1 m c i d :=
  (at_o13 m c 15 h d).trans (sum_tokens (fun i => gdx1 m c i d) h)

/-- The norm shift gradient, after the grid. -/
theorem final13 (c : Dev nD) : (dats m 0 c).arrAt 13 (cfgs 0).N = Adb m c := by
  refine (dats m 0 c).arrAt_eq_of_covers 13 _ (by decide +kernel) fun t hf y => ?_
  have ht : t.val = 15 := by have h1 := (flush0_13 t).mp hf; have h2 := (idxOut t).2.2.2.2.2; omega
  blk_simp
  rw [after0_13]
  obtain ⟨d, rfl⟩ : ∃ (d : Fin 1024), y = ix2 0 d := ⟨y 1, by blk_ext []⟩
  have hn : ∀ (n : ℕ) (h : n < cfg0.N), n = 15 → (outsAt m c n h).o13 (ix2 0 d) = Adb m c (ix2 0 d) := by
    intro n h e; subst e; exact last13 m c h d
  refine (hn t.val t.isLt ht).trans ?_
  blk_ext [idxOut t]

/-- The buffer written by the last point's copies. -/
theorem final_gw (c : Dev nD) : hbG m c main_v33_0 = Agw m c := by
  have hn : ∀ (n : ℕ) (h : n < cfg0.N), n = 15 → (outsAt m c n h).hb = Agw m c := by
    intro n h e; subst e
    funext y
    obtain ⟨r, e, rfl⟩ : ∃ (r : Fin 4096) (e : Fin 1024), y = ix2 r e := ⟨y 0, y 1, by blk_ext []⟩
    exact final_hb m c h r e
  exact (hbG_at m c).trans (hn _ _ rfl)

/-- Every execution ends with the six results at these arrays and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v33_0) = Agw m c ∧ r.2.mem ((c.tc : Thread nD τ).loc main_v33_1) = Adz1 m c ∧ r.2.mem ((c.tc : Thread nD τ).loc main_v33_2) = Adz1 m c ∧ r.2.mem ((c.tc : Thread nD τ).loc main_v33_3) = Adcat m c ∧ r.2.mem ((c.tc : Thread nD τ).loc main_v33_4) = Adg m c ∧ r.2.mem ((c.tc : Thread nD τ).loc main_v33_5) = Adb m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c => ⟨
      (h.1.2 c main_v33_0 (by decide)).trans (final_gw m c),
      ((h.1.toR c).1 9).trans (final9 m c),
      ((h.1.toR c).1 10).trans (final10 m c),
      ((h.1.toR c).1 11).trans (final11 m c),
      ((h.1.toR c).1 12).trans (final12 m c),
      ((h.1.toR c).1 13).trans (final13 m c),
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).1 5).trans (((dats m 0 c).arrAt_in 5 rfl _).trans ((A_eq m c 5).trans (V_main_arg3 m c))),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c),
      ((h.1.toR c).1 0).trans (((dats m 0 c).arrAt_in 0 rfl _).trans ((A_eq m c 0).trans (V_main_arg7 m c)))⟩) (run_main m ρ)

end Cert.KernelIdeal.Run
-- ==== Proof.Norm.lean ====
module

public import proofs.«01_k».proof.Proof.Rows
public import Idealize.ShloMosaic.Lib.IdealHost

@[expose] public section

noncomputable section

/-! The gradient through the row normalisation: the closed form over the normalised row, and the chain of the
reference's own operations, are the same over the extended reals when the incoming gradient is finite. -/

namespace Cert.Rows

open Idealize.ShloMosaic

/-- The literal of minus one half. -/
abbrev mhalf : EReal := Ideal.ofBits FTy.f32 0xBF000000#32

/-- An extended real that is a real number. -/
def Finite (x : EReal) : Prop := ∃ r : ℝ, x = (r : EReal)

/-- The share of the variance in the gradient through the normalisation, as the chain rule writes it. -/
def dvar (z dy : Fin 1024 → EReal) : EReal :=
  Ideal.div ((∑ k, cen z k * dy k) * (mhalf * Ideal.div (rstd z) (var z + eps))) len

/-- The gradient through the normalisation, as the chain rule writes it. -/
def vjp (z dy : Fin 1024 → EReal) (d : Fin 1024) : EReal :=
  dy d * rstd z + dvar z dy * (two * cen z d)
    + Ideal.div ((∑ k, -(dy k * rstd z)) + ∑ k, -(dvar z dy * (two * cen z k))) len

/-- The constant two. -/
theorem two_eq : two = ((2 : ℝ) : EReal) := by simp [two, Ideal.ofBits, Ideal.ieee]; norm_num; rw [← EReal.coe_mul]; norm_num
/-- The row length 1024. -/
theorem len_eq : len = ((1024 : ℝ) : EReal) := by simp [len, Ideal.ofBits, Ideal.ieee]; norm_num; rw [← EReal.coe_mul]; norm_num
/-- The constant minus one half. -/
theorem mhalf_eq : mhalf = ((-(1 / 2) : ℝ) : EReal) := by simp [mhalf, Ideal.ofBits, Ideal.ieee]; norm_num; rw [← EReal.coe_mul]; norm_num
/-- The epsilon is positive and finite. -/
theorem eps_eq : ∃ r : ℝ, 0 < r ∧ eps = (r : EReal) := by
  refine ⟨_, ?_, by simp [eps, Ideal.ofBits, Ideal.ieee]; rfl⟩
  norm_num
/-- Alpha is finite. -/
theorem alpha_finite : Finite alpha := ⟨_, by simp [alpha, Ideal.ofBits, Ideal.ieee]; rfl⟩

/-- Finite sums. -/
theorem Finite.add {x y : EReal} : Finite x → Finite y → Finite (x + y) := by
  rintro ⟨a, rfl⟩ ⟨b, rfl⟩; exact ⟨a + b, (EReal.coe_add a b).symm⟩
/-- Finite products. -/
theorem Finite.mul {x y : EReal} : Finite x → Finite y → Finite (x * y) := by
  rintro ⟨a, rfl⟩ ⟨b, rfl⟩; exact ⟨a * b, (EReal.coe_mul a b).symm⟩
/-- Zero is finite. -/
theorem Finite.zero : Finite 0 := ⟨0, by simp⟩
/-- Finite positive parts. -/
theorem Finite.relu {x : EReal} : Finite x → Finite (max x 0) := by
  intro h; rcases max_choice x 0 with e | e <;> rw [e]
  · exact h
  · exact Finite.zero
/-- A sum of real numbers read among the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]
/-- Finite sums of families. -/
theorem Finite.sum {ι : Type*} (s : Finset ι) {f : ι → EReal} (h : ∀ k, Finite (f k)) : Finite (∑ k ∈ s, f k) := by
  choose g hg using h
  exact ⟨∑ k ∈ s, g k, by rw [← coe_sum]; exact Finset.sum_congr rfl fun k _ => hg k⟩

/-- Division by the length is multiplication by its reciprocal. -/
theorem div_len (x : EReal) : Ideal.div x len = x * ((1 / 1024 : ℝ) : EReal) := by
  rw [len_eq]; exact Ideal.div_coe (by norm_num) x

/-- A row that is not finite has an infinite variance. -/
theorem var_top {z : Fin 1024 → EReal} (h : ¬∀ k, Finite (z k)) : var z = ⊤ := by
  have hp : (0 : EReal) < ((1 / 1024 : ℝ) : EReal) := by exact_mod_cast (by norm_num : (0 : ℝ) < 1 / 1024)
  have key : ∃ k, cen z k = ⊥ := by
    by_cases hb : ∃ k, z k = ⊥
    · obtain ⟨k, hk⟩ := hb
      refine ⟨k, ?_⟩
      have : mean z = ⊥ := by
        unfold mean
        rw [div_len, ← Finset.add_sum_erase _ _ (Finset.mem_univ k), hk, EReal.bot_add, EReal.bot_mul_of_pos hp]
      unfold cen; rw [this, hk]; rfl
    · push Not at h hb
      obtain ⟨k, hk⟩ := h
      have hk : z k = ⊤ := by
        induction hz : z k with
        | bot => exact absurd hz (hb k)
        | top => rfl
        | coe r => exact absurd ⟨r, hz⟩ hk
      refine ⟨k, ?_⟩
      have hs : ∀ s : Finset (Fin 1024), ∑ j ∈ s, z j ≠ ⊥ := by
        classical
        intro s
        induction s using Finset.induction_on with
        | empty => simp
        | insert a s ha ih => rw [Finset.sum_insert ha]; exact fun e => (EReal.add_eq_bot_iff.mp e).elim (hb a) ih
      have : mean z = ⊤ := by
        unfold mean
        rw [div_len, ← Finset.add_sum_erase _ _ (Finset.mem_univ k), hk, EReal.top_add_of_ne_bot (hs _), EReal.top_mul_of_pos hp]
      unfold cen; rw [this, hk]; rfl
  obtain ⟨k, hk⟩ := key
  have hn : ∀ x : EReal, 0 ≤ x * x := fun x => by
    rcases le_total 0 x with hx | hx
    · exact mul_nonneg hx hx
    · exact EReal.mul_nonneg_iff.mpr (Or.inr ⟨hx, hx⟩)
  unfold var
  rw [div_len, ← Finset.add_sum_erase _ _ (Finset.mem_univ k), hk, EReal.bot_mul_bot,
    EReal.top_add_of_ne_bot (ne_of_gt (lt_of_lt_of_le EReal.bot_lt_zero (Finset.sum_nonneg fun j _ => hn _))), EReal.top_mul_of_pos hp]

/-- A row with an infinity has reciprocal deviation zero. -/
theorem rstd_zero {z : Fin 1024 → EReal} (h : ¬∀ k, Finite (z k)) : rstd z = 0 := by
  obtain ⟨e, -, he⟩ := eps_eq
  unfold rstd; rw [var_top h, he, EReal.top_add_coe]; rfl

/-- A finite row: its centred row is real and sums to zero, its variance guarded is a positive real. -/
theorem cen_real {z : Fin 1024 → EReal} (h : ∀ k, Finite (z k)) :
    ∃ (c : Fin 1024 → ℝ) (v : ℝ), 0 < v ∧ (∀ k, cen z k = (c k : EReal)) ∧ (∑ k, c k = 0) ∧ var z + eps = (v : EReal) := by
  choose a ha using h
  obtain ⟨e, he0, he⟩ := eps_eq
  have hm : mean z = (((∑ k, a k) * (1 / 1024) : ℝ) : EReal) := by
    unfold mean; rw [div_len, Finset.sum_congr rfl fun k _ => ha k, coe_sum, EReal.coe_mul]
  have hc : ∀ k, cen z k = ((a k - (∑ k, a k) * (1 / 1024) : ℝ) : EReal) := fun k => by
    unfold cen; rw [hm, ha, EReal.coe_sub]
  refine ⟨fun k => a k - (∑ k, a k) * (1 / 1024), (∑ k, (a k - (∑ k, a k) * (1 / 1024)) * (a k - (∑ k, a k) * (1 / 1024))) * (1 / 1024) + e, ?_, hc, ?_, ?_⟩
  · have : 0 ≤ ∑ k, (a k - (∑ k, a k) * (1 / 1024)) * (a k - (∑ k, a k) * (1 / 1024)) := Finset.sum_nonneg fun k _ => mul_self_nonneg _
    positivity
  · rw [Finset.sum_sub_distrib, Finset.sum_const, Finset.card_univ, Fintype.card_fin, nsmul_eq_mul]; push_cast; ring
  · unfold var
    rw [div_len, Finset.sum_congr rfl fun k _ => by rw [hc k, ← EReal.coe_mul], coe_sum, he, ← EReal.coe_mul, ← EReal.coe_add]

/-- The reciprocal root of a positive real. -/
theorem rsqrt_pos {v : ℝ} (h : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr h.le), if_neg h.ne']

/-- The normalised row is finite, whatever the row. -/
theorem xhat_finite (z : Fin 1024 → EReal) (d : Fin 1024) : Finite (xhat z d) := by
  unfold xhat
  by_cases h : ∀ k, Finite (z k)
  · obtain ⟨c, v, hv, hc, -, he⟩ := cen_real h
    unfold rstd; rw [he, rsqrt_pos hv, hc]
    exact ⟨_, (EReal.coe_mul _ _).symm⟩
  · rw [rstd_zero h, mul_zero]; exact Finite.zero

/-- The two forms of the gradient through the normalisation over the reals. -/
theorem norm_real (c b : Fin 1024 → ℝ) (s v : ℝ) (hs : s * s * v = 1) (hv : v ≠ 0) (h0 : ∑ k, c k = 0) (d : Fin 1024) :
    s * (b d - (∑ k, b k) * (1 / 1024) - c d * s * ((∑ k, b k * (c k * s)) * (1 / 1024)))
      = b d * s + (∑ k, c k * b k) * (-(1 / 2) * (s * (1 / v))) * (1 / 1024) * (2 * c d)
        + ((∑ k, -(b k * s)) + ∑ k, -((∑ k, c k * b k) * (-(1 / 2) * (s * (1 / v))) * (1 / 1024) * (2 * c k))) * (1 / 1024) := by
  have e1 : ∑ k, b k * (c k * s) = (∑ k, c k * b k) * s := by
    rw [Finset.sum_mul]; exact Finset.sum_congr rfl fun k _ => by ring
  have e2 : ∑ k, -(b k * s) = -((∑ k, b k) * s) := by rw [Finset.sum_neg_distrib, Finset.sum_mul]
  have e3 : ∀ q : ℝ, ∑ k, -(q * (2 * c k)) = 0 := fun q => by
    rw [Finset.sum_neg_distrib, ← Finset.mul_sum, ← Finset.mul_sum, h0]; simp
  have e4 : 1 / v = s * s := by field_simp; linarith
  rw [e1, e2, e3, e4]; ring

/-- The closed form and the chain rule agree wherever the incoming gradient is finite; the row is arbitrary. -/
theorem dnorm_eq_vjp (z dy : Fin 1024 → EReal) (hd : ∀ k, Finite (dy k)) (d : Fin 1024) :
    dnorm dy (xhat z) (rstd z) d = vjp z dy d := by
  by_cases h : ∀ k, Finite (z k)
  · obtain ⟨c, v, hv, hc, h0, he⟩ := cen_real h
    choose b hb using hd
    have hr : rstd z = (((Real.sqrt v)⁻¹ : ℝ) : EReal) := by unfold rstd; rw [he, rsqrt_pos hv]
    obtain rfl : dy = fun k => ((b k : ℝ) : EReal) := funext hb
    have hs : (Real.sqrt v)⁻¹ * (Real.sqrt v)⁻¹ * v = 1 := by
      rw [← mul_inv, Real.mul_self_sqrt hv.le]; exact inv_mul_cancel₀ hv.ne'
    have hx : ∀ k, xhat z k = ((c k * (Real.sqrt v)⁻¹ : ℝ) : EReal) := fun k => by unfold xhat; rw [hc, hr, EReal.coe_mul]
    unfold dnorm vjp dvar
    simp only [hx, hc, hr, he, div_len, two_eq, mhalf_eq, Ideal.div_coe hv.ne', ← EReal.coe_mul, ← EReal.coe_neg, coe_sum, ← EReal.coe_sub, ← EReal.coe_add]
    exact congrArg _ (norm_real c b _ v hs hv.ne' h0 d)
  · have hz := rstd_zero h
    obtain ⟨e, -, he⟩ := eps_eq
    have hv : var z + eps = ⊤ := by rw [var_top h, he, EReal.top_add_coe]
    have hd : Ideal.div 0 ⊤ = 0 := by unfold Ideal.div; rw [if_neg (by simp)]; simp
    unfold dnorm vjp dvar
    simp only [hz, hv, hd, div_len, mul_zero, zero_mul, neg_zero, Finset.sum_const_zero, add_zero]

end Cert.Rows
-- ==== Proof.Ref.lean ====
module

public import proofs.«01_k».proof.Proof.Gen.ReferenceIdeal.Run
public import proofs.«01_k».proof.Proof.Norm
public import Idealize.ShloMosaic.Lib.Claim

@[expose] public section

set_option maxRecDepth 16384

noncomputable section

/-! The reference's results, in stages, and each stage read at an index. -/

namespace Cert.ReferenceIdeal.Stage

open Cert.ReferenceIdeal Cert.ReferenceIdeal.Gen Idealize.ShloMosaic Idealize.ShloMosaic.TcCoe Idealize.ShloMosaic.Tactic

/-- The row before the normalisation. -/
def tZ (A0 : FVec Ideal S4096x1024 .f32) (A1 : FVec Ideal S4096x1024 .f32) (A2 : FVec Ideal S1024x1024 .f32) : FVec Ideal S4096x1024 .f32 :=
  addf A1 (Host.dotGeneral dot_S4096x1024_S1024x1024_S4096x1024_1_0_0_1_n_n none A0 A2)

/-- The normalised, scaled and shifted row. -/
def tX (Z : FVec Ideal S4096x1024 .f32) (A3 : FVec Ideal S1x1024 .f32) (A4 : FVec Ideal S1x1024 .f32) : FVec Ideal S4096x1024 .f32 :=
  addf (mulf (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (shapeCast _ A3 shapeCasts_S1x1024_S1024)))) (broadcastInDim S4096x1024 ![0, 1] bcast_S1x1024_S4096x1024_0_1 (broadcastInDim S1x1024 ![1] bcast_S1024_S1x1024_1 (shapeCast _ A4 shapeCasts_S1x1024_S1024)))

/-- The pre-activation. -/
def tP (X : FVec Ideal S4096x1024 .f32) (A5 : FVec Ideal S1024x4096 .f32) : FVec Ideal S4096x4096 .f32 :=
  Host.dotGeneral dot_S4096x1024_S1024x4096_S4096x4096_1_0_0_1_n_n none X A5

/-- The gradient of the pre-activation. -/
def tD (P : FVec Ideal S4096x4096 .f32) (A6 : FVec Ideal S4096x1024 .f32) (A7 : FVec Ideal S4096x1024 .f32) : FVec Ideal S4096x4096 .f32 :=
  select (cmpf .ogt P (broadcastInDim S4096x4096 ![] bcast_S_S4096x4096 (constant S_ .f32 0x00000000#32))) (mulf (Host.dotGeneral dot_S4096x1024_S4096x1024_S4096x4096_1_1_0_0_n_n none (shapeCast _ A7 shapeCasts_S4096x1024_S4096x1024) A6) (mulf (broadcastInDim S4096x4096 ![] bcast_S_S4096x4096 (constant S_ .f32 0x40000000#32)) (maximumf P (broadcastInDim S4096x4096 ![] bcast_S_S4096x4096 (constant S_ .f32 0x00000000#32))))) (broadcastInDim S4096x4096 ![] bcast_S_S4096x4096 (constant S_ .f32 0x00000000#32))

/-- The gradient of the feed-forward input. -/
def tE (D : FVec Ideal S4096x4096 .f32) (A5 : FVec Ideal S1024x4096 .f32) (A7 : FVec Ideal S4096x1024 .f32) : FVec Ideal S4096x1024 .f32 :=
  addf (mulf (broadcastInDim S4096x1024 ![] bcast_S_S4096x1024 (constant S_ .f32 0x3F9837F0#32)) (shapeCast _ A7 shapeCasts_S4096x1024_S4096x1024)) (Host.dotGeneral dot_S4096x4096_S1024x4096_S4096x1024_1_1_0_0_n_n none D A5)

/-- The gradient through the normalisation. -/
def tN (Z : FVec Ideal S4096x1024 .f32) (E : FVec Ideal S4096x1024 .f32) (A3 : FVec Ideal S1x1024 .f32) : FVec Ideal S4096x1024 .f32 :=
  addf (addf (mulf (mulf E (broadcastInDim S4096x1024 ![0, 1] bcast_S1x1024_S4096x1024_0_1 (broadcastInDim S1x1024 ![1] bcast_S1024_S1x1024_1 (shapeCast _ A3 shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (mulf (broadcastInDim S4096x1024 ![0] bcast_S4096_S4096x1024_0 (Host.reduceAdd (Host.divf (mulf (shapeCast _ (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (mulf E (broadcastInDim S4096x1024 ![0, 1] bcast_S1x1024_S4096x1024_0_1 (broadcastInDim S1x1024 ![1] bcast_S1024_S1x1024_1 (shapeCast _ A3 shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))) (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))))) (broadcastInDim S4096x1024 ![0] bcast_S4096_S4096x1024_0 (Host.reduceAdd (Host.divf (addf (shapeCast _ (Host.reduceAdd (Host.negf (mulf (mulf E (broadcastInDim S4096x1024 ![0, 1] bcast_S1x1024_S4096x1024_0_1 (broadcastInDim S1x1024 ![1] bcast_S1024_S1x1024_1 (shapeCast _ A3 shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))))))) (constant S_ .f32 0x00000000#32) reducesTo_S4096x1024_S4096_d1 h_S_) shapeCasts_S4096_S4096x1) (shapeCast _ (Host.reduceAdd (Host.negf (mulf (broadcastInDim S4096x1024 ![0] bcast_S4096_S4096x1024_0 (Host.reduceAdd (Host.divf (mulf (shapeCast _ (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (mulf E (broadcastInDim S4096x1024 ![0, 1] bcast_S1x1024_S4096x1024_0_1 (broadcastInDim S1x1024 ![1] bcast_S1024_S1x1024_1 (shapeCast _ A3 shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))) (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))))) (constant S_ .f32 0x00000000#32) reducesTo_S4096x1024_S4096_d1 h_S_) shapeCasts_S4096_S4096x1)) (broadcastInDim S4096x1 ![] bcast_S_S4096x1 (constant S_ .f32 0x44800000#32))) (constant S_ .f32 0x00000000#32) reducesTo_S4096x1_S4096_d1 h_S_))

/-- The gradient of the first weight, its shards one under the other. -/
def tW (X : FVec Ideal S4096x1024 .f32) (D : FVec Ideal S4096x4096 .f32) : FVec Ideal S4096x1024 .f32 :=
  shapeCast _ (transpose S4x1024x1024 [1, 0, 2] (shapeCast _ (transpose S1024x4096 [1, 0] (Host.dotGeneral dot_S4096x4096_S4096x1024_S4096x1024_0_0_1_1_n_n none D X) transposes_S4096x1024_S1024x4096_1_0) shapeCasts_S1024x4096_S1024x4x1024) transposes_S1024x4x1024_S4x1024x1024_1_0_2) shapeCasts_S4x1024x1024_S4096x1024

/-- The rounded gradient. -/
def tNb (N : FVec Ideal S4096x1024 .f32) : FVec Ideal S4096x1024 .bf16 :=
  truncf .bf16 N bitsLt_bf16_f32

/-- The gradient of the concatenated heads. -/
def tC (N : FVec Ideal S4096x1024 .f32) (A2 : FVec Ideal S1024x1024 .f32) : FVec Ideal S4096x1024 .bf16 :=
  truncf .bf16 (Host.dotGeneral dot_S4096x1024_S1024x1024_S4096x1024_1_1_0_0_n_n none N A2) bitsLt_bf16_f32

/-- The gradient of the scale. -/
def tG (Z : FVec Ideal S4096x1024 .f32) (E : FVec Ideal S4096x1024 .f32) : FVec Ideal S1x1024 .f32 :=
  broadcastInDim S1x1024 ![1] bcast_S1024_S1x1024_1 (Host.reduceAdd (shapeCast _ (Host.reduceAdd (mulf (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) E) (constant S_ .f32 0x00000000#32) reducesTo_S4096x1024_S1024_d0 h_S_) shapeCasts_S1024_S1x1024) (constant S_ .f32 0x00000000#32) reducesTo_S1x1024_S1024_d0 h_S_)

/-- The gradient of the shift. -/
def tB (E : FVec Ideal S4096x1024 .f32) : FVec Ideal S1x1024 .f32 :=
  broadcastInDim S1x1024 ![1] bcast_S1024_S1x1024_1 (Host.reduceAdd (shapeCast _ (Host.reduceAdd E (constant S_ .f32 0x00000000#32) reducesTo_S4096x1024_S1024_d0 h_S_) shapeCasts_S1024_S1x1024) (constant S_ .f32 0x00000000#32) reducesTo_S1x1024_S1024_d0 h_S_)

/-- The chain of the reference's operations at a token: the gradient through the normalisation. -/
theorem tN_at (Z E : FVec Ideal S4096x1024 .f32) (A3 : FVec Ideal S1x1024 .f32) (i : Fin 4096) (d : Fin 1024) :
    tN Z E A3 (ix2 i d) = Rows.vjp (fun d => Z (ix2 i d)) (fun d => E (ix2 i d) * A3 (ix2 0 d)) d := by
  pointwise [tN]
  simp only [Fin.sum_univ_one]
  rfl
/-- The row before the normalisation. -/
theorem tZ_at (A0 A1 : FVec Ideal S4096x1024 .f32) (A2 : FVec Ideal S1024x1024 .f32) (i : Fin 4096) (d : Fin 1024) :
    tZ A0 A1 A2 (ix2 i d) = Rows.zrow A0 A1 A2 i d := by
  pointwise [tZ, Rows.zrow]
/-- The normalised row scaled and shifted. -/
theorem tX_at (Z : FVec Ideal S4096x1024 .f32) (A3 A4 : FVec Ideal S1x1024 .f32) (i : Fin 4096) (d : Fin 1024) :
    tX Z A3 A4 (ix2 i d) = Rows.x1 (fun d => Z (ix2 i d)) (Rows.vec A3) (Rows.vec A4) d := by
  pointwise [tX, Rows.x1, Rows.vec, Rows.xhat, Rows.rstd, Rows.var, Rows.cen, Rows.mean]
/-- The pre-activation is one product. -/
theorem tP_at (X : FVec Ideal S4096x1024 .f32) (A5 : FVec Ideal S1024x4096 .f32) (i e : Fin 4096) :
    tP X A5 (ix2 i e) = ∑ d : Fin 1024, X (ix2 i d) * A5 (ix2 d e) := by
  pointwise [tP]
/-- The gradient of the pre-activation: where it is not positive the rectified value is zero and so is the product. -/
theorem tD_at (P : FVec Ideal S4096x4096 .f32) (A6 A7 : FVec Ideal S4096x1024 .f32) (i e : Fin 4096) :
    tD P A6 A7 (ix2 i e) = (∑ d : Fin 1024, A7 (ix2 i d) * A6 (ix2 e d)) * (Rows.two * max (P (ix2 i e)) 0) := by
  pointwise [tD]
  split
  · rfl
  · rename_i h; rw [max_eq_right (not_lt.mp h), mul_zero, mul_zero]
/-- The gradient of the feed-forward input. -/
theorem tE_at (D : FVec Ideal S4096x4096 .f32) (A5 : FVec Ideal S1024x4096 .f32) (A7 : FVec Ideal S4096x1024 .f32) (i : Fin 4096) (d : Fin 1024) :
    tE D A5 A7 (ix2 i d) = Rows.alpha * A7 (ix2 i d) + ∑ e : Fin 4096, D (ix2 i e) * A5 (ix2 d e) := by
  pointwise [tE]
/-- The gradient of the first weight, read where the call's buffer keeps it. -/
theorem tW_at (X : FVec Ideal S4096x1024 .f32) (D : FVec Ideal S4096x4096 .f32) (r : Fin 4096) (e : Fin 1024) :
    tW X D (ix2 r e) = ∑ i : Fin 4096, X (ix2 i ⟨r % 1024, by omega⟩) * D (ix2 i ⟨r / 1024 * 1024 + e, by omega⟩) := by
  pointwise [tW]
  exact Finset.sum_congr rfl fun x _ => mul_comm _ _
/-- The rounded copy is the same array over the extended reals. -/
theorem tNb_at (N : FVec Ideal S4096x1024 .f32) (i : Fin 4096) (d : Fin 1024) : tNb N (ix2 i d) = N (ix2 i d) := by
  pointwise [tNb]
/-- The gradient of the concatenated heads is one product. -/
theorem tC_at (N : FVec Ideal S4096x1024 .f32) (A2 : FVec Ideal S1024x1024 .f32) (i : Fin 4096) (k : Fin 1024) :
    tC N A2 (ix2 i k) = ∑ d : Fin 1024, N (ix2 i d) * A2 (ix2 k d) := by
  pointwise [tC]
/-- The gradient of the scale. -/
theorem tG_at (Z E : FVec Ideal S4096x1024 .f32) (d : Fin 1024) :
    tG Z E (ix2 0 d) = ∑ i : Fin 4096, E (ix2 i d) * Rows.xhat (fun d => Z (ix2 i d)) d := by
  pointwise [tG]
  rw [Fin.sum_univ_one]
  exact Finset.sum_congr rfl fun x _ => mul_comm _ _
/-- The gradient of the shift. -/
theorem tB_at (E : FVec Ideal S4096x1024 .f32) (d : Fin 1024) : tB E (ix2 0 d) = ∑ i : Fin 4096, E (ix2 i d) := by
  pointwise [tB]
  rw [Fin.sum_univ_one]

variable (m : (ℓ : Loc nD τ sig) → Buf (Elt Ideal) ℓ) (c : Dev nD)

/-- The stages over the program's own arguments. -/
abbrev Z₀ : FVec Ideal S4096x1024 .f32 := tZ (m ((c.tc : Thread nD τ).loc main_arg0)) (m ((c.tc : Thread nD τ).loc main_arg1)) (m ((c.tc : Thread nD τ).loc main_arg2))
abbrev X₀ : FVec Ideal S4096x1024 .f32 := tX (Z₀ m c) (m ((c.tc : Thread nD τ).loc main_arg3)) (m ((c.tc : Thread nD τ).loc main_arg4))
abbrev D₀ : FVec Ideal S4096x4096 .f32 := tD (tP (X₀ m c) (m ((c.tc : Thread nD τ).loc main_arg5))) (m ((c.tc : Thread nD τ).loc main_arg6)) (m ((c.tc : Thread nD τ).loc main_arg7))
abbrev E₀ : FVec Ideal S4096x1024 .f32 := tE (D₀ m c) (m ((c.tc : Thread nD τ).loc main_arg5)) (m ((c.tc : Thread nD τ).loc main_arg7))
abbrev N₀ : FVec Ideal S4096x1024 .f32 := tN (Z₀ m c) (E₀ m c) (m ((c.tc : Thread nD τ).loc main_arg3))

/-! Each result of the run is its stage. -/

/-- The gradient of `w_ff1`. -/
theorem res_W : Value.res_main_v99 m c = tW (X₀ m c) (D₀ m c) := rfl
/-- The gradient of the norm's input. -/
theorem res_N : Value.res_main_v91 m c = N₀ m c := rfl
/-- The same in bf16. -/
theorem res_Nb : Value.res_main_v100 m c = tNb (N₀ m c) := rfl
/-- The heads' gradient. -/
theorem res_C : Value.res_main_v101 m c = tC (N₀ m c) (m ((c.tc : Thread nD τ).loc main_arg2)) := rfl
/-- The scale's gradient. -/
theorem res_G : Value.res_main_v93 m c = tG (Z₀ m c) (E₀ m c) := rfl
/-- The shift's gradient. -/
theorem res_B : Value.res_main_v92 m c = tB (E₀ m c) := rfl

end Cert.ReferenceIdeal.Stage
-- ==== Proof.Join.lean ====
module

public import proofs.«01_k».proof.Proof.Arrays
public import proofs.«01_k».proof.Proof.Ref
public import proofs.«01_k».proof.Defs

@[expose] public section

set_option maxRecDepth 16384

noncomputable section

/-! The call's results and the reference's, over the same arguments. -/

namespace Cert.Join

open Idealize.ShloMosaic Idealize.ShloMosaic.TcCoe Idealize.ShloMosaic.Tactic
open Cert.KernelIdeal.Gen Cert.ReferenceIdeal.Stage
open Cert.KernelIdeal (S4096x1024 S1024x1024 S1x1024 S1024x4096)

section
variable (A0 A1 : FVec Ideal S4096x1024 .f32) (A2 : FVec Ideal S1024x1024 .f32) (A3 A4 : FVec Ideal S1x1024 .f32)
  (A5 : FVec Ideal S1024x4096 .f32) (A6 A7 : FVec Ideal S4096x1024 .f32)

/-- The rectified pre-activation of a token. -/
abbrev rr (i : Fin 4096) : Fin 4096 → EReal := Rows.relu (Rows.zrow A0 A1 A2 i) (Rows.vec A3) (Rows.vec A4) (Rows.mat A5)

/-- A row of the norm's input. -/
theorem Z_row (i : Fin 4096) : (fun d => tZ A0 A1 A2 (ix2 i d)) = Rows.zrow A0 A1 A2 i := funext fun d => tZ_at A0 A1 A2 i d

/-- An entry of the norm's output. -/
theorem X_at (i : Fin 4096) (d : Fin 1024) : tX (tZ A0 A1 A2) A3 A4 (ix2 i d) = Rows.x1 (Rows.zrow A0 A1 A2 i) (Rows.vec A3) (Rows.vec A4) d := by
  rw [tX_at, Z_row]

/-- The reference's gradient of the pre-activation, token by token. -/
theorem D_at (i e : Fin 4096) : tD (tP (tX (tZ A0 A1 A2) A3 A4) A5) A6 A7 (ix2 i e)
    = Rows.dpre (Rows.mat A7 i) (rr A0 A1 A2 A3 A4 A5 i) (Rows.mat A6) e := by
  have hp : tP (tX (tZ A0 A1 A2) A3 A4) A5 (ix2 i e) = Rows.pre (Rows.zrow A0 A1 A2 i) (Rows.vec A3) (Rows.vec A4) (Rows.mat A5) e := by
    rw [tP_at]; exact Finset.sum_congr rfl fun d _ => congrArg (· * _) (X_at A0 A1 A2 A3 A4 i d)
  rw [tD_at, hp]; rfl

/-- The reference's gradient of the feed-forward input, token by token. -/
theorem E_at (i : Fin 4096) (d : Fin 1024) : tE (tD (tP (tX (tZ A0 A1 A2) A3 A4) A5) A6 A7) A5 A7 (ix2 i d)
    = Rows.dx1 (Rows.mat A7 i) (rr A0 A1 A2 A3 A4 A5 i) (Rows.mat A6) (Rows.mat A5) d := by
  rw [tE_at]
  exact congrArg (_ + ·) (Finset.sum_congr rfl fun e _ => congrArg (· * _) (D_at A0 A1 A2 A3 A4 A5 A6 A7 i e))

/-- A finite scale, shift, incoming gradient and finite weights make the gradient of the feed-forward input finite. -/
theorem dx1_finite (h3 : ∀ i, Rows.Finite (A3 i)) (h4 : ∀ i, Rows.Finite (A4 i)) (h5 : ∀ i, Rows.Finite (A5 i))
    (h6 : ∀ i, Rows.Finite (A6 i)) (h7 : ∀ i, Rows.Finite (A7 i)) (i : Fin 4096) (d : Fin 1024) :
    Rows.Finite (Rows.dx1 (Rows.mat A7 i) (rr A0 A1 A2 A3 A4 A5 i) (Rows.mat A6) (Rows.mat A5) d) := by
  have hr : ∀ e, Rows.Finite (rr A0 A1 A2 A3 A4 A5 i e) := fun e =>
    (Rows.Finite.sum _ fun k => (((Rows.xhat_finite _ k).mul (h3 _)).add (h4 _)).mul (h5 _)).relu
  exact (Rows.alpha_finite.mul (h7 _)).add (Rows.Finite.sum _ fun e =>
    ((Rows.Finite.sum _ fun k => (h7 _).mul (h6 _)).mul (Rows.Finite.mul ⟨2, Rows.two_eq⟩ (hr e))).mul (h5 _))

/-- The reference's gradient through the normalisation is the closed form. -/
theorem N_at (h3 : ∀ i, Rows.Finite (A3 i)) (h4 : ∀ i, Rows.Finite (A4 i)) (h5 : ∀ i, Rows.Finite (A5 i))
    (h6 : ∀ i, Rows.Finite (A6 i)) (h7 : ∀ i, Rows.Finite (A7 i)) (i : Fin 4096) (d : Fin 1024) :
    tN (tZ A0 A1 A2) (tE (tD (tP (tX (tZ A0 A1 A2) A3 A4) A5) A6 A7) A5 A7) A3 (ix2 i d)
      = Rows.dnorm (fun k => Rows.dx1 (Rows.mat A7 i) (rr A0 A1 A2 A3 A4 A5 i) (Rows.mat A6) (Rows.mat A5) k * Rows.vec A3 k)
          (Rows.xhat (Rows.zrow A0 A1 A2 i)) (Rows.rstd (Rows.zrow A0 A1 A2 i)) d := by
  refine Eq.trans ?_ (Rows.dnorm_eq_vjp _ _ (fun k => (dx1_finite A0 A1 A2 A3 A4 A5 A6 A7 h3 h4 h5 h6 h7 i k).mul (h3 _)) d).symm
  rw [tN_at, Z_row]
  exact congrArg (fun f => Rows.vjp _ f d) (funext fun k => congrArg (· * _) (E_at A0 A1 A2 A3 A4 A5 A6 A7 i k))
end

/-- An extended real of finite magnitude is a real number. -/
theorem finite_of_abs {x : EReal} (h : max x (-x) < ⊤) : Rows.Finite x := by
  induction x with
  | bot => exact absurd h (by simp)
  | top => exact absurd h (by simp)
  | coe r => exact ⟨r, rfl⟩

/-- An entry whose magnitude lies below the infinite literal is a real number. -/
theorem finite_of_lt {s : Shape} (X : FVec Ideal s .f32) (hb : (⟨0, ![]⟩ : Shape).BroadcastsInDim s (![] : Fin 0 → Fin s.rank)) (i : s.Idx)
    (h : cmpf .olt (Host.absf X) (broadcastInDim s ![] hb (constant ⟨0, ![]⟩ .f32 0x7F800000#32)) i = 1#1) : Rows.Finite (X i) := by
  have ht : Ideal.ofBits .f32 0x7F800000#32 = ⊤ := by simp [Ideal.ofBits, Ideal.ieee]
  refine finite_of_abs (lt_of_lt_of_eq ?_ ht)
  by_contra hc
  have h' : Ideal.cmp .olt (max (X i) (-(X i))) (Ideal.ofBits .f32 0x7F800000#32) = 1#1 := h
  unfold Ideal.cmp at h'
  simp [hc] at h'

open Cert.KernelIdeal in
/-- The program's finiteness precondition, element by element. -/
theorem finite_args [Cert.Pre_finite.Facts] (m : (ℓ : Loc nD τ sig) → Buf (Elt Ideal) ℓ) (h : Cert.Pre_KernelIdeal_finite m) (c : Dev nD) :
    (∀ i : S1x1024.Idx, Rows.Finite (m ((c.tc : Thread nD τ).loc main_arg3) i)) ∧ (∀ i : S1x1024.Idx, Rows.Finite (m ((c.tc : Thread nD τ).loc main_arg4) i))
      ∧ (∀ i : S1024x4096.Idx, Rows.Finite (m ((c.tc : Thread nD τ).loc main_arg5) i)) ∧ (∀ i : S4096x1024.Idx, Rows.Finite (m ((c.tc : Thread nD τ).loc main_arg6) i))
      ∧ (∀ i : S4096x1024.Idx, Rows.Finite (m ((c.tc : Thread nD τ).loc main_arg7) i)) := by
  obtain ⟨h3, h4, h5, h6, h7⟩ := h c
  exact ⟨fun i => finite_of_lt _ _ i (congrFun h3 i), fun i => finite_of_lt _ _ i (congrFun h4 i), fun i => finite_of_lt _ _ i (congrFun h5 i),
    fun i => finite_of_lt _ _ i (congrFun h6 i), fun i => finite_of_lt _ _ i (congrFun h7 i)⟩

section
variable [Cert.Pre_finite.Facts]
  (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The call's argument 0. -/
abbrev k0 : FVec Ideal S4096x1024 .f32 := m ((c.tc : Thread Cert.KernelIdeal.nD Cert.KernelIdeal.τ).loc Cert.KernelIdeal.main_arg0)
/-- The call's argument 1. -/
abbrev k1 : FVec Ideal S4096x1024 .f32 := m ((c.tc : Thread Cert.KernelIdeal.nD Cert.KernelIdeal.τ).loc Cert.KernelIdeal.main_arg1)
/-- The call's argument 2. -/
abbrev k2 : FVec Ideal S1024x1024 .f32 := m ((c.tc : Thread Cert.KernelIdeal.nD Cert.KernelIdeal.τ).loc Cert.KernelIdeal.main_arg2)
/-- The call's argument 3. -/
abbrev k3 : FVec Ideal S1x1024 .f32 := m ((c.tc : Thread Cert.KernelIdeal.nD Cert.KernelIdeal.τ).loc Cert.KernelIdeal.main_arg3)
/-- The call's argument 4. -/
abbrev k4 : FVec Ideal S1x1024 .f32 := m ((c.tc : Thread Cert.KernelIdeal.nD Cert.KernelIdeal.τ).loc Cert.KernelIdeal.main_arg4)
/-- The call's argument 5. -/
abbrev k5 : FVec Ideal S1024x4096 .f32 := m ((c.tc : Thread Cert.KernelIdeal.nD Cert.KernelIdeal.τ).loc Cert.KernelIdeal.main_arg5)
/-- The call's argument 6. -/
abbrev k6 : FVec Ideal S4096x1024 .f32 := m ((c.tc : Thread Cert.KernelIdeal.nD Cert.KernelIdeal.τ).loc Cert.KernelIdeal.main_arg6)
/-- The call's argument 7. -/
abbrev k7 : FVec Ideal S4096x1024 .f32 := m ((c.tc : Thread Cert.KernelIdeal.nD Cert.KernelIdeal.τ).loc Cert.KernelIdeal.main_arg7)

/-- The two memories agree on the arguments at device `c`. -/
abbrev Agree : Prop := m' ((c.tc : Thread Cert.ReferenceIdeal.nD Cert.ReferenceIdeal.τ).loc Cert.ReferenceIdeal.main_arg0) = k0 m c ∧ m' ((c.tc : Thread Cert.ReferenceIdeal.nD Cert.ReferenceIdeal.τ).loc Cert.ReferenceIdeal.main_arg1) = k1 m c ∧ m' ((c.tc : Thread Cert.ReferenceIdeal.nD Cert.ReferenceIdeal.τ).loc Cert.ReferenceIdeal.main_arg2) = k2 m c ∧ m' ((c.tc : Thread Cert.ReferenceIdeal.nD Cert.ReferenceIdeal.τ).loc Cert.ReferenceIdeal.main_arg3) = k3 m c ∧ m' ((c.tc : Thread Cert.ReferenceIdeal.nD Cert.ReferenceIdeal.τ).loc Cert.ReferenceIdeal.main_arg4) = k4 m c ∧ m' ((c.tc : Thread Cert.ReferenceIdeal.nD Cert.ReferenceIdeal.τ).loc Cert.ReferenceIdeal.main_arg5) = k5 m c ∧ m' ((c.tc : Thread Cert.ReferenceIdeal.nD Cert.ReferenceIdeal.τ).loc Cert.ReferenceIdeal.main_arg6) = k6 m c ∧ m' ((c.tc : Thread Cert.ReferenceIdeal.nD Cert.ReferenceIdeal.τ).loc Cert.ReferenceIdeal.main_arg7) = k7 m c

/-- The gradient of the first weight. -/
theorem join_W (h : Agree m m' c) : Cert.ReferenceIdeal.Value.res_main_v99 m' c = Cert.KernelIdeal.Run.Agw m c := by
  obtain ⟨a0, a1, a2, a3, a4, a5, a6, a7⟩ := h
  have e : Cert.ReferenceIdeal.Value.res_main_v99 m' c = tW (tX (tZ (k0 m c) (k1 m c) (k2 m c)) (k3 m c) (k4 m c)) (tD (tP (tX (tZ (k0 m c) (k1 m c) (k2 m c)) (k3 m c) (k4 m c)) (k5 m c)) (k6 m c) (k7 m c)) := by
    rw [res_W]; dsimp only [Z₀, X₀, D₀, E₀, N₀]; simp only [a0, a1, a2, a3, a4, a5, a6, a7]
  refine e.trans ?_
  funext y
  obtain ⟨i, d, rfl⟩ : ∃ (i : Fin 4096) (d : Fin 1024), y = ix2 i d := ⟨y 0, y 1, by blk_ext []⟩
  refine (tW_at _ _ i d).trans ?_
  exact Finset.sum_congr rfl fun t _ => congrArg₂ (· * ·) (X_at _ _ _ _ _ t _) (D_at _ _ _ _ _ _ _ _ t _)
/-- The gradient of the normalisation's input. -/
theorem join_N (hpre : Cert.Pre_KernelIdeal_finite m) (h : Agree m m' c) : Cert.ReferenceIdeal.Value.res_main_v91 m' c = Cert.KernelIdeal.Run.Adz1 m c := by
  obtain ⟨a0, a1, a2, a3, a4, a5, a6, a7⟩ := h
  have e : Cert.ReferenceIdeal.Value.res_main_v91 m' c = (tN (tZ (k0 m c) (k1 m c) (k2 m c)) (tE (tD (tP (tX (tZ (k0 m c) (k1 m c) (k2 m c)) (k3 m c) (k4 m c)) (k5 m c)) (k6 m c) (k7 m c)) (k5 m c) (k7 m c)) (k3 m c)) := by
    rw [res_N]; dsimp only [Z₀, X₀, D₀, E₀, N₀]; simp only [a0, a1, a2, a3, a4, a5, a6, a7]
  refine e.trans ?_
  obtain ⟨h3, h4, h5, h6, h7⟩ := finite_args m hpre c
  funext y
  obtain ⟨i, d, rfl⟩ : ∃ (i : Fin 4096) (d : Fin 1024), y = ix2 i d := ⟨y 0, y 1, by blk_ext []⟩
  exact N_at _ _ _ _ _ _ _ _ h3 h4 h5 h6 h7 i d
/-- Its rounded copy. -/
theorem join_Nb (hpre : Cert.Pre_KernelIdeal_finite m) (h : Agree m m' c) : Cert.ReferenceIdeal.Value.res_main_v100 m' c = Cert.KernelIdeal.Run.Adz1 m c := by
  obtain ⟨a0, a1, a2, a3, a4, a5, a6, a7⟩ := h
  have e : Cert.ReferenceIdeal.Value.res_main_v100 m' c = tNb (tN (tZ (k0 m c) (k1 m c) (k2 m c)) (tE (tD (tP (tX (tZ (k0 m c) (k1 m c) (k2 m c)) (k3 m c) (k4 m c)) (k5 m c)) (k6 m c) (k7 m c)) (k5 m c) (k7 m c)) (k3 m c)) := by
    rw [res_Nb]; dsimp only [Z₀, X₀, D₀, E₀, N₀]; simp only [a0, a1, a2, a3, a4, a5, a6, a7]
  refine e.trans ?_
  obtain ⟨h3, h4, h5, h6, h7⟩ := finite_args m hpre c
  funext y
  obtain ⟨i, d, rfl⟩ : ∃ (i : Fin 4096) (d : Fin 1024), y = ix2 i d := ⟨y 0, y 1, by blk_ext []⟩
  exact (tNb_at _ i d).trans (N_at _ _ _ _ _ _ _ _ h3 h4 h5 h6 h7 i d)
/-- The gradient of the concatenated heads. -/
theorem join_C (hpre : Cert.Pre_KernelIdeal_finite m) (h : Agree m m' c) : Cert.ReferenceIdeal.Value.res_main_v101 m' c = Cert.KernelIdeal.Run.Adcat m c := by
  obtain ⟨a0, a1, a2, a3, a4, a5, a6, a7⟩ := h
  have e : Cert.ReferenceIdeal.Value.res_main_v101 m' c = tC (tN (tZ (k0 m c) (k1 m c) (k2 m c)) (tE (tD (tP (tX (tZ (k0 m c) (k1 m c) (k2 m c)) (k3 m c) (k4 m c)) (k5 m c)) (k6 m c) (k7 m c)) (k5 m c) (k7 m c)) (k3 m c)) (k2 m c) := by
    rw [res_C]; dsimp only [Z₀, X₀, D₀, E₀, N₀]; simp only [a0, a1, a2, a3, a4, a5, a6, a7]
  refine e.trans ?_
  obtain ⟨h3, h4, h5, h6, h7⟩ := finite_args m hpre c
  funext y
  obtain ⟨i, d, rfl⟩ : ∃ (i : Fin 4096) (d : Fin 1024), y = ix2 i d := ⟨y 0, y 1, by blk_ext []⟩
  exact (tC_at _ _ i d).trans (Finset.sum_congr rfl fun k _ => congrArg (· * _) (N_at _ _ _ _ _ _ _ _ h3 h4 h5 h6 h7 i k))
/-- The gradient of the scale. -/
theorem join_G (h : Agree m m' c) : Cert.ReferenceIdeal.Value.res_main_v93 m' c = Cert.KernelIdeal.Run.Adg m c := by
  obtain ⟨a0, a1, a2, a3, a4, a5, a6, a7⟩ := h
  have e : Cert.ReferenceIdeal.Value.res_main_v93 m' c = tG (tZ (k0 m c) (k1 m c) (k2 m c)) (tE (tD (tP (tX (tZ (k0 m c) (k1 m c) (k2 m c)) (k3 m c) (k4 m c)) (k5 m c)) (k6 m c) (k7 m c)) (k5 m c) (k7 m c)) := by
    rw [res_G]; dsimp only [Z₀, X₀, D₀, E₀, N₀]; simp only [a0, a1, a2, a3, a4, a5, a6, a7]
  refine e.trans ?_
  funext y
  obtain ⟨d, rfl⟩ : ∃ (d : Fin 1024), y = ix2 0 d := ⟨y 1, by blk_ext []⟩
  refine (tG_at _ _ d).trans (Finset.sum_congr rfl fun i _ => ?_)
  rw [Z_row]
  exact congrArg (· * _) (E_at _ _ _ _ _ _ _ _ i d)
/-- The gradient of the shift. -/
theorem join_B (h : Agree m m' c) : Cert.ReferenceIdeal.Value.res_main_v92 m' c = Cert.KernelIdeal.Run.Adb m c := by
  obtain ⟨a0, a1, a2, a3, a4, a5, a6, a7⟩ := h
  have e : Cert.ReferenceIdeal.Value.res_main_v92 m' c = tB (tE (tD (tP (tX (tZ (k0 m c) (k1 m c) (k2 m c)) (k3 m c) (k4 m c)) (k5 m c)) (k6 m c) (k7 m c)) (k5 m c) (k7 m c)) := by
    rw [res_B]; dsimp only [Z₀, X₀, D₀, E₀, N₀]; simp only [a0, a1, a2, a3, a4, a5, a6, a7]
  refine e.trans ?_
  funext y
  obtain ⟨d, rfl⟩ : ∃ (d : Fin 1024), y = ix2 0 d := ⟨y 1, by blk_ext []⟩
  exact (tB_at _ d).trans (Finset.sum_congr rfl fun i _ => E_at _ _ _ _ _ _ _ _ i d)
end

end Cert.Join
-- ==== Proof.MRules.lean ====
module

public import proofs.«01_k».proof.Proof.Gen.Kernel2
public import proofs.«01_k».proof.Proof.Gen.Kernel2Ideal.Frame
public import proofs.«01_k».proof.Proof.Gen.Kernel2Ideal.Skeleton
public import proofs.«01_k».proof.Proof.Gen.Reference2Ideal.Run
public import Idealize.ShloMosaic.Lib.Pipeline.FrameValue

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Programs that keep a store of buffers

The body is printed as many short stretches, each a row of loads and stores. All that the claims need of most of them
is that they run and hand every buffer back; what they leave in it is never asked. `Tri` is a run from one assertion
to another, `Ok` a run that keeps its assertion. -/

/-- Run from `P`, the program ends with `Q` of its answer. -/
def Tri {α : Type} (c : Dev nD) (P : sProp 𝕄) (p : Prog (TpuEff nD τ sig (Elt F) Λ₀ .tc) α) (Q : α → sProp 𝕄) : Prop :=
  ∀ K : α → sProp 𝕄, iprop(P ∗ (∀ r, Q r -∗ K r)) ⊢ wp frame (wpE (defs₀ (F := F)) Variants.none (c : Thread nD τ) none) Set.univ p K

/-- Run from `G`, the program ends with `G`. -/
abbrev Ok {α : Type} (c : Dev nD) (G : sProp 𝕄) (p : Prog (TpuEff nD τ sig (Elt F) Λ₀ .tc) α) : Prop := Tri c G p (fun _ => G)

variable {α β : Type} {c : Dev nD}

/-- Answering at once keeps the assertion. -/
theorem tri_pure (a : α) {Q : α → sProp 𝕄} : Tri c (Q a) (pure a) Q := fun K => by
  rw [wp_pure]
  iintro ⟨HP, HK⟩
  imodintro
  iapply HK
  iexact HP

/-- Returning keeps everything. -/
theorem ok_pure {G : sProp 𝕄} (a : α) : Ok (F := F) c G (pure a) := tri_pure a (Q := fun _ => G)

/-- One program after another. -/
theorem tri_bind {P : sProp 𝕄} {p : Prog (TpuEff nD τ sig (Elt F) Λ₀ .tc) α} {k : α → Prog (TpuEff nD τ sig (Elt F) Λ₀ .tc) β} {Q : α → sProp 𝕄} {S : β → sProp 𝕄}
    (h : Tri c P p Q) (hk : ∀ a, Tri c (Q a) (k a) S) : Tri c P (p >>= k) S := fun K => by
  rw [wp_bind]
  refine BIBase.Entails.trans ?_ (h _)
  iintro ⟨HP, HK⟩
  isplitl [HP]; · iexact HP
  iintro %a HQ
  iapply (hk a K)
  isplitl [HQ]; · iexact HQ
  iexact HK

/-- A run leaves alone what it is not given. -/
theorem tri_frame {P R : sProp 𝕄} {p : Prog (TpuEff nD τ sig (Elt F) Λ₀ .tc) α} {Q : α → sProp 𝕄} (h : Tri c P p Q) : Tri c iprop(P ∗ R) p (fun a => iprop(Q a ∗ R)) := fun K => by
  refine BIBase.Entails.trans ?_ (h _)
  iintro ⟨⟨HP, HR⟩, HK⟩
  isplitl [HP]; · iexact HP
  iintro %a HQ
  iapply HK
  isplitl [HQ]; · iexact HQ
  iexact HR

/-- A buffer held among others can be taken out and given back. -/
def Sel (G P : sProp 𝕄) : Prop := G ⊢ iprop(P ∗ (P -∗ G))

/-- Picking the only part. -/
theorem sel_last {P : sProp 𝕄} : Sel P P := by
  unfold Sel; iintro HP; isplitl [HP]; · iexact HP
  iintro HP; iexact HP
/-- Picking the first part. -/
theorem sel_here {P R : sProp 𝕄} : Sel iprop(P ∗ R) P := by
  unfold Sel; iintro ⟨HP, HR⟩; isplitl [HP]; · iexact HP
  iintro HP; isplitl [HP]; · iexact HP
  iexact HR
/-- Picking a later part. -/
theorem sel_next {G P R : sProp 𝕄} (h : Sel R P) : Sel iprop(G ∗ R) P := by
  unfold Sel at h ⊢; iintro ⟨HG, HR⟩
  ihave H := h $$ HR
  icases H with ⟨HP, HR⟩
  isplitl [HP]; · iexact HP
  iintro HP; isplitl [HG]; · iexact HG
  iapply HR; iexact HP

/-- The buffer is held, at contents not named. -/
abbrev Any (c : Dev nD) {sp : Space} {S : Shape} {e : EltTy} (M : Memref sig .tc sp S e) : sProp 𝕄 := iprop(∃ d, owns (c : Thread nD τ) M fullShare d)

/-- A load from a buffer held at named contents keeps everything. -/
theorem ok_load {G : sProp 𝕄} {cs : CoreSpace} {S : Shape} {e : EltTy} {M : Memref sig .tc cs S e} {x : S.Idx → Elt F e} {r : LoadRect S} {hl : M.view.LoadsAt r}
    (h : Sel G (owns (c : Thread nD τ) M fullShare x)) : Ok c G (Prog.lift (.load M r hl)) := fun K => by
  refine (sep_mono_left h).trans ?_
  unfold owns
  iintro ⟨⟨⟨%f, %hf, H⟩, HG⟩, HK⟩
  iapply (wp_load Variants.none (c : Thread nD τ) none Set.univ (S := M.view.set) (q := fullShare) (f := f) (M.view.setOn_subset_set _)) $$ H
  iintro H
  rw [wp_ret]; imodintro
  iapply HK; iapply HG
  iexists f; isplitr; · ipureintro; exact hf
  iexact H

/-- A load from a buffer held at any contents keeps everything. -/
theorem ok_load' {G : sProp 𝕄} {cs : CoreSpace} {S : Shape} {e : EltTy} {M : Memref sig .tc cs S e} {r : LoadRect S} {hl : M.view.LoadsAt r}
    (h : Sel G (Any c M)) : Ok c G (Prog.lift (.load M r hl)) := fun K => by
  refine (sep_mono_left h).trans ?_
  unfold Any owns
  iintro ⟨⟨⟨%d, %f, %hf, H⟩, HG⟩, HK⟩
  iapply (wp_load Variants.none (c : Thread nD τ) none Set.univ (S := M.view.set) (q := fullShare) (f := f) (M.view.setOn_subset_set _)) $$ H
  iintro H
  rw [wp_ret]; imodintro
  iapply HK; iapply HG
  iexists d, f; isplitr; · ipureintro; exact hf
  iexact H

/-- A load of one word of scalar memory keeps everything. -/
theorem ok_word {G : sProp 𝕄} {S : Shape} {e : EltTy} {M : Memref sig .tc .smem S e} {x : S.Idx → Elt F e} {r : Rect S} {h1 : r.shape.numel = 1} {hp : e.packing = 1}
    (h : Sel G (owns (c : Thread nD τ) M fullShare x)) : Ok c G (smemLoad (p := .tc) M r h1 hp) := fun K => by
  refine (sep_mono_left h).trans ?_
  unfold owns smemLoad smemLoadElt
  iintro ⟨⟨⟨%f, %hf, H⟩, HG⟩, HK⟩
  iapply (wp_load Variants.none (c : Thread nD τ) none Set.univ (S := M.view.set) (q := fullShare) (f := f) (M.view.setOn_subset_set _)) $$ H
  iintro H
  rw [wp_ret]; imodintro
  iapply HK; iapply HG
  iexists f; isplitr; · ipureintro; exact hf
  iexact H

/-- A store into a buffer held at any contents keeps everything. -/
theorem ok_store {G : sProp 𝕄} {cs : CoreSpace} {S : Shape} {e : EltTy} {M : Memref sig .tc cs S e} {r : Rect S} {w : r.shape.Idx → Elt F e}
    {hx : (M.access r).Stores Finset.univ} {hm : Finset.univ = Finset.univ ∨ ∀ a, r.stride a = 1}
    (h : Sel G (Any c M)) : Ok c G (Prog.lift (.store M r w Finset.univ hx hm)) := fun K => by
  refine (sep_mono_left h).trans ?_
  unfold Any owns
  iintro ⟨⟨⟨%d, %f, %hf, H⟩, HG⟩, HK⟩
  iapply (wp_store_writes₀ Variants.none (c : Thread nD τ) none Set.univ (S := M.view.set) (f := f) (w := w) (by rw [View.set_slice]; exact M.view.setOn_subset_set _)) $$ H
  iintro H
  rw [wp_ret]; imodintro
  iapply HK; iapply HG
  iexists _, (M.view.writes (Elt F) f [⟨r, w⟩]); isplitr; · ipureintro; exact rfl
  iexact H

end Cert.Kernel2Ideal.Run

end
-- ==== Proof.MMem.lean ====
module

public import proofs.«01_k».proof.Proof.MRules

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the body is called with, the accumulator of the copied result left out. -/
structure Args where
  a1 : Memref sig .tc .vmem S512x512 .f32
  h1 : a1.IsWhole
  a2 : Memref sig .tc .vmem S512x512 .f32
  h2 : a2.IsWhole
  a3 : Memref sig .tc .vmem S512x512 .bf16
  h3 : a3.IsWhole
  a4 : Memref sig .tc .vmem S512x128 .bf16
  h4 : a4.IsWhole
  a5 : Memref sig .tc .vmem S128x128 .bf16
  h5 : a5.IsWhole
  a6 : Memref sig .tc .vmem S512x128 .bf16
  h6 : a6.IsWhole
  a7 : Memref sig .tc .vmem S128x128 .bf16
  h7 : a7.IsWhole
  a8 : Memref sig .tc .vmem S512x1024 .bf16
  h8 : a8.IsWhole
  a9 : Memref sig .tc .vmem S512x128 .f32
  h9 : a9.IsWhole
  a10 : Memref sig .tc .vmem S512x128 .f32
  h10 : a10.IsWhole
  a11 : Memref sig .tc .vmem S128x128 .f32
  h11 : a11.IsWhole
  a12 : Memref sig .tc .vmem S128x128 .f32
  h12 : a12.IsWhole
  a13 : Memref sig .tc .vmem S1x512 .f32
  h13 : a13.IsWhole
  a14 : Memref sig .tc .vmem S1x512 .f32
  h14 : a14.IsWhole
  a15 : Memref sig .tc .vmem S8x128x128 .f32
  h15 : a15.IsWhole
  a16 : Memref sig .tc .vmem S128x512 .f32
  h16 : a16.IsWhole
  a17 : Memref sig .tc .smem S8 .f32
  h17 : a17.IsWhole
  a18 : Memref sig .tc .vmem S512x4096 .bf16
  h18 : a18.IsWhole
  a19 : Memref sig .tc .vmem S512x1024 .bf16
  h19 : a19.IsWhole
  a20 : Memref sig .tc .vmem S512x1536 .bf16
  h20 : a20.IsWhole
  a21 : Memref sig .tc .vmem S4096x256 .f32
  h21 : a21.IsWhole
  a23 : Memref sig .tc .vmem S1x512 .f32
  h23 : a23.IsWhole
  a24 : Memref sig .tc .vmem S1x512 .f32
  h24 : a24.IsWhole
  a25 : Memref sig .tc .vmem S8x128x128 .f32
  h25 : a25.IsWhole
  a26 : Memref sig .tc .vmem S128x128 .f32
  h26 : a26.IsWhole
  a27 : Memref sig .tc .vmem S8x128 .f32
  h27 : a27.IsWhole
  a28 : Memref sig .tc .vmem S128x512 .f32
  h28 : a28.IsWhole
  a29 : Memref sig .tc .vmem S4x128x256 .bf16
  h29 : a29.IsWhole
  a30 : Memref sig .tc .vmem S4x128x256 .bf16
  h30 : a30.IsWhole

/-- The kernel's accumulator in VMEM. -/
abbrev accM : Memref sig .tc .vmem S4096x1024 .f32 := Memref.whole cc0_scratch3

/-- The buffers at grid point `t`. -/
abbrev args (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := win0_20.stage (cfg0.slots t 20)
  h21 := hstage0_20 ((cfg0.slots t 20).cast nbuf0_20)
  a23 := win0_21.stage (cfg0.slots t 21)
  h23 := hstage0_21 ((cfg0.slots t 21).cast nbuf0_21)
  a24 := win0_22.stage (cfg0.slots t 22)
  h24 := hstage0_22 ((cfg0.slots t 22).cast nbuf0_22)
  a25 := win0_23.stage (cfg0.slots t 23)
  h25 := hstage0_23 ((cfg0.slots t 23).cast nbuf0_23)
  a26 := win0_24.stage (cfg0.slots t 24)
  h26 := hstage0_24 ((cfg0.slots t 24).cast nbuf0_24)
  a27 := win0_25.stage (cfg0.slots t 25)
  h27 := hstage0_25 ((cfg0.slots t 25).cast nbuf0_25)
  a28 := Memref.whole cc0_scratch0
  h28 := Memref.isWhole_whole _
  a29 := Memref.whole cc0_scratch1
  h29 := Memref.isWhole_whole _
  a30 := Memref.whole cc0_scratch2
  h30 := Memref.isWhole_whole _

/-- The values of the staged inputs. -/
structure Ins (F : FTy → Type) [FloatOps F] where
  x1 : Vec F S512x512 .f32
  x2 : Vec F S512x512 .f32
  x3 : Vec F S512x512 .bf16
  x4 : Vec F S512x128 .bf16
  x5 : Vec F S128x128 .bf16
  x6 : Vec F S512x128 .bf16
  x7 : Vec F S128x128 .bf16
  x8 : Vec F S512x1024 .bf16
  x9 : Vec F S512x128 .f32
  x10 : Vec F S512x128 .f32
  x11 : Vec F S128x128 .f32
  x12 : Vec F S128x128 .f32
  x13 : Vec F S1x512 .f32
  x14 : Vec F S1x512 .f32
  x15 : Vec F S8x128x128 .f32
  x16 : Vec F S128x512 .f32
  x17 : Vec F S8 .f32
  x18 : Vec F S512x4096 .bf16
  x19 : Vec F S512x1024 .bf16

/-- The inputs' blocks at grid point `t`. -/
abbrev ins (c : Dev nD) (t : Fin cfg0.N) : Ins F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t
  x13 := iblk m c 12 t
  x14 := iblk m c 13 t
  x15 := iblk m c 14 t
  x16 := iblk m c 15 t
  x17 := iblk m c 16 t
  x18 := iblk m c 17 t
  x19 := iblk m c 18 t

/-- The body holds every input buffer at its value, and every result's and every work buffer at anything. -/
def Mem (c : Dev nD) (A : Args) (X : Ins F) : sProp 𝕄 :=
  iprop(owns (c : Thread nD τ) A.a1 fullShare X.x1 ∗ owns (c : Thread nD τ) A.a2 fullShare X.x2 ∗ owns (c : Thread nD τ) A.a3 fullShare X.x3 ∗ owns (c : Thread nD τ) A.a4 fullShare X.x4 ∗ owns (c : Thread nD τ) A.a5 fullShare X.x5 ∗ owns (c : Thread nD τ) A.a6 fullShare X.x6 ∗ owns (c : Thread nD τ) A.a7 fullShare X.x7 ∗ owns (c : Thread nD τ) A.a8 fullShare X.x8 ∗ owns (c : Thread nD τ) A.a9 fullShare X.x9 ∗ owns (c : Thread nD τ) A.a10 fullShare X.x10 ∗ owns (c : Thread nD τ) A.a11 fullShare X.x11 ∗ owns (c : Thread nD τ) A.a12 fullShare X.x12 ∗ owns (c : Thread nD τ) A.a13 fullShare X.x13 ∗ owns (c : Thread nD τ) A.a14 fullShare X.x14 ∗ owns (c : Thread nD τ) A.a15 fullShare X.x15 ∗ owns (c : Thread nD τ) A.a16 fullShare X.x16 ∗ owns (c : Thread nD τ) A.a17 fullShare X.x17 ∗ owns (c : Thread nD τ) A.a18 fullShare X.x18 ∗ owns (c : Thread nD τ) A.a19 fullShare X.x19 ∗ Any c A.a20 ∗ Any c A.a21 ∗ Any c A.a23 ∗ Any c A.a24 ∗ Any c A.a25 ∗ Any c A.a26 ∗ Any c A.a27 ∗ Any c A.a28 ∗ Any c A.a29 ∗ Any c A.a30)

/-- Picks buffer 1. -/
theorem sel1 {c : Dev nD} {A : Args} {X : Ins F} : Sel (Mem c A X) (owns (c : Thread nD τ) A.a1 fullShare X.x1) := by unfold Mem; exact sel_here
/-- Picks buffer 2. -/
theorem sel2 {c : Dev nD} {A : Args} {X : Ins F} : Sel (Mem c A X) (owns (c : Thread nD τ) A.a2 fullShare X.x2) := by unfold Mem; exact sel_next (sel_here)
/-- Picks buffer 3. -/
theorem sel3 {c : Dev nD} {A : Args} {X : Ins F} : Sel (Mem c A X) (owns (c : Thread nD τ) A.a3 fullShare X.x3) := by unfold Mem; exact sel_next (sel_next (sel_here))
/-- Picks buffer 4. -/
theorem sel4 {c : Dev nD} {A : Args} {X : Ins F} : Sel (Mem c A X) (owns (c : Thread nD τ) A.a4 fullShare X.x4) := by unfold Mem; exact sel_next (sel_next (sel_next (sel_here)))
/-- Picks buffer 5. -/
theorem sel5 {c : Dev nD} {A : Args} {X : Ins F} : Sel (Mem c A X) (owns (c : Thread nD τ) A.a5 fullShare X.x5) := by unfold Mem; exact sel_next (sel_next (sel_next (sel_next (sel_here))))
/-- Picks buffer 6. -/
theorem sel6 {c : Dev nD} {A : Args} {X : Ins F} : Sel (Mem c A X) (owns (c : Thread nD τ) A.a6 fullShare X.x6) := by unfold Mem; exact sel_next (sel_next (sel_next (sel_next (sel_next (sel_here)))))
/-- Picks buffer 7. -/
theorem sel7 {c : Dev nD} {A : Args} {X : Ins F} : Sel (Mem c A X) (owns (c : Thread nD τ) A.a7 fullShare X.x7) := by unfold Mem; exact sel_next (sel_next (sel_next (sel_next (sel_next (sel_next (sel_here))))))
/-- Picks buffer 8. -/
theorem sel8 {c : Dev nD} {A : Args} {X : Ins F} : Sel (Mem c A X) (owns (c : Thread nD τ) A.a8 fullShare X.x8) := by unfold Mem; exact sel_next (sel_next (sel_next (sel_next (sel_next (sel_next (sel_next (sel_here)))))))
/-- Picks buffer 9. -/
theorem sel9 {c : Dev nD} {A : Args} {X : Ins F} : Sel (Mem c A X) (owns (c : Thread nD τ) A.a9 fullShare X.x9) := by unfold Mem; exact sel_next (sel_next (sel_next (sel_next (sel_next (sel_next (sel_next (sel_next (sel_here))))))))
/-- Picks buffer 10. -/
theorem sel10 {c : Dev nD} {A : Args} {X : Ins F} : Sel (Mem c A X) (owns (c : Thread nD τ) A.a10 fullShare X.x10) := by unfold Mem; exact sel_next (sel_next (sel_next (sel_next (sel_next (sel_next (sel_next (sel_next (sel_next (sel_here)))))))))
/-- Picks buffer 11. -/
theorem sel11 {c : Dev nD} {A : Args} {X : Ins F} : Sel (Mem c A X) (owns (c : Thread nD τ) A.a11 fullShare X.x11) := by unfold Mem; exact sel_next (sel_next (sel_next (sel_next (sel_next (sel_next (sel_next (sel_next (sel_next (sel_next (sel_here))))))))))
/-- Picks buffer 12. -/
theorem sel12 {c : Dev nD} {A : Args} {X : Ins F} : Sel (Mem c A X) (owns (c : Thread nD τ) A.a12 fullShare X.x12) := by unfold Mem; exact sel_next (sel_next (sel_next (sel_next (sel_next (sel_next (sel_next (sel_next (sel_next (sel_next (sel_next (sel_here)))))))))))
/-- Picks buffer 13. -/
theorem sel13 {c : Dev nD} {A : Args} {X : Ins F} : Sel (Mem c A X) (owns (c : Thread nD τ) A.a13 fullShare X.x13) := by unfold Mem; exact sel_next (sel_next (sel_next (sel_next (sel_next (sel_next (sel_next (sel_next (sel_next (sel_next (sel_next (sel_next (sel_here))))))))))))
/-- Picks buffer 14. -/
theorem sel14 {c : Dev nD} {A : Args} {X : Ins F} : Sel (Mem c A X) (owns (c : Thread nD τ) A.a14 fullShare X.x14) := by unfold Mem; exact sel_next (sel_next (sel_next (sel_next (sel_next (sel_next (sel_next (sel_next (sel_next (sel_next (sel_next (sel_next (sel_next (sel_here)))))))))))))
/-- Picks buffer 15. -/
theorem sel15 {c : Dev nD} {A : Args} {X : Ins F} : Sel (Mem c A X) (owns (c : Thread nD τ) A.a15 fullShare X.x15) := by unfold Mem; exact sel_next (sel_next (sel_next (sel_next (sel_next (sel_next (sel_next (sel_next (sel_next (sel_next (sel_next (sel_next (sel_next (sel_next (sel_here))))))))))))))
/-- Picks buffer 16. -/
theorem sel16 {c : Dev nD} {A : Args} {X : Ins F} : Sel (Mem c A X) (owns (c : Thread nD τ) A.a16 fullShare X.x16) := by unfold Mem; exact sel_next (sel_next (sel_next (sel_next (sel_next (sel_next (sel_next (sel_next (sel_next (sel_next (sel_next (sel_next (sel_next (sel_next (sel_next (sel_here)))))))))))))))
/-- Picks buffer 17. -/
theorem sel17 {c : Dev nD} {A : Args} {X : Ins F} : Sel (Mem c A X) (owns (c : Thread nD τ) A.a17 fullShare X.x17) := by unfold Mem; exact sel_next (sel_next (sel_next (sel_next (sel_next (sel_next (sel_next (sel_next (sel_next (sel_next (sel_next (sel_next (sel_next (sel_next (sel_next (sel_next (sel_here))))))))))))))))
/-- Picks buffer 18. -/
theorem sel18 {c : Dev nD} {A : Args} {X : Ins F} : Sel (Mem c A X) (owns (c : Thread nD τ) A.a18 fullShare X.x18) := by unfold Mem; exact sel_next (sel_next (sel_next (sel_next (sel_next (sel_next (sel_next (sel_next (sel_next (sel_next (sel_next (sel_next (sel_next (sel_next (sel_next (sel_next (sel_next (sel_here)))))))))))))))))
/-- Picks buffer 19. -/
theorem sel19 {c : Dev nD} {A : Args} {X : Ins F} : Sel (Mem c A X) (owns (c : Thread nD τ) A.a19 fullShare X.x19) := by unfold Mem; exact sel_next (sel_next (sel_next (sel_next (sel_next (sel_next (sel_next (sel_next (sel_next (sel_next (sel_next (sel_next (sel_next (sel_next (sel_next (sel_next (sel_next (sel_next (sel_here))))))))))))))))))
/-- Picks buffer 20. -/
theorem sel20 {c : Dev nD} {A : Args} {X : Ins F} : Sel (Mem c A X) (Any c A.a20) := by unfold Mem; exact sel_next (sel_next (sel_next (sel_next (sel_next (sel_next (sel_next (sel_next (sel_next (sel_next (sel_next (sel_next (sel_next (sel_next (sel_next (sel_next (sel_next (sel_next (sel_next (sel_here)))))))))))))))))))
/-- Picks buffer 21. -/
theorem sel21 {c : Dev nD} {A : Args} {X : Ins F} : Sel (Mem c A X) (Any c A.a21) := by unfold Mem; exact sel_next (sel_next (sel_next (sel_next (sel_next (sel_next (sel_next (sel_next (sel_next (sel_next (sel_next (sel_next (sel_next (sel_next (sel_next (sel_next (sel_next (sel_next (sel_next (sel_next (sel_here))))))))))))))))))))
/-- Picks buffer 23. -/
theorem sel23 {c : Dev nD} {A : Args} {X : Ins F} : Sel (Mem c A X) (Any c A.a23) := by unfold Mem; exact sel_next (sel_next (sel_next (sel_next (sel_next (sel_next (sel_next (sel_next (sel_next (sel_next (sel_next (sel_next (sel_next (sel_next (sel_next (sel_next (sel_next (sel_next (sel_next (sel_next (sel_next (sel_here)))))))))))))))))))))
/-- Picks buffer 24. -/
theorem sel24 {c : Dev nD} {A : Args} {X : Ins F} : Sel (Mem c A X) (Any c A.a24) := by unfold Mem; exact sel_next (sel_next (sel_next (sel_next (sel_next (sel_next (sel_next (sel_next (sel_next (sel_next (sel_next (sel_next (sel_next (sel_next (sel_next (sel_next (sel_next (sel_next (sel_next (sel_next (sel_next (sel_next (sel_here))))))))))))))))))))))
/-- Picks buffer 25. -/
theorem sel25 {c : Dev nD} {A : Args} {X : Ins F} : Sel (Mem c A X) (Any c A.a25) := by unfold Mem; exact sel_next (sel_next (sel_next (sel_next (sel_next (sel_next (sel_next (sel_next (sel_next (sel_next (sel_next (sel_next (sel_next (sel_next (sel_next (sel_next (sel_next (sel_next (sel_next (sel_next (sel_next (sel_next (sel_next (sel_here)))))))))))))))))))))))
/-- Picks buffer 26. -/
theorem sel26 {c : Dev nD} {A : Args} {X : Ins F} : Sel (Mem c A X) (Any c A.a26) := by unfold Mem; exact sel_next (sel_next (sel_next (sel_next (sel_next (sel_next (sel_next (sel_next (sel_next (sel_next (sel_next (sel_next (sel_next (sel_next (sel_next (sel_next (sel_next (sel_next (sel_next (sel_next (sel_next (sel_next (sel_next (sel_next (sel_here))))))))))))))))))))))))
/-- Picks buffer 27. -/
theorem sel27 {c : Dev nD} {A : Args} {X : Ins F} : Sel (Mem c A X) (Any c A.a27) := by unfold Mem; exact sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_here)))))))))))))))))))))))))
/-- Picks buffer 28. -/
theorem sel28 {c : Dev nD} {A : Args} {X : Ins F} : Sel (Mem c A X) (Any c A.a28) := by unfold Mem; exact sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_here))))))))))))))))))))))))))
/-- Picks buffer 29. -/
theorem sel29 {c : Dev nD} {A : Args} {X : Ins F} : Sel (Mem c A X) (Any c A.a29) := by unfold Mem; exact sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_here)))))))))))))))))))))))))))
/-- Picks buffer 30. -/
theorem sel30 {c : Dev nD} {A : Args} {X : Ins F} : Sel (Mem c A X) (Any c A.a30) := by unfold Mem; exact sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_next (sel_last))))))))))))))))))))))))))))

/-- A stretch of the body, taken at the point's buffers. -/
abbrev ap.{u} {γ : Sort u} (i : grid0.Coords) (A : Args)
    (f : grid0.Coords → (arg1 : Memref sig .tc .vmem S512x512 .f32) → arg1.IsWhole → (arg2 : Memref sig .tc .vmem S512x512 .f32) → arg2.IsWhole → (arg3 : Memref sig .tc .vmem S512x512 .bf16) → arg3.IsWhole → (arg4 : Memref sig .tc .vmem S512x128 .bf16) → arg4.IsWhole → (arg5 : Memref sig .tc .vmem S128x128 .bf16) → arg5.IsWhole → (arg6 : Memref sig .tc .vmem S512x128 .bf16) → arg6.IsWhole → (arg7 : Memref sig .tc .vmem S128x128 .bf16) → arg7.IsWhole → (arg8 : Memref sig .tc .vmem S512x1024 .bf16) → arg8.IsWhole → (arg9 : Memref sig .tc .vmem S512x128 .f32) → arg9.IsWhole → (arg10 : Memref sig .tc .vmem S512x128 .f32) → arg10.IsWhole → (arg11 : Memref sig .tc .vmem S128x128 .f32) → arg11.IsWhole → (arg12 : Memref sig .tc .vmem S128x128 .f32) → arg12.IsWhole → (arg13 : Memref sig .tc .vmem S1x512 .f32) → arg13.IsWhole → (arg14 : Memref sig .tc .vmem S1x512 .f32) → arg14.IsWhole → (arg15 : Memref sig .tc .vmem S8x128x128 .f32) → arg15.IsWhole → (arg16 : Memref sig .tc .vmem S128x512 .f32) → arg16.IsWhole → (arg17 : Memref sig .tc .smem S8 .f32) → arg17.IsWhole → (arg18 : Memref sig .tc .vmem S512x4096 .bf16) → arg18.IsWhole → (arg19 : Memref sig .tc .vmem S512x1024 .bf16) → arg19.IsWhole → (arg20 : Memref sig .tc .vmem S512x1536 .bf16) → arg20.IsWhole → (arg21 : Memref sig .tc .vmem S4096x256 .f32) → arg21.IsWhole → (arg22 : Memref sig .tc .hbm S4096x1024 .f32) → arg22.IsWhole → (arg23 : Memref sig .tc .vmem S1x512 .f32) → arg23.IsWhole → (arg24 : Memref sig .tc .vmem S1x512 .f32) → arg24.IsWhole → (arg25 : Memref sig .tc .vmem S8x128x128 .f32) → arg25.IsWhole → (arg26 : Memref sig .tc .vmem S128x128 .f32) → arg26.IsWhole → (arg27 : Memref sig .tc .vmem S8x128 .f32) → arg27.IsWhole → (arg28 : Memref sig .tc .vmem S128x512 .f32) → arg28.IsWhole → (arg29 : Memref sig .tc .vmem S4x128x256 .bf16) → arg29.IsWhole → (arg30 : Memref sig .tc .vmem S4x128x256 .bf16) → arg30.IsWhole → (arg31 : Memref sig .tc .vmem S4096x1024 .f32) → arg31.IsWhole → DmaSems sig S4 → γ) : γ :=
  f i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 (Memref.whole main_v5_2) (Memref.isWhole_whole _) A.a23 A.h23 A.a24 A.h24 A.a25 A.h25 A.a26 A.h26 A.a27 A.h27 A.a28 A.h28 A.a29 A.h29 A.a30 A.h30 accM (Memref.isWhole_whole _) cc0_scratch4

end Cert.Kernel2Ideal.Run

end
-- ==== Proof.MRows.lean ====
module

public import proofs.«01_k».proof.Proof.MMem
public import Idealize.ShloMosaic.Lib.Exec

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The copied result by its four row blocks

The accumulator and the result its blocks are copied to are held row block by row block, each beside the semaphore
its copy counts on. -/

/-- Row block 0. -/
abbrev rr0 : Rect S4096x1024 := Rect.unit (s := S4096x1024) ![0, 0] S1024x1024.size inb_S4096x1024_S1024x1024_0_0
/-- Row block 1. -/
abbrev rr1 : Rect S4096x1024 := Rect.unit (s := S4096x1024) ![1024, 0] S1024x1024.size inb_S4096x1024_S1024x1024_1024_0
/-- Row block 2. -/
abbrev rr2 : Rect S4096x1024 := Rect.unit (s := S4096x1024) ![2048, 0] S1024x1024.size inb_S4096x1024_S1024x1024_2048_0
/-- Row block 3. -/
abbrev rr3 : Rect S4096x1024 := Rect.unit (s := S4096x1024) ![3072, 0] S1024x1024.size inb_S4096x1024_S1024x1024_3072_0
/-- The four row blocks. -/
abbrev rr : Fin 4 → Rect S4096x1024 := fun | 0 => rr0 | 1 => rr1 | 2 => rr2 | 3 => rr3
/-- The result the body's own copies write. -/
abbrev hbM : Memref sig .tc .hbm S4096x1024 .f32 := Memref.whole main_v5_2
/-- Row block 0 of the accumulator, and of the copied result. -/
abbrev acc0 : Memref sig .tc .vmem S1024x1024 .f32 := accM.slice rr0 (fun _ => rfl)
abbrev hb0 : Memref sig .tc .hbm S1024x1024 .f32 := hbM.slice rr0 (fun _ => rfl)
/-- Row block 1 of the accumulator, and of the copied result. -/
abbrev acc1 : Memref sig .tc .vmem S1024x1024 .f32 := accM.slice rr1 (fun _ => rfl)
abbrev hb1 : Memref sig .tc .hbm S1024x1024 .f32 := hbM.slice rr1 (fun _ => rfl)
/-- Row block 2 of the accumulator, and of the copied result. -/
abbrev acc2 : Memref sig .tc .vmem S1024x1024 .f32 := accM.slice rr2 (fun _ => rfl)
abbrev hb2 : Memref sig .tc .hbm S1024x1024 .f32 := hbM.slice rr2 (fun _ => rfl)
/-- Row block 3 of the accumulator, and of the copied result. -/
abbrev acc3 : Memref sig .tc .vmem S1024x1024 .f32 := accM.slice rr3 (fun _ => rfl)
abbrev hb3 : Memref sig .tc .hbm S1024x1024 .f32 := hbM.slice rr3 (fun _ => rfl)

/-- A row block has stride one. -/
theorem rr_stride : ∀ k a, (rr k).stride a = 1 := by
  intro k a; fin_cases k <;> rfl
/-- Two row blocks are disjoint. -/
theorem rr_disj : ∀ k l, k ≠ l → Disjoint (rr k).set (rr l).set := by
  intro k l h
  fin_cases k <;> fin_cases l <;> first | exact absurd rfl h | exact Rect.unit_disjoint 0 (by decide)
/-- The row blocks cover the array. -/
theorem rr_cover : (Finset.univ : Finset (Fin 4)).biUnion (fun k => (rr k).set) = Finset.univ := by
  ext i
  simp only [Finset.mem_biUnion, Finset.mem_univ, true_and, iff_true]
  have h0 : (i 0).val < 4096 := (i 0).isLt
  have h1 : (i 1).val < 1024 := (i 1).isLt
  by_cases a : (i 0).val < 1024
  · exact ⟨0, Rect.mem_set_unit.mpr (Fin.forall_fin_two.mpr ⟨⟨Nat.zero_le _, by simpa using a⟩, ⟨Nat.zero_le _, by simpa using h1⟩⟩)⟩
  by_cases b : (i 0).val < 2048
  · exact ⟨1, Rect.mem_set_unit.mpr (Fin.forall_fin_two.mpr ⟨⟨by simpa using a, by simpa using b⟩, ⟨Nat.zero_le _, by simpa using h1⟩⟩)⟩
  by_cases d : (i 0).val < 3072
  · exact ⟨2, Rect.mem_set_unit.mpr (Fin.forall_fin_two.mpr ⟨⟨by simpa using b, by simpa using d⟩, ⟨Nat.zero_le _, by simpa using h1⟩⟩)⟩
  · exact ⟨3, Rect.mem_set_unit.mpr (Fin.forall_fin_two.mpr ⟨⟨by simpa using d, by simpa using h0⟩, ⟨Nat.zero_le _, by simpa using h1⟩⟩)⟩

/-- A place of a block lies in it. -/
theorem mem_emb (k : Fin 4) (j : (rr k).shape.Idx) : (rr k).emb j ∈ (rr k).set := (rr k).idx_mem j
/-- Four row blocks put one under another. -/
def glue (x0 x1 x2 x3 : Vec F S1024x1024 .f32) : Vec F S4096x1024 .f32 :=
  (rr 3).overlay ((rr 2).overlay ((rr 1).overlay ((rr 0).overlay (fun _ => Scalar.ofBits .f32 0#32) x0) x1) x2) x3
/-- Block 0 of the joined array. -/
theorem glue0 (x0 x1 x2 x3 : Vec F S1024x1024 .f32) (j : S1024x1024.Idx) : glue x0 x1 x2 x3 ((rr 0).emb j) = x0 j := by
  unfold glue
  rw [Rect.overlay_of_not_mem _ _ _ (Finset.disjoint_left.mp (rr_disj 0 3 (by decide)) (mem_emb 0 j)),
    Rect.overlay_of_not_mem _ _ _ (Finset.disjoint_left.mp (rr_disj 0 2 (by decide)) (mem_emb 0 j)),
    Rect.overlay_of_not_mem _ _ _ (Finset.disjoint_left.mp (rr_disj 0 1 (by decide)) (mem_emb 0 j))]
  exact (rr 0).overlay_emb _ x0 j
/-- Block 1 of the joined array. -/
theorem glue1 (x0 x1 x2 x3 : Vec F S1024x1024 .f32) (j : S1024x1024.Idx) : glue x0 x1 x2 x3 ((rr 1).emb j) = x1 j := by
  unfold glue
  rw [Rect.overlay_of_not_mem _ _ _ (Finset.disjoint_left.mp (rr_disj 1 3 (by decide)) (mem_emb 1 j)),
    Rect.overlay_of_not_mem _ _ _ (Finset.disjoint_left.mp (rr_disj 1 2 (by decide)) (mem_emb 1 j))]
  exact (rr 1).overlay_emb _ x1 j
/-- Block 2 of the joined array. -/
theorem glue2 (x0 x1 x2 x3 : Vec F S1024x1024 .f32) (j : S1024x1024.Idx) : glue x0 x1 x2 x3 ((rr 2).emb j) = x2 j := by
  unfold glue
  rw [Rect.overlay_of_not_mem _ _ _ (Finset.disjoint_left.mp (rr_disj 2 3 (by decide)) (mem_emb 2 j))]
  exact (rr 2).overlay_emb _ x2 j
/-- Block 3 of the joined array. -/
theorem glue3 (x0 x1 x2 x3 : Vec F S1024x1024 .f32) (j : S1024x1024.Idx) : glue x0 x1 x2 x3 ((rr 3).emb j) = x3 j :=
  (rr 3).overlay_emb _ x3 j

/-- A family over four, written out. -/
theorem four (P : Fin 4 → sProp 𝕄) : bigSep Finset.univ P = iprop(P 0 ∗ P 1 ∗ P 2 ∗ P 3) := by
  rw [BI.bigSep_eq_bigSepL_of_eq [0, 1, 2, 3] (by decide) (by decide)]; rfl

/-- The accumulator taken apart into its row blocks. -/
theorem acc_split (c : Dev nD) (X : Vec F S4096x1024 .f32) :
    (owns (c : Thread nD τ) accM fullShare X : sProp 𝕄) ⊢ iprop(owns (c : Thread nD τ) acc0 fullShare (fun j => X (rr0.emb j)) ∗ owns (c : Thread nD τ) acc1 fullShare (fun j => X (rr1.emb j))
      ∗ owns (c : Thread nD τ) acc2 fullShare (fun j => X (rr2.emb j)) ∗ owns (c : Thread nD τ) acc3 fullShare (fun j => X (rr3.emb j))) := by
  refine BIBase.Entails.trans (owns_rects (c : Thread nD τ) accM fullShare rr rr_stride rr_disj rr_cover X) ?_
  rw [four]; exact .rfl
/-- The copied result taken apart into its row blocks. -/
theorem hb_split (c : Dev nD) (X : Vec F S4096x1024 .f32) :
    (owns (c : Thread nD τ) hbM fullShare X : sProp 𝕄) ⊢ iprop(owns (c : Thread nD τ) hb0 fullShare (fun j => X (rr0.emb j)) ∗ owns (c : Thread nD τ) hb1 fullShare (fun j => X (rr1.emb j))
      ∗ owns (c : Thread nD τ) hb2 fullShare (fun j => X (rr2.emb j)) ∗ owns (c : Thread nD τ) hb3 fullShare (fun j => X (rr3.emb j))) := by
  refine BIBase.Entails.trans (owns_rects (c : Thread nD τ) hbM fullShare rr rr_stride rr_disj rr_cover X) ?_
  rw [four]; exact .rfl
/-- The row blocks put together. -/
theorem acc_join (c : Dev nD) (x0 x1 x2 x3 : Vec F S1024x1024 .f32) :
    iprop(owns (c : Thread nD τ) acc0 fullShare x0 ∗ owns (c : Thread nD τ) acc1 fullShare x1 ∗ owns (c : Thread nD τ) acc2 fullShare x2 ∗ owns (c : Thread nD τ) acc3 fullShare x3)
      ⊢ (owns (c : Thread nD τ) accM fullShare (glue x0 x1 x2 x3) : sProp 𝕄) := by
  refine BIBase.Entails.trans ?_ (owns_of_rects (Val := Elt F) (c : Thread nD τ) accM fullShare rr rr_stride rr_disj rr_cover (glue x0 x1 x2 x3))
  rw [four]
  have e0 : (fun j => glue x0 x1 x2 x3 ((rr 0).emb j)) = x0 := funext (glue0 x0 x1 x2 x3)
  have e1 : (fun j => glue x0 x1 x2 x3 ((rr 1).emb j)) = x1 := funext (glue1 x0 x1 x2 x3)
  have e2 : (fun j => glue x0 x1 x2 x3 ((rr 2).emb j)) = x2 := funext (glue2 x0 x1 x2 x3)
  have e3 : (fun j => glue x0 x1 x2 x3 ((rr 3).emb j)) = x3 := funext (glue3 x0 x1 x2 x3)
  rw [e0, e1, e2, e3]
/-- The row blocks put together. -/
theorem hb_join (c : Dev nD) (x0 x1 x2 x3 : Vec F S1024x1024 .f32) :
    iprop(owns (c : Thread nD τ) hb0 fullShare x0 ∗ owns (c : Thread nD τ) hb1 fullShare x1 ∗ owns (c : Thread nD τ) hb2 fullShare x2 ∗ owns (c : Thread nD τ) hb3 fullShare x3)
      ⊢ (owns (c : Thread nD τ) hbM fullShare (glue x0 x1 x2 x3) : sProp 𝕄) := by
  refine BIBase.Entails.trans ?_ (owns_of_rects (Val := Elt F) (c : Thread nD τ) hbM fullShare rr rr_stride rr_disj rr_cover (glue x0 x1 x2 x3))
  rw [four]
  have e0 : (fun j => glue x0 x1 x2 x3 ((rr 0).emb j)) = x0 := funext (glue0 x0 x1 x2 x3)
  have e1 : (fun j => glue x0 x1 x2 x3 ((rr 1).emb j)) = x1 := funext (glue1 x0 x1 x2 x3)
  have e2 : (fun j => glue x0 x1 x2 x3 ((rr 2).emb j)) = x2 := funext (glue2 x0 x1 x2 x3)
  have e3 : (fun j => glue x0 x1 x2 x3 ((rr 3).emb j)) = x3 := funext (glue3 x0 x1 x2 x3)
  rw [e0, e1, e2, e3]

/-! ## A row block at rest and on its way -/

/-- A copy on its way: it delivers both ends at what was sent. -/
def Fly (c : Dev nD) (src : Memref sig .tc .vmem S1024x1024 .f32) (dst : Memref sig .tc .hbm S1024x1024 .f32) (sm : SemLoc sig) (x : Vec F S1024x1024 .f32) : sProp 𝕄 :=
  Transfers.Flight countersEmb (c : Thread nD τ) sm () (dst.view.amount sm) iprop(owns (c : Thread nD τ) dst fullShare x ∗ owns (c : Thread nD τ) src fullShare x)
/-- A row block at rest. -/
def Rest (c : Dev nD) (src : Memref sig .tc .vmem S1024x1024 .f32) (dst : Memref sig .tc .hbm S1024x1024 .f32) (sm : SemLoc sig) (x y : Vec F S1024x1024 .f32) : sProp 𝕄 :=
  iprop(owns (c : Thread nD τ) src fullShare x ∗ owns (c : Thread nD τ) dst fullShare y ∗ semVal ((c : Thread nD τ), sm) 0)

/-- One of the held assertions is exchanged for another. -/
def Swap (G P P' G' : sProp 𝕄) : Prop := G ⊢ iprop(P ∗ (P' -∗ G'))
/-- Swapping the only part. -/
theorem swap_last {P P' : sProp 𝕄} : Swap P P P' P' := by
  unfold Swap; iintro HP; isplitl [HP]; · iexact HP
  iintro HP; iexact HP
/-- Swapping the first part. -/
theorem swap_here {P P' R : sProp 𝕄} : Swap iprop(P ∗ R) P P' iprop(P' ∗ R) := by
  unfold Swap; iintro ⟨HP, HR⟩; isplitl [HP]; · iexact HP
  iintro HP; isplitl [HP]; · iexact HP
  iexact HR
/-- Swapping a later part. -/
theorem swap_next {G P P' R R' : sProp 𝕄} (h : Swap R P P' R') : Swap iprop(G ∗ R) P P' iprop(G ∗ R') := by
  unfold Swap at h ⊢; iintro ⟨HG, HR⟩
  ihave H := h $$ HR
  icases H with ⟨HP, HR⟩
  isplitl [HP]; · iexact HP
  iintro HP; isplitl [HG]; · iexact HG
  iapply HR; iexact HP
/-- Swapping within the first part. -/
theorem swap_in {T T' P P' R : sProp 𝕄} (h : Swap T P P' T') : Swap iprop(T ∗ R) P P' iprop(T' ∗ R) := by
  unfold Swap at h ⊢; iintro ⟨HT, HR⟩
  ihave H := h $$ HT
  icases H with ⟨HP, HT⟩
  isplitl [HP]; · iexact HP
  iintro HP; isplitr [HR]; · iapply HT; iexact HP
  iexact HR
/-- Picking within the first part. -/
theorem sel_in {T P R : sProp 𝕄} (h : Sel T P) : Sel iprop(T ∗ R) P := swap_in h
/-- Swapping a resting row block's contents. -/
theorem rest_row {c : Dev nD} {src : Memref sig .tc .vmem S1024x1024 .f32} {dst : Memref sig .tc .hbm S1024x1024 .f32} {sm : SemLoc sig} {x x' y : Vec F S1024x1024 .f32} :
    Swap (F := F) (Rest c src dst sm x y) (owns (c : Thread nD τ) src fullShare x) (owns (c : Thread nD τ) src fullShare x') (Rest c src dst sm x' y) := swap_here

variable {α β : Type} {c : Dev nD}

/-- Weaker at the start and stronger at the end. -/
theorem tri_conseq {P P' : sProp 𝕄} {p : Prog (TpuEff nD τ sig (Elt F) Λ₀ .tc) α} {Q Q' : α → sProp 𝕄} (h : Tri c P p Q) (hP : P' ⊢ P) (hQ : ∀ a, Q a ⊢ Q' a) : Tri c P' p Q' := fun K => by
  refine BIBase.Entails.trans ?_ (h K)
  iintro ⟨HP, HK⟩
  isplitl [HP]; · iapply hP; iexact HP
  iintro %a HQ
  iapply HK
  iapply (hQ a); iexact HQ

/-- One program after another, the first telling something of its answer. -/
theorem tri_bind_fact {P G : sProp 𝕄} {p : Prog (TpuEff nD τ sig (Elt F) Λ₀ .tc) α} {k : α → Prog (TpuEff nD τ sig (Elt F) Λ₀ .tc) β} {φ : α → Prop} {S : β → sProp 𝕄}
    (h : Tri c P p (fun a => iprop(⌜φ a⌝ ∗ G))) (hk : ∀ a, φ a → Tri c G (k a) S) : Tri c P (p >>= k) S := fun K => by
  rw [wp_bind]
  refine BIBase.Entails.trans ?_ (h _)
  iintro ⟨HP, HK⟩
  isplitl [HP]; · iexact HP
  iintro %a ⟨%ha, HQ⟩
  iapply (hk a ha K)
  isplitl [HQ]; · iexact HQ
  iexact HK

/-- The answer given at once, with what is known of it. -/
theorem tri_pure_fact {G : sProp 𝕄} {a : α} {φ : α → Prop} (h : φ a) : Tri (F := F) c G (pure a) (fun a => iprop(⌜φ a⌝ ∗ G)) := fun K => by
  rw [wp_pure]
  iintro ⟨HP, HK⟩
  imodintro
  iapply HK
  isplitr; · ipureintro; exact h
  iexact HP

/-- A load whose answer is kept. -/
theorem tri_load {G : sProp 𝕄} {cs : CoreSpace} {S : Shape} {e : EltTy} {M : Memref sig .tc cs S e} {x : S.Idx → Elt F e} {r : LoadRect S} {hl : M.view.LoadsAt r}
    {k : (r.shape.Idx → Elt F e) → Prog (TpuEff nD τ sig (Elt F) Λ₀ .tc) β} {Q : β → sProp 𝕄}
    (h : Sel G (owns (c : Thread nD τ) M fullShare x)) (hk : Tri c G (k (fun j => x (r.idx j))) Q) : Tri c G (Prog.lift (.load M r hl) >>= k) Q := fun K => by
  rw [wp_bind]
  refine (sep_mono_left h).trans ?_
  unfold owns
  iintro ⟨⟨⟨%f, %hf, H⟩, HG⟩, HK⟩
  iapply (wp_load Variants.none (c : Thread nD τ) none Set.univ (S := M.view.set) (q := fullShare) (f := f) (M.view.setOn_subset_set _)) $$ H
  iintro H
  rw [wp_ret]; imodintro
  have e : M.view.readAt (Elt F) r f = fun j => x (r.idx j) := by rw [← hf]; rfl
  rw [e]
  iapply (hk K)
  isplitr [HK]
  · iapply HG
    iexists f; isplitr; · ipureintro; exact hf
    iexact H
  · iexact HK

/-- A load of the held row block. -/
theorem tri_load_row {G : sProp 𝕄} {cs : CoreSpace} {S : Shape} {e : EltTy} {M : Memref sig .tc cs S e} {r : Rect S} {hr : ∀ a, r.stride a = 1} {x : r.shape.Idx → Elt F e} {hl : M.view.LoadsAt r.toLoadRect}
    {k : (r.shape.Idx → Elt F e) → Prog (TpuEff nD τ sig (Elt F) Λ₀ .tc) β} {Q : β → sProp 𝕄}
    (h : Sel G (owns (c : Thread nD τ) (M.slice r hr) fullShare x)) (hk : Tri c G (k x) Q) : Tri c G (Prog.lift (.load M r.toLoadRect hl) >>= k) Q := fun K => by
  rw [wp_bind]
  refine (sep_mono_left h).trans ?_
  unfold owns
  iintro ⟨⟨⟨%f, %hf, H⟩, HG⟩, HK⟩
  iapply (wp_load_rect Variants.none (c : Thread nD τ) none Set.univ (S := (M.view.slice r).set) (q := fullShare) (f := f) subset_rfl) $$ H
  iintro H
  rw [wp_ret]; imodintro
  have e : (M.access r).read (Elt F) f = x := hf
  rw [e]
  iapply (hk K)
  isplitr [HK]
  · iapply HG
    iexists f; isplitr; · ipureintro; exact hf
    iexact H
  · iexact HK

/-- A store over the held row block. -/
theorem tri_store_row {G G' : sProp 𝕄} {cs : CoreSpace} {S : Shape} {e : EltTy} {M : Memref sig .tc cs S e} {r : Rect S} {hr : ∀ a, r.stride a = 1} {x w : r.shape.Idx → Elt F e}
    {hx : (M.access r).Stores Finset.univ} {hm : Finset.univ = Finset.univ ∨ ∀ a, r.stride a = 1}
    {k : PUnit → Prog (TpuEff nD τ sig (Elt F) Λ₀ .tc) β} {Q : β → sProp 𝕄}
    (h : Swap G (owns (c : Thread nD τ) (M.slice r hr) fullShare x) (owns (c : Thread nD τ) (M.slice r hr) fullShare w) G') (hk : Tri c G' (k ⟨⟩) Q) :
    Tri c G (Prog.lift (.store M r w Finset.univ hx hm) >>= k) Q := fun K => by
  rw [wp_bind]
  refine (sep_mono_left h).trans ?_
  unfold owns
  iintro ⟨⟨⟨%f, %hf, H⟩, HG⟩, HK⟩
  iapply (wp_store Variants.none (c : Thread nD τ) none Set.univ (S := (M.view.slice r).set) (f := f) (w := w) (Mk := Finset.univ) (by rw [View.setOn_univ])) $$ H
  iintro H
  rw [wp_ret]; imodintro
  iapply (hk K)
  isplitr [HK]
  · iapply HG
    iexists _; isplitr; · ipureintro; exact View.read_write_univ (v := M.access r) f w
    iexact H
  · iexact HK

/-- A store over a whole buffer held at anything. -/
theorem tri_store_whole {G G' : sProp 𝕄} {cs : CoreSpace} {S : Shape} {e : EltTy} {M : Memref sig .tc cs S e} {r : Rect S} {w : r.shape.Idx → Elt F e} {y : S.Idx → Elt F e}
    {hx : (M.access r).Stores Finset.univ} {hm : Finset.univ = Finset.univ ∨ ∀ a, r.stride a = 1}
    {k : PUnit → Prog (TpuEff nD τ sig (Elt F) Λ₀ .tc) β} {Q : β → sProp 𝕄}
    (hy : ∀ f, M.view.read (Elt F) ((M.access r).write (Elt F) f w Finset.univ) = y)
    (h : Swap G (Any c M) (owns (c : Thread nD τ) M fullShare y) G') (hk : Tri c G' (k ⟨⟩) Q) :
    Tri c G (Prog.lift (.store M r w Finset.univ hx hm) >>= k) Q := fun K => by
  rw [wp_bind]
  refine (sep_mono_left h).trans ?_
  unfold Any owns
  iintro ⟨⟨⟨%d, %f, %hf, H⟩, HG⟩, HK⟩
  iapply (wp_store (m := M) (r := r) Variants.none (c : Thread nD τ) none Set.univ (S := M.view.set) (f := f) (w := w) (Mk := Finset.univ) (by rw [View.setOn_univ, View.set_slice]; exact M.view.setOn_subset_set _)) $$ H
  iintro H
  rw [wp_ret]; imodintro
  iapply (hk K)
  isplitr [HK]
  · iapply HG
    iexists _; isplitr; · ipureintro; exact hy f
    iexact H
  · iexact HK

/-- A row block is sent off. -/
theorem tri_send {G G' : sProp 𝕄} {src : Memref sig .tc .vmem S1024x1024 .f32} {dst : Memref sig .tc .hbm S1024x1024 .f32} {sm : SemLoc sig} {x y : Vec F S1024x1024 .f32}
    {hsrc : src.view.WordExact} {hdst : dst.view.WordExact} {hsem : DmaTarget.Typed (nD := nD) (τ := τ) (p := .tc) .vmem sm (.here dst)}
    {k : PUnit → Prog (TpuEff nD τ sig (Elt F) Λ₀ .tc) β} {Q : β → sProp 𝕄}
    (h : Swap G (Rest c src dst sm x y) (Fly c src dst sm x) G') (hk : Tri c G' (k ⟨⟩) Q) :
    Tri c G (Prog.lift (.enqueueDma src (.here dst) sm hsrc hdst hsem) >>= k) Q := fun K => by
  rw [wp_bind]
  refine (sep_mono_left h).trans ?_
  unfold Rest owns
  iintro ⟨⟨⟨⟨%f, %hf, Hs⟩, ⟨%g, %hg, Hd⟩, Hq⟩, HG⟩, HK⟩
  iapply (Transfers.wp_dmaLocal countersEmb Variants.none (c : Thread nD τ) none (q := fullShare) (fs := f) (fd := g) (Sd := dst.view.set) () (dst.view.amount sm) rfl (View.amount_pos _ _ (by decide)) subset_rfl) $$ [Hs Hd Hq]
  · isplitl [Hs]; · iexact Hs
    isplitl [Hd]; · iexact Hd
    iexact Hq
  iintro HF
  rw [wp_ret]; imodintro
  iapply (hk K)
  isplitr [HK]
  · iapply HG
    unfold Fly
    iapply (Transfers.Flight_mono countersEmb (c : Thread nD τ) ?_) $$ HF
    unfold owns
    iintro ⟨Hd, Hs⟩
    isplitl [Hd]
    · iexists _; isplitr; · ipureintro; exact (View.read_write_univ (v := dst.view) g _).trans hf
      iexact Hd
    · iexists f; isplitr; · ipureintro; exact hf
      iexact Hs
  · iexact HK

/-- What the core still owes other cores: nothing, whatever it has waited for. -/
def Ow (c : Dev nD) : sProp 𝕄 := iprop(∃ W, owes (c : Thread nD τ) 0 W)

/-- A row block sent off has arrived. -/
theorem tri_arrive {R R' : sProp 𝕄} {src src' : Memref sig .tc .vmem S1024x1024 .f32} {dst : Memref sig .tc .hbm S1024x1024 .f32} {sem : DmaSem sig} {x : Vec F S1024x1024 .f32}
    {hsrc : src'.view.WordExact} {hdst : dst.view.WordExact}
    {k : PUnit → Prog (TpuEff nD τ sig (Elt F) Λ₀ .tc) β} {Q : β → sProp 𝕄}
    (h : Swap R (Fly c src dst (.dma sem) x) (Rest c src dst (.dma sem) x x) R') (hk : Tri c iprop(Ow c ∗ R') (k ⟨⟩) Q) :
    Tri c iprop(Ow c ∗ R) (Prog.lift (.waitDma2 sem src' dst hsrc hdst) >>= k) Q := fun K => by
  rw [wp_bind]
  refine (sep_mono_left (sep_mono_right h)).trans ?_
  unfold Fly Ow
  iintro ⟨⟨⟨%W, HW⟩, HF, HG⟩, HK⟩
  iapply (Transfers.wp_waitLocal countersEmb Variants.none (c : Thread nD τ) none () (N := dst.view.amount (.dma sem)) rfl (W := W)) $$ [HF HW]
  · isplitl [HF]; · iexact HF
    iexact HW
  iintro ⟨⟨Hd, Hs⟩, Hq, HW⟩
  rw [wp_ret]; imodintro
  iapply (hk K)
  isplitr [HK]
  · isplitl [HW]
    · unfold Ow; iexists _; iexact HW
    iapply HG
    unfold Rest
    isplitl [Hs]; · iexact Hs
    isplitl [Hd]; · iexact Hd
    iexact Hq
  · iexact HK

end Cert.Kernel2Ideal.Run

end
-- ==== Proof.MSpec8.lean ====
module

public import proofs.«01_k».proof.Proof.MRows

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The stretches that work on the copied result -/

/-- Picks a resting row block. -/
theorem rest_sel {c : Dev nD} {src : Memref sig .tc .vmem S1024x1024 .f32} {dst : Memref sig .tc .hbm S1024x1024 .f32} {sm : SemLoc sig} {x y : Vec F S1024x1024 .f32} :
    Sel (Rest (F := F) c src dst sm x y) (owns (c : Thread nD τ) src fullShare x) := sel_here
/-- A row block after its last store of a grid point: sent off at the last point, at rest at the others. -/
def Aft (a : BitVec 32) (c : Dev nD) (src : Memref sig .tc .vmem S1024x1024 .f32) (dst : Memref sig .tc .hbm S1024x1024 .f32) (sm : SemLoc sig) (x y : Vec F S1024x1024 .f32) : sProp 𝕄 :=
  if a = 7#32 then Fly c src dst sm x else Rest c src dst sm x y
/-- A branch whose test holds. -/
theorem tri_yes {α : Type} {c : Dev nD} {p : Prop} [Decidable p] {P : sProp 𝕄} {Q : α → sProp 𝕄} {t : p → Prog (TpuEff nD τ sig (Elt F) Λ₀ .tc) α} {e : ¬ p → Prog (TpuEff nD τ sig (Elt F) Λ₀ .tc) α}
    (h : p) (ht : Tri c P (t h) Q) : Tri c P (dite p t e) Q := by rw [dif_pos h]; exact ht
/-- A branch whose test fails. -/
theorem tri_no {α : Type} {c : Dev nD} {p : Prop} [Decidable p] {P : sProp 𝕄} {Q : α → sProp 𝕄} {t : p → Prog (TpuEff nD τ sig (Elt F) Λ₀ .tc) α} {e : ¬ p → Prog (TpuEff nD τ sig (Elt F) Λ₀ .tc) α}
    (h : ¬ p) (ht : Tri c P (e h) Q) : Tri c P (dite p t e) Q := by rw [dif_neg h]; exact ht
/-- The test for the last step. -/
theorem last_cond (a : BitVec 32) : (Scalar.cmpi .ne (Scalar.extui (Scalar.cmpi .eq a 7#32) : BitVec 32) 0#32 = 1#1) = (a = 7#32) := by
  by_cases h : a = 7#32
  · subst h; simp; decide
  · have : Scalar.cmpi .eq a 7#32 = 0#1 := by
      change BitVec.ofBool (a == 7#32) = 0#1
      rw [beq_eq_false_iff_ne.mpr h]; rfl
    rw [this]; simp [h]; decide

/-- A column block of the left factor. -/
abbrev col0 (X : Ins F) : Vec F S512x1024 .bf16 := fun j => X.x18 ((Rect.unit (s := S512x4096) ![0, 0] S512x1024.size inb_S512x4096_S512x1024_0_0).toLoadRect.idx j)
abbrev col1 (X : Ins F) : Vec F S512x1024 .bf16 := fun j => X.x18 ((Rect.unit (s := S512x4096) ![0, 1024] S512x1024.size inb_S512x4096_S512x1024_0_1024).toLoadRect.idx j)
abbrev col2 (X : Ins F) : Vec F S512x1024 .bf16 := fun j => X.x18 ((Rect.unit (s := S512x4096) ![0, 2048] S512x1024.size inb_S512x4096_S512x1024_0_2048).toLoadRect.idx j)
abbrev col3 (X : Ins F) : Vec F S512x1024 .bf16 := fun j => X.x18 ((Rect.unit (s := S512x4096) ![0, 3072] S512x1024.size inb_S512x4096_S512x1024_0_3072).toLoadRect.idx j)
/-- The right factor. -/
abbrev fac (X : Ins F) : Vec F S512x1024 .bf16 := fun j => X.x19 ((Rect.unit (s := S512x1024) ![0, 0] S512x1024.size inb_S512x1024_S512x1024_0_0).toLoadRect.idx j)
/-- Row block 0 after a grid point. -/
abbrev nxt0 (X : Ins F) (x : Vec F S1024x1024 .f32) : Vec F S1024x1024 .f32 := k0_pay67 (col0 X) x (fac X)
/-- Row block 1 after a grid point. -/
abbrev nxt1 (X : Ins F) (x : Vec F S1024x1024 .f32) : Vec F S1024x1024 .f32 := k0_pay267 (k0_pay266 (col1 X)) x (fac X)
/-- Row block 2 after a grid point. -/
abbrev nxt2 (X : Ins F) (x : Vec F S1024x1024 .f32) : Vec F S1024x1024 .f32 := k0_pay468 (col2 X) x (fac X)
/-- Row block 3 after a grid point. -/
abbrev nxt3 (X : Ins F) (x : Vec F S1024x1024 .f32) : Vec F S1024x1024 .f32 := k0_pay667 x (k0_pay665 (col3 X)) (k0_pay666 (fac X))
/-- Stretch 8 of the body: row block 0 is stored, and at the last point sent off. -/
theorem tri_part8 {c : Dev nD} {A : Args} {X : Ins F} (i : grid0.Coords) {x y : Vec F S1024x1024 .f32} (arg0 : BitVec 32) (v39 : FVec F S256x128 .bf16) (v49 : FVec F S256x128 .bf16) (v51 : FVec F S256x128 .bf16) (v53 : FVec F S256x128 .bf16) (v55 : FVec F S256x128 .bf16) (v59 : Vec F S128x128 .bf16) (v60 : Vec F S128x512 .bf16) (v61 : FVec F S128x128 .bf16) (v62 : FVec F S128x128 .bf16) (v63 : FVec F S128x128 .bf16) (v64 : FVec F S128x128 .bf16) :
    Tri (F := F) c iprop(Mem c A X ∗ Rest c acc0 hb0 (.dma 41) x y) (ap i A (k0_part8 (F := F)) arg0 v39 v49 v51 v53 v55 v59 v60 v61 v62 v63 v64) (fun _ => iprop(Mem c A X ∗ Aft arg0 c acc0 hb0 (.dma 41) (nxt0 X x) y)) := by
  unfold ap; rw [k0_part8_eq_skeleton]; unfold k0_part8_skel
  refine tri_bind (ok_load (sel_in sel3)) (fun _ => ?_)
  refine tri_load (sel_in sel18) ?_
  refine tri_load_row (sel_next (rest_sel (F := F))) ?_
  refine tri_load (sel_in sel19) ?_
  refine tri_load_row (sel_next (rest_sel (F := F))) ?_
  refine tri_store_row (swap_next (rest_row (F := F))) ?_
  by_cases hl : arg0 = 7#32
  · unfold Aft; rw [if_pos hl]
    refine tri_yes (cast (last_cond arg0).symm hl) ?_
    refine tri_send (swap_next swap_last) ?_
    refine tri_bind (ok_load (sel_in sel1)) (fun _ => ?_)
    exact ok_pure _
  · unfold Aft; rw [if_neg hl]
    refine tri_no (fun h => hl (cast (last_cond arg0) h)) ?_
    refine tri_bind (ok_load (sel_in sel1)) (fun _ => ?_)
    exact ok_pure _

/-- Stretch 31 of the body: row block 1 is stored, and at the last point sent off. -/
theorem tri_part31 {c : Dev nD} {A : Args} {X : Ins F} (i : grid0.Coords) {x y : Vec F S1024x1024 .f32} (arg0 : BitVec 32)  :
    Tri (F := F) c iprop(Mem c A X ∗ Rest c acc1 hb1 (.dma 42) x y) (ap i A (k0_part31 (F := F)) arg0 (k0_pay266 (col1 X))) (fun _ => iprop(Mem c A X ∗ Aft arg0 c acc1 hb1 (.dma 42) (nxt1 X x) y)) := by
  unfold ap; rw [k0_part31_eq_skeleton]; unfold k0_part31_skel
  refine tri_load_row (sel_next (rest_sel (F := F))) ?_
  refine tri_load (sel_in sel19) ?_
  refine tri_load_row (sel_next (rest_sel (F := F))) ?_
  refine tri_store_row (swap_next (rest_row (F := F))) ?_
  by_cases hl : arg0 = 7#32
  · unfold Aft; rw [if_pos hl]
    refine tri_yes (cast (last_cond arg0).symm hl) ?_
    refine tri_send (swap_next swap_last) ?_
    refine tri_bind (ok_load (sel_in sel1)) (fun _ => ?_)
    exact ok_pure _
  · unfold Aft; rw [if_neg hl]
    refine tri_no (fun h => hl (cast (last_cond arg0) h)) ?_
    refine tri_bind (ok_load (sel_in sel1)) (fun _ => ?_)
    exact ok_pure _

/-- Stretch 53 of the body: row block 2 is stored, and at the last point sent off. -/
theorem tri_part53 {c : Dev nD} {A : Args} {X : Ins F} (i : grid0.Coords) {x y : Vec F S1024x1024 .f32} (arg0 : BitVec 32) (v1889 : FVec F S256x128 .bf16) (v1891 : FVec F S256x128 .bf16) (v1893 : FVec F S256x128 .bf16) (v1895 : FVec F S256x128 .bf16) (v1900 : Vec F S128x512 .bf16) (v1902 : FVec F S128x128 .bf16) (v1903 : FVec F S128x128 .bf16) (v1904 : FVec F S128x128 .bf16) :
    Tri (F := F) c iprop(Mem c A X ∗ Rest c acc2 hb2 (.dma 43) x y) (ap i A (k0_part53 (F := F)) arg0 v1889 v1891 v1893 v1895 v1900 v1902 v1903 v1904) (fun _ => iprop(Mem c A X ∗ Aft arg0 c acc2 hb2 (.dma 43) (nxt2 X x) y)) := by
  unfold ap; rw [k0_part53_eq_skeleton]; unfold k0_part53_skel
  refine tri_bind (ok_load (sel_in sel3)) (fun _ => ?_)
  refine tri_load (sel_in sel18) ?_
  refine tri_load_row (sel_next (rest_sel (F := F))) ?_
  refine tri_load (sel_in sel19) ?_
  refine tri_load_row (sel_next (rest_sel (F := F))) ?_
  refine tri_store_row (swap_next (rest_row (F := F))) ?_
  by_cases hl : arg0 = 7#32
  · unfold Aft; rw [if_pos hl]
    refine tri_yes (cast (last_cond arg0).symm hl) ?_
    refine tri_send (swap_next swap_last) ?_
    refine tri_bind (ok_load (sel_in sel1)) (fun _ => ?_)
    exact ok_pure _
  · unfold Aft; rw [if_neg hl]
    refine tri_no (fun h => hl (cast (last_cond arg0) h)) ?_
    refine tri_bind (ok_load (sel_in sel1)) (fun _ => ?_)
    exact ok_pure _

/-- Stretch 76 of the body: row block 3 is stored, and at the last point sent off. -/
theorem tri_part76 {c : Dev nD} {A : Args} {X : Ins F} (i : grid0.Coords) {x y : Vec F S1024x1024 .f32} (arg0 : BitVec 32) :
    Tri (F := F) c iprop(Mem c A X ∗ Rest c acc3 hb3 (.dma 44) x y) (ap i A (k0_part76 (F := F)) arg0 x (k0_pay665 (col3 X)) (k0_pay666 (fac X))) (fun _ => iprop(Mem c A X ∗ Aft arg0 c acc3 hb3 (.dma 44) (nxt3 X x) y)) := by
  unfold ap; rw [k0_part76_eq_skeleton]; unfold k0_part76_skel
  refine tri_load_row (sel_next (rest_sel (F := F))) ?_
  refine tri_store_row (swap_next (rest_row (F := F))) ?_
  by_cases hl : arg0 = 7#32
  · unfold Aft; rw [if_pos hl]
    refine tri_yes (cast (last_cond arg0).symm hl) ?_
    refine tri_send (swap_next swap_last) ?_
    refine tri_bind (ok_load (sel_in sel1)) (fun _ => ?_)
    exact ok_pure _
  · unfold Aft; rw [if_neg hl]
    refine tri_no (fun h => hl (cast (last_cond arg0) h)) ?_
    refine tri_bind (ok_load (sel_in sel1)) (fun _ => ?_)
    exact ok_pure _

end Cert.Kernel2Ideal.Run

end
-- ==== Proof.MParts.lean ====
module

public import proofs.«01_k».proof.Proof.MMem

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Stretch 7 of the body keeps every buffer. -/
theorem ok_part7 {c : Dev nD} {A : Args} {X : Ins F} (i v23 v28 v29 v30 v31 v33) :
    Ok (F := F) c (Mem c A X) (ap i A (k0_part7 (F := F)) v23 v28 v29 v30 v31 v33) := by
  unfold ap; rw [k0_part7_eq_skeleton]; unfold k0_part7_skel
  refine tri_bind (ok_load sel6) (fun _ => ?_)
  refine tri_bind (ok_load sel3) (fun _ => ?_)
  refine tri_bind (ok_load sel3) (fun _ => ?_)
  refine tri_bind (ok_load sel3) (fun _ => ?_)
  refine tri_bind (ok_load sel3) (fun _ => ?_)
  refine tri_bind (ok_load sel8) (fun _ => ?_)
  exact ok_pure _

/-- Stretch 9 of the body keeps every buffer. -/
theorem ok_part9 {c : Dev nD} {A : Args} {X : Ins F} (i v102 v103 v104) :
    Ok (F := F) c (Mem c A X) (ap i A (k0_part9 (F := F)) v102 v103 v104) := by
  unfold ap; rw [k0_part9_eq_skeleton]; unfold k0_part9_skel
  refine tri_bind (ok_load sel2) (fun _ => ?_)
  exact ok_pure _

/-- Stretch 10 of the body keeps every buffer. -/
theorem ok_part10 {c : Dev nD} {A : Args} {X : Ins F} (i v15 v134 v135 v142 v147) :
    Ok (F := F) c (Mem c A X) (ap i A (k0_part10 (F := F)) v15 v134 v135 v142 v147) := by
  unfold ap; rw [k0_part10_eq_skeleton]; unfold k0_part10_skel
  refine tri_bind (ok_load sel14) (fun _ => ?_)
  refine tri_bind (ok_load' sel29) (fun _ => ?_)
  exact ok_pure _

/-- Stretch 11 of the body keeps every buffer. -/
theorem ok_part11 {c : Dev nD} {A : Args} {X : Ins F} (i v2 v186 v188 v189 cst_88) :
    Ok (F := F) c (Mem c A X) (ap i A (k0_part11 (F := F)) v2 v186 v188 v189 cst_88) := by
  unfold ap; rw [k0_part11_eq_skeleton]; unfold k0_part11_skel
  refine tri_bind (ok_load' sel29) (fun _ => ?_)
  refine tri_bind (ok_load' sel29) (fun _ => ?_)
  refine tri_bind (ok_load' sel29) (fun _ => ?_)
  exact ok_pure _

/-- Stretch 12 of the body keeps every buffer. -/
theorem ok_part12 {c : Dev nD} {A : Args} {X : Ins F} (i v21 v65 v66 v67 v68 v69 v70 v227 v228) :
    Ok (F := F) c (Mem c A X) (ap i A (k0_part12 (F := F)) v21 v65 v66 v67 v68 v69 v70 v227 v228) := by
  unfold ap; rw [k0_part12_eq_skeleton]; unfold k0_part12_skel
  exact ok_pure _

/-- Stretch 13 of the body keeps every buffer. -/
theorem ok_part13 {c : Dev nD} {A : Args} {X : Ins F} (i v7 v8 v9 v10 v11 v12 v13 v14 v71 v72 v245 v249 v253 v257 v261 v265 v269 cst_125) :
    Ok (F := F) c (Mem c A X) (ap i A (k0_part13 (F := F)) v7 v8 v9 v10 v11 v12 v13 v14 v71 v72 v245 v249 v253 v257 v261 v265 v269 cst_125) := by
  unfold ap; rw [k0_part13_eq_skeleton]; unfold k0_part13_skel
  exact ok_pure _

/-- Stretch 14 of the body keeps every buffer. -/
theorem ok_part14 {c : Dev nD} {A : Args} {X : Ins F} (i v7 v8 v9 v10 v11 v12 v13 v14 v261 v265 v269 v273 v277 v281 v285 v289 v293 v297 v301 v305 v309 v312 v315 v318) :
    Ok (F := F) c (Mem c A X) (ap i A (k0_part14 (F := F)) v7 v8 v9 v10 v11 v12 v13 v14 v261 v265 v269 v273 v277 v281 v285 v289 v293 v297 v301 v305 v309 v312 v315 v318) := by
  unfold ap; rw [k0_part14_eq_skeleton]; unfold k0_part14_skel
  exact ok_pure _

/-- Stretch 15 of the body keeps every buffer. -/
theorem ok_part15 {c : Dev nD} {A : Args} {X : Ins F} (i v73 v74 v75 v312 v315 v318 v321 v324 v327 v330 v333 v345 v348 v351 v354 v357 v362 v367 v372) :
    Ok (F := F) c (Mem c A X) (ap i A (k0_part15 (F := F)) v73 v74 v75 v312 v315 v318 v321 v324 v327 v330 v333 v345 v348 v351 v354 v357 v362 v367 v372) := by
  unfold ap; rw [k0_part15_eq_skeleton]; unfold k0_part15_skel
  exact ok_pure _

/-- Stretch 16 of the body keeps every buffer. -/
theorem ok_part16 {c : Dev nD} {A : Args} {X : Ins F} (i v73 v74 v75 v76 v77 v78 v79 v80 v399 v401 v403 v405 v407 v409 v411 v413 v416 v419 v420) :
    Ok (F := F) c (Mem c A X) (ap i A (k0_part16 (F := F)) v73 v74 v75 v76 v77 v78 v79 v80 v399 v401 v403 v405 v407 v409 v411 v413 v416 v419 v420) := by
  unfold ap; rw [k0_part16_eq_skeleton]; unfold k0_part16_skel
  exact ok_pure _

/-- Stretch 17 of the body keeps every buffer. -/
theorem ok_part17 {c : Dev nD} {A : Args} {X : Ins F} (i v2 v79 v80 v115 v133 v196 v399 v401 v403 v405 v407 v409 v411 v413 v434 v437 v469) :
    Ok (F := F) c (Mem c A X) (ap i A (k0_part17 (F := F)) v2 v79 v80 v115 v133 v196 v399 v401 v403 v405 v407 v409 v411 v413 v434 v437 v469) := by
  unfold ap; rw [k0_part17_eq_skeleton]; unfold k0_part17_skel
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  exact ok_pure _

/-- Stretch 18 of the body keeps every buffer. -/
theorem ok_part18 {c : Dev nD} {A : Args} {X : Ins F} (i v2 v115 v133 v206 v216 v504 v511 v512) :
    Ok (F := F) c (Mem c A X) (ap i A (k0_part18 (F := F)) v2 v115 v133 v206 v216 v504 v511 v512) := by
  unfold ap; rw [k0_part18_eq_skeleton]; unfold k0_part18_skel
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  exact ok_pure _

/-- Stretch 19 of the body keeps every buffer. -/
theorem ok_part19 {c : Dev nD} {A : Args} {X : Ins F} (i v2 v33 v35 v115 v133 v226 v443 v449 v455 v461 v548 v549) :
    Ok (F := F) c (Mem c A X) (ap i A (k0_part19 (F := F)) v2 v33 v35 v115 v133 v226 v443 v449 v455 v461 v548 v549) := by
  unfold ap; rw [k0_part19_eq_skeleton]; unfold k0_part19_skel
  refine tri_bind (ok_load' sel28) (fun _ => ?_)
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  exact ok_pure _

/-- Stretch 20 of the body keeps every buffer. -/
theorem ok_part20 {c : Dev nD} {A : Args} {X : Ins F} (i v18 v37 v39 v84 v87 v186 v443 v449 v455 v461 v467 v473 v479 v485 v486 v487 v488 v489 v490 v491 v492 v493 v515 v584 v585 v586) :
    Ok (F := F) c (Mem c A X) (ap i A (k0_part20 (F := F)) v18 v37 v39 v84 v87 v186 v443 v449 v455 v461 v467 v473 v479 v485 v486 v487 v488 v489 v490 v491 v492 v493 v515 v584 v585 v586) := by
  unfold ap; rw [k0_part20_eq_skeleton]; unfold k0_part20_skel
  refine tri_bind (ok_load' sel25) (fun _ => ?_)
  exact ok_pure _

/-- Stretch 21 of the body keeps every buffer. -/
theorem ok_part21 {c : Dev nD} {A : Args} {X : Ins F} (i v18 v186 v537 v627 v633) :
    Ok (F := F) c (Mem c A X) (ap i A (k0_part21 (F := F)) v18 v186 v537 v627 v633) := by
  unfold ap; rw [k0_part21_eq_skeleton]; unfold k0_part21_skel
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  exact ok_pure _

/-- Stretch 22 of the body keeps every buffer. -/
theorem ok_part22 {c : Dev nD} {A : Args} {X : Ins F} (i v18 v186 v559 v581 v663) :
    Ok (F := F) c (Mem c A X) (ap i A (k0_part22 (F := F)) v18 v186 v559 v581 v663) := by
  unfold ap; rw [k0_part22_eq_skeleton]; unfold k0_part22_skel
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  exact ok_pure _

/-- Stretch 23 of the body keeps every buffer. -/
theorem ok_part23 {c : Dev nD} {A : Args} {X : Ins F} (i v18 v19 v336 v362 v416 v515 v537 v559 v581 v690 v699) :
    Ok (F := F) c (Mem c A X) (ap i A (k0_part23 (F := F)) v18 v19 v336 v362 v416 v515 v537 v559 v581 v690 v699) := by
  unfold ap; rw [k0_part23_eq_skeleton]; unfold k0_part23_skel
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel30) (fun _ => ?_)
  refine tri_bind (ok_load' sel30) (fun _ => ?_)
  refine tri_bind (ok_load' sel30) (fun _ => ?_)
  refine tri_bind (ok_load' sel30) (fun _ => ?_)
  exact ok_pure _

/-- Stretch 24 of the body keeps every buffer. -/
theorem ok_part24 {c : Dev nD} {A : Args} {X : Ins F} (i v19 v339 v342 v345 v348 v367 v372 v377 v382 v419 v422 v425 v428 v722 v728 v730) :
    Ok (F := F) c (Mem c A X) (ap i A (k0_part24 (F := F)) v19 v339 v342 v345 v348 v367 v372 v377 v382 v419 v422 v425 v428 v722 v728 v730) := by
  unfold ap; rw [k0_part24_eq_skeleton]; unfold k0_part24_skel
  exact ok_pure _

/-- Stretch 25 of the body keeps every buffer. -/
theorem ok_part25 {c : Dev nD} {A : Args} {X : Ins F} (i v19 v351 v354 v357 v387 v392 v397 v431 v434 v437 v774 v776) :
    Ok (F := F) c (Mem c A X) (ap i A (k0_part25 (F := F)) v19 v351 v354 v357 v387 v392 v397 v431 v434 v437 v774 v776) := by
  unfold ap; rw [k0_part25_eq_skeleton]; unfold k0_part25_skel
  exact ok_pure _

/-- Stretch 26 of the body keeps every buffer. -/
theorem ok_part26 {c : Dev nD} {A : Args} {X : Ins F} (i v21 v594 v609 v624 v813 v819 v821 cst_332) :
    Ok (F := F) c (Mem c A X) (ap i A (k0_part26 (F := F)) v21 v594 v609 v624 v813 v819 v821 cst_332) := by
  unfold ap; rw [k0_part26_eq_skeleton]; unfold k0_part26_skel
  refine tri_bind (ok_load' sel27) (fun _ => ?_)
  refine tri_bind (ok_load' sel27) (fun _ => ?_)
  refine tri_bind (ok_store sel27) (fun _ => ?_)
  refine tri_bind (ok_load sel9) (fun _ => ?_)
  refine tri_bind (ok_load sel10) (fun _ => ?_)
  refine tri_bind (ok_load sel11) (fun _ => ?_)
  refine tri_bind (ok_load sel12) (fun _ => ?_)
  refine tri_bind (ok_load' sel20) (fun _ => ?_)
  refine tri_bind (ok_store sel20) (fun _ => ?_)
  exact ok_pure _

/-- Stretch 27 of the body keeps every buffer. -/
theorem ok_part27 {c : Dev nD} {A : Args} {X : Ins F} (i v21 v833 v834 v852 v853 v855 v857 v858 v859) :
    Ok (F := F) c (Mem c A X) (ap i A (k0_part27 (F := F)) v21 v833 v834 v852 v853 v855 v857 v858 v859) := by
  unfold ap; rw [k0_part27_eq_skeleton]; unfold k0_part27_skel
  refine tri_bind (ok_load' sel21) (fun _ => ?_)
  refine tri_bind (ok_store sel21) (fun _ => ?_)
  refine tri_bind (ok_load' sel21) (fun _ => ?_)
  refine tri_bind (ok_store sel21) (fun _ => ?_)
  refine tri_bind (ok_load' sel21) (fun _ => ?_)
  refine tri_bind (ok_load' sel21) (fun _ => ?_)
  refine tri_bind (ok_store sel21) (fun _ => ?_)
  exact ok_pure _

/-- Stretch 28 of the body keeps every buffer. -/
theorem ok_part28 {c : Dev nD} {A : Args} {X : Ins F} (i v15 v165 v179 v181 v721 v853 v878) :
    Ok (F := F) c (Mem c A X) (ap i A (k0_part28 (F := F)) v15 v165 v179 v181 v721 v853 v878) := by
  unfold ap; rw [k0_part28_eq_skeleton]; unfold k0_part28_skel
  refine tri_bind (ok_load' sel21) (fun _ => ?_)
  refine tri_bind (ok_load' sel21) (fun _ => ?_)
  refine tri_bind (ok_store sel21) (fun _ => ?_)
  refine tri_bind (ok_load' sel23) (fun _ => ?_)
  refine tri_bind (ok_load' sel23) (fun _ => ?_)
  refine tri_bind (ok_store sel23) (fun _ => ?_)
  refine tri_bind (ok_load' sel24) (fun _ => ?_)
  refine tri_bind (ok_load' sel24) (fun _ => ?_)
  refine tri_bind (ok_store sel24) (fun _ => ?_)
  exact ok_pure _

/-- Stretch 29 of the body keeps every buffer. -/
theorem ok_part29 {c : Dev nD} {A : Args} {X : Ins F} (i arg0 v938) :
    Ok (F := F) c (Mem c A X) (ap i A (k0_part29 (F := F)) arg0 v938) := by
  unfold ap; rw [k0_part29_eq_skeleton]; unfold k0_part29_skel
  refine tri_bind (ok_load' sel20) (fun _ => ?_)
  refine tri_bind (ok_store sel20) (fun _ => ?_)
  refine tri_bind (ok_load sel4) (fun _ => ?_)
  refine tri_bind (ok_load sel6) (fun _ => ?_)
  refine tri_bind (ok_load sel4) (fun _ => ?_)
  refine tri_bind (ok_load sel6) (fun _ => ?_)
  refine tri_bind (ok_load sel3) (fun _ => ?_)
  refine tri_bind (ok_load sel3) (fun _ => ?_)
  exact ok_pure _

/-- Stretch 32 of the body keeps every buffer. -/
theorem ok_part32 {c : Dev nD} {A : Args} {X : Ins F} (i v1039 v1045 v1047 cst_451) :
    Ok (F := F) c (Mem c A X) (ap i A (k0_part32 (F := F)) v1039 v1045 v1047 cst_451) := by
  unfold ap; rw [k0_part32_eq_skeleton]; unfold k0_part32_skel
  refine tri_bind (ok_load sel2) (fun _ => ?_)
  exact ok_pure _

/-- Stretch 33 of the body keeps every buffer. -/
theorem ok_part33 {c : Dev nD} {A : Args} {X : Ins F} (i v2 v15 v1091) :
    Ok (F := F) c (Mem c A X) (ap i A (k0_part33 (F := F)) v2 v15 v1091) := by
  unfold ap; rw [k0_part33_eq_skeleton]; unfold k0_part33_skel
  refine tri_bind (ok_load sel14) (fun _ => ?_)
  refine tri_bind (ok_load' sel29) (fun _ => ?_)
  refine tri_bind (ok_load' sel29) (fun _ => ?_)
  refine tri_bind (ok_load' sel29) (fun _ => ?_)
  exact ok_pure _

/-- Stretch 34 of the body keeps every buffer. -/
theorem ok_part34 {c : Dev nD} {A : Args} {X : Ins F} (i v2 v941 v985 v986 v1106 v1128 v1129 v1130) :
    Ok (F := F) c (Mem c A X) (ap i A (k0_part34 (F := F)) v2 v941 v985 v986 v1106 v1128 v1129 v1130) := by
  unfold ap; rw [k0_part34_eq_skeleton]; unfold k0_part34_skel
  refine tri_bind (ok_load' sel29) (fun _ => ?_)
  exact ok_pure _

/-- Stretch 35 of the body keeps every buffer. -/
theorem ok_part35 {c : Dev nD} {A : Args} {X : Ins F} (i v7 v8 v9 v10 v987 v988 v989 v990 v991 v992 v1165 v1169 v1171 cst_507) :
    Ok (F := F) c (Mem c A X) (ap i A (k0_part35 (F := F)) v7 v8 v9 v10 v987 v988 v989 v990 v991 v992 v1165 v1169 v1171 cst_507) := by
  unfold ap; rw [k0_part35_eq_skeleton]; unfold k0_part35_skel
  exact ok_pure _

/-- Stretch 36 of the body keeps every buffer. -/
theorem ok_part36 {c : Dev nD} {A : Args} {X : Ins F} (i v7 v8 v9 v10 v11 v12 v13 v14 v1169 v1173 v1177 v1181 v1185 v1189 v1193 v1197 v1201 v1205 v1209 v1213 v1214) :
    Ok (F := F) c (Mem c A X) (ap i A (k0_part36 (F := F)) v7 v8 v9 v10 v11 v12 v13 v14 v1169 v1173 v1177 v1181 v1185 v1189 v1193 v1197 v1201 v1205 v1209 v1213 v1214) := by
  unfold ap; rw [k0_part36_eq_skeleton]; unfold k0_part36_skel
  exact ok_pure _

/-- Stretch 37 of the body keeps every buffer. -/
theorem ok_part37 {c : Dev nD} {A : Args} {X : Ins F} (i v13 v14 v1225 v1229 v1232 v1235 v1238 v1241 v1244 v1247 v1250 v1253 v1256 v1259 v1262 v1265 v1268 v1271) :
    Ok (F := F) c (Mem c A X) (ap i A (k0_part37 (F := F)) v13 v14 v1225 v1229 v1232 v1235 v1238 v1241 v1244 v1247 v1250 v1253 v1256 v1259 v1262 v1265 v1268 v1271) := by
  unfold ap; rw [k0_part37_eq_skeleton]; unfold k0_part37_skel
  exact ok_pure _

/-- Stretch 38 of the body keeps every buffer. -/
theorem ok_part38 {c : Dev nD} {A : Args} {X : Ins F} (i v993 v994 v995 v996 v997 v998 v999 v1000 v1232 v1235 v1238 v1241 v1244 v1247 v1250 v1253 v1282 v1287 v1292 v1297 v1302 v1307 v1312 v1315 cst_543) :
    Ok (F := F) c (Mem c A X) (ap i A (k0_part38 (F := F)) v993 v994 v995 v996 v997 v998 v999 v1000 v1232 v1235 v1238 v1241 v1244 v1247 v1250 v1253 v1282 v1287 v1292 v1297 v1302 v1307 v1312 v1315 cst_543) := by
  unfold ap; rw [k0_part38_eq_skeleton]; unfold k0_part38_skel
  exact ok_pure _

/-- Stretch 39 of the body keeps every buffer. -/
theorem ok_part39 {c : Dev nD} {A : Args} {X : Ins F} (i v995 v996 v997 v998 v999 v1000 v1319 v1321 v1323 v1325 v1327 v1329 v1331 v1333 v1342 v1345 v1348 v1351 v1354 v1357 v1366) :
    Ok (F := F) c (Mem c A X) (ap i A (k0_part39 (F := F)) v995 v996 v997 v998 v999 v1000 v1319 v1321 v1323 v1325 v1327 v1329 v1331 v1333 v1342 v1345 v1348 v1351 v1354 v1357 v1366) := by
  unfold ap; rw [k0_part39_eq_skeleton]; unfold k0_part39_skel
  refine tri_bind (ok_load sel8) (fun _ => ?_)
  exact ok_pure _

/-- Stretch 40 of the body keeps every buffer. -/
theorem ok_part40 {c : Dev nD} {A : Args} {X : Ins F} (i v2 v1035 v1053 v1116 v1126 v1415) :
    Ok (F := F) c (Mem c A X) (ap i A (k0_part40 (F := F)) v2 v1035 v1053 v1116 v1126 v1415) := by
  unfold ap; rw [k0_part40_eq_skeleton]; unfold k0_part40_skel
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  exact ok_pure _

/-- Stretch 41 of the body keeps every buffer. -/
theorem ok_part41 {c : Dev nD} {A : Args} {X : Ins F} (i v2 v1035 v1053 v1136 v1146 v1446 v1452) :
    Ok (F := F) c (Mem c A X) (ap i A (k0_part41 (F := F)) v2 v1035 v1053 v1136 v1146 v1446 v1452) := by
  unfold ap; rw [k0_part41_eq_skeleton]; unfold k0_part41_skel
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  exact ok_pure _

/-- Stretch 42 of the body keeps every buffer. -/
theorem ok_part42 {c : Dev nD} {A : Args} {X : Ins F} (i v2 v953 v955 v957 v959 v1004 v1007 v1363 v1369 v1375 v1381 v1387 v1393 v1399 v1405 v1490) :
    Ok (F := F) c (Mem c A X) (ap i A (k0_part42 (F := F)) v2 v953 v955 v957 v959 v1004 v1007 v1363 v1369 v1375 v1381 v1387 v1393 v1399 v1405 v1490) := by
  unfold ap; rw [k0_part42_eq_skeleton]; unfold k0_part42_skel
  refine tri_bind (ok_load' sel28) (fun _ => ?_)
  refine tri_bind (ok_load' sel28) (fun _ => ?_)
  refine tri_bind (ok_store sel28) (fun _ => ?_)
  exact ok_pure _

/-- Stretch 43 of the body keeps every buffer. -/
theorem ok_part43 {c : Dev nD} {A : Args} {X : Ins F} (i v18 v1007 v1106 v1406 v1407 v1408 v1409 v1410 v1411 v1412 v1413 v1435 v1457 v1530 v1531 v1532 v1533) :
    Ok (F := F) c (Mem c A X) (ap i A (k0_part43 (F := F)) v18 v1007 v1106 v1406 v1407 v1408 v1409 v1410 v1411 v1412 v1413 v1435 v1457 v1530 v1531 v1532 v1533) := by
  unfold ap; rw [k0_part43_eq_skeleton]; unfold k0_part43_skel
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  exact ok_pure _

/-- Stretch 44 of the body keeps every buffer. -/
theorem ok_part44 {c : Dev nD} {A : Args} {X : Ins F} (i v18 v1106 v1479 v1568 v1570) :
    Ok (F := F) c (Mem c A X) (ap i A (k0_part44 (F := F)) v18 v1106 v1479 v1568 v1570) := by
  unfold ap; rw [k0_part44_eq_skeleton]; unfold k0_part44_skel
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  exact ok_pure _

/-- Stretch 45 of the body keeps every buffer. -/
theorem ok_part45 {c : Dev nD} {A : Args} {X : Ins F} (i v18 v1106 v1435 v1457 v1501 v1604) :
    Ok (F := F) c (Mem c A X) (ap i A (k0_part45 (F := F)) v18 v1106 v1435 v1457 v1501 v1604) := by
  unfold ap; rw [k0_part45_eq_skeleton]; unfold k0_part45_skel
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel30) (fun _ => ?_)
  refine tri_bind (ok_load' sel30) (fun _ => ?_)
  exact ok_pure _

/-- Stretch 46 of the body keeps every buffer. -/
theorem ok_part46 {c : Dev nD} {A : Args} {X : Ins F} (i v19 v1256 v1259 v1262 v1282 v1287 v1292 v1336 v1339 v1342 v1479 v1501 v1631 v1634) :
    Ok (F := F) c (Mem c A X) (ap i A (k0_part46 (F := F)) v19 v1256 v1259 v1262 v1282 v1287 v1292 v1336 v1339 v1342 v1479 v1501 v1631 v1634) := by
  unfold ap; rw [k0_part46_eq_skeleton]; unfold k0_part46_skel
  refine tri_bind (ok_load' sel30) (fun _ => ?_)
  refine tri_bind (ok_load' sel30) (fun _ => ?_)
  exact ok_pure _

/-- Stretch 47 of the body keeps every buffer. -/
theorem ok_part47 {c : Dev nD} {A : Args} {X : Ins F} (i v19 v1265 v1268 v1271 v1274 v1297 v1302 v1307 v1312 v1345 v1348 v1351 v1354 v1668 v1674 v1675) :
    Ok (F := F) c (Mem c A X) (ap i A (k0_part47 (F := F)) v19 v1265 v1268 v1271 v1274 v1297 v1302 v1307 v1312 v1345 v1348 v1351 v1354 v1668 v1674 v1675) := by
  unfold ap; rw [k0_part47_eq_skeleton]; unfold k0_part47_skel
  exact ok_pure _

/-- Stretch 48 of the body keeps every buffer. -/
theorem ok_part48 {c : Dev nD} {A : Args} {X : Ins F} (i v19 v1277 v1317 v1357 v1514 v1720 v1722) :
    Ok (F := F) c (Mem c A X) (ap i A (k0_part48 (F := F)) v19 v1277 v1317 v1357 v1514 v1720 v1722) := by
  unfold ap; rw [k0_part48_eq_skeleton]; unfold k0_part48_skel
  refine tri_bind (ok_load' sel27) (fun _ => ?_)
  refine tri_bind (ok_load' sel27) (fun _ => ?_)
  refine tri_bind (ok_store sel27) (fun _ => ?_)
  refine tri_bind (ok_load sel9) (fun _ => ?_)
  refine tri_bind (ok_load sel10) (fun _ => ?_)
  refine tri_bind (ok_load sel9) (fun _ => ?_)
  refine tri_bind (ok_load sel10) (fun _ => ?_)
  exact ok_pure _

/-- Stretch 49 of the body keeps every buffer. -/
theorem ok_part49 {c : Dev nD} {A : Args} {X : Ins F} (i v941 v1529 v1544 v1751 v1752 v1757 v1758 v1759 v1760) :
    Ok (F := F) c (Mem c A X) (ap i A (k0_part49 (F := F)) v941 v1529 v1544 v1751 v1752 v1757 v1758 v1759 v1760) := by
  unfold ap; rw [k0_part49_eq_skeleton]; unfold k0_part49_skel
  refine tri_bind (ok_load' sel20) (fun _ => ?_)
  refine tri_bind (ok_store sel20) (fun _ => ?_)
  refine tri_bind (ok_load' sel21) (fun _ => ?_)
  refine tri_bind (ok_store sel21) (fun _ => ?_)
  refine tri_bind (ok_load' sel21) (fun _ => ?_)
  refine tri_bind (ok_store sel21) (fun _ => ?_)
  exact ok_pure _

/-- Stretch 50 of the body keeps every buffer. -/
theorem ok_part50 {c : Dev nD} {A : Args} {X : Ins F} (i v1101 v1641 v1753 v1754 v1772 v1773 v1798) :
    Ok (F := F) c (Mem c A X) (ap i A (k0_part50 (F := F)) v1101 v1641 v1753 v1754 v1772 v1773 v1798) := by
  unfold ap; rw [k0_part50_eq_skeleton]; unfold k0_part50_skel
  refine tri_bind (ok_load' sel21) (fun _ => ?_)
  refine tri_bind (ok_load' sel21) (fun _ => ?_)
  refine tri_bind (ok_store sel21) (fun _ => ?_)
  refine tri_bind (ok_load' sel21) (fun _ => ?_)
  refine tri_bind (ok_load' sel21) (fun _ => ?_)
  refine tri_bind (ok_store sel21) (fun _ => ?_)
  refine tri_bind (ok_load' sel23) (fun _ => ?_)
  refine tri_bind (ok_load' sel23) (fun _ => ?_)
  refine tri_bind (ok_store sel23) (fun _ => ?_)
  refine tri_bind (ok_load' sel24) (fun _ => ?_)
  refine tri_bind (ok_load' sel24) (fun _ => ?_)
  exact ok_pure _

/-- Stretch 51 of the body keeps every buffer. -/
theorem ok_part51 {c : Dev nD} {A : Args} {X : Ins F} (i arg0 v15 v1085 v1099 v1101 v1641 v1837) :
    Ok (F := F) c (Mem c A X) (ap i A (k0_part51 (F := F)) arg0 v15 v1085 v1099 v1101 v1641 v1837) := by
  unfold ap; rw [k0_part51_eq_skeleton]; unfold k0_part51_skel
  refine tri_bind (ok_store sel24) (fun _ => ?_)
  refine tri_bind (ok_load' sel20) (fun _ => ?_)
  refine tri_bind (ok_store sel20) (fun _ => ?_)
  refine tri_bind (ok_load sel4) (fun _ => ?_)
  refine tri_bind (ok_load sel6) (fun _ => ?_)
  refine tri_bind (ok_load sel4) (fun _ => ?_)
  exact ok_pure _

/-- Stretch 52 of the body keeps every buffer. -/
theorem ok_part52 {c : Dev nD} {A : Args} {X : Ins F} (i v1863 v1873 v1875 v1877 v1879) :
    Ok (F := F) c (Mem c A X) (ap i A (k0_part52 (F := F)) v1863 v1873 v1875 v1877 v1879) := by
  unfold ap; rw [k0_part52_eq_skeleton]; unfold k0_part52_skel
  refine tri_bind (ok_load sel6) (fun _ => ?_)
  refine tri_bind (ok_load sel3) (fun _ => ?_)
  refine tri_bind (ok_load sel3) (fun _ => ?_)
  refine tri_bind (ok_load sel3) (fun _ => ?_)
  refine tri_bind (ok_load sel3) (fun _ => ?_)
  refine tri_bind (ok_load sel8) (fun _ => ?_)
  exact ok_pure _

/-- Stretch 54 of the body keeps every buffer. -/
theorem ok_part54 {c : Dev nD} {A : Args} {X : Ins F} (i v1942 v1943 v1947 v1948) :
    Ok (F := F) c (Mem c A X) (ap i A (k0_part54 (F := F)) v1942 v1943 v1947 v1948) := by
  unfold ap; rw [k0_part54_eq_skeleton]; unfold k0_part54_skel
  refine tri_bind (ok_load sel2) (fun _ => ?_)
  exact ok_pure _

/-- Stretch 55 of the body keeps every buffer. -/
theorem ok_part55 {c : Dev nD} {A : Args} {X : Ins F} (i v2 v15 v1974 v1975 v1982 v1987 v1991) :
    Ok (F := F) c (Mem c A X) (ap i A (k0_part55 (F := F)) v2 v15 v1974 v1975 v1982 v1987 v1991) := by
  unfold ap; rw [k0_part55_eq_skeleton]; unfold k0_part55_skel
  refine tri_bind (ok_load sel14) (fun _ => ?_)
  refine tri_bind (ok_load' sel29) (fun _ => ?_)
  exact ok_pure _

/-- Stretch 56 of the body keeps every buffer. -/
theorem ok_part56 {c : Dev nD} {A : Args} {X : Ins F} (i v2 v1861 v2026 v2028 v2034) :
    Ok (F := F) c (Mem c A X) (ap i A (k0_part56 (F := F)) v2 v1861 v2026 v2028 v2034) := by
  unfold ap; rw [k0_part56_eq_skeleton]; unfold k0_part56_skel
  refine tri_bind (ok_load' sel29) (fun _ => ?_)
  refine tri_bind (ok_load' sel29) (fun _ => ?_)
  refine tri_bind (ok_load' sel29) (fun _ => ?_)
  exact ok_pure _

/-- Stretch 57 of the body keeps every buffer. -/
theorem ok_part57 {c : Dev nD} {A : Args} {X : Ins F} (i v1905 v1906 v1907 v1908 v1909 v1910 v1911 v2069 v2070 v2071 c0_i32_898 c512_i32_899) :
    Ok (F := F) c (Mem c A X) (ap i A (k0_part57 (F := F)) v1905 v1906 v1907 v1908 v1909 v1910 v1911 v2069 v2070 v2071 c0_i32_898 c512_i32_899) := by
  unfold ap; rw [k0_part57_eq_skeleton]; unfold k0_part57_skel
  exact ok_pure _

/-- Stretch 58 of the body keeps every buffer. -/
theorem ok_part58 {c : Dev nD} {A : Args} {X : Ins F} (i v7 v8 v9 v10 v11 v12 v13 v14 v1912 v2085 v2089 v2093 v2097 v2101 v2105 v2109 v2113 cst_917) :
    Ok (F := F) c (Mem c A X) (ap i A (k0_part58 (F := F)) v7 v8 v9 v10 v11 v12 v13 v14 v1912 v2085 v2089 v2093 v2097 v2101 v2105 v2109 v2113 cst_917) := by
  unfold ap; rw [k0_part58_eq_skeleton]; unfold k0_part58_skel
  exact ok_pure _

/-- Stretch 59 of the body keeps every buffer. -/
theorem ok_part59 {c : Dev nD} {A : Args} {X : Ins F} (i v7 v8 v9 v10 v11 v12 v13 v14 v2109 v2113 v2117 v2121 v2125 v2129 v2133 v2137 v2141 v2145 v2149 v2152 v2155 v2158 v2161) :
    Ok (F := F) c (Mem c A X) (ap i A (k0_part59 (F := F)) v7 v8 v9 v10 v11 v12 v13 v14 v2109 v2113 v2117 v2121 v2125 v2129 v2133 v2137 v2141 v2145 v2149 v2152 v2155 v2158 v2161) := by
  unfold ap; rw [k0_part59_eq_skeleton]; unfold k0_part59_skel
  exact ok_pure _

/-- Stretch 60 of the body keeps every buffer. -/
theorem ok_part60 {c : Dev nD} {A : Args} {X : Ins F} (i v1913 v1914 v1915 v1916 v2152 v2155 v2158 v2161 v2164 v2167 v2170 v2173 v2188 v2191 v2194 v2197 v2202 v2207 v2212 v2215 v2216) :
    Ok (F := F) c (Mem c A X) (ap i A (k0_part60 (F := F)) v1913 v1914 v1915 v1916 v2152 v2155 v2158 v2161 v2164 v2167 v2170 v2173 v2188 v2191 v2194 v2197 v2202 v2207 v2212 v2215 v2216) := by
  unfold ap; rw [k0_part60_eq_skeleton]; unfold k0_part60_skel
  exact ok_pure _

/-- Stretch 61 of the body keeps every buffer. -/
theorem ok_part61 {c : Dev nD} {A : Args} {X : Ins F} (i v1913 v1914 v1915 v1916 v1917 v1918 v1919 v1920 v2239 v2241 v2243 v2245 v2247 v2249 v2251 v2253 v2256 v2259 v2262 v2264) :
    Ok (F := F) c (Mem c A X) (ap i A (k0_part61 (F := F)) v1913 v1914 v1915 v1916 v1917 v1918 v1919 v1920 v2239 v2241 v2243 v2245 v2247 v2249 v2251 v2253 v2256 v2259 v2262 v2264) := by
  unfold ap; rw [k0_part61_eq_skeleton]; unfold k0_part61_skel
  exact ok_pure _

/-- Stretch 62 of the body keeps every buffer. -/
theorem ok_part62 {c : Dev nD} {A : Args} {X : Ins F} (i v2 v1919 v1920 v1955 v1973 v2036 v2239 v2241 v2243 v2245 v2247 v2249 v2251 v2253 v2277 v2314) :
    Ok (F := F) c (Mem c A X) (ap i A (k0_part62 (F := F)) v2 v1919 v1920 v1955 v1973 v2036 v2239 v2241 v2243 v2245 v2247 v2249 v2251 v2253 v2277 v2314) := by
  unfold ap; rw [k0_part62_eq_skeleton]; unfold k0_part62_skel
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  refine tri_bind (ok_load sel8) (fun _ => ?_)
  exact ok_pure _

/-- Stretch 63 of the body keeps every buffer. -/
theorem ok_part63 {c : Dev nD} {A : Args} {X : Ins F} (i v2 v1955 v1973 v2046 v2056 v2356) :
    Ok (F := F) c (Mem c A X) (ap i A (k0_part63 (F := F)) v2 v1955 v1973 v2046 v2056 v2356) := by
  unfold ap; rw [k0_part63_eq_skeleton]; unfold k0_part63_skel
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  exact ok_pure _

/-- Stretch 64 of the body keeps every buffer. -/
theorem ok_part64 {c : Dev nD} {A : Args} {X : Ins F} (i v2 v1873 v1875 v1877 v1879 v1955 v1973 v2066 v2283 v2289 v2295 v2301 v2307 v2313 v2388 v2393) :
    Ok (F := F) c (Mem c A X) (ap i A (k0_part64 (F := F)) v2 v1873 v1875 v1877 v1879 v1955 v1973 v2066 v2283 v2289 v2295 v2301 v2307 v2313 v2388 v2393) := by
  unfold ap; rw [k0_part64_eq_skeleton]; unfold k0_part64_skel
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  exact ok_pure _

/-- Stretch 65 of the body keeps every buffer. -/
theorem ok_part65 {c : Dev nD} {A : Args} {X : Ins F} (i v18 v1877 v1879 v1924 v1927 v2026 v2283 v2289 v2295 v2301 v2307 v2313 v2319 v2325 v2326 v2327 v2328 v2329 v2330 v2331 v2332 v2333 v2355 v2424 v2427 v2430) :
    Ok (F := F) c (Mem c A X) (ap i A (k0_part65 (F := F)) v18 v1877 v1879 v1924 v1927 v2026 v2283 v2289 v2295 v2301 v2307 v2313 v2319 v2325 v2326 v2327 v2328 v2329 v2330 v2331 v2332 v2333 v2355 v2424 v2427 v2430) := by
  unfold ap; rw [k0_part65_eq_skeleton]; unfold k0_part65_skel
  refine tri_bind (ok_load' sel25) (fun _ => ?_)
  refine tri_bind (ok_load' sel25) (fun _ => ?_)
  exact ok_pure _

/-- Stretch 66 of the body keeps every buffer. -/
theorem ok_part66 {c : Dev nD} {A : Args} {X : Ins F} (i v18 v2026 v2377 v2399 v2467 v2476) :
    Ok (F := F) c (Mem c A X) (ap i A (k0_part66 (F := F)) v18 v2026 v2377 v2399 v2467 v2476) := by
  unfold ap; rw [k0_part66_eq_skeleton]; unfold k0_part66_skel
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  exact ok_pure _

/-- Stretch 67 of the body keeps every buffer. -/
theorem ok_part67 {c : Dev nD} {A : Args} {X : Ins F} (i v18 v2026 v2421 v2509) :
    Ok (F := F) c (Mem c A X) (ap i A (k0_part67 (F := F)) v18 v2026 v2421 v2509) := by
  unfold ap; rw [k0_part67_eq_skeleton]; unfold k0_part67_skel
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  exact ok_pure _

/-- Stretch 68 of the body keeps every buffer. -/
theorem ok_part68 {c : Dev nD} {A : Args} {X : Ins F} (i v18 v19 v2176 v2202 v2256 v2355 v2377 v2399 v2421 v2530 v2541) :
    Ok (F := F) c (Mem c A X) (ap i A (k0_part68 (F := F)) v18 v19 v2176 v2202 v2256 v2355 v2377 v2399 v2421 v2530 v2541) := by
  unfold ap; rw [k0_part68_eq_skeleton]; unfold k0_part68_skel
  refine tri_bind (ok_load' sel25) (fun _ => ?_)
  refine tri_bind (ok_store sel25) (fun _ => ?_)
  refine tri_bind (ok_load' sel30) (fun _ => ?_)
  refine tri_bind (ok_load' sel30) (fun _ => ?_)
  refine tri_bind (ok_load' sel30) (fun _ => ?_)
  refine tri_bind (ok_load' sel30) (fun _ => ?_)
  exact ok_pure _

/-- Stretch 69 of the body keeps every buffer. -/
theorem ok_part69 {c : Dev nD} {A : Args} {X : Ins F} (i v19 v2179 v2182 v2185 v2188 v2207 v2212 v2217 v2222 v2259 v2262 v2265 v2268 v2575) :
    Ok (F := F) c (Mem c A X) (ap i A (k0_part69 (F := F)) v19 v2179 v2182 v2185 v2188 v2207 v2212 v2217 v2222 v2259 v2262 v2265 v2268 v2575) := by
  unfold ap; rw [k0_part69_eq_skeleton]; unfold k0_part69_skel
  exact ok_pure _

/-- Stretch 70 of the body keeps every buffer. -/
theorem ok_part70 {c : Dev nD} {A : Args} {X : Ins F} (i v19 v2191 v2194 v2197 v2227 v2232 v2237 v2271 v2274 v2277 v2614 v2620 c4_i32_1114) :
    Ok (F := F) c (Mem c A X) (ap i A (k0_part70 (F := F)) v19 v2191 v2194 v2197 v2227 v2232 v2237 v2271 v2274 v2277 v2614 v2620 c4_i32_1114) := by
  unfold ap; rw [k0_part70_eq_skeleton]; unfold k0_part70_skel
  exact ok_pure _

/-- Stretch 71 of the body keeps every buffer. -/
theorem ok_part71 {c : Dev nD} {A : Args} {X : Ins F} (i v1861 v2434 v2449 v2464 v2666) :
    Ok (F := F) c (Mem c A X) (ap i A (k0_part71 (F := F)) v1861 v2434 v2449 v2464 v2666) := by
  unfold ap; rw [k0_part71_eq_skeleton]; unfold k0_part71_skel
  refine tri_bind (ok_load' sel27) (fun _ => ?_)
  refine tri_bind (ok_load' sel27) (fun _ => ?_)
  refine tri_bind (ok_store sel27) (fun _ => ?_)
  refine tri_bind (ok_load sel9) (fun _ => ?_)
  refine tri_bind (ok_load sel10) (fun _ => ?_)
  refine tri_bind (ok_load sel9) (fun _ => ?_)
  refine tri_bind (ok_load sel10) (fun _ => ?_)
  refine tri_bind (ok_load' sel20) (fun _ => ?_)
  refine tri_bind (ok_store sel20) (fun _ => ?_)
  exact ok_pure _

/-- Stretch 72 of the body keeps every buffer. -/
theorem ok_part72 {c : Dev nD} {A : Args} {X : Ins F} (i v1861 v2673 v2674 v2692 v2693 v2695 v2697 v2698 v2703) :
    Ok (F := F) c (Mem c A X) (ap i A (k0_part72 (F := F)) v1861 v2673 v2674 v2692 v2693 v2695 v2697 v2698 v2703) := by
  unfold ap; rw [k0_part72_eq_skeleton]; unfold k0_part72_skel
  refine tri_bind (ok_load' sel21) (fun _ => ?_)
  refine tri_bind (ok_store sel21) (fun _ => ?_)
  refine tri_bind (ok_load' sel21) (fun _ => ?_)
  refine tri_bind (ok_store sel21) (fun _ => ?_)
  refine tri_bind (ok_load' sel21) (fun _ => ?_)
  refine tri_bind (ok_load' sel21) (fun _ => ?_)
  refine tri_bind (ok_store sel21) (fun _ => ?_)
  refine tri_bind (ok_load' sel21) (fun _ => ?_)
  exact ok_pure _

/-- Stretch 73 of the body keeps every buffer. -/
theorem ok_part73 {c : Dev nD} {A : Args} {X : Ins F} (i arg0 v15 v2005 v2019 v2021 v2561 v2743) :
    Ok (F := F) c (Mem c A X) (ap i A (k0_part73 (F := F)) arg0 v15 v2005 v2019 v2021 v2561 v2743) := by
  unfold ap; rw [k0_part73_eq_skeleton]; unfold k0_part73_skel
  refine tri_bind (ok_load' sel21) (fun _ => ?_)
  refine tri_bind (ok_store sel21) (fun _ => ?_)
  refine tri_bind (ok_load' sel23) (fun _ => ?_)
  refine tri_bind (ok_load' sel23) (fun _ => ?_)
  refine tri_bind (ok_store sel23) (fun _ => ?_)
  refine tri_bind (ok_load' sel24) (fun _ => ?_)
  refine tri_bind (ok_load' sel24) (fun _ => ?_)
  refine tri_bind (ok_store sel24) (fun _ => ?_)
  refine tri_bind (ok_load' sel20) (fun _ => ?_)
  refine tri_bind (ok_store sel20) (fun _ => ?_)
  exact ok_pure _

/-- Stretch 74 of the body keeps every buffer. -/
theorem ok_part74 {c : Dev nD} {A : Args} {X : Ins F} (i) :
    Ok (F := F) c (Mem c A X) (ap i A (k0_part74 (F := F))) := by
  unfold ap; rw [k0_part74_eq_skeleton]; unfold k0_part74_skel
  refine tri_bind (ok_load sel4) (fun _ => ?_)
  refine tri_bind (ok_load sel6) (fun _ => ?_)
  refine tri_bind (ok_load sel4) (fun _ => ?_)
  refine tri_bind (ok_load sel6) (fun _ => ?_)
  refine tri_bind (ok_load sel3) (fun _ => ?_)
  refine tri_bind (ok_load sel3) (fun _ => ?_)
  refine tri_bind (ok_load sel3) (fun _ => ?_)
  refine tri_bind (ok_load sel3) (fun _ => ?_)
  exact ok_pure _

/-- Stretch 77 of the body keeps every buffer. -/
theorem ok_part77 {c : Dev nD} {A : Args} {X : Ins F} (i v2879 v2892) :
    Ok (F := F) c (Mem c A X) (ap i A (k0_part77 (F := F)) v2879 v2892) := by
  unfold ap; rw [k0_part77_eq_skeleton]; unfold k0_part77_skel
  refine tri_bind (ok_load sel2) (fun _ => ?_)
  exact ok_pure _

/-- Stretch 78 of the body keeps every buffer. -/
theorem ok_part78 {c : Dev nD} {A : Args} {X : Ins F} (i v2 v15 v2931 v2934 v2935) :
    Ok (F := F) c (Mem c A X) (ap i A (k0_part78 (F := F)) v2 v15 v2931 v2934 v2935) := by
  unfold ap; rw [k0_part78_eq_skeleton]; unfold k0_part78_skel
  refine tri_bind (ok_load sel14) (fun _ => ?_)
  refine tri_bind (ok_load' sel29) (fun _ => ?_)
  refine tri_bind (ok_load' sel29) (fun _ => ?_)
  refine tri_bind (ok_load' sel29) (fun _ => ?_)
  exact ok_pure _

/-- Stretch 79 of the body keeps every buffer. -/
theorem ok_part79 {c : Dev nD} {A : Args} {X : Ins F} (i v2 v2781 v2825 v2826 v2827 v2946 v2968 v2975) :
    Ok (F := F) c (Mem c A X) (ap i A (k0_part79 (F := F)) v2 v2781 v2825 v2826 v2827 v2946 v2968 v2975) := by
  unfold ap; rw [k0_part79_eq_skeleton]; unfold k0_part79_skel
  refine tri_bind (ok_load' sel29) (fun _ => ?_)
  exact ok_pure _

/-- Stretch 80 of the body keeps every buffer. -/
theorem ok_part80 {c : Dev nD} {A : Args} {X : Ins F} (i v7 v8 v9 v10 v11 v2828 v2829 v2830 v2831 v2832 v3005 v3009 v3013 v3015 cst_1307) :
    Ok (F := F) c (Mem c A X) (ap i A (k0_part80 (F := F)) v7 v8 v9 v10 v11 v2828 v2829 v2830 v2831 v2832 v3005 v3009 v3013 v3015 cst_1307) := by
  unfold ap; rw [k0_part80_eq_skeleton]; unfold k0_part80_skel
  exact ok_pure _

/-- Stretch 81 of the body keeps every buffer. -/
theorem ok_part81 {c : Dev nD} {A : Args} {X : Ins F} (i v7 v8 v9 v10 v11 v12 v13 v14 v3009 v3013 v3017 v3021 v3025 v3029 v3033 v3037 v3041 v3045 v3049 v3053 v3057 v3059) :
    Ok (F := F) c (Mem c A X) (ap i A (k0_part81 (F := F)) v7 v8 v9 v10 v11 v12 v13 v14 v3009 v3013 v3017 v3021 v3025 v3029 v3033 v3037 v3041 v3045 v3049 v3053 v3057 v3059) := by
  unfold ap; rw [k0_part81_eq_skeleton]; unfold k0_part81_skel
  exact ok_pure _

/-- Stretch 82 of the body keeps every buffer. -/
theorem ok_part82 {c : Dev nD} {A : Args} {X : Ins F} (i v3072 v3075 v3078 v3081 v3084 v3087 v3090 v3093 v3096 v3099 v3102 v3105 v3108 v3111 v3114 v3117) :
    Ok (F := F) c (Mem c A X) (ap i A (k0_part82 (F := F)) v3072 v3075 v3078 v3081 v3084 v3087 v3090 v3093 v3096 v3099 v3102 v3105 v3108 v3111 v3114 v3117) := by
  unfold ap; rw [k0_part82_eq_skeleton]; unfold k0_part82_skel
  exact ok_pure _

/-- Stretch 83 of the body keeps every buffer. -/
theorem ok_part83 {c : Dev nD} {A : Args} {X : Ins F} (i v2833 v2834 v2835 v2836 v2837 v2838 v2839 v2840 v3078 v3081 v3084 v3087 v3090 v3093 v3132 v3137 v3142 v3147 v3152 v3157 v3159 v3161) :
    Ok (F := F) c (Mem c A X) (ap i A (k0_part83 (F := F)) v2833 v2834 v2835 v2836 v2837 v2838 v2839 v2840 v3078 v3081 v3084 v3087 v3090 v3093 v3132 v3137 v3142 v3147 v3152 v3157 v3159 v3161) := by
  unfold ap; rw [k0_part83_eq_skeleton]; unfold k0_part83_skel
  exact ok_pure _

/-- Stretch 84 of the body keeps every buffer. -/
theorem ok_part84 {c : Dev nD} {A : Args} {X : Ins F} (i v2836 v2837 v2838 v2839 v2840 v2893 v2956 v3159 v3161 v3163 v3165 v3167 v3169 v3171 v3173 v3185 v3188 v3191 v3194 v3197 v3211) :
    Ok (F := F) c (Mem c A X) (ap i A (k0_part84 (F := F)) v2836 v2837 v2838 v2839 v2840 v2893 v2956 v3159 v3161 v3163 v3165 v3167 v3169 v3171 v3173 v3185 v3188 v3191 v3194 v3197 v3211) := by
  unfold ap; rw [k0_part84_eq_skeleton]; unfold k0_part84_skel
  refine tri_bind (ok_load sel8) (fun _ => ?_)
  refine tri_bind (ok_load sel16) (fun _ => ?_)
  exact ok_pure _

/-- Stretch 85 of the body keeps every buffer. -/
theorem ok_part85 {c : Dev nD} {A : Args} {X : Ins F} (i v2 v2875 v2893 v2966 v3255 v3261) :
    Ok (F := F) c (Mem c A X) (ap i A (k0_part85 (F := F)) v2 v2875 v2893 v2966 v3255 v3261) := by
  unfold ap; rw [k0_part85_eq_skeleton]; unfold k0_part85_skel
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  exact ok_pure _

/-- Stretch 86 of the body keeps every buffer. -/
theorem ok_part86 {c : Dev nD} {A : Args} {X : Ins F} (i v2 v2875 v2893 v2976 v2986) :
    Ok (F := F) c (Mem c A X) (ap i A (k0_part86 (F := F)) v2 v2875 v2893 v2976 v2986) := by
  unfold ap; rw [k0_part86_eq_skeleton]; unfold k0_part86_skel
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  refine tri_bind (ok_load' sel28) (fun _ => ?_)
  refine tri_bind (ok_store sel28) (fun _ => ?_)
  refine tri_bind (ok_load sel8) (fun _ => ?_)
  refine tri_bind (ok_load sel16) (fun _ => ?_)
  refine tri_bind (ok_load' sel20) (fun _ => ?_)
  refine tri_bind (ok_store sel20) (fun _ => ?_)
  refine tri_bind (ok_load' sel28) (fun _ => ?_)
  exact ok_pure _

/-- Stretch 87 of the body keeps every buffer. -/
theorem ok_part87 {c : Dev nD} {A : Args} {X : Ins F} (i v2 v2793 v2795 v2797 v2799 v2844 v2847 v3203 v3209 v3215 v3221 v3227 v3233 v3239 v3245 v3246 v3247 v3248 v3249 v3330 v3332) :
    Ok (F := F) c (Mem c A X) (ap i A (k0_part87 (F := F)) v2 v2793 v2795 v2797 v2799 v2844 v2847 v3203 v3209 v3215 v3221 v3227 v3233 v3239 v3245 v3246 v3247 v3248 v3249 v3330 v3332) := by
  unfold ap; rw [k0_part87_eq_skeleton]; unfold k0_part87_skel
  refine tri_bind (ok_load' sel28) (fun _ => ?_)
  refine tri_bind (ok_store sel28) (fun _ => ?_)
  exact ok_pure _

/-- Stretch 88 of the body keeps every buffer. -/
theorem ok_part88 {c : Dev nD} {A : Args} {X : Ins F} (i v18 v2847 v2946 v3250 v3251 v3252 v3253 v3275 v3297 v3376 v3377 v3378) :
    Ok (F := F) c (Mem c A X) (ap i A (k0_part88 (F := F)) v18 v2847 v2946 v3250 v3251 v3252 v3253 v3275 v3297 v3376 v3377 v3378) := by
  unfold ap; rw [k0_part88_eq_skeleton]; unfold k0_part88_skel
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  exact ok_pure _

/-- Stretch 89 of the body keeps every buffer. -/
theorem ok_part89 {c : Dev nD} {A : Args} {X : Ins F} (i v18 v2946 v3319 v3408 v3414) :
    Ok (F := F) c (Mem c A X) (ap i A (k0_part89 (F := F)) v18 v2946 v3319 v3408 v3414) := by
  unfold ap; rw [k0_part89_eq_skeleton]; unfold k0_part89_skel
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  exact ok_pure _

/-- Stretch 90 of the body keeps every buffer. -/
theorem ok_part90 {c : Dev nD} {A : Args} {X : Ins F} (i v18 v2946 v3275 v3297 v3319 v3341 v3447) :
    Ok (F := F) c (Mem c A X) (ap i A (k0_part90 (F := F)) v18 v2946 v3275 v3297 v3319 v3341 v3447) := by
  unfold ap; rw [k0_part90_eq_skeleton]; unfold k0_part90_skel
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel25) (fun _ => ?_)
  refine tri_bind (ok_load' sel25) (fun _ => ?_)
  refine tri_bind (ok_store sel25) (fun _ => ?_)
  refine tri_bind (ok_load' sel30) (fun _ => ?_)
  refine tri_bind (ok_load' sel30) (fun _ => ?_)
  refine tri_bind (ok_load' sel30) (fun _ => ?_)
  exact ok_pure _

/-- Stretch 91 of the body keeps every buffer. -/
theorem ok_part91 {c : Dev nD} {A : Args} {X : Ins F} (i v19 v3096 v3099 v3102 v3122 v3127 v3132 v3176 v3179 v3182 v3341 v3471 v3474 v3477) :
    Ok (F := F) c (Mem c A X) (ap i A (k0_part91 (F := F)) v19 v3096 v3099 v3102 v3122 v3127 v3132 v3176 v3179 v3182 v3341 v3471 v3474 v3477) := by
  unfold ap; rw [k0_part91_eq_skeleton]; unfold k0_part91_skel
  refine tri_bind (ok_load' sel30) (fun _ => ?_)
  exact ok_pure _

/-- Stretch 92 of the body keeps every buffer. -/
theorem ok_part92 {c : Dev nD} {A : Args} {X : Ins F} (i v19 v3105 v3108 v3111 v3114 v3137 v3142 v3147 v3152 v3185 v3188 v3191 v3194 v3508 v3520) :
    Ok (F := F) c (Mem c A X) (ap i A (k0_part92 (F := F)) v19 v3105 v3108 v3111 v3114 v3137 v3142 v3147 v3152 v3185 v3188 v3191 v3194 v3508 v3520) := by
  unfold ap; rw [k0_part92_eq_skeleton]; unfold k0_part92_skel
  exact ok_pure _

/-- Stretch 93 of the body keeps every buffer. -/
theorem ok_part93 {c : Dev nD} {A : Args} {X : Ins F} (i v19 v3117 v3157 v3197 v3354 v3560 v3566) :
    Ok (F := F) c (Mem c A X) (ap i A (k0_part93 (F := F)) v19 v3117 v3157 v3197 v3354 v3560 v3566) := by
  unfold ap; rw [k0_part93_eq_skeleton]; unfold k0_part93_skel
  refine tri_bind (ok_load' sel27) (fun _ => ?_)
  refine tri_bind (ok_load' sel27) (fun _ => ?_)
  refine tri_bind (ok_store sel27) (fun _ => ?_)
  refine tri_bind (ok_load sel9) (fun _ => ?_)
  refine tri_bind (ok_load sel10) (fun _ => ?_)
  refine tri_bind (ok_load sel9) (fun _ => ?_)
  refine tri_bind (ok_load sel10) (fun _ => ?_)
  exact ok_pure _

/-- Stretch 94 of the body keeps every buffer. -/
theorem ok_part94 {c : Dev nD} {A : Args} {X : Ins F} (i v2781 v3369 v3384 v3591 v3592 v3593 v3594 v3597 v3598 v3603 v3604) :
    Ok (F := F) c (Mem c A X) (ap i A (k0_part94 (F := F)) v2781 v3369 v3384 v3591 v3592 v3593 v3594 v3597 v3598 v3603 v3604) := by
  unfold ap; rw [k0_part94_eq_skeleton]; unfold k0_part94_skel
  refine tri_bind (ok_load' sel20) (fun _ => ?_)
  refine tri_bind (ok_store sel20) (fun _ => ?_)
  refine tri_bind (ok_load' sel21) (fun _ => ?_)
  refine tri_bind (ok_store sel21) (fun _ => ?_)
  refine tri_bind (ok_load' sel21) (fun _ => ?_)
  refine tri_bind (ok_store sel21) (fun _ => ?_)
  refine tri_bind (ok_load' sel21) (fun _ => ?_)
  exact ok_pure _

/-- Stretch 95 of the body keeps every buffer. -/
theorem ok_part95 {c : Dev nD} {A : Args} {X : Ins F} (i v15 v2941 v3481 v3613 v3638 v3641 v3643 v3644 v3645) :
    Ok (F := F) c (Mem c A X) (ap i A (k0_part95 (F := F)) v15 v2941 v3481 v3613 v3638 v3641 v3643 v3644 v3645) := by
  unfold ap; rw [k0_part95_eq_skeleton]; unfold k0_part95_skel
  refine tri_bind (ok_load' sel21) (fun _ => ?_)
  refine tri_bind (ok_store sel21) (fun _ => ?_)
  refine tri_bind (ok_load' sel21) (fun _ => ?_)
  refine tri_bind (ok_load' sel21) (fun _ => ?_)
  refine tri_bind (ok_store sel21) (fun _ => ?_)
  refine tri_bind (ok_load' sel23) (fun _ => ?_)
  refine tri_bind (ok_load' sel23) (fun _ => ?_)
  refine tri_bind (ok_store sel23) (fun _ => ?_)
  refine tri_bind (ok_load' sel24) (fun _ => ?_)
  refine tri_bind (ok_load' sel24) (fun _ => ?_)
  refine tri_bind (ok_store sel24) (fun _ => ?_)
  exact ok_pure _

end Cert.Kernel2Ideal.Run

end
-- ==== Proof.MSpec6.lean ====
module

public import proofs.«01_k».proof.Proof.MSpec8
public import proofs.«01_k».proof.Proof.MParts

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The stretches that open a grid point -/

/-- Stretch 2 of the body keeps every buffer. -/
theorem ok_part2 {c : Dev nD} {A : Args} {X : Ins F} (i : grid0.Coords) (v3721 : IVec S128x128 1) (v3725 : FVec F S128x128 .f32) (v3729 : FVec F S128x128 .f32) :
    Ok (F := F) c (Mem c A X) (ap i A (k0_part2 (F := F)) v3721 v3725 v3729) := by
  unfold ap; rw [k0_part2_eq_skeleton]; unfold k0_part2_skel
  refine tri_bind (ok_load' sel29) (fun _ => ?_)
  refine tri_bind (ok_store sel29) (fun _ => ?_)
  refine tri_bind (ok_load' sel30) (fun _ => ?_)
  refine tri_bind (ok_store sel30) (fun _ => ?_)
  refine tri_bind (ok_load sel15) (fun _ => ?_)
  refine tri_bind (ok_load sel15) (fun _ => ?_)
  refine tri_bind (ok_load' sel29) (fun _ => ?_)
  refine tri_bind (ok_store sel29) (fun _ => ?_)
  refine tri_bind (ok_load' sel30) (fun _ => ?_)
  refine tri_bind (ok_store sel30) (fun _ => ?_)
  refine tri_bind (ok_load sel15) (fun _ => ?_)
  exact ok_pure _

/-- Stretch 3 of the body keeps every buffer. -/
theorem ok_part3 {c : Dev nD} {A : Args} {X : Ins F} (i : grid0.Coords) (v3721 : IVec S128x128 1) (v3762 : Vec F S1x128x128 .f32) :
    Ok (F := F) c (Mem c A X) (ap i A (k0_part3 (F := F)) v3721 v3762) := by
  unfold ap; rw [k0_part3_eq_skeleton]; unfold k0_part3_skel
  refine tri_bind (ok_load sel15) (fun _ => ?_)
  refine tri_bind (ok_load' sel29) (fun _ => ?_)
  refine tri_bind (ok_store sel29) (fun _ => ?_)
  refine tri_bind (ok_load' sel30) (fun _ => ?_)
  refine tri_bind (ok_store sel30) (fun _ => ?_)
  refine tri_bind (ok_load sel15) (fun _ => ?_)
  refine tri_bind (ok_load sel15) (fun _ => ?_)
  refine tri_bind (ok_load' sel29) (fun _ => ?_)
  refine tri_bind (ok_store sel29) (fun _ => ?_)
  exact ok_pure _

/-- Stretch 4 of the body keeps every buffer. -/
theorem ok_part4 {c : Dev nD} {A : Args} {X : Ins F} (i : grid0.Coords) (v2 : IVec S128x128 1) (v3 : IVec S128x128 32) :
    Ok (F := F) c (Mem c A X) (ap i A (k0_part4 (F := F)) v2 v3) := by
  unfold ap; rw [k0_part4_eq_skeleton]; unfold k0_part4_skel
  refine tri_bind (ok_load' sel28) (fun _ => ?_)
  refine tri_bind (ok_load' sel28) (fun _ => ?_)
  refine tri_bind (ok_load' sel28) (fun _ => ?_)
  exact ok_pure _

/-- Stretch 5 of the body keeps every buffer. -/
theorem ok_part5 {c : Dev nD} {A : Args} {X : Ins F} (i : grid0.Coords) (v2 : IVec S128x128 1) (v3 : IVec S128x128 32) (v3741 : FVec F S128x128 .f32) (v3742 : Vec F S128x128 .f32) (cst_1607 : F .f32) :
    Ok (F := F) c (Mem c A X) (ap i A (k0_part5 (F := F)) v2 v3 v3741 v3742 cst_1607) := by
  unfold ap; rw [k0_part5_eq_skeleton]; unfold k0_part5_skel
  refine tri_bind (ok_load' sel28) (fun _ => ?_)
  refine tri_bind (ok_load' sel26) (fun _ => ?_)
  refine tri_bind (ok_store sel26) (fun _ => ?_)
  exact ok_pure _

/-- Stored over whole, the accumulator reads what was stored. -/
theorem whole_read (f : accM.view.ty.Contents (Elt F)) (w : Vec F S4096x1024 .f32) :
    accM.view.read (Elt F) ((accM.access (Rect.unit (s := S4096x1024) ![0, 0] S4096x1024.size inb_S4096x1024_S4096x1024_0_0)).write (Elt F) f w Finset.univ) = w := by
  funext z
  have h := congrFun (View.read_write_univ (v := accM.access (Rect.unit (s := S4096x1024) ![0, 0] S4096x1024.size inb_S4096x1024_S4096x1024_0_0)) f w) z
  have e : (Rect.unit (s := S4096x1024) ![0, 0] S4096x1024.size inb_S4096x1024_S4096x1024_0_0).emb z = z := by
    funext a; apply Fin.ext; rw [Rect.emb_apply]; fin_cases a <;> simp
  calc _ = accM.view.read (Elt F) _ ((Rect.unit (s := S4096x1024) ![0, 0] S4096x1024.size inb_S4096x1024_S4096x1024_0_0).emb z) := by rw [e]
    _ = w z := h

/-- Stretch 1 of the body clears the sums and the accumulator. -/
theorem tri_part1 {c : Dev nD} {A : Args} {X : Ins F} (i : grid0.Coords) :
    Tri (F := F) c iprop(Mem c A X ∗ Any c accM) (ap i A (k0_part1 (F := F))) (fun _ => iprop(Mem c A X ∗ owns (c : Thread nD τ) accM fullShare (k0_pay6 (F := F)))) := by
  unfold ap; rw [k0_part1_eq_skeleton]; unfold k0_part1_skel
  refine tri_bind (ok_load' (sel_in sel23)) (fun _ => ?_)
  refine tri_bind (ok_store (sel_in sel23)) (fun _ => ?_)
  refine tri_bind (ok_load' (sel_in sel24)) (fun _ => ?_)
  refine tri_bind (ok_store (sel_in sel24)) (fun _ => ?_)
  refine tri_bind (ok_load' (sel_in sel25)) (fun _ => ?_)
  refine tri_bind (ok_store (sel_in sel25)) (fun _ => ?_)
  refine tri_bind (ok_load' (sel_in sel27)) (fun _ => ?_)
  refine tri_bind (ok_store (sel_in sel27)) (fun _ => ?_)
  refine tri_bind (ok_load' (sel_in sel28)) (fun _ => ?_)
  refine tri_bind (ok_store (sel_in sel28)) (fun _ => ?_)
  refine tri_bind (ok_load' (sel_next sel_last)) (fun _ => ?_)
  refine tri_store_whole (y := k0_pay6 (F := F)) (fun f => whole_read f _) (swap_next swap_last) ?_
  refine tri_bind (ok_load (sel_in sel15)) (fun _ => ?_)
  refine tri_bind (ok_load (sel_in sel15)) (fun _ => ?_)
  exact ok_pure _

/-- The test for the first step. -/
theorem first_cond (a : BitVec 32) : (Scalar.cmpi .ne (Scalar.extui (Scalar.cmpi .eq a 0#32) : BitVec 32) 0#32 = 1#1) = (a = 0#32) := by
  by_cases h : a = 0#32
  · subst h; simp; decide
  · have : Scalar.cmpi .eq a 0#32 = 0#1 := by
      change BitVec.ofBool (a == 0#32) = 0#1
      rw [beq_eq_false_iff_ne.mpr h]; rfl
    rw [this]; simp [h]; decide

/-- Stretch 6 of the body, at the first point. -/
theorem tri_part6_first {c : Dev nD} {A : Args} {X : Ins F} (i : grid0.Coords) (h : BitVec.ofNat 32 (i 0).val = 0#32) :
    Tri (F := F) c iprop(Mem c A X ∗ Any c accM) (ap i A (k0_part6 (F := F))) (fun r => iprop(⌜r.1 = BitVec.ofNat 32 (i 0).val⌝ ∗ Mem c A X ∗ owns (c : Thread nD τ) accM fullShare (k0_pay6 (F := F)))) := by
  unfold ap; rw [k0_part6_eq_skeleton]; unfold k0_part6_skel
  refine tri_yes (cast (first_cond _).symm h) ?_
  refine tri_bind (tri_part1 i) (fun _ => ?_)
  refine tri_bind (tri_frame (ok_part2 i _ _ _)) (fun _ => ?_)
  refine tri_bind (tri_frame (ok_part3 i _ _)) (fun _ => ?_)
  refine tri_bind (ok_load' (sel_in sel30)) (fun _ => ?_)
  refine tri_bind (ok_store (sel_in sel30)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_load (sel_in sel13)) (fun _ => ?_)
  refine tri_bind (ok_load (sel_in sel5)) (fun _ => ?_)
  refine tri_bind (ok_load (sel_in sel7)) (fun _ => ?_)
  refine tri_bind (ok_load (sel_in sel4)) (fun _ => ?_)
  exact tri_pure_fact rfl

/-- Stretch 6 of the body, at a later point. -/
theorem tri_part6_later {c : Dev nD} {A : Args} {X : Ins F} {R : sProp 𝕄} (i : grid0.Coords) (h : ¬ BitVec.ofNat 32 (i 0).val = 0#32) :
    Tri (F := F) c iprop(Mem c A X ∗ R) (ap i A (k0_part6 (F := F))) (fun r => iprop(⌜r.1 = BitVec.ofNat 32 (i 0).val⌝ ∗ Mem c A X ∗ R)) := by
  unfold ap; rw [k0_part6_eq_skeleton]; unfold k0_part6_skel
  refine tri_no (fun g => h (cast (first_cond _) g)) ?_
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_word (sel_in sel17)) (fun _ => ?_)
  refine tri_bind (ok_load (sel_in sel13)) (fun _ => ?_)
  refine tri_bind (ok_load (sel_in sel5)) (fun _ => ?_)
  refine tri_bind (ok_load (sel_in sel7)) (fun _ => ?_)
  refine tri_bind (ok_load (sel_in sel4)) (fun _ => ?_)
  exact tri_pure_fact rfl

/-- Stretch 30 of the body reads the second column block. -/
theorem tri_part30 {c : Dev nD} {A : Args} {X : Ins F} (i : grid0.Coords) (v953 : FVec F S256x128 .bf16) (v955 : FVec F S256x128 .bf16) (v957 : FVec F S256x128 .bf16) (v959 : FVec F S256x128 .bf16) (v969 : FVec F S256x128 .bf16) (v971 : FVec F S256x128 .bf16) (v973 : FVec F S256x128 .bf16) (v975 : FVec F S256x128 .bf16) (v976 : Vec F S128x128 .bf16) (v977 : Vec F S128x128 .bf16) :
    Tri (F := F) c (Mem c A X) (ap i A (k0_part30 (F := F)) v953 v955 v957 v959 v969 v971 v973 v975 v976 v977) (fun r => iprop(⌜r.2.2.2.2.2.2.2.2.2.2.2.2.2.2.2.2.2.2 = k0_pay266 (col1 X)⌝ ∗ Mem c A X)) := by
  unfold ap; rw [k0_part30_eq_skeleton]; unfold k0_part30_skel
  refine tri_bind (ok_load sel3) (fun _ => ?_)
  refine tri_bind (ok_load sel3) (fun _ => ?_)
  refine tri_bind (ok_load sel8) (fun _ => ?_)
  refine tri_bind (ok_load sel3) (fun _ => ?_)
  refine tri_load sel18 ?_
  exact tri_pure_fact rfl

/-- Stretch 75 of the body reads the fourth row block and its factors. -/
theorem tri_part75 {c : Dev nD} {A : Args} {X : Ins F} (i : grid0.Coords) {x y : Vec F S1024x1024 .f32} (v2793 : FVec F S256x128 .bf16) (v2795 : FVec F S256x128 .bf16) (v2797 : FVec F S256x128 .bf16) (v2799 : FVec F S256x128 .bf16) (v2809 : FVec F S256x128 .bf16) (v2811 : FVec F S256x128 .bf16) (v2813 : FVec F S256x128 .bf16) (v2815 : FVec F S256x128 .bf16) (v2816 : Vec F S128x128 .bf16) (v2817 : Vec F S128x128 .bf16) (v2818 : Vec F S128x128 .bf16) (v2819 : Vec F S128x128 .bf16) :
    Tri (F := F) c iprop(Mem c A X ∗ Rest c acc3 hb3 (.dma 44) x y) (ap i A (k0_part75 (F := F)) v2793 v2795 v2797 v2799 v2809 v2811 v2813 v2815 v2816 v2817 v2818 v2819) (fun r => iprop(⌜r.2.2.2.2.2.2.2.2.2.2.2.2.2.2.2.2.2.2.1 = x ∧ r.2.2.2.2.2.2.2.2.2.2.2.2.2.2.2.2.2.2.2.1 = k0_pay665 (col3 X) ∧ r.2.2.2.2.2.2.2.2.2.2.2.2.2.2.2.2.2.2.2.2 = k0_pay666 (fac X)⌝ ∗ Mem c A X ∗ Rest c acc3 hb3 (.dma 44) x y)) := by
  unfold ap; rw [k0_part75_eq_skeleton]; unfold k0_part75_skel
  refine tri_bind (ok_load (sel_in sel8)) (fun _ => ?_)
  refine tri_bind (ok_load (sel_in sel3)) (fun _ => ?_)
  refine tri_load (sel_in sel18) ?_
  refine tri_load_row (sel_next (rest_sel (F := F))) ?_
  refine tri_load (sel_in sel19) ?_
  exact tri_pure_fact ⟨rfl, rfl, rfl⟩

end Cert.Kernel2Ideal.Run

end
-- ==== Proof.MRun.lean ====
module

public import proofs.«01_k».proof.Proof.MSpec6

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body, stretch after stretch -/

section
variable {α : Type} {c : Dev nD}
/-- A stretch that works on one of the row blocks, among all of them. -/
theorem tri_at {M T T' R R' : sProp 𝕄} {p : Prog (TpuEff nD τ sig (Elt F) Λ₀ .tc) α} (hs : Swap R T T' R') (h : Tri c iprop(M ∗ T) p (fun _ => iprop(M ∗ T'))) :
    Tri c iprop(M ∗ R) p (fun _ => iprop(M ∗ R')) := fun K => by
  refine (sep_mono_left (sep_mono_right hs)).trans (BIBase.Entails.trans ?_ (h K))
  iintro ⟨⟨HM, HT, HR⟩, HK⟩
  isplitl [HM HT]
  · isplitl [HM]; · iexact HM
    iexact HT
  iintro %a ⟨HM, HT⟩
  iapply HK
  isplitl [HM]; · iexact HM
  iapply HR; iexact HT
/-- The same, of a stretch that tells something of its answer. -/
theorem tri_at_fact {M T T' R R' : sProp 𝕄} {p : Prog (TpuEff nD τ sig (Elt F) Λ₀ .tc) α} {φ : α → Prop} (hs : Swap R T T' R') (h : Tri c iprop(M ∗ T) p (fun a => iprop(⌜φ a⌝ ∗ M ∗ T'))) :
    Tri c iprop(M ∗ R) p (fun a => iprop(⌜φ a⌝ ∗ M ∗ R')) := fun K => by
  refine (sep_mono_left (sep_mono_right hs)).trans (BIBase.Entails.trans ?_ (h K))
  iintro ⟨⟨HM, HT, HR⟩, HK⟩
  isplitl [HM HT]
  · isplitl [HM]; · iexact HM
    iexact HT
  iintro %a ⟨%ha, HM, HT⟩
  iapply HK
  isplitr; · ipureintro; exact ha
  isplitl [HM]; · iexact HM
  iapply HR; iexact HT
/-- A stretch that works on no row block, telling something of its answer. -/
theorem tri_frame_fact {M R : sProp 𝕄} {p : Prog (TpuEff nD τ sig (Elt F) Λ₀ .tc) α} {φ : α → Prop} (h : Tri c M p (fun a => iprop(⌜φ a⌝ ∗ M))) :
    Tri c iprop(M ∗ R) p (fun a => iprop(⌜φ a⌝ ∗ M ∗ R)) := fun K => by
  refine BIBase.Entails.trans ?_ (h K)
  iintro ⟨⟨HM, HR⟩, HK⟩
  isplitl [HM]; · iexact HM
  iintro %a ⟨%ha, HM⟩
  iapply HK
  isplitr; · ipureintro; exact ha
  isplitl [HM]; · iexact HM
  iexact HR
end

/-- Stretch 31, as the run meets it. -/
theorem tri_part31' {c : Dev nD} {A : Args} {X : Ins F} (i : grid0.Coords) {x y : Vec F S1024x1024 .f32} (arg0 : BitVec 32) (v : FVec F S512x1024 .bf16) (hv : v = k0_pay266 (col1 X)) :
    Tri (F := F) c iprop(Mem c A X ∗ Rest c acc1 hb1 (.dma 42) x y) (ap i A (k0_part31 (F := F)) arg0 v) (fun _ => iprop(Mem c A X ∗ Aft arg0 c acc1 hb1 (.dma 42) (nxt1 X x) y)) := by
  subst hv; exact tri_part31 i arg0
/-- Stretch 76, as the run meets it. -/
theorem tri_part76' {c : Dev nD} {A : Args} {X : Ins F} (i : grid0.Coords) {x y : Vec F S1024x1024 .f32} (arg0 : BitVec 32) (u : Vec F S1024x1024 .f32) (v w : FVec F S512x1024 .bf16)
    (h : u = x ∧ v = k0_pay665 (col3 X) ∧ w = k0_pay666 (fac X)) :
    Tri (F := F) c iprop(Mem c A X ∗ Rest c acc3 hb3 (.dma 44) x y) (ap i A (k0_part76 (F := F)) arg0 u v w) (fun _ => iprop(Mem c A X ∗ Aft arg0 c acc3 hb3 (.dma 44) (nxt3 X x) y)) := by
  obtain ⟨rfl, rfl, rfl⟩ := h; exact tri_part76 i arg0

/-- The first half of the body: it ends with three of the row blocks stored. -/
theorem tri_part96 {c : Dev nD} {A : Args} {X : Ins F} (i : grid0.Coords) {x0 x1 x2 x3 y0 y1 y2 y3 : Vec F S1024x1024 .f32} {P : sProp 𝕄} {a : BitVec 32}
    (h6 : Tri (F := F) c P (ap i A (k0_part6 (F := F))) (fun r => iprop(⌜r.1 = a⌝ ∗ Mem c A X ∗ Rest c acc0 hb0 (.dma 41) x0 y0 ∗ Rest c acc1 hb1 (.dma 42) x1 y1 ∗ Rest c acc2 hb2 (.dma 43) x2 y2 ∗ Rest c acc3 hb3 (.dma 44) x3 y3))) :
    Tri (F := F) c P (ap i A (k0_part96 (F := F))) (fun r => iprop(⌜r.1 = a⌝ ∗ Mem c A X ∗ Aft a c acc0 hb0 (.dma 41) (nxt0 X x0) y0 ∗ Aft a c acc1 hb1 (.dma 42) (nxt1 X x1) y1 ∗ Aft a c acc2 hb2 (.dma 43) (nxt2 X x2) y2 ∗ Rest c acc3 hb3 (.dma 44) x3 y3)) := by
  unfold ap; rw [k0_part96_eq_skeleton]; unfold k0_part96_skel
  refine tri_bind_fact h6 (fun r hr => ?_)
  obtain ⟨arg0, r⟩ := r
  have hr : arg0 = a := hr
  subst hr
  refine tri_bind (tri_frame (ok_part7 i _ _ _ _ _ _)) (fun _ => ?_)
  refine tri_bind (tri_at swap_here (tri_part8 i _ _ _ _ _ _ _ _ _ _ _ _)) (fun _ => ?_)
  refine tri_bind (tri_frame (ok_part9 i _ _ _)) (fun _ => ?_)
  refine tri_bind (tri_frame (ok_part10 i _ _ _ _ _)) (fun _ => ?_)
  refine tri_bind (tri_frame (ok_part11 i _ _ _ _ _)) (fun _ => ?_)
  refine tri_bind (tri_frame (ok_part12 i _ _ _ _ _ _ _ _ _)) (fun _ => ?_)
  refine tri_bind (tri_frame (ok_part13 i _ _ _ _ _ _ _ _ _ _ _ _ _ _ _ _ _ _)) (fun _ => ?_)
  refine tri_bind (tri_frame (ok_part14 i _ _ _ _ _ _ _ _ _ _ _ _ _ _ _ _ _ _ _ _ _ _ _ _)) (fun _ => ?_)
  refine tri_bind (tri_frame (ok_part15 i _ _ _ _ _ _ _ _ _ _ _ _ _ _ _ _ _ _ _)) (fun _ => ?_)
  refine tri_bind (tri_frame (ok_part16 i _ _ _ _ _ _ _ _ _ _ _ _ _ _ _ _ _ _ _)) (fun _ => ?_)
  refine tri_bind (tri_frame (ok_part17 i _ _ _ _ _ _ _ _ _ _ _ _ _ _ _ _ _)) (fun _ => ?_)
  refine tri_bind (tri_frame (ok_part18 i _ _ _ _ _ _ _ _)) (fun _ => ?_)
  refine tri_bind (tri_frame (ok_part19 i _ _ _ _ _ _ _ _ _ _ _ _)) (fun _ => ?_)
  refine tri_bind (tri_frame (ok_part20 i _ _ _ _ _ _ _ _ _ _ _ _ _ _ _ _ _ _ _ _ _ _ _ _ _ _)) (fun _ => ?_)
  refine tri_bind (tri_frame (ok_part21 i _ _ _ _ _)) (fun _ => ?_)
  refine tri_bind (tri_frame (ok_part22 i _ _ _ _ _)) (fun _ => ?_)
  refine tri_bind (tri_frame (ok_part23 i _ _ _ _ _ _ _ _ _ _ _)) (fun _ => ?_)
  refine tri_bind (tri_frame (ok_part24 i _ _ _ _ _ _ _ _ _ _ _ _ _ _ _ _)) (fun _ => ?_)
  refine tri_bind (tri_frame (ok_part25 i _ _ _ _ _ _ _ _ _ _ _ _)) (fun _ => ?_)
  refine tri_bind (tri_frame (ok_part26 i _ _ _ _ _ _ _ _)) (fun _ => ?_)
  refine tri_bind (tri_frame (ok_part27 i _ _ _ _ _ _ _ _ _)) (fun _ => ?_)
  refine tri_bind (tri_frame (ok_part28 i _ _ _ _ _ _ _)) (fun _ => ?_)
  refine tri_bind (tri_frame (ok_part29 i _ _)) (fun _ => ?_)
  refine tri_bind_fact (tri_frame_fact (tri_part30 i _ _ _ _ _ _ _ _ _ _)) (fun r hr => ?_)
  refine tri_bind (tri_at (swap_next (swap_here)) (tri_part31' i _ _ hr)) (fun _ => ?_)
  refine tri_bind (tri_frame (ok_part32 i _ _ _ _)) (fun _ => ?_)
  refine tri_bind (tri_frame (ok_part33 i _ _ _)) (fun _ => ?_)
  refine tri_bind (tri_frame (ok_part34 i _ _ _ _ _ _ _ _)) (fun _ => ?_)
  refine tri_bind (tri_frame (ok_part35 i _ _ _ _ _ _ _ _ _ _ _ _ _ _)) (fun _ => ?_)
  refine tri_bind (tri_frame (ok_part36 i _ _ _ _ _ _ _ _ _ _ _ _ _ _ _ _ _ _ _ _ _)) (fun _ => ?_)
  refine tri_bind (tri_frame (ok_part37 i _ _ _ _ _ _ _ _ _ _ _ _ _ _ _ _ _ _)) (fun _ => ?_)
  refine tri_bind (tri_frame (ok_part38 i _ _ _ _ _ _ _ _ _ _ _ _ _ _ _ _ _ _ _ _ _ _ _ _ _)) (fun _ => ?_)
  refine tri_bind (tri_frame (ok_part39 i _ _ _ _ _ _ _ _ _ _ _ _ _ _ _ _ _ _ _ _ _)) (fun _ => ?_)
  refine tri_bind (tri_frame (ok_part40 i _ _ _ _ _ _)) (fun _ => ?_)
  refine tri_bind (tri_frame (ok_part41 i _ _ _ _ _ _ _)) (fun _ => ?_)
  refine tri_bind (tri_frame (ok_part42 i _ _ _ _ _ _ _ _ _ _ _ _ _ _ _ _)) (fun _ => ?_)
  refine tri_bind (tri_frame (ok_part43 i _ _ _ _ _ _ _ _ _ _ _ _ _ _ _ _ _)) (fun _ => ?_)
  refine tri_bind (tri_frame (ok_part44 i _ _ _ _ _)) (fun _ => ?_)
  refine tri_bind (tri_frame (ok_part45 i _ _ _ _ _ _)) (fun _ => ?_)
  refine tri_bind (tri_frame (ok_part46 i _ _ _ _ _ _ _ _ _ _ _ _ _ _)) (fun _ => ?_)
  refine tri_bind (tri_frame (ok_part47 i _ _ _ _ _ _ _ _ _ _ _ _ _ _ _ _)) (fun _ => ?_)
  refine tri_bind (tri_frame (ok_part48 i _ _ _ _ _ _ _)) (fun _ => ?_)
  refine tri_bind (tri_frame (ok_part49 i _ _ _ _ _ _ _ _ _)) (fun _ => ?_)
  refine tri_bind (tri_frame (ok_part50 i _ _ _ _ _ _ _)) (fun _ => ?_)
  refine tri_bind (tri_frame (ok_part51 i _ _ _ _ _ _ _)) (fun _ => ?_)
  refine tri_bind (tri_frame (ok_part52 i _ _ _ _ _)) (fun _ => ?_)
  refine tri_bind (tri_at (swap_next (swap_next (swap_here))) (tri_part53 i _ _ _ _ _ _ _ _ _)) (fun _ => ?_)
  refine tri_bind (tri_frame (ok_part54 i _ _ _ _)) (fun _ => ?_)
  refine tri_bind (tri_frame (ok_part55 i _ _ _ _ _ _ _)) (fun _ => ?_)
  refine tri_bind (tri_frame (ok_part56 i _ _ _ _ _)) (fun _ => ?_)
  refine tri_bind (tri_frame (ok_part57 i _ _ _ _ _ _ _ _ _ _ _ _)) (fun _ => ?_)
  refine tri_bind (tri_frame (ok_part58 i _ _ _ _ _ _ _ _ _ _ _ _ _ _ _ _ _ _)) (fun _ => ?_)
  refine tri_bind (tri_frame (ok_part59 i _ _ _ _ _ _ _ _ _ _ _ _ _ _ _ _ _ _ _ _ _ _ _)) (fun _ => ?_)
  refine tri_bind (tri_frame (ok_part60 i _ _ _ _ _ _ _ _ _ _ _ _ _ _ _ _ _ _ _ _ _)) (fun _ => ?_)
  refine tri_bind (tri_frame (ok_part61 i _ _ _ _ _ _ _ _ _ _ _ _ _ _ _ _ _ _ _ _)) (fun _ => ?_)
  refine tri_bind (tri_frame (ok_part62 i _ _ _ _ _ _ _ _ _ _ _ _ _ _ _ _)) (fun _ => ?_)
  refine tri_bind (tri_frame (ok_part63 i _ _ _ _ _ _)) (fun _ => ?_)
  refine tri_bind (tri_frame (ok_part64 i _ _ _ _ _ _ _ _ _ _ _ _ _ _ _ _)) (fun _ => ?_)
  refine tri_bind (tri_frame (ok_part65 i _ _ _ _ _ _ _ _ _ _ _ _ _ _ _ _ _ _ _ _ _ _ _ _ _ _)) (fun _ => ?_)
  exact tri_pure_fact rfl

/-- The second half of the body: it ends with the fourth row block stored too. -/
theorem tri_part97 {c : Dev nD} {A : Args} {X : Ins F} (i : grid0.Coords) {x y : Vec F S1024x1024 .f32} {T0 T1 T2 : sProp 𝕄} (arg0 : BitVec 32) (v2 : IVec S128x128 1) (v7 : Elt F .f32) (v8 : Elt F .f32) (v9 : Elt F .f32) (v10 : Elt F .f32) (v11 : Elt F .f32) (v12 : Elt F .f32) (v13 : Elt F .f32) (v14 : Elt F .f32) (v15 : Vec F S1x512 .f32) (v18 : IVec S128x128 1) (v19 : IVec S1x128 32) (v1861 : BitVec 32) (v2005 : FVec F S128x512 .f32) (v2019 : FVec F S128x1 .f32) (v2021 : FVec F S128x512 .f32) (v2026 : FVec F S128x512 .f32) (v2176 : FVec F S128x1 .f32) (v2179 : FVec F S128x1 .f32) (v2182 : FVec F S128x1 .f32) (v2185 : FVec F S128x1 .f32) (v2188 : FVec F S128x1 .f32) (v2191 : FVec F S128x1 .f32) (v2194 : FVec F S128x1 .f32) (v2197 : FVec F S128x1 .f32) (v2202 : FVec F S128x1 .f32) (v2207 : FVec F S128x1 .f32) (v2212 : FVec F S128x1 .f32) (v2217 : FVec F S128x1 .f32) (v2222 : FVec F S128x1 .f32) (v2227 : FVec F S128x1 .f32) (v2232 : FVec F S128x1 .f32) (v2237 : FVec F S128x1 .f32) (v2256 : FVec F S128x1 .f32) (v2259 : FVec F S128x1 .f32) (v2262 : FVec F S128x1 .f32) (v2265 : FVec F S128x1 .f32) (v2268 : FVec F S128x1 .f32) (v2271 : FVec F S128x1 .f32) (v2274 : FVec F S128x1 .f32) (v2277 : FVec F S128x1 .f32) (v2355 : FVec F S256x128 .bf16) (v2377 : FVec F S256x128 .bf16) (v2399 : FVec F S256x128 .bf16) (v2421 : FVec F S256x128 .bf16) (v2434 : FVec F S128x512 .f32) (v2449 : FVec F S128x256 .f32) (v2464 : FVec F S128x256 .f32) (v2467 : FVec F S256x128 .f32) (v2476 : FVec F S1x128x128 .f32) :
    Tri (F := F) c iprop(Mem c A X ∗ T0 ∗ T1 ∗ T2 ∗ Rest c acc3 hb3 (.dma 44) x y) (ap i A (k0_part97 (F := F)) arg0 v2 v7 v8 v9 v10 v11 v12 v13 v14 v15 v18 v19 v1861 v2005 v2019 v2021 v2026 v2176 v2179 v2182 v2185 v2188 v2191 v2194 v2197 v2202 v2207 v2212 v2217 v2222 v2227 v2232 v2237 v2256 v2259 v2262 v2265 v2268 v2271 v2274 v2277 v2355 v2377 v2399 v2421 v2434 v2449 v2464 v2467 v2476) (fun r => iprop(Mem c A X ∗ T0 ∗ T1 ∗ T2 ∗ Aft arg0 c acc3 hb3 (.dma 44) (nxt3 X x) y)) := by
  unfold ap; rw [k0_part97_eq_skeleton]; unfold k0_part97_skel
  refine tri_bind (tri_frame (ok_part66 i _ _ _ _ _ _)) (fun _ => ?_)
  refine tri_bind (tri_frame (ok_part67 i _ _ _ _)) (fun _ => ?_)
  refine tri_bind (tri_frame (ok_part68 i _ _ _ _ _ _ _ _ _ _ _)) (fun _ => ?_)
  refine tri_bind (tri_frame (ok_part69 i _ _ _ _ _ _ _ _ _ _ _ _ _ _)) (fun _ => ?_)
  refine tri_bind (tri_frame (ok_part70 i _ _ _ _ _ _ _ _ _ _ _ _ _)) (fun _ => ?_)
  refine tri_bind (tri_frame (ok_part71 i _ _ _ _ _)) (fun _ => ?_)
  refine tri_bind (tri_frame (ok_part72 i _ _ _ _ _ _ _ _ _)) (fun _ => ?_)
  refine tri_bind (tri_frame (ok_part73 i _ _ _ _ _ _ _)) (fun _ => ?_)
  refine tri_bind (tri_frame (ok_part74 i)) (fun _ => ?_)
  refine tri_bind_fact (tri_at_fact (swap_next (swap_next (swap_next swap_last))) (tri_part75 i _ _ _ _ _ _ _ _ _ _ _ _)) (fun r hr => ?_)
  refine tri_bind (tri_at (swap_next (swap_next (swap_next swap_last))) (tri_part76' i _ _ _ _ hr)) (fun _ => ?_)
  refine tri_bind (tri_frame (ok_part77 i _ _)) (fun _ => ?_)
  refine tri_bind (tri_frame (ok_part78 i _ _ _ _ _)) (fun _ => ?_)
  refine tri_bind (tri_frame (ok_part79 i _ _ _ _ _ _ _ _)) (fun _ => ?_)
  refine tri_bind (tri_frame (ok_part80 i _ _ _ _ _ _ _ _ _ _ _ _ _ _ _)) (fun _ => ?_)
  refine tri_bind (tri_frame (ok_part81 i _ _ _ _ _ _ _ _ _ _ _ _ _ _ _ _ _ _ _ _ _ _)) (fun _ => ?_)
  refine tri_bind (tri_frame (ok_part82 i _ _ _ _ _ _ _ _ _ _ _ _ _ _ _ _)) (fun _ => ?_)
  refine tri_bind (tri_frame (ok_part83 i _ _ _ _ _ _ _ _ _ _ _ _ _ _ _ _ _ _ _ _ _ _)) (fun _ => ?_)
  refine tri_bind (tri_frame (ok_part84 i _ _ _ _ _ _ _ _ _ _ _ _ _ _ _ _ _ _ _ _ _)) (fun _ => ?_)
  refine tri_bind (tri_frame (ok_part85 i _ _ _ _ _ _)) (fun _ => ?_)
  refine tri_bind (tri_frame (ok_part86 i _ _ _ _ _)) (fun _ => ?_)
  refine tri_bind (tri_frame (ok_part87 i _ _ _ _ _ _ _ _ _ _ _ _ _ _ _ _ _ _ _ _ _)) (fun _ => ?_)
  refine tri_bind (tri_frame (ok_part88 i _ _ _ _ _ _ _ _ _ _ _ _)) (fun _ => ?_)
  refine tri_bind (tri_frame (ok_part89 i _ _ _ _ _)) (fun _ => ?_)
  refine tri_bind (tri_frame (ok_part90 i _ _ _ _ _ _ _)) (fun _ => ?_)
  refine tri_bind (tri_frame (ok_part91 i _ _ _ _ _ _ _ _ _ _ _ _ _ _)) (fun _ => ?_)
  refine tri_bind (tri_frame (ok_part92 i _ _ _ _ _ _ _ _ _ _ _ _ _ _ _)) (fun _ => ?_)
  refine tri_bind (tri_frame (ok_part93 i _ _ _ _ _ _ _)) (fun _ => ?_)
  refine tri_bind (tri_frame (ok_part94 i _ _ _ _ _ _ _ _ _ _ _)) (fun _ => ?_)
  refine tri_bind (tri_frame (ok_part95 i _ _ _ _ _ _ _ _ _)) (fun _ => ?_)
  refine tri_bind (ok_load' (sel_in sel20)) (fun _ => ?_)
  refine tri_bind (ok_store (sel_in sel20)) (fun _ => ?_)
  exact ok_pure _

end Cert.Kernel2Ideal.Run

end
-- ==== Proof.MBody.lean ====
module

public import proofs.«01_k».proof.Proof.MRun

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One grid point -/

section
variable {α : Type} {c : Dev nD}
/-- A run keeps what stands beside it. -/
theorem tri_left {P R : sProp 𝕄} {p : Prog (TpuEff nD τ sig (Elt F) Λ₀ .tc) α} {Q : α → sProp 𝕄} (h : Tri c P p Q) : Tri c iprop(R ∗ P) p (fun a => iprop(R ∗ Q a)) :=
  tri_conseq (tri_frame (R := R) h) (by iintro ⟨H1, H2⟩; isplitl [H2]; (· iexact H2); iexact H1) (fun a => by iintro ⟨H1, H2⟩; isplitl [H2]; (· iexact H2); iexact H1)
/-- The same, with a fact about the result. -/
theorem tri_left_fact {P G R : sProp 𝕄} {p : Prog (TpuEff nD τ sig (Elt F) Λ₀ .tc) α} {φ : α → Prop} (h : Tri c P p (fun a => iprop(⌜φ a⌝ ∗ G))) : Tri c iprop(R ∗ P) p (fun a => iprop(⌜φ a⌝ ∗ R ∗ G)) :=
  tri_conseq (tri_left (R := R) h) .rfl (fun a => by iintro ⟨H1, %ha, H2⟩; isplitr; (· ipureintro; exact ha); isplitl [H1]; (· iexact H1); iexact H2)
end

/-- The body at a point that is not the last. -/
theorem tri_body {c : Dev nD} {A : Args} {X : Ins F} (i : grid0.Coords) {x0 x1 x2 x3 y0 y1 y2 y3 : Vec F S1024x1024 .f32} {P : sProp 𝕄} {a : BitVec 32} (ha : ¬ a = 7#32) (hc : ¬ k0_cond6 i = 1#1)
    (h6 : Tri (F := F) c P (ap i A (k0_part6 (F := F))) (fun r => iprop(⌜r.1 = a⌝ ∗ Mem c A X ∗ Rest c acc0 hb0 (.dma 41) x0 y0 ∗ Rest c acc1 hb1 (.dma 42) x1 y1 ∗ Rest c acc2 hb2 (.dma 43) x2 y2 ∗ Rest c acc3 hb3 (.dma 44) x3 y3))) :
    Tri (F := F) c P (ap i A (cc0_mixer_bwd (F := F))) (fun _ => iprop(Mem c A X ∗ Rest c acc0 hb0 (.dma 41) (nxt0 X x0) y0 ∗ Rest c acc1 hb1 (.dma 42) (nxt1 X x1) y1 ∗ Rest c acc2 hb2 (.dma 43) (nxt2 X x2) y2 ∗ Rest c acc3 hb3 (.dma 44) (nxt3 X x3) y3)) := by
  unfold ap; rw [cc0_mixer_bwd_eq_skeleton]; unfold cc0_mixer_bwd_skel
  refine tri_bind_fact (tri_part96 i h6) (fun r hr => ?_)
  obtain ⟨arg0, r⟩ := r
  have hr : arg0 = a := hr
  subst hr
  refine tri_bind (tri_part97 i _ _ _ _ _ _ _ _ _ _ _ _ _ _ _ _ _ _ _ _ _ _ _ _ _ _ _ _ _ _ _ _ _ _ _ _ _ _ _ _ _ _ _ _ _ _ _ _ _ _ _) (fun _ => ?_)
  refine tri_no hc ?_
  unfold Aft; rw [if_neg ha, if_neg ha, if_neg ha, if_neg ha]
  exact ok_pure _

/-- The body at the last point: the row blocks sent off arrive. -/
theorem tri_body_last {c : Dev nD} {A : Args} {X : Ins F} (i : grid0.Coords) {x0 x1 x2 x3 y0 y1 y2 y3 : Vec F S1024x1024 .f32} {P : sProp 𝕄} {a : BitVec 32} (ha : a = 7#32) (hc : k0_cond6 i = 1#1)
    (h6 : Tri (F := F) c P (ap i A (k0_part6 (F := F))) (fun r => iprop(⌜r.1 = a⌝ ∗ Mem c A X ∗ Rest c acc0 hb0 (.dma 41) x0 y0 ∗ Rest c acc1 hb1 (.dma 42) x1 y1 ∗ Rest c acc2 hb2 (.dma 43) x2 y2 ∗ Rest c acc3 hb3 (.dma 44) x3 y3))) :
    Tri (F := F) c iprop(Ow c ∗ P) (ap i A (cc0_mixer_bwd (F := F))) (fun _ => iprop(Ow c ∗ Mem c A X ∗ Rest c acc0 hb0 (.dma 41) (nxt0 X x0) (nxt0 X x0) ∗ Rest c acc1 hb1 (.dma 42) (nxt1 X x1) (nxt1 X x1) ∗ Rest c acc2 hb2 (.dma 43) (nxt2 X x2) (nxt2 X x2) ∗ Rest c acc3 hb3 (.dma 44) (nxt3 X x3) (nxt3 X x3))) := by
  unfold ap; rw [cc0_mixer_bwd_eq_skeleton]; unfold cc0_mixer_bwd_skel
  refine tri_bind_fact (tri_left_fact (tri_part96 i h6)) (fun r hr => ?_)
  obtain ⟨arg0, r⟩ := r
  have hr : arg0 = a := hr
  subst hr
  refine tri_bind (tri_left (tri_part97 i _ _ _ _ _ _ _ _ _ _ _ _ _ _ _ _ _ _ _ _ _ _ _ _ _ _ _ _ _ _ _ _ _ _ _ _ _ _ _ _ _ _ _ _ _ _ _ _ _ _ _)) (fun _ => ?_)
  refine tri_yes hc ?_
  unfold Aft; rw [if_pos ha, if_pos ha, if_pos ha, if_pos ha]
  refine tri_bind (tri_left (tri_frame (ok_part4 i _ _))) (fun _ => ?_)
  refine tri_bind (tri_left (tri_frame (ok_part5 i _ _ _ _ _))) (fun _ => ?_)
  refine tri_arrive (src := acc0) (swap_next swap_here) ?_
  refine tri_arrive (src := acc1) (swap_next (swap_next swap_here)) ?_
  refine tri_arrive (src := acc2) (swap_next (swap_next (swap_next swap_here))) ?_
  refine tri_arrive (src := acc3) (swap_next (swap_next (swap_next (swap_next swap_last)))) ?_
  exact ok_pure _

end Cert.Kernel2Ideal.Run

end
-- ==== Proof.MFrame.lean ====
module

public import proofs.«01_k».proof.Proof.MBody
public import Idealize.ShloMosaic.Lib.Claim

@[expose] public section

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch

The gradient of the second feed-forward weight leaves through copies the body itself starts, so the launch is taken
over the resource algebra of a pipeline whose body has transfers of its own. What the results that leave through the
pipeline hold is not kept. -/

/-- The host operations before the kernel run, and the kernel's launch follows them. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The result the body's own copies write. -/
def R0 : Finset (Ref sig .tc) := {main_v5_2}
/-- No operand left in HBM is only read. -/
def H0 : Finset (Ref sig .tc) := {}
/-- What is only read is no window. -/
theorem H0_sub : H0 ⊆ Pipeline.restRefs sig spec0 := by decide
/-- The copied array is no window and not only read. -/
theorem R0_sub : R0 ⊆ Pipeline.restRefs sig spec0 \ H0 := by decide

/-- The semaphores of the body's own copies. -/
abbrev osem0 : Fin 4 → SemLoc sig := fun j => (![SemLoc.dma 41, SemLoc.dma 42, SemLoc.dma 43, SemLoc.dma 44] : Fin 4 → SemLoc sig) j
/-- The call's own semaphores are its own. -/
theorem ownSemFacts0 : Pipeline.OwnSemFacts spec0 osem0 := by decide
/-- The semaphores of the body's own copies are at zero. -/
def cellsZero (c : Dev nD) : sProp 𝕄 := iprop(semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0)
/-- The call's own semaphores, listed. -/
theorem ownSems00_eq (c : Dev nD) :
    (Pipeline.ownSems0 (Ix := Unit) (Name := ℕ) (U := Pipeline.UD sig nD τ) (Lvl := ℕ) (Val := Elt F) (τ := τ) osem0 c : sProp 𝕄) = cellsZero c := by
  rw [Pipeline.ownSems0_eq_of_list c osem0 [0, 1, 2, 3] (by decide) (by decide)]; rfl
/-- Nothing is only read. -/
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl

/-- What the launch hands the kernel beside its windows, or takes back, the copied result at `G`. -/
theorem launch_eq (G : (c : Dev nD) → (b : Ref sig .tc) → Buf (Elt F) ((c : Thread nD τ).loc b)) (c : Dev nD) :
    (Pipeline.ΦDRG osem0 spec0 H0 R0 (V m) G c : sProp 𝕄)
      = iprop(iprop(Any c (Memref.whole cc0_scratch0) ∗ Any c (Memref.whole cc0_scratch1) ∗ Any c (Memref.whole cc0_scratch2) ∗ Any c accM) ∗ (∃ r, prngReg c r) ∗ cellsZero c ∗ iprop(emp) ∗ owns (c : Thread nD τ) hbM fullShare (G c main_v5_2)) := by
  have hR : (Pipeline.routed R0 c (G c) : sProp 𝕄) = owns (c : Thread nD τ) hbM fullShare (G c main_v5_2) := by
    unfold Pipeline.routed; rw [BI.bigSep_eq_bigSepL_of_eq [main_v5_2] (by decide) (by decide)]
    simp only [BI.bigSepL_singleton, hbM, owns_whole]
  rw [Pipeline.ΦDRG_eq, scopedRest0_eq, ownSems00_eq, hbmPts0_eq, hR]; simp only [Any, accM, owns_whole]; try rfl

/-! ## The rows of the accumulator before each point -/

/-- Four row blocks. -/
structure Rows (F : FTy → Type) [FloatOps F] where
  r0 : Vec F S1024x1024 .f32
  r1 : Vec F S1024x1024 .f32
  r2 : Vec F S1024x1024 .f32
  r3 : Vec F S1024x1024 .f32

/-- The row blocks of a whole array. -/
def parts (x : Vec F S4096x1024 .f32) : Rows F := ⟨fun j => x (rr0.emb j), fun j => x (rr1.emb j), fun j => x (rr2.emb j), fun j => x (rr3.emb j)⟩

/-- The accumulator's row blocks before position `n`: cleared at the start, and one product added at every point. -/
def accs (c : Dev nD) : (n : ℕ) → n ≤ cfg0.N → Rows F
  | 0, _ => parts (k0_pay6 (F := F))
  | n + 1, h => ⟨nxt0 (ins m c ⟨n, h⟩) (accs c n (Nat.le_of_lt h)).r0, nxt1 (ins m c ⟨n, h⟩) (accs c n (Nat.le_of_lt h)).r1,
      nxt2 (ins m c ⟨n, h⟩) (accs c n (Nat.le_of_lt h)).r2, nxt3 (ins m c ⟨n, h⟩) (accs c n (Nat.le_of_lt h)).r3⟩

/-- The copied result's row blocks before position `n`: as launched until the last point has run. -/
def hbs (c : Dev nD) (n : ℕ) (h : n ≤ cfg0.N) : Rows F := if n = 8 then accs m c n h else parts (V m c main_v5_2)

/-- The row blocks at rest, the accumulator's at `x`, the result's at `y`. -/
def Four (c : Dev nD) (x y : Rows F) : sProp 𝕄 := iprop(Rest c acc0 hb0 (.dma 41) (x.r0) (y.r0) ∗ Rest c acc1 hb1 (.dma 42) (x.r1) (y.r1) ∗ Rest c acc2 hb2 (.dma 43) (x.r2) (y.r2) ∗ Rest c acc3 hb3 (.dma 44) (x.r3) (y.r3))

/-- Before position `n`: at the start what the launch hands over; afterwards the row blocks at rest. -/
def Phi (c : Dev nD) : (n : ℕ) → n ≤ cfg0.N → sProp 𝕄
  | 0, _ => Pipeline.ΦDRG osem0 spec0 H0 R0 (V m) (V m) c
  | n + 1, h => iprop(iprop(Any c (Memref.whole cc0_scratch0) ∗ Any c (Memref.whole cc0_scratch1) ∗ Any c (Memref.whole cc0_scratch2)) ∗ (∃ r, prngReg c r) ∗ Four c (accs m c (n + 1) h) (hbs m c (n + 1) h))

/-- The invariant before the first step. -/
theorem Phi_zero (c : Dev nD) (n : ℕ) (h : n ≤ cfg0.N) (hz : n = 0) : Phi m c n h = Pipeline.ΦDRG osem0 spec0 H0 R0 (V m) (V m) c := by
  subst hz; rfl
/-- The invariant after a step. -/
theorem Phi_pos (c : Dev nD) (n : ℕ) (h : n ≤ cfg0.N) (hz : n ≠ 0) :
    Phi m c n h = iprop(iprop(Any c (Memref.whole cc0_scratch0) ∗ Any c (Memref.whole cc0_scratch1) ∗ Any c (Memref.whole cc0_scratch2)) ∗ (∃ r, prngReg c r) ∗ Four c (accs m c n h) (hbs m c n h)) := by
  cases n with
  | zero => exact absurd rfl hz
  | succ n => rfl

/-- The pipeline's data: the arrays as the launch finds them, each input's buffer at its block. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => iblk m c 14 t
    | 15 => iblk m c 15 t
    | 16 => iblk m c 16 t
    | 17 => iblk m c 17 t
    | 18 => iblk m c 18 t
    | 19 => iblk m c 19 t
    | 20 => iblk m c 20 t
    | 21 => iblk m c 21 t
    | 22 => iblk m c 22 t
    | 23 => iblk m c 23 t
    | 24 => iblk m c 24 t
    | 25 => iblk m c 25 t
    | ⟨n + 26, hn⟩ => absurd (lt_of_lt_of_eq hn (show cfg0.W = 26 from rfl)) (by omega)
  Φ t := Phi m c t.val (Nat.le_of_lt_succ t.isLt)
  q w := Pipeline.shareOf spec0 w
  owed _ := 0

/-- The arrays at entry. -/
theorem A_eq (c : Dev nD) (w : Fin cfg0.W) : (dats m 0 c).A w = V m c (Pipeline.arrRef spec0 w) := by
  dsimp only [dats]
/-- The invariant at the start of a step. -/
theorem Phi_castSucc (c : Dev nD) (t : Fin cfg0.N) :
    (dats m 0 c).Φ t.castSucc = Phi m c t.val (Nat.le_of_lt t.isLt) := by
  dsimp only [dats]; exact Pipeline.Dat.Φ_castSucc (Phi m c) t

/-! An input's buffer holds its block at every point. -/

/-- A step leaves window 0. -/
theorem stays0 (c : Dev nD) (t : Fin cfg0.N) : (dats m 0 c).after 0 t = iblk m c 0 t := by dsimp only [dats]; try rfl
/-- Window 0 before a step. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [stays0 m c]; unfold Dat.blockOf iblk; rw [A_eq m c]; try rfl) t d).trans
    (by unfold Dat.fetched Dat.blockOf iblk; rw [A_eq m c]; try rfl)
/-- A step leaves window 1. -/
theorem stays1 (c : Dev nD) (t : Fin cfg0.N) : (dats m 0 c).after 1 t = iblk m c 1 t := by dsimp only [dats]; try rfl
/-- Window 1 before a step. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [stays1 m c]; unfold Dat.blockOf iblk; rw [A_eq m c]; try rfl) t d).trans
    (by unfold Dat.fetched Dat.blockOf iblk; rw [A_eq m c]; try rfl)
/-- A step leaves window 2. -/
theorem stays2 (c : Dev nD) (t : Fin cfg0.N) : (dats m 0 c).after 2 t = iblk m c 2 t := by dsimp only [dats]; try rfl
/-- Window 2 before a step. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [stays2 m c]; unfold Dat.blockOf iblk; rw [A_eq m c]; try rfl) t d).trans
    (by unfold Dat.fetched Dat.blockOf iblk; rw [A_eq m c]; try rfl)
/-- A step leaves window 3. -/
theorem stays3 (c : Dev nD) (t : Fin cfg0.N) : (dats m 0 c).after 3 t = iblk m c 3 t := by dsimp only [dats]; try rfl
/-- Window 3 before a step. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [stays3 m c]; unfold Dat.blockOf iblk; rw [A_eq m c]; try rfl) t d).trans
    (by unfold Dat.fetched Dat.blockOf iblk; rw [A_eq m c]; try rfl)
/-- A step leaves window 4. -/
theorem stays4 (c : Dev nD) (t : Fin cfg0.N) : (dats m 0 c).after 4 t = iblk m c 4 t := by dsimp only [dats]; try rfl
/-- Window 4 before a step. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [stays4 m c]; unfold Dat.blockOf iblk; rw [A_eq m c]; try rfl) t d).trans
    (by unfold Dat.fetched Dat.blockOf iblk; rw [A_eq m c]; try rfl)
/-- A step leaves window 5. -/
theorem stays5 (c : Dev nD) (t : Fin cfg0.N) : (dats m 0 c).after 5 t = iblk m c 5 t := by dsimp only [dats]; try rfl
/-- Window 5 before a step. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [stays5 m c]; unfold Dat.blockOf iblk; rw [A_eq m c]; try rfl) t d).trans
    (by unfold Dat.fetched Dat.blockOf iblk; rw [A_eq m c]; try rfl)
/-- A step leaves window 6. -/
theorem stays6 (c : Dev nD) (t : Fin cfg0.N) : (dats m 0 c).after 6 t = iblk m c 6 t := by dsimp only [dats]; try rfl
/-- Window 6 before a step. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [stays6 m c]; unfold Dat.blockOf iblk; rw [A_eq m c]; try rfl) t d).trans
    (by unfold Dat.fetched Dat.blockOf iblk; rw [A_eq m c]; try rfl)
/-- A step leaves window 7. -/
theorem stays7 (c : Dev nD) (t : Fin cfg0.N) : (dats m 0 c).after 7 t = iblk m c 7 t := by dsimp only [dats]; try rfl
/-- Window 7 before a step. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [stays7 m c]; unfold Dat.blockOf iblk; rw [A_eq m c]; try rfl) t d).trans
    (by unfold Dat.fetched Dat.blockOf iblk; rw [A_eq m c]; try rfl)
/-- A step leaves window 8. -/
theorem stays8 (c : Dev nD) (t : Fin cfg0.N) : (dats m 0 c).after 8 t = iblk m c 8 t := by dsimp only [dats]; try rfl
/-- Window 8 before a step. -/
theorem before0_8 (c : Dev nD) (t : Fin cfg0.N) (d) : (dats m 0 c).before 8 t d = iblk m c 8 t :=
  ((dats m 0 c).before_in_eq_fetched 8 rfl (fun _ => rfl) (fun _ _ _ => rfl) (fun t => by rw [stays8 m c]; unfold Dat.blockOf iblk; rw [A_eq m c]; try rfl) t d).trans
    (by unfold Dat.fetched Dat.blockOf iblk; rw [A_eq m c]; try rfl)
/-- A step leaves window 9. -/
theorem stays9 (c : Dev nD) (t : Fin cfg0.N) : (dats m 0 c).after 9 t = iblk m c 9 t := by dsimp only [dats]; try rfl
/-- Window 9 before a step. -/
theorem before0_9 (c : Dev nD) (t : Fin cfg0.N) (d) : (dats m 0 c).before 9 t d = iblk m c 9 t :=
  ((dats m 0 c).before_in_eq_fetched 9 rfl (fun _ => rfl) (fun _ _ _ => rfl) (fun t => by rw [stays9 m c]; unfold Dat.blockOf iblk; rw [A_eq m c]; try rfl) t d).trans
    (by unfold Dat.fetched Dat.blockOf iblk; rw [A_eq m c]; try rfl)
/-- A step leaves window 10. -/
theorem stays10 (c : Dev nD) (t : Fin cfg0.N) : (dats m 0 c).after 10 t = iblk m c 10 t := by dsimp only [dats]; try rfl
/-- Window 10 before a step. -/
theorem before0_10 (c : Dev nD) (t : Fin cfg0.N) (d) : (dats m 0 c).before 10 t d = iblk m c 10 t :=
  ((dats m 0 c).before_in_eq_fetched 10 rfl (fun _ => rfl) (fun _ _ _ => rfl) (fun t => by rw [stays10 m c]; unfold Dat.blockOf iblk; rw [A_eq m c]; try rfl) t d).trans
    (by unfold Dat.fetched Dat.blockOf iblk; rw [A_eq m c]; try rfl)
/-- A step leaves window 11. -/
theorem stays11 (c : Dev nD) (t : Fin cfg0.N) : (dats m 0 c).after 11 t = iblk m c 11 t := by dsimp only [dats]; try rfl
/-- Window 11 before a step. -/
theorem before0_11 (c : Dev nD) (t : Fin cfg0.N) (d) : (dats m 0 c).before 11 t d = iblk m c 11 t :=
  ((dats m 0 c).before_in_eq_fetched 11 rfl (fun _ => rfl) (fun _ _ _ => rfl) (fun t => by rw [stays11 m c]; unfold Dat.blockOf iblk; rw [A_eq m c]; try rfl) t d).trans
    (by unfold Dat.fetched Dat.blockOf iblk; rw [A_eq m c]; try rfl)
/-- A step leaves window 12. -/
theorem stays12 (c : Dev nD) (t : Fin cfg0.N) : (dats m 0 c).after 12 t = iblk m c 12 t := by dsimp only [dats]; try rfl
/-- Window 12 before a step. -/
theorem before0_12 (c : Dev nD) (t : Fin cfg0.N) (d) : (dats m 0 c).before 12 t d = iblk m c 12 t :=
  ((dats m 0 c).before_in_eq_fetched 12 rfl (fun _ => rfl) (fun _ _ _ => rfl) (fun t => by rw [stays12 m c]; unfold Dat.blockOf iblk; rw [A_eq m c]; try rfl) t d).trans
    (by unfold Dat.fetched Dat.blockOf iblk; rw [A_eq m c]; try rfl)
/-- A step leaves window 13. -/
theorem stays13 (c : Dev nD) (t : Fin cfg0.N) : (dats m 0 c).after 13 t = iblk m c 13 t := by dsimp only [dats]; try rfl
/-- Window 13 before a step. -/
theorem before0_13 (c : Dev nD) (t : Fin cfg0.N) (d) : (dats m 0 c).before 13 t d = iblk m c 13 t :=
  ((dats m 0 c).before_in_eq_fetched 13 rfl (fun _ => rfl) (fun _ _ _ => rfl) (fun t => by rw [stays13 m c]; unfold Dat.blockOf iblk; rw [A_eq m c]; try rfl) t d).trans
    (by unfold Dat.fetched Dat.blockOf iblk; rw [A_eq m c]; try rfl)
/-- A step leaves window 14. -/
theorem stays14 (c : Dev nD) (t : Fin cfg0.N) : (dats m 0 c).after 14 t = iblk m c 14 t := by dsimp only [dats]; try rfl
/-- Window 14 before a step. -/
theorem before0_14 (c : Dev nD) (t : Fin cfg0.N) (d) : (dats m 0 c).before 14 t d = iblk m c 14 t :=
  ((dats m 0 c).before_in_eq_fetched 14 rfl (fun _ => rfl) (fun _ _ _ => rfl) (fun t => by rw [stays14 m c]; unfold Dat.blockOf iblk; rw [A_eq m c]; try rfl) t d).trans
    (by unfold Dat.fetched Dat.blockOf iblk; rw [A_eq m c]; try rfl)
/-- A step leaves window 15. -/
theorem stays15 (c : Dev nD) (t : Fin cfg0.N) : (dats m 0 c).after 15 t = iblk m c 15 t := by dsimp only [dats]; try rfl
/-- Window 15 before a step. -/
theorem before0_15 (c : Dev nD) (t : Fin cfg0.N) (d) : (dats m 0 c).before 15 t d = iblk m c 15 t :=
  ((dats m 0 c).before_in_eq_fetched 15 rfl (fun _ => rfl) (fun _ _ _ => rfl) (fun t => by rw [stays15 m c]; unfold Dat.blockOf iblk; rw [A_eq m c]; try rfl) t d).trans
    (by unfold Dat.fetched Dat.blockOf iblk; rw [A_eq m c]; try rfl)
/-- A step leaves window 16. -/
theorem stays16 (c : Dev nD) (t : Fin cfg0.N) : (dats m 0 c).after 16 t = iblk m c 16 t := by dsimp only [dats]; try rfl
/-- Window 16 before a step. -/
theorem before0_16 (c : Dev nD) (t : Fin cfg0.N) (d) : (dats m 0 c).before 16 t d = iblk m c 16 t :=
  ((dats m 0 c).before_in_eq_fetched 16 rfl (fun _ => rfl) (fun _ _ _ => rfl) (fun t => by rw [stays16 m c]; unfold Dat.blockOf iblk; rw [A_eq m c]; try rfl) t d).trans
    (by unfold Dat.fetched Dat.blockOf iblk; rw [A_eq m c]; try rfl)
/-- A step leaves window 17. -/
theorem stays17 (c : Dev nD) (t : Fin cfg0.N) : (dats m 0 c).after 17 t = iblk m c 17 t := by dsimp only [dats]; try rfl
/-- Window 17 before a step. -/
theorem before0_17 (c : Dev nD) (t : Fin cfg0.N) (d) : (dats m 0 c).before 17 t d = iblk m c 17 t :=
  ((dats m 0 c).before_in_eq_fetched 17 rfl (fun _ => rfl) (fun _ _ _ => rfl) (fun t => by rw [stays17 m c]; unfold Dat.blockOf iblk; rw [A_eq m c]; try rfl) t d).trans
    (by unfold Dat.fetched Dat.blockOf iblk; rw [A_eq m c]; try rfl)
/-- A step leaves window 18. -/
theorem stays18 (c : Dev nD) (t : Fin cfg0.N) : (dats m 0 c).after 18 t = iblk m c 18 t := by dsimp only [dats]; try rfl
/-- Window 18 before a step. -/
theorem before0_18 (c : Dev nD) (t : Fin cfg0.N) (d) : (dats m 0 c).before 18 t d = iblk m c 18 t :=
  ((dats m 0 c).before_in_eq_fetched 18 rfl (fun _ => rfl) (fun _ _ _ => rfl) (fun t => by rw [stays18 m c]; unfold Dat.blockOf iblk; rw [A_eq m c]; try rfl) t d).trans
    (by unfold Dat.fetched Dat.blockOf iblk; rw [A_eq m c]; try rfl)

/-- The results that leave through the pipeline: their contents are not kept. -/
def fgt : Fin cfg0.W → Bool := fun w => decide (19 ≤ w.val)

/-! ## The conditions of a point -/

/-- The grid coordinate is the step. -/
theorem coord (t : Fin cfg0.N) : (grid0.coords t 0).val = t.val := by
  have ht : t.val < 8 := lt_of_lt_of_eq t.isLt (show cfg0.N = 8 from N_0)
  have e0 : (grid0.coords t 0).val = t.val / 1 % 8 := Pipeline.Grid.coords_val t 0 (by decide) rfl
  omega
/-- The coordinate as a word. -/
theorem word_eq (t : Fin cfg0.N) (k : ℕ) (hk : k < 8) : BitVec.ofNat 32 (grid0.coords t 0).val = BitVec.ofNat 32 k ↔ t.val = k := by
  have ht : t.val < 8 := lt_of_lt_of_eq t.isLt (show cfg0.N = 8 from N_0)
  rw [coord]
  constructor
  · intro h
    have := congrArg BitVec.toNat h
    simp only [BitVec.toNat_ofNat] at this
    omega
  · intro h; rw [h]
/-- The last step is step 7. -/
theorem at_last (t : Fin cfg0.N) : k0_cond6 (grid0.coords t) = 1#1 ↔ t.val = 7 :=
  (Eq.to_iff (last_cond (BitVec.ofNat 32 (grid0.coords t 0).val))).trans (word_eq t 7 (by decide))

/-! ## The body at any point -/

/-- The staged buffers as the body is called with them, -/
def winPre (c : Dev nD) (t : Fin cfg0.N) : sProp 𝕄 := iprop((∃ d, owns (c : Thread nD τ) (args t).a1 fullShare ((dats m 0 c).before 0 t d)) ∗ (∃ d, owns (c : Thread nD τ) (args t).a2 fullShare ((dats m 0 c).before 1 t d)) ∗ (∃ d, owns (c : Thread nD τ) (args t).a3 fullShare ((dats m 0 c).before 2 t d)) ∗ (∃ d, owns (c : Thread nD τ) (args t).a4 fullShare ((dats m 0 c).before 3 t d)) ∗ (∃ d, owns (c : Thread nD τ) (args t).a5 fullShare ((dats m 0 c).before 4 t d)) ∗ (∃ d, owns (c : Thread nD τ) (args t).a6 fullShare ((dats m 0 c).before 5 t d)) ∗ (∃ d, owns (c : Thread nD τ) (args t).a7 fullShare ((dats m 0 c).before 6 t d)) ∗ (∃ d, owns (c : Thread nD τ) (args t).a8 fullShare ((dats m 0 c).before 7 t d)) ∗ (∃ d, owns (c : Thread nD τ) (args t).a9 fullShare ((dats m 0 c).before 8 t d)) ∗ (∃ d, owns (c : Thread nD τ) (args t).a10 fullShare ((dats m 0 c).before 9 t d)) ∗ (∃ d, owns (c : Thread nD τ) (args t).a11 fullShare ((dats m 0 c).before 10 t d)) ∗ (∃ d, owns (c : Thread nD τ) (args t).a12 fullShare ((dats m 0 c).before 11 t d)) ∗ (∃ d, owns (c : Thread nD τ) (args t).a13 fullShare ((dats m 0 c).before 12 t d)) ∗ (∃ d, owns (c : Thread nD τ) (args t).a14 fullShare ((dats m 0 c).before 13 t d)) ∗ (∃ d, owns (c : Thread nD τ) (args t).a15 fullShare ((dats m 0 c).before 14 t d)) ∗ (∃ d, owns (c : Thread nD τ) (args t).a16 fullShare ((dats m 0 c).before 15 t d)) ∗ (∃ d, owns (c : Thread nD τ) (args t).a17 fullShare ((dats m 0 c).before 16 t d)) ∗ (∃ d, owns (c : Thread nD τ) (args t).a18 fullShare ((dats m 0 c).before 17 t d)) ∗ (∃ d, owns (c : Thread nD τ) (args t).a19 fullShare ((dats m 0 c).before 18 t d)) ∗ Any c (args t).a20 ∗ Any c (args t).a21 ∗ Any c (args t).a23 ∗ Any c (args t).a24 ∗ Any c (args t).a25 ∗ Any c (args t).a26 ∗ Any c (args t).a27)
/-- and as it returns them. -/
def winPost (c : Dev nD) (t : Fin cfg0.N) : sProp 𝕄 := iprop(owns (c : Thread nD τ) (args t).a1 fullShare ((dats m 0 c).after 0 t) ∗ owns (c : Thread nD τ) (args t).a2 fullShare ((dats m 0 c).after 1 t) ∗ owns (c : Thread nD τ) (args t).a3 fullShare ((dats m 0 c).after 2 t) ∗ owns (c : Thread nD τ) (args t).a4 fullShare ((dats m 0 c).after 3 t) ∗ owns (c : Thread nD τ) (args t).a5 fullShare ((dats m 0 c).after 4 t) ∗ owns (c : Thread nD τ) (args t).a6 fullShare ((dats m 0 c).after 5 t) ∗ owns (c : Thread nD τ) (args t).a7 fullShare ((dats m 0 c).after 6 t) ∗ owns (c : Thread nD τ) (args t).a8 fullShare ((dats m 0 c).after 7 t) ∗ owns (c : Thread nD τ) (args t).a9 fullShare ((dats m 0 c).after 8 t) ∗ owns (c : Thread nD τ) (args t).a10 fullShare ((dats m 0 c).after 9 t) ∗ owns (c : Thread nD τ) (args t).a11 fullShare ((dats m 0 c).after 10 t) ∗ owns (c : Thread nD τ) (args t).a12 fullShare ((dats m 0 c).after 11 t) ∗ owns (c : Thread nD τ) (args t).a13 fullShare ((dats m 0 c).after 12 t) ∗ owns (c : Thread nD τ) (args t).a14 fullShare ((dats m 0 c).after 13 t) ∗ owns (c : Thread nD τ) (args t).a15 fullShare ((dats m 0 c).after 14 t) ∗ owns (c : Thread nD τ) (args t).a16 fullShare ((dats m 0 c).after 15 t) ∗ owns (c : Thread nD τ) (args t).a17 fullShare ((dats m 0 c).after 16 t) ∗ owns (c : Thread nD τ) (args t).a18 fullShare ((dats m 0 c).after 17 t) ∗ owns (c : Thread nD τ) (args t).a19 fullShare ((dats m 0 c).after 18 t) ∗ Any c (args t).a20 ∗ Any c (args t).a21 ∗ Any c (args t).a23 ∗ Any c (args t).a24 ∗ Any c (args t).a25 ∗ Any c (args t).a26 ∗ Any c (args t).a27)
/-- The work buffers. -/
def Work (c : Dev nD) : sProp 𝕄 := iprop(Any c (Memref.whole cc0_scratch0) ∗ Any c (Memref.whole cc0_scratch1) ∗ Any c (Memref.whole cc0_scratch2))

/-- The body's buffers from the staged ones and the work buffers, -/
theorem mem_in (c : Dev nD) (t : Fin cfg0.N) : iprop(winPre m c t ∗ Work c) ⊢ Mem c (args t) (ins m c t) := by
  unfold winPre Work Mem
  simp only [before0_0, before0_1, before0_2, before0_3, before0_4, before0_5, before0_6, before0_7, before0_8, before0_9, before0_10, before0_11, before0_12, before0_13, before0_14, before0_15, before0_16, before0_17, before0_18]
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21, H22, H23, H24, H25⟩, HA, HB, HC⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [HA]; · iexact HA
  isplitl [HB]; · iexact HB
  iexact HC
/-- and back. -/
theorem mem_out (c : Dev nD) (t : Fin cfg0.N) : Mem c (args t) (ins m c t) ⊢ iprop(winPost m c t ∗ Work c) := by
  unfold winPost Work Mem
  simp only [stays0, stays1, stays2, stays3, stays4, stays5, stays6, stays7, stays8, stays9, stays10, stays11, stays12, stays13, stays14, stays15, stays16, stays17, stays18]
  iintro ⟨H0, H1, H2, H3, H4, H5, H6, H7, H8, H9, H10, H11, H12, H13, H14, H15, H16, H17, H18, H19, H20, H21, H22, H23, H24, H25, HA, HB, HC⟩
  isplitl [H0 H1 H2 H3 H4 H5 H6 H7 H8 H9 H10 H11 H12 H13 H14 H15 H16 H17 H18 H19 H20 H21 H22 H23 H24 H25]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [HA]; · iexact HA
  isplitl [HB]; · iexact HB
  iexact HC

/-- What the body is called with at point `t`, -/
def bodyPre (c : Dev nD) (t : Fin cfg0.N) : sProp 𝕄 := iprop((dats m 0 c).Φ t.castSucc ∗ (dats m 0 c).owesAt () t.castSucc ∗ winPre m c t)
/-- and what it returns. -/
def bodyPost (c : Dev nD) (t : Fin cfg0.N) : sProp 𝕄 := iprop((dats m 0 c).Φ t.succ ∗ (dats m 0 c).owesAt () t.succ ∗ winPost m c t)

/-- The first stretch at the first point, over what the launch hands over. -/
theorem open_first (c : Dev nD) (t : Fin cfg0.N) (h : t.val = 0) (f : Vec F S4096x1024 .f32) :
    Tri (F := F) c iprop((Mem c (args t) (ins m c t) ∗ Any c accM) ∗ cellsZero c ∗ owns (c : Thread nD τ) hbM fullShare f) (ap (grid0.coords t) (args t) (k0_part6 (F := F)))
      (fun r => iprop(⌜r.1 = BitVec.ofNat 32 (grid0.coords t 0).val⌝ ∗ Mem c (args t) (ins m c t) ∗ Four c (parts (k0_pay6 (F := F))) (parts f))) := by
  refine tri_conseq (tri_frame (tri_part6_first (grid0.coords t) ((word_eq t 0 (by decide)).mpr h))) .rfl (fun r => ?_)
  unfold cellsZero Four Rest parts
  iintro ⟨⟨%hr, HM, HA⟩, ⟨Q0, Q1, Q2, Q3⟩, HB⟩
  isplitr; · ipureintro; exact hr
  isplitl [HM]; · iexact HM
  ihave HA := (acc_split c _) $$ HA
  ihave HB := (hb_split c _) $$ HB
  icases HA with ⟨A0, A1, A2, A3⟩
  icases HB with ⟨B0, B1, B2, B3⟩
  isplitl [A0 B0 Q0]
  · isplitl [A0]; · iexact A0
    isplitl [B0]; · iexact B0
    iexact Q0
  isplitl [A1 B1 Q1]
  · isplitl [A1]; · iexact A1
    isplitl [B1]; · iexact B1
    iexact Q1
  isplitl [A2 B2 Q2]
  · isplitl [A2]; · iexact A2
    isplitl [B2]; · iexact B2
    iexact Q2
  isplitl [A3]; · iexact A3
  isplitl [B3]; · iexact B3
  iexact Q3

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Phi m c (t.val + 1) t.isLt from rfl, Phi]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val = 0
  · have hc : ¬ k0_cond6 (grid0.coords t) = 1#1 := fun h => by have := (at_last t).mp h; omega
    have ha : ¬ BitVec.ofNat 32 (grid0.coords t 0).val = 7#32 := fun h => by have := (word_eq t 7 (by decide)).mp h; omega
    have hacc : accs m c (t.val + 1) t.isLt = ⟨nxt0 (ins m c t) (parts (k0_pay6 (F := F))).r0, nxt1 (ins m c t) (parts (k0_pay6 (F := F))).r1, nxt2 (ins m c t) (parts (k0_pay6 (F := F))).r2, nxt3 (ins m c t) (parts (k0_pay6 (F := F))).r3⟩ := by
      obtain ⟨n, hn⟩ := t; dsimp only at h0; subst h0; rfl
    have hhb : hbs m c (t.val + 1) t.isLt = parts (V m c main_v5_2) := if_neg (by omega)
    rw [Phi_castSucc m c t, Phi_zero m c _ _ h0, launch_eq, hacc, hhb]
    refine BIBase.Entails.trans ?_ (tri_body (grid0.coords t) ha hc (open_first m c t h0 (V m c main_v5_2)) _)
    iintro ⟨⟨⟨HA, HB, HC, HD⟩, Hg, Hq, -, Hh⟩, ⟨%W, -, HW⟩, HP⟩
    isplitl [HA HB HC HD Hq Hh HP]
    · isplitl [HA HB HC HD HP]
      · isplitl [HA HB HC HP]
        · iapply (mem_in m c t)
          isplitl [HP]; · iexact HP
          unfold Work
          isplitl [HA]; · iexact HA
          isplitl [HB]; · iexact HB
          iexact HC
        iexact HD
      isplitl [Hq]; · iexact Hq
      iexact Hh
    iintro %_ ⟨HM, HR⟩
    ihave HM := (mem_out m c t) $$ HM
    unfold Work
    icases HM with ⟨HP, HS⟩
    isplitl [HS Hg HR]
    · isplitl [HS]; · iexact HS
      isplitl [Hg]; · iexact Hg
      unfold Four
      iexact HR
    isplitl [HW]
    · iexists W; isplitr; · ipureintro; exact fun _ _ => Or.inl trivial
      iexact HW
    iexact HP
  · have hn : ¬ BitVec.ofNat 32 (grid0.coords t 0).val = 0#32 := fun h => h0 ((word_eq t 0 (by decide)).mp h)
    have hacc : accs m c (t.val + 1) t.isLt = ⟨nxt0 (ins m c t) (accs m c t.val (Nat.le_of_lt t.isLt)).r0, nxt1 (ins m c t) (accs m c t.val (Nat.le_of_lt t.isLt)).r1, nxt2 (ins m c t) (accs m c t.val (Nat.le_of_lt t.isLt)).r2, nxt3 (ins m c t) (accs m c t.val (Nat.le_of_lt t.isLt)).r3⟩ := rfl
    have hb0 : hbs m c t.val (Nat.le_of_lt t.isLt) = parts (V m c main_v5_2) := if_neg (by omega)
    rw [Phi_castSucc m c t, Phi_pos m c _ _ h0, hb0]
    by_cases h1 : t.val = 7
    · have hhb : hbs m c (t.val + 1) t.isLt = accs m c (t.val + 1) t.isLt := if_pos (by omega)
      rw [hhb, hacc]
      generalize accs m c t.val (Nat.le_of_lt t.isLt) = P
      generalize parts (V m c main_v5_2) = y
      refine BIBase.Entails.trans ?_ (tri_body_last (grid0.coords t) ((word_eq t 7 (by decide)).mpr h1) ((at_last t).mpr h1) (tri_part6_later (X := ins m c t) (A := args t) (grid0.coords t) hn (R := Four c P y)) _)
      unfold Four Ow
      iintro ⟨⟨HS, Hg, HR⟩, ⟨%W, -, HW⟩, HP⟩
      isplitl [HS HW HR HP]
      · isplitl [HW]; · iexists W; iexact HW
        isplitl [HS HP]
        · iapply (mem_in m c t)
          isplitl [HP]; · iexact HP
          unfold Work
          iexact HS
        iexact HR
      iintro %_ ⟨⟨%W', HW⟩, HM, HR⟩
      ihave HM := (mem_out m c t) $$ HM
      unfold Work
      icases HM with ⟨HP, HS⟩
      isplitl [HS Hg HR]
      · isplitl [HS]; · iexact HS
        isplitl [Hg]; · iexact Hg
        iexact HR
      isplitl [HW]
      · iexists W'; isplitr; · ipureintro; exact fun _ _ => Or.inl trivial
        iexact HW
      iexact HP
    · have hc : ¬ k0_cond6 (grid0.coords t) = 1#1 := fun h => h1 ((at_last t).mp h)
      have ha : ¬ BitVec.ofNat 32 (grid0.coords t 0).val = 7#32 := fun h => h1 ((word_eq t 7 (by decide)).mp h)
      have hhb : hbs m c (t.val + 1) t.isLt = parts (V m c main_v5_2) := if_neg (by omega)
      rw [hhb, hacc]
      generalize accs m c t.val (Nat.le_of_lt t.isLt) = P
      generalize parts (V m c main_v5_2) = y
      refine BIBase.Entails.trans ?_ (tri_body (grid0.coords t) ha hc (tri_part6_later (X := ins m c t) (A := args t) (grid0.coords t) hn (R := Four c P y)) _)
      unfold Four
      iintro ⟨⟨HS, Hg, HR⟩, ⟨%W, -, HW⟩, HP⟩
      isplitl [HS HR HP]
      · isplitl [HS HP]
        · iapply (mem_in m c t)
          isplitl [HP]; · iexact HP
          unfold Work
          iexact HS
        iexact HR
      iintro %_ ⟨HM, HR⟩
      ihave HM := (mem_out m c t) $$ HM
      unfold Work
      icases HM with ⟨HP, HS⟩
      isplitl [HS Hg HR]
      · isplitl [HS]; · iexact HS
        isplitl [Hg]; · iexact Hg
        iexact HR
      isplitl [HW]
      · iexists W; isplitr; · ipureintro; exact fun _ _ => Or.inl trivial
        iexact HW
      iexact HP

/-- The body in the table of bodies. -/
theorem defs₀_row (t : Fin cfg0.N) :
    defs₀ (F := F) .tc cfg0.body (cfg0.bodyArgs t (cfg0.slots t)) = bodyAt0 t := by
  unfold defs₀; rw [Defs.onTc_tc]

/-- Every step runs and keeps the invariant. -/
theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run of the whole program -/

/-- The row blocks the launch ends with. -/
def fin (c : Dev nD) : Rows F := accs m c 8 (by rw [show cfg0.N = 8 from N_0])

/-- The buffers no window stages, after the launch: the copied result at the last row blocks. -/
def hbG (c : Dev nD) : (b : Ref sig .tc) → Buf (Elt F) ((c : Thread nD τ).loc b) :=
  Function.update ((V m) c) main_v5_2 (glue (fin m c).r0 (fin m c).r1 (fin m c).r2 (fin m c).r3)
/-- The copied array is the four row blocks. -/
theorem hbG_at (c : Dev nD) : hbG m c main_v5_2 = glue (fin m c).r0 (fin m c).r1 (fin m c).r2 (fin m c).r3 := by
  unfold hbG; simp only [Function.update_self]

/-- Entry gives the invariant. -/
theorem hin (c : Dev nD) : Pipeline.ΦDRG osem0 spec0 H0 R0 (V m) (V m) c ⊢ (dats m 0 c).Φ 0 := by
  rw [show (dats m 0 c).Φ 0 = Phi m c 0 (Nat.zero_le _) from rfl, Phi_zero m c 0 _ rfl]
  try exact Idealize.SL.BI.Entails.refl _

/-- The invariant gives the exit. -/
theorem hout (c : Dev nD) : (dats m 0 c).Φ (Fin.last cfg0.N) ⊢ Pipeline.ΦDRG osem0 spec0 H0 R0 (V m) (hbG m) c := by
  have hN : cfg0.N = 8 := N_0
  have e1 : accs m c (Fin.last cfg0.N).val (Nat.le_of_lt_succ (Fin.last cfg0.N).isLt) = fin m c := by unfold fin; congr 1
  have e2 : hbs m c (Fin.last cfg0.N).val (Nat.le_of_lt_succ (Fin.last cfg0.N).isLt) = fin m c := (if_pos (by rw [Fin.val_last]; exact hN)).trans e1
  rw [show (dats m 0 c).Φ (Fin.last cfg0.N) = Phi m c (Fin.last cfg0.N).val (Nat.le_of_lt_succ (Fin.last cfg0.N).isLt) from rfl,
    Phi_pos m c _ _ (by rw [Fin.val_last]; omega), e1, e2, launch_eq, hbG_at]
  generalize fin m c = P
  unfold Four Rest cellsZero
  iintro ⟨⟨HA, HB, HC⟩, Hg, ⟨A0, B0, Q0⟩, ⟨A1, B1, Q1⟩, ⟨A2, B2, Q2⟩, ⟨A3, B3, Q3⟩⟩
  isplitl [HA HB HC A0 A1 A2 A3]
  · isplitl [HA]; · iexact HA
    isplitl [HB]; · iexact HB
    isplitl [HC]; · iexact HC
    iexists _
    iapply (acc_join c P.r0 P.r1 P.r2 P.r3)
    isplitl [A0]; · iexact A0
    isplitl [A1]; · iexact A1
    isplitl [A2]; · iexact A2
    iexact A3
  isplitl [Hg]; · iexact Hg
  isplitl [Q0 Q1 Q2 Q3]
  · isplitl [Q0]; · iexact Q0
    isplitl [Q1]; · iexact Q1
    isplitl [Q2]; · iexact Q2
    iexact Q3
  isplitr; · iempintro
  iapply (hb_join c P.r0 P.r1 P.r2 P.r3)
  isplitl [B0]; · iexact B0
  isplitl [B1]; · iexact B1
  isplitl [B2]; · iexact B2
  iexact B3

set_option backward.isDefEq.respectTransparency.types false in
/-- Every execution ends, the copied result at its computed contents, the inputs' arrays and every other buffer as
    the launch found them, and every semaphore at zero. -/
theorem run_main : θ_run defs (onTc (τ := τ) (main (F := F))) (s₀ m ρ)
    (fun r => (Pipeline.RDat.FramePostRG cfg0 (fun c => (dats m 0 c).toRForget fgt) R0 (V m) (hbG m)) r ∧ r.2.sem = fun _ => 0) :=
  Pipeline.θ_run_frame_dmaRG_forget_shared (Q' := _) cfgs (dats m) (0 : Fin 1) launch₀0 osem0 defs₀ Variants.none fgt ownSemFacts0 H0 R0 H0_sub R0_sub m ρ main
    (hbody := body_obligation m) (hq := fun _ _ _ => rfl)
    (howed := fun _ _ => rfl) (V := V m) (hmain := hmain m Variants.none) (hA := A_eq m) (G := hbG m)
    (hin := hin m) (hout := hout m)

/-- An input's array is as the launch found it. -/
theorem arr_in {c : Dev nD} {w : Fin cfg0.W} (hf : fgt w = false) (hin : (cfg0.win w).isOut = false) {f : Buf (Elt F) ((cfg0.win w).arr.view.loc (c : Thread nD τ))}
    (h : ((dats m 0 c).toRForget fgt).ArrAt w cfg0.N f) : f = V m c (Pipeline.arrRef spec0 w) :=
  ((Pipeline.Dat.toRForget_arrAt_iff (dats m 0 c) hf cfg0.N f).mp h).trans (((dats m 0 c).arrAt_in w hin _).trans (A_eq m c w))

/-- Every execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨((arr_in m (w := 0) rfl rfl ((h.1.1 c).1 0)).trans (V_main_arg0 m c)),
      ((arr_in m (w := 1) rfl rfl ((h.1.1 c).1 1)).trans (V_main_arg1 m c)),
      ((arr_in m (w := 2) rfl rfl ((h.1.1 c).1 2)).trans (V_main_arg2 m c)),
      ((arr_in m (w := 4) rfl rfl ((h.1.1 c).1 4)).trans (V_main_arg3 m c)),
      ((arr_in m (w := 6) rfl rfl ((h.1.1 c).1 6)).trans (V_main_arg4 m c)),
      ((arr_in m (w := 7) rfl rfl ((h.1.1 c).1 7)).trans (V_main_arg5 m c)),
      ((arr_in m (w := 10) rfl rfl ((h.1.1 c).1 10)).trans (V_main_arg6 m c)),
      ((arr_in m (w := 11) rfl rfl ((h.1.1 c).1 11)).trans (V_main_arg7 m c)),
      ((arr_in m (w := 12) rfl rfl ((h.1.1 c).1 12)).trans (V_main_arg8 m c)),
      ((arr_in m (w := 13) rfl rfl ((h.1.1 c).1 13)).trans (V_main_arg9 m c)),
      ((arr_in m (w := 14) rfl rfl ((h.1.1 c).1 14)).trans (V_main_arg10 m c)),
      ((arr_in m (w := 15) rfl rfl ((h.1.1 c).1 15)).trans (V_main_arg11 m c)),
      ((arr_in m (w := 16) rfl rfl ((h.1.1 c).1 16)).trans (V_main_arg12 m c)),
      ((h.1.1 c).2 main_arg13 (Finset.mem_sdiff.mpr ⟨Pipeline.mem_restRefs_of main_arg13 (by decide) (by decide), by decide⟩)).trans (V_main_arg13 m c),
      ((h.1.1 c).2 main_arg14 (Finset.mem_sdiff.mpr ⟨Pipeline.mem_restRefs_of main_arg14 (by decide) (by decide), by decide⟩)).trans (V_main_arg14 m c),
      ((h.1.1 c).2 main_arg15 (Finset.mem_sdiff.mpr ⟨Pipeline.mem_restRefs_of main_arg15 (by decide) (by decide), by decide⟩)).trans (V_main_arg15 m c)⟩, h.2⟩) (run_main m ρ)

end Cert.Kernel2Ideal.Run

end
-- ==== Proof.MSame.lean ====
module

public import proofs.«01_k».proof.Proof.Gen.Kernel2
public import proofs.«01_k».proof.Proof.Gen.Kernel2Ideal
public import proofs.«01_k».proof.Defs
public import proofs.«01_k».proof.Proof.MFrame

@[expose] public section

set_option maxRecDepth 16384

noncomputable section

namespace Cert.Same2

open Idealize.ShloMosaic Idealize.SL.Sem Idealize.ShloMosaic.Tactic
set_option backward.isDefEq.respectTransparency.types false

set_option maxHeartbeats 4000000 in
/-- The body printed for the machine is the body printed for the reals. -/
theorem body_same : @Kernel2.cc0_mixer_bwd Bits _ _ = @Kernel2Ideal.cc0_mixer_bwd Bits _ _ := rfl

set_option maxHeartbeats 1000000 in
/-- So are the two tables of bodies. -/
theorem table_same : Kernel2.defs₀ (F := Bits) = Kernel2Ideal.defs₀ (F := Bits) := by
  refine congrArg Defs.onTc (funext fun l => funext fun x => ?_)
  match l, x with
  | 0, (t, s) =>
    change Kernel2.cc0_mixer_bwd (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = Kernel2Ideal.cc0_mixer_bwd (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    rw [body_same]
    rfl
  | ⟨_ + 1, h⟩, _ => exact absurd h (Nat.not_lt.2 (Nat.le_add_left _ _))

set_option maxHeartbeats 4000000 in
/-- The two programs have the same table of bodies, pipelines included. -/
theorem defs_same : Kernel2.defs (F := Bits) = Kernel2Ideal.defs (F := Bits) := congrArg (Pipeline.defs Kernel2Ideal.pcfgs) table_same

set_option maxHeartbeats 4000000 in
/-- The two programs have the same main function. -/
theorem main_same : Kernel2.main (F := Bits) = Kernel2Ideal.main (F := Bits) := funext fun _ => by
  unfold Kernel2.main Kernel2Ideal.main
  rfl

set_option maxHeartbeats 4000000 in
/-- The machine program's frame is the run at every float instance, taken at the machine's words. -/
theorem frame_kernel : Cert.quiescent_Kernel2 := fun m ρ _ => by
  have h := Cert.Kernel2Ideal.Run.frame (F := Bits) m ρ
  rw [← main_same, ← defs_same] at h
  exact h

/-- The frame of the call over the extended reals is the same run, taken there. -/
theorem frame_ideal : Cert.quiescent_Kernel2Ideal := fun m ρ _ => Cert.Kernel2Ideal.Run.frame (F := Ideal) m ρ

/-- The reference runs to its end, leaves its arguments, and has no semaphore to leave raised. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Same2

end
-- ==== Proof.MVal.lean ====
module

public import proofs.«01_k».proof.Proof.MFrame
public import Idealize.ShloMosaic.Lib.Pointwise
public import Idealize.ShloMosaic.Lib.Pipeline.ValueKit
public import Idealize.ShloMosaic.Lib.Claim

@[expose] public section

set_option maxRecDepth 16384

noncomputable section

/-! The gradient of the second feed-forward weight, as a function of the program's arguments. -/

namespace Cert.Kernel2Ideal.Run

open Idealize.ShloMosaic Idealize.ShloMosaic.TcCoe Idealize.ShloMosaic.Tactic
open Idealize.ShloMosaic.Pipeline (Dat)
open Idealize.SL.Sem
open Cert.Kernel2Ideal.Gen

variable (m : (ℓ : Loc nD τ sig) → Buf (Elt Ideal) ℓ)

/-- The rectified pre-activation of token `i`. -/
def act (c : Dev nD) (i e : Fin 4096) : EReal :=
  max (∑ k : Fin 1024, (show FVec Ideal S4096x1024 .f32 from m ((c.tc : Thread nD τ).loc main_arg13)) (ix2 i k) * (show FVec Ideal S1024x4096 .f32 from m ((c.tc : Thread nD τ).loc main_arg14)) (ix2 k e)) 0
/-- The incoming gradient of token `i`. -/
def inc (c : Dev nD) (i : Fin 4096) (d : Fin 1024) : EReal := (show FVec Ideal S4096x1024 .f32 from m ((c.tc : Thread nD τ).loc main_arg15)) (ix2 i d)
/-- What token `i` adds to an entry of the gradient. -/
def share (c : Dev nD) (e : Fin 4096) (d : Fin 1024) (i : Fin 4096) : EReal := (act m c i e * act m c i e) * inc m c i d
/-- The gradient of the second feed-forward weight: the sum over the tokens. -/
def Agw (c : Dev nD) : FVec Ideal S4096x1024 .f32 := fun y => ∑ i : Fin 4096, share m c (y 0) (y 1) i

/-- The rectified pre-activation as the call reads it. -/
theorem entry_act (c : Dev nD) (i e : Fin 4096) : V m c main_v3 (ix2 i e) = act m c i e := by
  entry_read
  pointwise [act]
/-- The incoming gradient as the call reads it. -/
theorem entry_inc (c : Dev nD) (i : Fin 4096) (d : Fin 1024) : V m c main_v4 (ix2 i d) = inc m c i d := by
  entry_read
  pointwise [inc]

/-- Where the two factors' blocks lie. -/
theorem idx : ∀ t : Fin cfg0.N, win0_17.index t = ![t.val, 0] ∧ win0_18.index t = ![t.val, 0] ∧ t.val < 8 :=
  (by decide +kernel : ∀ t : Fin grid0.N, _)

/-- The token at position `s` of grid point `t`'s tile. -/
def tok (t : Fin cfg0.N) (s : Fin 512) : Fin 4096 := ⟨t.val * 512 + s.val, by have := (idx t).2.2; omega⟩

/-- The tile of the rectified pre-activation. -/
theorem block17 (c : Dev nD) (t : Fin cfg0.N) (s : Fin 512) (e : Fin 4096) : (show FVec Ideal S512x4096 .bf16 from iblk m c 17 t) (ix2 s e) = V m c main_v3 (ix2 (tok t s) e) := by
  unfold tok; blk_ext [iblk, idx t]
/-- The tile of the incoming gradient. -/
theorem block18 (c : Dev nD) (t : Fin cfg0.N) (s : Fin 512) (d : Fin 1024) : (show FVec Ideal S512x1024 .bf16 from iblk m c 18 t) (ix2 s d) = V m c main_v4 (ix2 (tok t s) d) := by
  unfold tok; blk_ext [iblk, idx t]

/-- A tile's factor read at an entry. -/
theorem fac_at (c : Dev nD) (t : Fin cfg0.N) (s : Fin 512) (d : Fin 1024) : fac (ins m c t) (ix2 s d) = inc m c (tok t s) d := by
  refine Eq.trans ?_ ((block18 m c t s d).trans (entry_inc m c (tok t s) d))
  refine congrArg (ins m c t).x19 ?_
  funext a; apply Fin.ext
  match a with
  | 0 => show 0 + 1 * s.val = s.val; omega
  | 1 => show 0 + 1 * d.val = d.val; omega
/-- Column block 0 of a tile read at an entry. -/
theorem col0_at (c : Dev nD) (t : Fin cfg0.N) (s : Fin 512) (p : Fin 1024) : col0 (ins m c t) (ix2 s p) = act m c (tok t s) ⟨0 + p.val, by omega⟩ := by
  refine Eq.trans ?_ ((block17 m c t s ⟨0 + p.val, by omega⟩).trans (entry_act m c (tok t s) _))
  refine congrArg (ins m c t).x18 ?_
  funext a; apply Fin.ext
  match a with
  | 0 => show 0 + 1 * s.val = s.val; omega
  | 1 => show 0 + 1 * p.val = 0 + p.val; omega
/-- Column block 1 of a tile read at an entry. -/
theorem col1_at (c : Dev nD) (t : Fin cfg0.N) (s : Fin 512) (p : Fin 1024) : col1 (ins m c t) (ix2 s p) = act m c (tok t s) ⟨1024 + p.val, by omega⟩ := by
  refine Eq.trans ?_ ((block17 m c t s ⟨1024 + p.val, by omega⟩).trans (entry_act m c (tok t s) _))
  refine congrArg (ins m c t).x18 ?_
  funext a; apply Fin.ext
  match a with
  | 0 => show 0 + 1 * s.val = s.val; omega
  | 1 => show 1024 + 1 * p.val = 1024 + p.val; omega
/-- Column block 2 of a tile read at an entry. -/
theorem col2_at (c : Dev nD) (t : Fin cfg0.N) (s : Fin 512) (p : Fin 1024) : col2 (ins m c t) (ix2 s p) = act m c (tok t s) ⟨2048 + p.val, by omega⟩ := by
  refine Eq.trans ?_ ((block17 m c t s ⟨2048 + p.val, by omega⟩).trans (entry_act m c (tok t s) _))
  refine congrArg (ins m c t).x18 ?_
  funext a; apply Fin.ext
  match a with
  | 0 => show 0 + 1 * s.val = s.val; omega
  | 1 => show 2048 + 1 * p.val = 2048 + p.val; omega
/-- Column block 3 of a tile read at an entry. -/
theorem col3_at (c : Dev nD) (t : Fin cfg0.N) (s : Fin 512) (p : Fin 1024) : col3 (ins m c t) (ix2 s p) = act m c (tok t s) ⟨3072 + p.val, by omega⟩ := by
  refine Eq.trans ?_ ((block17 m c t s ⟨3072 + p.val, by omega⟩).trans (entry_act m c (tok t s) _))
  refine congrArg (ins m c t).x18 ?_
  funext a; apply Fin.ext
  match a with
  | 0 => show 0 + 1 * s.val = s.val; omega
  | 1 => show 3072 + 1 * p.val = 3072 + p.val; omega
/-- One product added to row block 0, at an entry. -/
theorem prod0 (a b : Vec Ideal S512x1024 .bf16) (x : Vec Ideal S1024x1024 .f32) (p d : Fin 1024) :
    k0_pay67 a x b (ix2 p d) = x (ix2 p d) + ∑ s : Fin 512, (a (ix2 s p) * a (ix2 s p)) * b (ix2 s d) := by
  pointwise [k0_pay67]
/-- Row block 0 after a grid point. -/
theorem nxt0_at (c : Dev nD) (t : Fin cfg0.N) (x : Vec Ideal S1024x1024 .f32) (p d : Fin 1024) :
    nxt0 (ins m c t) x (ix2 p d) = x (ix2 p d) + ∑ s : Fin 512, share m c ⟨0 + p.val, by omega⟩ d (tok t s) := by
  refine (prod0 _ _ _ p d).trans (congrArg (_ + ·) (Finset.sum_congr rfl fun s _ => ?_))
  rw [col0_at, fac_at]; rfl
/-- One product added to row block 1, at an entry. -/
theorem prod1 (a b : Vec Ideal S512x1024 .bf16) (x : Vec Ideal S1024x1024 .f32) (p d : Fin 1024) :
    k0_pay267 (k0_pay266 a) x b (ix2 p d) = x (ix2 p d) + ∑ s : Fin 512, (a (ix2 s p) * a (ix2 s p)) * b (ix2 s d) := by
  pointwise [k0_pay267, k0_pay266]
/-- Row block 1 after a grid point. -/
theorem nxt1_at (c : Dev nD) (t : Fin cfg0.N) (x : Vec Ideal S1024x1024 .f32) (p d : Fin 1024) :
    nxt1 (ins m c t) x (ix2 p d) = x (ix2 p d) + ∑ s : Fin 512, share m c ⟨1024 + p.val, by omega⟩ d (tok t s) := by
  refine (prod1 _ _ _ p d).trans (congrArg (_ + ·) (Finset.sum_congr rfl fun s _ => ?_))
  rw [col1_at, fac_at]; rfl
/-- One product added to row block 2, at an entry. -/
theorem prod2 (a b : Vec Ideal S512x1024 .bf16) (x : Vec Ideal S1024x1024 .f32) (p d : Fin 1024) :
    k0_pay468 a x b (ix2 p d) = x (ix2 p d) + ∑ s : Fin 512, (a (ix2 s p) * a (ix2 s p)) * b (ix2 s d) := by
  pointwise [k0_pay468]
/-- Row block 2 after a grid point. -/
theorem nxt2_at (c : Dev nD) (t : Fin cfg0.N) (x : Vec Ideal S1024x1024 .f32) (p d : Fin 1024) :
    nxt2 (ins m c t) x (ix2 p d) = x (ix2 p d) + ∑ s : Fin 512, share m c ⟨2048 + p.val, by omega⟩ d (tok t s) := by
  refine (prod2 _ _ _ p d).trans (congrArg (_ + ·) (Finset.sum_congr rfl fun s _ => ?_))
  rw [col2_at, fac_at]; rfl
/-- One product added to row block 3, at an entry. -/
theorem prod3 (a b : Vec Ideal S512x1024 .bf16) (x : Vec Ideal S1024x1024 .f32) (p d : Fin 1024) :
    k0_pay667 x (k0_pay665 a) (k0_pay666 b) (ix2 p d) = x (ix2 p d) + ∑ s : Fin 512, (a (ix2 s p) * a (ix2 s p)) * b (ix2 s d) := by
  pointwise [k0_pay667, k0_pay665, k0_pay666]
/-- Row block 3 after a grid point. -/
theorem nxt3_at (c : Dev nD) (t : Fin cfg0.N) (x : Vec Ideal S1024x1024 .f32) (p d : Fin 1024) :
    nxt3 (ins m c t) x (ix2 p d) = x (ix2 p d) + ∑ s : Fin 512, share m c ⟨3072 + p.val, by omega⟩ d (tok t s) := by
  refine (prod3 _ _ _ p d).trans (congrArg (_ + ·) (Finset.sum_congr rfl fun s _ => ?_))
  rw [col3_at, fac_at]; rfl

/-- A quantity that starts at zero and gains one term a point is, after the last, the sum over all tokens. -/
theorem sum_tokens (f : (n : ℕ) → n ≤ cfg0.N → EReal) (G : Fin 4096 → EReal) (h0 : ∀ h, f 0 h = 0)
    (hs : ∀ n (h : n + 1 ≤ cfg0.N), f (n + 1) h = f n (Nat.le_of_lt h) + ∑ s : Fin 512, G (tok ⟨n, h⟩ s)) (h : 8 ≤ cfg0.N) :
    f 8 h = ∑ i : Fin 4096, G i := by
  have e : ∀ n (h : n ≤ cfg0.N), f n h = ∑ k : Fin n, ∑ s : Fin 512, G (tok ⟨k.val, by omega⟩ s) := by
    intro n
    induction n with
    | zero => intro h; rw [h0]; simp
    | succ n ih => intro h; rw [hs, ih, Fin.sum_univ_castSucc (n := n)]; rfl
  rw [e 8 h, Fin.sum_univ_tiles 8 512 rfl G]; rfl

/-- The cleared accumulator is zero everywhere. -/
theorem zero_at (y : S4096x1024.Idx) : k0_pay6 (F := Ideal) y = 0 := by
  obtain ⟨i, d, rfl⟩ : ∃ (i : Fin 4096) (d : Fin 1024), y = ix2 i d := ⟨y 0, y 1, by blk_ext []⟩
  pointwise [k0_pay6]

/-- Row block 0 at the end. -/
theorem fin0_at (c : Dev nD) (p d : Fin 1024) : (fin m c).r0 (ix2 p d) = ∑ i : Fin 4096, share m c ⟨0 + p.val, by omega⟩ d i := by
  unfold fin
  exact sum_tokens (fun n h => (accs m c n h).r0 (ix2 p d)) _ (fun h => zero_at (rr0.emb (ix2 p d))) (fun n h => nxt0_at m c ⟨n, h⟩ _ p d) _
/-- Row block 1 at the end. -/
theorem fin1_at (c : Dev nD) (p d : Fin 1024) : (fin m c).r1 (ix2 p d) = ∑ i : Fin 4096, share m c ⟨1024 + p.val, by omega⟩ d i := by
  unfold fin
  exact sum_tokens (fun n h => (accs m c n h).r1 (ix2 p d)) _ (fun h => zero_at (rr1.emb (ix2 p d))) (fun n h => nxt1_at m c ⟨n, h⟩ _ p d) _
/-- Row block 2 at the end. -/
theorem fin2_at (c : Dev nD) (p d : Fin 1024) : (fin m c).r2 (ix2 p d) = ∑ i : Fin 4096, share m c ⟨2048 + p.val, by omega⟩ d i := by
  unfold fin
  exact sum_tokens (fun n h => (accs m c n h).r2 (ix2 p d)) _ (fun h => zero_at (rr2.emb (ix2 p d))) (fun n h => nxt2_at m c ⟨n, h⟩ _ p d) _
/-- Row block 3 at the end. -/
theorem fin3_at (c : Dev nD) (p d : Fin 1024) : (fin m c).r3 (ix2 p d) = ∑ i : Fin 4096, share m c ⟨3072 + p.val, by omega⟩ d i := by
  unfold fin
  exact sum_tokens (fun n h => (accs m c n h).r3 (ix2 p d)) _ (fun h => zero_at (rr3.emb (ix2 p d))) (fun n h => nxt3_at m c ⟨n, h⟩ _ p d) _

/-- The whole copied result. -/
theorem whole_at (c : Dev nD) : glue (fin m c).r0 (fin m c).r1 (fin m c).r2 (fin m c).r3 = Agw m c := by
  funext y
  obtain ⟨i, d, rfl⟩ : ∃ (i : Fin 4096) (d : Fin 1024), y = ix2 i d := ⟨y 0, y 1, by blk_ext []⟩
  by_cases h0 : i.val < 1024
  · have e : (ix2 i d : S4096x1024.Idx) = (rr 0).emb (ix2 (⟨i.val - 0, by omega⟩ : Fin 1024) d) := by
      funext a; apply Fin.ext
      match a with
      | 0 => show i.val = 0 + 1 * (i.val - 0); omega
      | 1 => show d.val = 0 + 1 * d.val; omega
    rw [e, glue0, fin0_at, ← e]
    have hi : (⟨0 + (i.val - 0), by omega⟩ : Fin 4096) = i := Fin.ext (by show 0 + (i.val - 0) = i.val; omega)
    exact congrArg (fun e => ∑ j : Fin 4096, share m c e d j) hi
  by_cases h1 : i.val < 2048
  · have e : (ix2 i d : S4096x1024.Idx) = (rr 1).emb (ix2 (⟨i.val - 1024, by omega⟩ : Fin 1024) d) := by
      funext a; apply Fin.ext
      match a with
      | 0 => show i.val = 1024 + 1 * (i.val - 1024); omega
      | 1 => show d.val = 0 + 1 * d.val; omega
    rw [e, glue1, fin1_at, ← e]
    have hi : (⟨1024 + (i.val - 1024), by omega⟩ : Fin 4096) = i := Fin.ext (by show 1024 + (i.val - 1024) = i.val; omega)
    exact congrArg (fun e => ∑ j : Fin 4096, share m c e d j) hi
  by_cases h2 : i.val < 3072
  · have e : (ix2 i d : S4096x1024.Idx) = (rr 2).emb (ix2 (⟨i.val - 2048, by omega⟩ : Fin 1024) d) := by
      funext a; apply Fin.ext
      match a with
      | 0 => show i.val = 2048 + 1 * (i.val - 2048); omega
      | 1 => show d.val = 0 + 1 * d.val; omega
    rw [e, glue2, fin2_at, ← e]
    have hi : (⟨2048 + (i.val - 2048), by omega⟩ : Fin 4096) = i := Fin.ext (by show 2048 + (i.val - 2048) = i.val; omega)
    exact congrArg (fun e => ∑ j : Fin 4096, share m c e d j) hi
  have e : (ix2 i d : S4096x1024.Idx) = (rr 3).emb (ix2 (⟨i.val - 3072, by omega⟩ : Fin 1024) d) := by
    funext a; apply Fin.ext
    match a with
    | 0 => show i.val = 3072 + 1 * (i.val - 3072); omega
    | 1 => show d.val = 0 + 1 * d.val; omega
  rw [e, glue3, fin3_at, ← e]
  have hi : (⟨3072 + (i.val - 3072), by omega⟩ : Fin 4096) = i := Fin.ext (by show 3072 + (i.val - 3072) = i.val; omega)
  exact congrArg (fun e => ∑ j : Fin 4096, share m c e d j) hi

/-- Every execution ends with the result at the gradient and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v5_2) = Agw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h.1.2 c main_v5_2 (by decide)).trans (hbG_at m c)).trans (whole_at m c),
      ((arr_in m (w := 0) rfl rfl ((h.1.1 c).1 0)).trans (V_main_arg0 m c)),
      ((arr_in m (w := 1) rfl rfl ((h.1.1 c).1 1)).trans (V_main_arg1 m c)),
      ((arr_in m (w := 2) rfl rfl ((h.1.1 c).1 2)).trans (V_main_arg2 m c)),
      ((arr_in m (w := 4) rfl rfl ((h.1.1 c).1 4)).trans (V_main_arg3 m c)),
      ((arr_in m (w := 6) rfl rfl ((h.1.1 c).1 6)).trans (V_main_arg4 m c)),
      ((arr_in m (w := 7) rfl rfl ((h.1.1 c).1 7)).trans (V_main_arg5 m c)),
      ((arr_in m (w := 10) rfl rfl ((h.1.1 c).1 10)).trans (V_main_arg6 m c)),
      ((arr_in m (w := 11) rfl rfl ((h.1.1 c).1 11)).trans (V_main_arg7 m c)),
      ((arr_in m (w := 12) rfl rfl ((h.1.1 c).1 12)).trans (V_main_arg8 m c)),
      ((arr_in m (w := 13) rfl rfl ((h.1.1 c).1 13)).trans (V_main_arg9 m c)),
      ((arr_in m (w := 14) rfl rfl ((h.1.1 c).1 14)).trans (V_main_arg10 m c)),
      ((arr_in m (w := 15) rfl rfl ((h.1.1 c).1 15)).trans (V_main_arg11 m c)),
      ((arr_in m (w := 16) rfl rfl ((h.1.1 c).1 16)).trans (V_main_arg12 m c)),
      ((h.1.1 c).2 main_arg13 (Finset.mem_sdiff.mpr ⟨Pipeline.mem_restRefs_of main_arg13 (by decide) (by decide), by decide⟩)).trans (V_main_arg13 m c),
      ((h.1.1 c).2 main_arg14 (Finset.mem_sdiff.mpr ⟨Pipeline.mem_restRefs_of main_arg14 (by decide) (by decide), by decide⟩)).trans (V_main_arg14 m c),
      ((h.1.1 c).2 main_arg15 (Finset.mem_sdiff.mpr ⟨Pipeline.mem_restRefs_of main_arg15 (by decide) (by decide), by decide⟩)).trans (V_main_arg15 m c)⟩) (run_main m ρ)

end Cert.Kernel2Ideal.Run

end
-- ==== Proof.MJoin.lean ====
module

public import proofs.«01_k».proof.Proof.MVal
public import proofs.«01_k».proof.Defs

@[expose] public section

set_option maxRecDepth 16384

noncomputable section

/-! The gradient of the second feed-forward weight, from the call and from the reference, over the same arguments. -/

namespace Cert.Join2

open Idealize.ShloMosaic Idealize.ShloMosaic.TcCoe Idealize.ShloMosaic.Tactic
open Cert.Reference2Ideal Cert.Reference2Ideal.Gen

/-- The reference's result over its three arguments. -/
def whole (X : FVec Ideal S4096x1024 .f32) (W : FVec Ideal S1024x4096 .f32) (D : FVec Ideal S4096x1024 .f32) : FVec Ideal S4096x1024 .f32 :=
  transpose S4096x1024 [1, 0] (Host.dotGeneral dot_S4096x1024_S4096x4096_S1024x4096_0_0_1_1_n_n none D (mulf (maximumf (Host.dotGeneral dot_S4096x1024_S1024x4096_S4096x4096_1_0_0_1_n_n none X W) (broadcastInDim S4096x4096 ![] bcast_S_S4096x4096 (constant S_ .f32 0x00000000#32))) (maximumf (Host.dotGeneral dot_S4096x1024_S1024x4096_S4096x4096_1_0_0_1_n_n none X W) (broadcastInDim S4096x4096 ![] bcast_S_S4096x4096 (constant S_ .f32 0x00000000#32))))) transposes_S1024x4096_S4096x1024_1_0

/-- The reference's result at an entry: a sum over the tokens. -/
theorem whole_at (X : FVec Ideal S4096x1024 .f32) (W : FVec Ideal S1024x4096 .f32) (D : FVec Ideal S4096x1024 .f32) (e : Fin 4096) (d : Fin 1024) :
    whole X W D (ix2 e d) = ∑ i : Fin 4096, D (ix2 i d) * (max (∑ k : Fin 1024, X (ix2 i k) * W (ix2 k e)) 0 * max (∑ k : Fin 1024, X (ix2 i k) * W (ix2 k e)) 0) := by
  pointwise [whole]

/-- The call's gradient is the reference's over the same arguments. -/
theorem gradient (m : (ℓ : Loc Kernel2Ideal.nD Kernel2Ideal.τ Kernel2Ideal.sig) → Buf (Elt Ideal) ℓ) (c : Dev Kernel2Ideal.nD) :
    whole (m ((c.tc : Thread Kernel2Ideal.nD Kernel2Ideal.τ).loc Kernel2Ideal.main_arg13)) (m ((c.tc : Thread Kernel2Ideal.nD Kernel2Ideal.τ).loc Kernel2Ideal.main_arg14))
      (m ((c.tc : Thread Kernel2Ideal.nD Kernel2Ideal.τ).loc Kernel2Ideal.main_arg15)) = Kernel2Ideal.Run.Agw m c := by
  funext y
  obtain ⟨e, d, rfl⟩ : ∃ (e : Fin 4096) (d : Fin 1024), y = ix2 e d := ⟨y 0, y 1, by blk_ext []⟩
  exact (whole_at _ _ _ e d).trans (Finset.sum_congr rfl fun i _ => mul_comm _ _)

/-- From arguments that agree, call and reference end with equal results. -/
theorem values : Cert.algebraic_Kernel2Ideal_Reference2Ideal := by
  pair_intro
  · run_from Cert.Kernel2Ideal.Run.run_values m g
  · run_from Cert.Reference2Ideal.Value.run m' g'
    · have h := hagree c
      refine Eq.trans ?_ (gradient m c)
      rw [← h.2.2.2.2.2.2.2.2.2.2.2.2.2.1, ← h.2.2.2.2.2.2.2.2.2.2.2.2.2.2.1, ← h.2.2.2.2.2.2.2.2.2.2.2.2.2.2.2]
      rfl

end Cert.Join2

end
-- ==== Proof.LSame.lean ====
module

public import proofs.«01_k».proof.Proof.Gen.Kernel3
public import proofs.«01_k».proof.Proof.Gen.Kernel3Ideal
public import proofs.«01_k».proof.Defs
public import proofs.«01_k».proof.Proof.Gen.Reference3Ideal.Run
public import proofs.«01_k».proof.Proof.Gen.Kernel3Ideal.Frame

@[expose] public section

set_option maxRecDepth 16384

noncomputable section

namespace Cert.Same3

open Idealize.ShloMosaic Idealize.SL.Sem Idealize.ShloMosaic.Tactic
set_option backward.isDefEq.respectTransparency.types false

set_option maxHeartbeats 4000000 in
/-- The body printed for the machine is the body printed for the reals. -/
theorem body_same : @Kernel3.cc0_ffn_fwd_loss Bits _ _ = @Kernel3Ideal.cc0_ffn_fwd_loss Bits _ _ := rfl

set_option maxHeartbeats 1000000 in
/-- So are the two tables of bodies. -/
theorem table_same : Kernel3.defs₀ (F := Bits) = Kernel3Ideal.defs₀ (F := Bits) := by
  refine congrArg Defs.onTc (funext fun l => funext fun x => ?_)
  match l, x with
  | 0, (t, s) =>
    change Kernel3.cc0_ffn_fwd_loss (F := Bits) _ _ _ _ _ _ _ _ _ _ _ _ _ _ _ _ _ _ _ _ _ _ _ _ _ _ _ _ _ _ _ _ _ _ _ _ _ _ _ = Kernel3Ideal.cc0_ffn_fwd_loss (F := Bits) _ _ _ _ _ _ _ _ _ _ _ _ _ _ _ _ _ _ _ _ _ _ _ _ _ _ _ _ _ _ _ _ _ _ _ _ _ _ _
    rw [body_same]
    rfl
  | ⟨_ + 1, h⟩, _ => exact absurd h (Nat.not_lt.2 (Nat.le_add_left _ _))

set_option maxHeartbeats 4000000 in
/-- The two programs have the same table of bodies, pipelines included. -/
theorem defs_same : Kernel3.defs (F := Bits) = Kernel3Ideal.defs (F := Bits) := congrArg (Pipeline.defs Kernel3Ideal.pcfgs) table_same

set_option maxHeartbeats 4000000 in
/-- The two programs have the same main function. -/
theorem main_same : Kernel3.main (F := Bits) = Kernel3Ideal.main (F := Bits) := funext fun _ => by
  unfold Kernel3.main Kernel3Ideal.main
  rfl

set_option maxHeartbeats 4000000 in
/-- The machine program's frame is the run at every float instance, taken at the machine's words. -/
theorem frame_kernel : Cert.quiescent_Kernel3 := fun m ρ _ => by
  have h := Cert.Kernel3Ideal.Gen.frame (F := Bits) m ρ
  rw [← main_same, ← defs_same] at h
  exact h

/-- The frame of the call over the extended reals is the same run, taken there. -/
theorem frame_ideal : Cert.quiescent_Kernel3Ideal := fun m ρ _ => Cert.Kernel3Ideal.Gen.frame (F := Ideal) m ρ

/-- The reference runs to its end, leaves its arguments, and has no semaphore to leave raised. -/
theorem frame_reference : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

end Cert.Same3

end
-- ==== Proof.LRows.lean ====
module

public import proofs.«01_k».proof.Proof.Rows

@[expose] public section

noncomputable section

/-! The mathematics of the forward feed-forward call with the loss, one token at a time, over the extended reals. -/

namespace Cert.Rows

open Idealize.ShloMosaic

/-- The literal 1/1024, what the gradient of the mean of a row of 1024 is scaled by. -/
abbrev inv : EReal := Ideal.ofBits FTy.f32 0x3A800000#32

/-- The first sum of a token: the scaled residual branch and the product of the heads with the output projection. -/
def z1 (x c : Fin 1024 → EReal) (wo : Fin 1024 → Fin 1024 → EReal) (d : Fin 1024) : EReal := alpha * x d + ∑ k, c k * wo k d

/-- The second sum of a token: the scaled normalised row and the feed-forward product of the squared rectified pre-activation. -/
def z2 (z g b : Fin 1024 → EReal) (w1 : Fin 1024 → Fin 4096 → EReal) (w2 : Fin 4096 → Fin 1024 → EReal) (d : Fin 1024) : EReal :=
  alpha * x1 z g b d + ∑ e, relu z g b w1 e * relu z g b w1 e * w2 e d

/-- The error of a token: the second normalised row, scaled and shifted, less the target. -/
def err (z g b t : Fin 1024 → EReal) (d : Fin 1024) : EReal := x1 z g b d - t d

/-- The loss's gradient in the second layer norm's result. -/
def dy (z g b t : Fin 1024 → EReal) (d : Fin 1024) : EReal := err z g b t d * inv

/-- The loss's gradient in the second sum. -/
def dz (z g b t : Fin 1024 → EReal) (d : Fin 1024) : EReal := dnorm (fun k => dy z g b t k * g k) (xhat z) (rstd z) d

end Cert.Rows
-- ==== Proof.LTile.lean ====
module

public import proofs.«01_k».proof.Proof.Gen.Kernel3Ideal.Skeleton
public import proofs.«01_k».proof.Proof.LRows

@[expose] public section

set_option maxRecDepth 16384

noncomputable section

/-! What one grid point of the forward feed-forward call computes on its tile of 512 tokens, read at one entry. The tile is computed in two parts of 256 tokens,
    and the hidden width in four quarters. -/

namespace Cert.Kernel3Ideal.Tile

open Idealize.ShloMosaic Idealize.ShloMosaic.TcCoe Idealize.SL.Sem
open Cert.Kernel3Ideal Cert.Kernel3Ideal.Gen

/-- The values of the staged inputs. -/
structure Ins where
  x0 : Vec Ideal S512x1024 .bf16
  x1 : Vec Ideal S512x1024 .f32
  x2 : Vec Ideal S1024x1024 .bf16
  x3 : Vec Ideal S1x1024 .f32
  x4 : Vec Ideal S1x1024 .f32
  x5 : Vec Ideal S4x1024x1024 .bf16
  x6 : Vec Ideal S4x1024x1024 .bf16
  x7 : Vec Ideal S1x1024 .f32
  x8 : Vec Ideal S1x1024 .f32
  x9 : Vec Ideal S512x1024 .f32

variable (X : Ins)

/-! The parts of the inputs that the body loads. -/

abbrev c0 : Vec Ideal S256x1024 .bf16 := View.ld X.x0 (Rect.unit ![0, 0] ![256, 1024] inb_S512x1024_S256x1024_0_0)
abbrev c1 : Vec Ideal S256x1024 .bf16 := View.ld X.x0 (Rect.unit ![256, 0] ![256, 1024] inb_S512x1024_S256x1024_256_0)
abbrev a0 : Vec Ideal S256x1024 .f32 := View.ld X.x1 (Rect.unit ![0, 0] ![256, 1024] inb_S512x1024_S256x1024_0_0)
abbrev a1 : Vec Ideal S256x1024 .f32 := View.ld X.x1 (Rect.unit ![256, 0] ![256, 1024] inb_S512x1024_S256x1024_256_0)
abbrev t0 : Vec Ideal S256x1024 .f32 := View.ld X.x9 (Rect.unit ![0, 0] ![256, 1024] inb_S512x1024_S256x1024_0_0)
abbrev t1 : Vec Ideal S256x1024 .f32 := View.ld X.x9 (Rect.unit ![256, 0] ![256, 1024] inb_S512x1024_S256x1024_256_0)
abbrev p0 : Vec Ideal S1x1024x1024 .bf16 := View.ld X.x5 (Rect.unit ![0, 0, 0] ![1, 1024, 1024] inb_S4x1024x1024_S1x1024x1024_0_0_0)
abbrev p1 : Vec Ideal S1x1024x1024 .bf16 := View.ld X.x5 (Rect.unit ![1, 0, 0] ![1, 1024, 1024] inb_S4x1024x1024_S1x1024x1024_1_0_0)
abbrev p2 : Vec Ideal S1x1024x1024 .bf16 := View.ld X.x5 (Rect.unit ![2, 0, 0] ![1, 1024, 1024] inb_S4x1024x1024_S1x1024x1024_2_0_0)
abbrev p3 : Vec Ideal S1x1024x1024 .bf16 := View.ld X.x5 (Rect.unit ![3, 0, 0] ![1, 1024, 1024] inb_S4x1024x1024_S1x1024x1024_3_0_0)
abbrev q0 : Vec Ideal S1x1024x1024 .bf16 := View.ld X.x6 (Rect.unit ![0, 0, 0] ![1, 1024, 1024] inb_S4x1024x1024_S1x1024x1024_0_0_0)
abbrev q1 : Vec Ideal S1x1024x1024 .bf16 := View.ld X.x6 (Rect.unit ![1, 0, 0] ![1, 1024, 1024] inb_S4x1024x1024_S1x1024x1024_1_0_0)
abbrev q2 : Vec Ideal S1x1024x1024 .bf16 := View.ld X.x6 (Rect.unit ![2, 0, 0] ![1, 1024, 1024] inb_S4x1024x1024_S1x1024x1024_2_0_0)
abbrev q3 : Vec Ideal S1x1024x1024 .bf16 := View.ld X.x6 (Rect.unit ![3, 0, 0] ![1, 1024, 1024] inb_S4x1024x1024_S1x1024x1024_3_0_0)

/-! The same inputs as rows and matrices. -/

/-- The first sum of the tile's token `r`. -/
def z (r : Fin 512) : Fin 1024 → EReal := Rows.z1 (fun d => X.x1 (ix2 r d)) (fun k => X.x0 (ix2 r k)) fun k d => X.x2 (ix2 k d)
/-- The first layer norm's scale. -/
def g1 (d : Fin 1024) : EReal := X.x3 (ix2 0 d)
/-- The first layer norm's shift. -/
def b1 (d : Fin 1024) : EReal := X.x4 (ix2 0 d)
/-- The first feed-forward matrix. -/
def w1 (d : Fin 1024) (e : Fin 4096) : EReal := X.x5 (ix3 ⟨e.val / 1024, by omega⟩ d ⟨e.val % 1024, by omega⟩)
/-- The second feed-forward matrix. -/
def w2 (e : Fin 4096) (d : Fin 1024) : EReal := X.x6 (ix3 ⟨e.val / 1024, by omega⟩ ⟨e.val % 1024, by omega⟩ d)
/-- The second layer norm's scale. -/
def g2 (d : Fin 1024) : EReal := X.x7 (ix2 0 d)
/-- The second layer norm's shift. -/
def b2 (d : Fin 1024) : EReal := X.x8 (ix2 0 d)
/-- The target of the tile's token `r`. -/
def tgt (r : Fin 512) (d : Fin 1024) : EReal := X.x9 (ix2 r d)
/-- The second sum of the tile's token `r`. -/
def zz (r : Fin 512) : Fin 1024 → EReal := Rows.z2 (z X r) (g1 X) (b1 X) (w1 X) (w2 X)

/-- A token of the first part. -/
abbrev r0 (s : Fin 256) : Fin 512 := ⟨0 + s.val, by omega⟩
/-- A token of the second part. -/
abbrev r1 (s : Fin 256) : Fin 512 := ⟨256 + s.val, by omega⟩

/-- Half 0 of the heads. -/
theorem c0_at (s : Fin 256) (d : Fin 1024) : c0 X (ix2 s d) = X.x0 (ix2 (r0 s) d) := by refine congrArg X.x0 ?_; idx_ext <;> omega
/-- Half 1 of the heads. -/
theorem c1_at (s : Fin 256) (d : Fin 1024) : c1 X (ix2 s d) = X.x0 (ix2 (r1 s) d) := by refine congrArg X.x0 ?_; idx_ext <;> omega
/-- Half 0 of the residual stream. -/
theorem a0_at (s : Fin 256) (d : Fin 1024) : a0 X (ix2 s d) = X.x1 (ix2 (r0 s) d) := by refine congrArg X.x1 ?_; idx_ext <;> omega
/-- Half 1 of the residual stream. -/
theorem a1_at (s : Fin 256) (d : Fin 1024) : a1 X (ix2 s d) = X.x1 (ix2 (r1 s) d) := by refine congrArg X.x1 ?_; idx_ext <;> omega
/-- Half 0 of the target. -/
theorem t0_at (s : Fin 256) (d : Fin 1024) : t0 X (ix2 s d) = tgt X (r0 s) d := by refine congrArg X.x9 ?_; idx_ext <;> omega
/-- Half 1 of the target. -/
theorem t1_at (s : Fin 256) (d : Fin 1024) : t1 X (ix2 s d) = tgt X (r1 s) d := by refine congrArg X.x9 ?_; idx_ext <;> omega
/-- Quarter 0 of `w_ff1`. -/
theorem p0_at (d e : Fin 1024) : p0 X (ix3 0 d e) = w1 X d ⟨0 + e, by omega⟩ := by refine congrArg X.x5 ?_; idx_ext <;> omega
/-- Quarter 1 of `w_ff1`. -/
theorem p1_at (d e : Fin 1024) : p1 X (ix3 0 d e) = w1 X d ⟨1024 + e, by omega⟩ := by refine congrArg X.x5 ?_; idx_ext <;> omega
/-- Quarter 2 of `w_ff1`. -/
theorem p2_at (d e : Fin 1024) : p2 X (ix3 0 d e) = w1 X d ⟨2048 + e, by omega⟩ := by refine congrArg X.x5 ?_; idx_ext <;> omega
/-- Quarter 3 of `w_ff1`. -/
theorem p3_at (d e : Fin 1024) : p3 X (ix3 0 d e) = w1 X d ⟨3072 + e, by omega⟩ := by refine congrArg X.x5 ?_; idx_ext <;> omega
/-- Quarter 0 of `w_ff2`. -/
theorem q0_at (e d : Fin 1024) : q0 X (ix3 0 e d) = w2 X ⟨0 + e, by omega⟩ d := by refine congrArg X.x6 ?_; idx_ext <;> omega
/-- Quarter 1 of `w_ff2`. -/
theorem q1_at (e d : Fin 1024) : q1 X (ix3 0 e d) = w2 X ⟨1024 + e, by omega⟩ d := by refine congrArg X.x6 ?_; idx_ext <;> omega
/-- Quarter 2 of `w_ff2`. -/
theorem q2_at (e d : Fin 1024) : q2 X (ix3 0 e d) = w2 X ⟨2048 + e, by omega⟩ d := by refine congrArg X.x6 ?_; idx_ext <;> omega
/-- Quarter 3 of `w_ff2`. -/
theorem q3_at (e d : Fin 1024) : q3 X (ix3 0 e d) = w2 X ⟨3072 + e, by omega⟩ d := by refine congrArg X.x6 ?_; idx_ext <;> omega

/-! The first part, stage by stage. -/

/-- The first part's normalised rows. -/
abbrev h0 : FVec Ideal S256x1024 .f32 := k0_pay9 (c0 X) X.x2 (a0 X)
/-- The first part's feed-forward product. -/
abbrev f0 : FVec Ideal S256x1024 .f32 :=
  k0_pay22 (k0_pay11 (h0 X) X.x3 X.x4) (k0_pay14 (h0 X) X.x3 X.x4 (p0 X) (q0 X)) (k0_pay17 (h0 X) X.x3 X.x4 (p1 X)) (q1 X) (p2 X) (q2 X) (p3 X) (q3 X)
/-- The first part's second sum. -/
abbrev s0 : FVec Ideal S256x1024 .f32 := k0_pay29 (k0_pay10 (h0 X) X.x3 X.x4) (f0 X)

/-- The first sum, less its mean, at one entry of the first part. -/
theorem cen0_at (s : Fin 256) (d : Fin 1024) : k0_pay7 (c0 X) X.x2 (a0 X) (ix2 s d) = Rows.cen (z X (r0 s)) d := by
  have hc := c0_at X s
  have ha := a0_at X s
  generalize c0 X = c at hc ⊢
  generalize a0 X = a at ha ⊢
  pointwise [k0_pay7]
  simp only [hc, ha]
  rfl

/-- The reciprocal standard deviation of the first sum at one row of the first part. -/
theorem rstd0_at (s : Fin 256) : k0_pay8 (c0 X) X.x2 (a0 X) (ix2 s 0) = Rows.rstd (z X (r0 s)) := by
  have h := cen0_at X s
  pointwise [k0_pay8]
  simp only [h]
  rfl

/-- The first normalised row at one entry of the first part. -/
theorem xhat0_at (s : Fin 256) (d : Fin 1024) : h0 X (ix2 s d) = Rows.xhat (z X (r0 s)) d := by
  have h := cen0_at X s
  have h' := rstd0_at X s
  pointwise [h0, k0_pay9]
  rw [h, h']
  rfl

/-- The first layer norm at one entry of the first part. -/
theorem x10_at (s : Fin 256) (d : Fin 1024) : k0_pay10 (h0 X) X.x3 X.x4 (ix2 s d) = Rows.x1 (z X (r0 s)) (g1 X) (b1 X) d := by
  have h := xhat0_at X s
  generalize h0 X = v at h ⊢
  pointwise [k0_pay10]
  rw [h]
  rfl

/-- The rectified pre-activation at one entry of the first part, quarter by quarter. -/
theorem relu00_at (s : Fin 256) (e : Fin 1024) : k0_pay12 (h0 X) X.x3 X.x4 (p0 X) (ix2 s e) = Rows.relu (z X (r0 s)) (g1 X) (b1 X) (w1 X) ⟨0 + e, by omega⟩ := by
  have h := x10_at X s
  have hp := p0_at X
  generalize p0 X = p at hp ⊢
  generalize h0 X = v at h ⊢
  pointwise [k0_pay12, k0_pay11]
  simp only [h, hp, zero_add]
  rfl
/-- Half 0, quarter 1 of the rectified pre-activation. -/
theorem relu01_at (s : Fin 256) (e : Fin 1024) : k0_pay15 (h0 X) X.x3 X.x4 (p1 X) (ix2 s e) = Rows.relu (z X (r0 s)) (g1 X) (b1 X) (w1 X) ⟨1024 + e, by omega⟩ := by
  have h := x10_at X s
  have hp := p1_at X
  generalize p1 X = p at hp ⊢
  generalize h0 X = v at h ⊢
  pointwise [k0_pay15, k0_pay11]
  simp only [h, hp]
  rfl
/-- Half 0, quarter 2 of the rectified pre-activation. -/
theorem relu02_at (s : Fin 256) (e : Fin 1024) : k0_pay18 (k0_pay11 (h0 X) X.x3 X.x4) (p2 X) (ix2 s e) = Rows.relu (z X (r0 s)) (g1 X) (b1 X) (w1 X) ⟨2048 + e, by omega⟩ := by
  have h := x10_at X s
  have hp := p2_at X
  generalize p2 X = p at hp ⊢
  generalize h0 X = v at h ⊢
  pointwise [k0_pay18, k0_pay11]
  simp only [h, hp]
  rfl
/-- Half 0, quarter 3 of the rectified pre-activation. -/
theorem relu03_at (s : Fin 256) (e : Fin 1024) : k0_pay20 (k0_pay11 (h0 X) X.x3 X.x4) (p3 X) (ix2 s e) = Rows.relu (z X (r0 s)) (g1 X) (b1 X) (w1 X) ⟨3072 + e, by omega⟩ := by
  have h := x10_at X s
  have hp := p3_at X
  generalize p3 X = p at hp ⊢
  generalize h0 X = v at h ⊢
  pointwise [k0_pay20, k0_pay11]
  simp only [h, hp]
  rfl

/-- The second sum at one entry of the first part. -/
theorem zz0_at (s : Fin 256) (d : Fin 1024) : s0 X (ix2 s d) = zz X (r0 s) d := by
  have h := x10_at X s
  have e0 := relu00_at X s
  have e1 := relu01_at X s
  have e2 := relu02_at X s
  have e3 := relu03_at X s
  have u0 := q0_at X
  have u1 := q1_at X
  have u2 := q2_at X
  have u3 := q3_at X
  unfold s0 f0
  generalize q0 X = v0 at u0 ⊢
  generalize q1 X = v1 at u1 ⊢
  generalize q2 X = v2 at u2 ⊢
  generalize q3 X = v3 at u3 ⊢
  generalize p0 X = o0 at e0 ⊢
  generalize p1 X = o1 at e1 ⊢
  generalize p2 X = o2 at e2 ⊢
  generalize p3 X = o3 at e3 ⊢
  generalize h0 X = v at h e0 e1 e2 e3 ⊢
  pointwise [k0_pay29, k0_pay22, k0_pay14, k0_pay17]
  simp only [h, e0, e1, e2, e3, u0, u1, u2, u3, zz, Rows.z2]
  rw [Rows.sum_quarters]

/-! The loss and its gradient in the second layer norm, in the first part. -/

/-- The second sum, less its mean, at one entry of the first part. -/
theorem cenz0_at (s : Fin 256) (d : Fin 1024) : k0_pay30 (s0 X) (ix2 s d) = Rows.cen (zz X (r0 s)) d := by
  have h := zz0_at X s
  generalize s0 X = v at h ⊢
  pointwise [k0_pay30]
  simp only [h]
  rfl

/-- The second reciprocal standard deviation at one row of the first part. -/
theorem rstdz0_at (s : Fin 256) : k0_pay31 (s0 X) (ix2 s 0) = Rows.rstd (zz X (r0 s)) := by
  have h := cenz0_at X s
  generalize s0 X = v at h ⊢
  pointwise [k0_pay31]
  simp only [h]
  rfl

/-- The second normalised row at one entry of the first part. -/
theorem xhatz0_at (s : Fin 256) (d : Fin 1024) : k0_pay32 (s0 X) (ix2 s d) = Rows.xhat (zz X (r0 s)) d := by
  have h := cenz0_at X s
  have h' := rstdz0_at X s
  generalize s0 X = v at h h' ⊢
  pointwise [k0_pay32]
  rw [h, h']
  rfl

/-- The error at one entry of the first part. -/
theorem err0_at (s : Fin 256) (d : Fin 1024) :
    k0_pay33 (s0 X) X.x7 X.x8 (t0 X) (ix2 s d) = Rows.err (zz X (r0 s)) (g2 X) (b2 X) (tgt X (r0 s)) d := by
  have h := xhatz0_at X s
  have ht := t0_at X s
  generalize t0 X = t at ht ⊢
  generalize s0 X = v at h ⊢
  pointwise [k0_pay33]
  rw [h, ht]
  rfl

/-- The loss's gradient in the second layer norm's result at one entry of the first part. -/
theorem dy0_at (s : Fin 256) (d : Fin 1024) :
    k0_pay35 (s0 X) X.x7 X.x8 (t0 X) (ix2 s d) = Rows.dy (zz X (r0 s)) (g2 X) (b2 X) (tgt X (r0 s)) d := by
  have h := err0_at X s
  generalize t0 X = t at h ⊢
  generalize s0 X = v at h ⊢
  pointwise [k0_pay35]
  rw [h]
  rfl

/-- The squared errors after the first part. -/
theorem sq0_at (a : Vec Ideal S1x1024 .f32) (d : Fin 1024) :
    k0_pay34 (s0 X) X.x7 X.x8 (t0 X) a (ix2 0 d) = a (ix2 0 d) + ∑ s : Fin 256,
      Rows.err (zz X (r0 s)) (g2 X) (b2 X) (tgt X (r0 s)) d * Rows.err (zz X (r0 s)) (g2 X) (b2 X) (tgt X (r0 s)) d := by
  have h := err0_at X
  generalize t0 X = t at h ⊢
  generalize s0 X = v at h ⊢
  pointwise [k0_pay34]
  simp only [h]

/-- The second scale's gradient after the first part. -/
theorem dg0_at (a : Vec Ideal S1x1024 .f32) (d : Fin 1024) :
    k0_pay36 (s0 X) X.x7 X.x8 (t0 X) a (ix2 0 d) = a (ix2 0 d) + ∑ s : Fin 256,
      Rows.dy (zz X (r0 s)) (g2 X) (b2 X) (tgt X (r0 s)) d * Rows.xhat (zz X (r0 s)) d := by
  have h := dy0_at X
  have h' := xhatz0_at X
  generalize t0 X = t at h ⊢
  generalize s0 X = v at h h' ⊢
  pointwise [k0_pay36]
  simp only [h, h']

/-- The second shift's gradient after the first part. -/
theorem db0_at (a : Vec Ideal S1x1024 .f32) (d : Fin 1024) :
    k0_pay37 (k0_pay35 (s0 X) X.x7 X.x8 (t0 X)) a (ix2 0 d) = a (ix2 0 d) + ∑ s : Fin 256,
      Rows.dy (zz X (r0 s)) (g2 X) (b2 X) (tgt X (r0 s)) d := by
  have h := dy0_at X
  generalize k0_pay35 (s0 X) X.x7 X.x8 (t0 X) = v at h ⊢
  pointwise [k0_pay37]
  simp only [h]

/-- The loss's gradient in the second sum at one entry of the first part. -/
theorem dz0_at (s : Fin 256) (d : Fin 1024) :
    k0_pay38 (k0_pay31 (s0 X)) (k0_pay32 (s0 X)) (k0_pay35 (s0 X) X.x7 X.x8 (t0 X)) X.x7 (ix2 s d)
      = Rows.dz (zz X (r0 s)) (g2 X) (b2 X) (tgt X (r0 s)) d := by
  have h := dy0_at X s
  have h' := xhatz0_at X s
  have h'' := rstdz0_at X s
  generalize k0_pay35 (s0 X) X.x7 X.x8 (t0 X) = v at h ⊢
  generalize k0_pay32 (s0 X) = w at h' ⊢
  generalize k0_pay31 (s0 X) = u at h'' ⊢
  pointwise [k0_pay38]
  simp only [h, h', h'']
  rfl

/-! The second part, stage by stage. -/

/-- The second part's product of the heads with the output projection. -/
abbrev o1 : FVec Ideal S256x1024 .f32 := k0_pay6 (c1 X) X.x2
/-- The second part's first layer norm. -/
abbrev y1 : FVec Ideal S256x1024 .f32 := k0_pay26 (o1 X) (a1 X) X.x3 X.x4
/-- The second part's first layer norm, as the products take it. -/
abbrev u1 : FVec Ideal S256x1024 .bf16 := k0_pay27 (o1 X) (a1 X) X.x3 X.x4
/-- The first quarter of the second part's pre-activation. -/
abbrev e1 : FVec Ideal S256x1024 .f32 := k0_pay28 (o1 X) (a1 X) X.x3 X.x4 (p0 X)
/-- Three quarters of the second part's feed-forward product. -/
abbrev f1 : FVec Ideal S256x1024 .f32 := k0_pay47 (u1 X) (k0_pay42 (e1 X)) (q0 X) (p1 X) (q1 X) (p2 X) (q2 X)

/-- The first sum, less its mean, at one entry of the second part. -/
theorem cen1_at (s : Fin 256) (d : Fin 1024) : k0_pay23 (o1 X) (a1 X) (ix2 s d) = Rows.cen (z X (r1 s)) d := by
  have hc := c1_at X s
  have ha := a1_at X s
  unfold o1
  generalize c1 X = c at hc ⊢
  generalize a1 X = a at ha ⊢
  pointwise [k0_pay23, k0_pay6]
  simp only [hc, ha]
  rfl

/-- The reciprocal standard deviation of the first sum at one row of the second part. -/
theorem rstd1_at (s : Fin 256) : k0_pay24 (o1 X) (a1 X) (ix2 s 0) = Rows.rstd (z X (r1 s)) := by
  have h := cen1_at X s
  generalize o1 X = o at h ⊢
  pointwise [k0_pay24]
  simp only [h]
  rfl

/-- The first normalised row at one entry of the second part. -/
theorem xhat1_at (s : Fin 256) (d : Fin 1024) : k0_pay25 (o1 X) (a1 X) (ix2 s d) = Rows.xhat (z X (r1 s)) d := by
  have h := cen1_at X s
  have h' := rstd1_at X s
  generalize o1 X = o at h h' ⊢
  pointwise [k0_pay25]
  rw [h, h']
  rfl

/-- The first layer norm at one entry of the second part. -/
theorem x11_at (s : Fin 256) (d : Fin 1024) : y1 X (ix2 s d) = Rows.x1 (z X (r1 s)) (g1 X) (b1 X) d := by
  have h := xhat1_at X s
  unfold y1
  generalize o1 X = o at h ⊢
  pointwise [k0_pay26]
  rw [h]
  rfl

/-- The first layer norm at one entry of the second part, as the products take it. -/
theorem x11b_at (s : Fin 256) (d : Fin 1024) : u1 X (ix2 s d) = Rows.x1 (z X (r1 s)) (g1 X) (b1 X) d := x11_at X s d

/-- The rectified pre-activation at one entry of the second part, quarter by quarter. -/
theorem relu10_at (s : Fin 256) (e : Fin 1024) : k0_pay40 (e1 X) (ix2 s e) = Rows.relu (z X (r1 s)) (g1 X) (b1 X) (w1 X) ⟨0 + e, by omega⟩ := by
  have h : ∀ d, k0_pay27 (o1 X) (a1 X) X.x3 X.x4 (ix2 s d) = _ := x11b_at X s
  have hp := p0_at X
  unfold e1
  generalize p0 X = p at hp ⊢
  pointwise [k0_pay40, k0_pay28]
  simp only [h, hp, zero_add]
  rfl
/-- Half 1, quarter 1 of the rectified pre-activation. -/
theorem relu11_at (s : Fin 256) (e : Fin 1024) : k0_pay43 (u1 X) (p1 X) (ix2 s e) = Rows.relu (z X (r1 s)) (g1 X) (b1 X) (w1 X) ⟨1024 + e, by omega⟩ := by
  have h := x11b_at X s
  have hp := p1_at X
  generalize p1 X = p at hp ⊢
  generalize u1 X = v at h ⊢
  pointwise [k0_pay43]
  simp only [h, hp]
  rfl
/-- Half 1, quarter 2 of the rectified pre-activation. -/
theorem relu12_at (s : Fin 256) (e : Fin 1024) : k0_pay45 (u1 X) (p2 X) (ix2 s e) = Rows.relu (z X (r1 s)) (g1 X) (b1 X) (w1 X) ⟨2048 + e, by omega⟩ := by
  have h := x11b_at X s
  have hp := p2_at X
  generalize p2 X = p at hp ⊢
  generalize u1 X = v at h ⊢
  pointwise [k0_pay45]
  simp only [h, hp]
  rfl
/-- Half 1, quarter 3 of the rectified pre-activation. -/
theorem relu13_at (s : Fin 256) (e : Fin 1024) : k0_pay48 (u1 X) (p3 X) (ix2 s e) = Rows.relu (z X (r1 s)) (g1 X) (b1 X) (w1 X) ⟨3072 + e, by omega⟩ := by
  have h := x11b_at X s
  have hp := p3_at X
  generalize p3 X = p at hp ⊢
  generalize u1 X = v at h ⊢
  pointwise [k0_pay48]
  simp only [h, hp]
  rfl

/-- The second sum at one entry of the second part: the terms of which its centring takes the mean. -/
theorem zz1_eq (s : Fin 256) (d : Fin 1024) :
    Rows.alpha * Rows.x1 (z X (r1 s)) (g1 X) (b1 X) d
      + ((∑ e : Fin 1024, Rows.relu (z X (r1 s)) (g1 X) (b1 X) (w1 X) ⟨0 + e, by omega⟩ * Rows.relu (z X (r1 s)) (g1 X) (b1 X) (w1 X) ⟨0 + e, by omega⟩ * w2 X ⟨0 + e, by omega⟩ d)
        + (∑ e : Fin 1024, Rows.relu (z X (r1 s)) (g1 X) (b1 X) (w1 X) ⟨1024 + e, by omega⟩ * Rows.relu (z X (r1 s)) (g1 X) (b1 X) (w1 X) ⟨1024 + e, by omega⟩ * w2 X ⟨1024 + e, by omega⟩ d)
        + (∑ e : Fin 1024, Rows.relu (z X (r1 s)) (g1 X) (b1 X) (w1 X) ⟨2048 + e, by omega⟩ * Rows.relu (z X (r1 s)) (g1 X) (b1 X) (w1 X) ⟨2048 + e, by omega⟩ * w2 X ⟨2048 + e, by omega⟩ d)
        + (∑ e : Fin 1024, Rows.relu (z X (r1 s)) (g1 X) (b1 X) (w1 X) ⟨3072 + e, by omega⟩ * Rows.relu (z X (r1 s)) (g1 X) (b1 X) (w1 X) ⟨3072 + e, by omega⟩ * w2 X ⟨3072 + e, by omega⟩ d))
      = zz X (r1 s) d := by
  simp only [zz, Rows.z2]
  rw [Rows.sum_quarters]

/-- Three quarters of the feed-forward product at one entry of the second part. -/
theorem f1_at (s : Fin 256) (d : Fin 1024) : f1 X (ix2 s d) =
      (∑ e : Fin 1024, Rows.relu (z X (r1 s)) (g1 X) (b1 X) (w1 X) ⟨0 + e, by omega⟩ * Rows.relu (z X (r1 s)) (g1 X) (b1 X) (w1 X) ⟨0 + e, by omega⟩ * w2 X ⟨0 + e, by omega⟩ d)
        + (∑ e : Fin 1024, Rows.relu (z X (r1 s)) (g1 X) (b1 X) (w1 X) ⟨1024 + e, by omega⟩ * Rows.relu (z X (r1 s)) (g1 X) (b1 X) (w1 X) ⟨1024 + e, by omega⟩ * w2 X ⟨1024 + e, by omega⟩ d)
        + (∑ e : Fin 1024, Rows.relu (z X (r1 s)) (g1 X) (b1 X) (w1 X) ⟨2048 + e, by omega⟩ * Rows.relu (z X (r1 s)) (g1 X) (b1 X) (w1 X) ⟨2048 + e, by omega⟩ * w2 X ⟨2048 + e, by omega⟩ d) := by
  have h0 := relu10_at X s
  have h1 := relu11_at X s
  have h2 := relu12_at X s
  have u0 := q0_at X
  have u1' := q1_at X
  have u2 := q2_at X
  unfold f1
  generalize q0 X = v0 at u0 ⊢
  generalize q1 X = v1 at u1' ⊢
  generalize q2 X = v2 at u2 ⊢
  generalize p1 X = o1 at h1 ⊢
  generalize p2 X = o2 at h2 ⊢
  generalize e1 X = v at h0 ⊢
  generalize u1 X = w at h1 h2 ⊢
  pointwise [k0_pay47, k0_pay42]
  simp only [h0, h1, h2, u0, u1', u2, zero_add]

/-- The second sum, less its mean, at one entry of the second part. -/
theorem cenz1_at (s : Fin 256) (d : Fin 1024) : k0_pay50 (y1 X) (u1 X) (f1 X) (p3 X) (q3 X) (ix2 s d) = Rows.cen (zz X (r1 s)) d := by
  have h := x11_at X s
  have h3 := relu13_at X s
  have hf := f1_at X s
  have u3 := q3_at X
  generalize q3 X = v3 at u3 ⊢
  generalize p3 X = o3 at h3 ⊢
  generalize f1 X = f at hf ⊢
  generalize u1 X = u at h3 ⊢
  generalize y1 X = y at h ⊢
  pointwise [k0_pay50]
  simp only [h, h3, hf, u3, zz1_eq]
  rfl

/-- The second reciprocal standard deviation at one row of the second part. -/
theorem rstdz1_at (s : Fin 256) : k0_pay51 (y1 X) (u1 X) (f1 X) (p3 X) (q3 X) (ix2 s 0) = Rows.rstd (zz X (r1 s)) := by
  have h := cenz1_at X s
  generalize f1 X = f at h ⊢
  pointwise [k0_pay51]
  simp only [h]
  rfl

/-- The second normalised row at one entry of the second part. -/
theorem xhatz1_at (s : Fin 256) (d : Fin 1024) : k0_pay52 (y1 X) (u1 X) (f1 X) (p3 X) (q3 X) (ix2 s d) = Rows.xhat (zz X (r1 s)) d := by
  have h := cenz1_at X s
  have h' := rstdz1_at X s
  generalize f1 X = f at h h' ⊢
  pointwise [k0_pay52]
  rw [h, h']
  rfl

/-- The second part's error. -/
abbrev d1 : FVec Ideal S256x1024 .f32 := k0_pay53 (y1 X) (u1 X) (f1 X) (p3 X) (q3 X) X.x7 X.x8 (t1 X)

/-- The error at one entry of the second part. -/
theorem err1_at (s : Fin 256) (d : Fin 1024) : d1 X (ix2 s d) = Rows.err (zz X (r1 s)) (g2 X) (b2 X) (tgt X (r1 s)) d := by
  have h := xhatz1_at X s
  have ht := t1_at X s
  unfold d1
  generalize t1 X = t at ht ⊢
  generalize f1 X = v at h ⊢
  pointwise [k0_pay53]
  rw [h, ht]
  rfl

/-- The loss's gradient in the second layer norm's result at one entry of the second part. -/
theorem dy1_at (s : Fin 256) (d : Fin 1024) : k0_pay55 (d1 X) (ix2 s d) = Rows.dy (zz X (r1 s)) (g2 X) (b2 X) (tgt X (r1 s)) d := by
  have h := err1_at X s
  generalize d1 X = v at h ⊢
  pointwise [k0_pay55]
  rw [h]
  rfl

/-- The squared errors after the second part. -/
theorem sq1_at (a : Vec Ideal S1x1024 .f32) (d : Fin 1024) :
    k0_pay54 (d1 X) a (ix2 0 d) = a (ix2 0 d) + ∑ s : Fin 256,
      Rows.err (zz X (r1 s)) (g2 X) (b2 X) (tgt X (r1 s)) d * Rows.err (zz X (r1 s)) (g2 X) (b2 X) (tgt X (r1 s)) d := by
  have h := err1_at X
  generalize d1 X = v at h ⊢
  pointwise [k0_pay54]
  simp only [h]

/-- The second scale's gradient after the second part. -/
theorem dg1_at (a : Vec Ideal S1x1024 .f32) (d : Fin 1024) :
    k0_pay56 (k0_pay52 (y1 X) (u1 X) (f1 X) (p3 X) (q3 X)) (d1 X) a (ix2 0 d) = a (ix2 0 d) + ∑ s : Fin 256,
      Rows.dy (zz X (r1 s)) (g2 X) (b2 X) (tgt X (r1 s)) d * Rows.xhat (zz X (r1 s)) d := by
  have h := dy1_at X
  have h' := xhatz1_at X
  generalize k0_pay52 (y1 X) (u1 X) (f1 X) (p3 X) (q3 X) = w at h' ⊢
  generalize d1 X = v at h ⊢
  pointwise [k0_pay56]
  simp only [h, h']

/-- The second shift's gradient after the second part. -/
theorem db1_at (a : Vec Ideal S1x1024 .f32) (d : Fin 1024) :
    k0_pay57 (d1 X) a (ix2 0 d) = a (ix2 0 d) + ∑ s : Fin 256, Rows.dy (zz X (r1 s)) (g2 X) (b2 X) (tgt X (r1 s)) d := by
  have h := dy1_at X
  generalize d1 X = v at h ⊢
  pointwise [k0_pay57]
  simp only [h]

/-- The loss's gradient in the second sum at one entry of the second part. -/
theorem dz1_at (s : Fin 256) (d : Fin 1024) :
    k0_pay1 (k0_pay51 (y1 X) (u1 X) (f1 X) (p3 X) (q3 X)) (k0_pay52 (y1 X) (u1 X) (f1 X) (p3 X) (q3 X)) (k0_pay58 (d1 X) X.x7)
      (k0_pay59 (k0_pay52 (y1 X) (u1 X) (f1 X) (p3 X) (q3 X)) (d1 X) X.x7) (k0_pay60 (d1 X) X.x7) (ix2 s d)
      = Rows.dz (zz X (r1 s)) (g2 X) (b2 X) (tgt X (r1 s)) d := by
  have h := dy1_at X s
  have h' := xhatz1_at X s
  have h'' := rstdz1_at X s
  generalize k0_pay52 (y1 X) (u1 X) (f1 X) (p3 X) (q3 X) = w at h' ⊢
  generalize k0_pay51 (y1 X) (u1 X) (f1 X) (p3 X) (q3 X) = u at h'' ⊢
  generalize d1 X = v at h ⊢
  pointwise [k0_pay1, k0_pay58, k0_pay59, k0_pay60]
  simp only [h, h', h'']
  rfl

end Cert.Kernel3Ideal.Tile
-- ==== Proof.LVal.lean ====
module

public import proofs.«01_k».proof.Proof.Gen.Kernel3Ideal.Frame
public import proofs.«01_k».proof.Proof.LTile
public import proofs.«01_k».proof.Proof.Blocks
public import Idealize.ShloMosaic.Lib.Pipeline.ValueKit

@[expose] public section

set_option maxRecDepth 16384

noncomputable section

/-! What one grid point leaves in each of its nine output blocks, read at one entry. -/

namespace Cert.Kernel3Ideal.Tile

open Idealize.ShloMosaic Idealize.ShloMosaic.TcCoe Idealize.ShloMosaic.Tactic
open Cert.Kernel3Ideal Cert.Kernel3Ideal.Gen

/-- Two blocks of 256 rows that hold one function of the row make up the block of 512 rows that holds it. -/
theorem two_rows {C : ℕ} {el : EltTy} (G : Fin 512 → Fin C → Elt Ideal el)
    (i1 : ∀ a, (![256, 0] : Fin 2 → ℕ) a + (![256, C] : Fin 2 → ℕ) a ≤ (⟨2, ![512, C]⟩ : Shape).size a)
    (i0 : ∀ a, (![0, 0] : Fin 2 → ℕ) a + (![256, C] : Fin 2 → ℕ) a ≤ (⟨2, ![512, C]⟩ : Shape).size a)
    (v1 v0 : (⟨2, ![256, C]⟩ : Shape).Idx → Elt Ideal el) (e0 : ∀ s d, v0 (ix2 s d) = G (r0 s) d) (e1 : ∀ s d, v1 (ix2 s d) = G (r1 s) d) (r : Fin 512) (d : Fin C) :
    View.canon [(⟨Rect.unit (s := ⟨2, ![512, C]⟩) ![256, 0] ![256, C] i1, v1⟩ : View.Piece (Elt Ideal) ⟨2, ![512, C]⟩ el),
      ⟨Rect.unit (s := ⟨2, ![512, C]⟩) ![0, 0] ![256, C] i0, v0⟩] (ix2 r d) = G r d := by
  by_cases h : r.val < 256
  · rw [Blocks.canon_miss 256 i1 v1 _ r d (.inl h), Blocks.canon_hit 0 i0 v0 _ r ⟨r.val, h⟩ d (by show r.val = 0 + r.val; omega), e0]
    exact congrArg (fun r => G r d) (Fin.ext (by show 0 + r.val = r.val; omega))
  · rw [Blocks.canon_hit 256 i1 v1 _ r ⟨r.val - 256, by omega⟩ d (by show r.val = 256 + (r.val - 256); omega), e1]
    exact congrArg (fun r => G r d) (Fin.ext (by show 256 + (r.val - 256) = r.val; omega))

/-- A piece of 256 rows and 1024 columns that holds one function of row and column holds it at each entry. -/
theorem piece_eq (G : Fin 512 → Fin 4096 → Elt Ideal .bf16) (k l : ℕ)
    (i : ∀ a, (![k, l] : Fin 2 → ℕ) a + (![256, 1024] : Fin 2 → ℕ) a ≤ (⟨2, ![512, 4096]⟩ : Shape).size a)
    (v : (⟨2, ![256, 1024]⟩ : Shape).Idx → Elt Ideal .bf16) (hk : k ≤ 256) (hl : l ≤ 3072)
    (e : ∀ (s : Fin 256) (d : Fin 1024), v (ix2 s d) = G ⟨k + s.val, by omega⟩ ⟨l + d.val, by omega⟩)
    (x : (Rect.unit (s := ⟨2, ![512, 4096]⟩) ![k, l] ![256, 1024] i).shape.Idx) :
    v x = G ((Rect.unit (s := ⟨2, ![512, 4096]⟩) ![k, l] ![256, 1024] i).emb x 0) ((Rect.unit (s := ⟨2, ![512, 4096]⟩) ![k, l] ![256, 1024] i).emb x 1) := by
  have hx : x = (ix2 (x 0) (x 1) : (⟨2, ![256, 1024]⟩ : Shape).Idx) := by
    funext a
    match a with
    | 0 => rfl
    | 1 => rfl
  refine (congrArg v hx).trans ((e (x 0) (x 1)).trans (congrArg₂ G (Fin.ext ?_) (Fin.ext ?_)))
  · show k + (x 0).val = k + 1 * (x 0).val; omega
  · show l + (x 1).val = l + 1 * (x 1).val; omega

/-- An entry in a piece's rows and columns lies in the piece. -/
theorem piece_mem (k l : ℕ) (i : ∀ a, (![k, l] : Fin 2 → ℕ) a + (![256, 1024] : Fin 2 → ℕ) a ≤ (⟨2, ![512, 4096]⟩ : Shape).size a)
    (r : Fin 512) (d : Fin 4096) (hr : k ≤ r.val ∧ r.val < k + 256) (hd : l ≤ d.val ∧ d.val < l + 1024) :
    (ix2 r d : (⟨2, ![512, 4096]⟩ : Shape).Idx) ∈ (Rect.unit (s := ⟨2, ![512, 4096]⟩) ![k, l] ![256, 1024] i).set := by
  refine Rect.mem_set_unit.mpr fun a => ?_
  match a with
  | 0 => exact hr
  | 1 => exact hd

/-- Eight pieces of 256 rows and 1024 columns that hold one function of row and column make up the block that holds it. -/
theorem eight (G : Fin 512 → Fin 4096 → Elt Ideal .bf16) (j0 : _) (j1 : _) (j2 : _) (j3 : _) (i0 : _) (i1 : _) (i2 : _) (i3 : _)
    (w3 w2 w1 w0 v3 v2 v1 v0 : (⟨2, ![256, 1024]⟩ : Shape).Idx → Elt Ideal .bf16)
    (e0 : ∀ (s : Fin 256) (d : Fin 1024), v0 (ix2 s d) = G (r0 s) ⟨0 + d.val, by omega⟩)
    (e1 : ∀ (s : Fin 256) (d : Fin 1024), v1 (ix2 s d) = G (r0 s) ⟨1024 + d.val, by omega⟩)
    (e2 : ∀ (s : Fin 256) (d : Fin 1024), v2 (ix2 s d) = G (r0 s) ⟨2048 + d.val, by omega⟩)
    (e3 : ∀ (s : Fin 256) (d : Fin 1024), v3 (ix2 s d) = G (r0 s) ⟨3072 + d.val, by omega⟩)
    (f0 : ∀ (s : Fin 256) (d : Fin 1024), w0 (ix2 s d) = G (r1 s) ⟨0 + d.val, by omega⟩)
    (f1 : ∀ (s : Fin 256) (d : Fin 1024), w1 (ix2 s d) = G (r1 s) ⟨1024 + d.val, by omega⟩)
    (f2 : ∀ (s : Fin 256) (d : Fin 1024), w2 (ix2 s d) = G (r1 s) ⟨2048 + d.val, by omega⟩)
    (f3 : ∀ (s : Fin 256) (d : Fin 1024), w3 (ix2 s d) = G (r1 s) ⟨3072 + d.val, by omega⟩)
    (r : Fin 512) (d : Fin 4096) :
    View.canon [(⟨Rect.unit (s := S512x4096) ![256, 3072] ![256, 1024] j3, w3⟩ : View.Piece (Elt Ideal) S512x4096 .bf16),
      ⟨Rect.unit (s := S512x4096) ![256, 2048] ![256, 1024] j2, w2⟩, ⟨Rect.unit (s := S512x4096) ![256, 1024] ![256, 1024] j1, w1⟩,
      ⟨Rect.unit (s := S512x4096) ![256, 0] ![256, 1024] j0, w0⟩, ⟨Rect.unit (s := S512x4096) ![0, 3072] ![256, 1024] i3, v3⟩,
      ⟨Rect.unit (s := S512x4096) ![0, 2048] ![256, 1024] i2, v2⟩, ⟨Rect.unit (s := S512x4096) ![0, 1024] ![256, 1024] i1, v1⟩,
      ⟨Rect.unit (s := S512x4096) ![0, 0] ![256, 1024] i0, v0⟩] (ix2 r d) = G r d := by
  refine View.canon_apply_of_pieces (Val := Elt Ideal) (S := S512x4096) (fun y => G (y 0) (y 1)) _ ?_ (ix2 r d) ?_
  rotate_left
  · by_cases hr : r.val < 256 <;> by_cases h1 : d.val < 1024 <;> by_cases h2 : d.val < 2048 <;> by_cases h3 : d.val < 3072 <;> try omega
    · exact ⟨_, .tail _ (.tail _ (.tail _ (.tail _ (.tail _ (.tail _ (.tail _ (.head _))))))), piece_mem 0 0 i0 r d (by omega) (by omega)⟩
    · exact ⟨_, .tail _ (.tail _ (.tail _ (.tail _ (.tail _ (.tail _ (.head _)))))), piece_mem 0 1024 i1 r d (by omega) (by omega)⟩
    · exact ⟨_, .tail _ (.tail _ (.tail _ (.tail _ (.tail _ (.head _))))), piece_mem 0 2048 i2 r d (by omega) (by omega)⟩
    · exact ⟨_, .tail _ (.tail _ (.tail _ (.tail _ (.head _)))), piece_mem 0 3072 i3 r d (by omega) (by omega)⟩
    · exact ⟨_, .tail _ (.tail _ (.tail _ (.head _))), piece_mem 256 0 j0 r d (by omega) (by omega)⟩
    · exact ⟨_, .tail _ (.tail _ (.head _)), piece_mem 256 1024 j1 r d (by omega) (by omega)⟩
    · exact ⟨_, .tail _ (.head _), piece_mem 256 2048 j2 r d (by omega) (by omega)⟩
    · exact ⟨_, .head _, piece_mem 256 3072 j3 r d (by omega) (by omega)⟩
  simp only [List.forall_mem_cons]
  exact ⟨piece_eq G 256 3072 _ _ (by omega) (by omega) f3, piece_eq G 256 2048 _ _ (by omega) (by omega) f2, piece_eq G 256 1024 _ _ (by omega) (by omega) f1,
    piece_eq G 256 0 _ _ (by omega) (by omega) f0, piece_eq G 0 3072 _ _ (by omega) (by omega) e3, piece_eq G 0 2048 _ _ (by omega) (by omega) e2,
    piece_eq G 0 1024 _ _ (by omega) (by omega) e1, piece_eq G 0 0 _ _ (by omega) (by omega) e0, fun p hp => absurd hp List.not_mem_nil⟩

/-! The nine blocks at the first point, and at a later one over what the point before left. -/

variable (c : Dev nD) (i : grid0.Coords)
  (a1 : Memref sig .tc .vmem S512x1024 .bf16) (h1 : a1.IsWhole) (a2 : Memref sig .tc .vmem S512x1024 .f32) (h2 : a2.IsWhole) (a3 : Memref sig .tc .vmem S1024x1024 .bf16) (h3 : a3.IsWhole)
  (a4 : Memref sig .tc .vmem S1x1024 .f32) (h4 : a4.IsWhole) (a5 : Memref sig .tc .vmem S1x1024 .f32) (h5 : a5.IsWhole) (a6 : Memref sig .tc .vmem S4x1024x1024 .bf16) (h6 : a6.IsWhole)
  (a7 : Memref sig .tc .vmem S4x1024x1024 .bf16) (h7 : a7.IsWhole) (a8 : Memref sig .tc .vmem S1x1024 .f32) (h8 : a8.IsWhole) (a9 : Memref sig .tc .vmem S1x1024 .f32) (h9 : a9.IsWhole)
  (a10 : Memref sig .tc .vmem S512x1024 .f32) (h10 : a10.IsWhole) (a11 : Memref sig .tc .vmem S512x1024 .f32) (h11 : a11.IsWhole) (a12 : Memref sig .tc .vmem S512x1 .f32) (h12 : a12.IsWhole)
  (a13 : Memref sig .tc .vmem S512x1024 .bf16) (h13 : a13.IsWhole) (a14 : Memref sig .tc .vmem S512x4096 .bf16) (h14 : a14.IsWhole) (a15 : Memref sig .tc .vmem S512x1024 .f32) (h15 : a15.IsWhole)
  (a16 : Memref sig .tc .vmem S512x1024 .bf16) (h16 : a16.IsWhole) (a17 : Memref sig .tc .vmem S1x1024 .f32) (h17 : a17.IsWhole) (a18 : Memref sig .tc .vmem S1x1024 .f32) (h18 : a18.IsWhole)
  (a19 : Memref sig .tc .vmem S1x1024 .f32) (h19 : a19.IsWhole) (X : Ins) (y16 y17 y18 : Vec Ideal S1x1024 .f32)

/-- What is left at the first point: the first normalised rows. -/
theorem outA_10 (hc : cond0_0 i) (r : Fin 512) (d : Fin 1024) :
    out0_A_10 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 r d) = (fun r d => Rows.xhat (z X r) d) r d := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine two_rows (el := .f32) (fun r d => Rows.xhat (z X r) d) _ _ _ _ ?_ ?_ r d
  · exact xhat0_at X
  · exact xhat1_at X

/-- What is left at the first point: the first reciprocal standard deviations. -/
theorem outA_11 (hc : cond0_0 i) (r : Fin 512) (d : Fin 1) :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 r d) = (fun r _ => Rows.rstd (z X r)) r d := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine two_rows (el := .f32) (fun r _ => Rows.rstd (z X r)) _ _ _ _ ?_ ?_ r d
  · intro s d; rw [Subsingleton.elim d 0]; exact rstd0_at X s
  · intro s d; rw [Subsingleton.elim d 0]; exact rstd1_at X s

/-- What is left at the first point: the first layer norm. -/
theorem outA_12 (hc : cond0_0 i) (r : Fin 512) (d : Fin 1024) :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 r d) = (fun r d => Rows.x1 (z X r) (g1 X) (b1 X) d) r d := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine two_rows (el := .bf16) (fun r d => Rows.x1 (z X r) (g1 X) (b1 X) d) _ _ _ _ ?_ ?_ r d
  · exact x10_at X
  · exact x11b_at X

/-- What is left at the first point: the loss's gradient in the second sum. -/
theorem outA_14 (hc : cond0_0 i) (r : Fin 512) (d : Fin 1024) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 r d) = (fun r d => Rows.dz (zz X r) (g2 X) (b2 X) (tgt X r) d) r d := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine two_rows (el := .f32) (fun r d => Rows.dz (zz X r) (g2 X) (b2 X) (tgt X r) d) _ _ _ _ ?_ ?_ r d
  · exact dz0_at X
  · exact dz1_at X

/-- What is left at the first point: the rounded copy of the loss's gradient in the second sum. -/
theorem outA_15 (hc : cond0_0 i) (r : Fin 512) (d : Fin 1024) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 r d) = (fun r d => Rows.dz (zz X r) (g2 X) (b2 X) (tgt X r) d) r d := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine two_rows (el := .bf16) (fun r d => Rows.dz (zz X r) (g2 X) (b2 X) (tgt X r) d) _ _ _ _ ?_ ?_ r d
  · exact dz0_at X
  · exact dz1_at X

/-- What is left at the first point: the rectified pre-activation. -/
theorem outA_13 (hc : cond0_0 i) (r : Fin 512) (e : Fin 4096) :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 r e) = (fun r e => Rows.relu (z X r) (g1 X) (b1 X) (w1 X) e) r e := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine eight (fun r e => Rows.relu (z X r) (g1 X) (b1 X) (w1 X) e) _ _ _ _ _ _ _ _ _ _ _ _ _ _ _ _ ?_ ?_ ?_ ?_ ?_ ?_ ?_ ?_ r e
  · exact relu00_at X
  · exact relu01_at X
  · exact relu02_at X
  · exact relu03_at X
  · exact relu10_at X
  · exact relu11_at X
  · exact relu12_at X
  · exact relu13_at X

/-- What is left at the first point: the second scale's gradient so far. -/
theorem outA_16 (hc : cond0_0 i) (d : Fin 1024) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 0 d)
      = 0 + ((∑ s : Fin 256, Rows.dy (zz X (r0 s)) (g2 X) (b2 X) (tgt X (r0 s)) d * Rows.xhat (zz X (r0 s)) d) + ∑ s : Fin 256, Rows.dy (zz X (r1 s)) (g2 X) (b2 X) (tgt X (r1 s)) d * Rows.xhat (zz X (r1 s)) d) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine (dg1_at X _ d).trans ?_
  rw [← add_assoc]
  refine congrArg (· + _) ((dg0_at X _ d).trans (congrArg (· + _) ?_))
  pointwise [k0_pay3]

/-- What is left at the first point: the second shift's gradient so far. -/
theorem outA_17 (hc : cond0_0 i) (d : Fin 1024) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 0 d)
      = 0 + ((∑ s : Fin 256, Rows.dy (zz X (r0 s)) (g2 X) (b2 X) (tgt X (r0 s)) d) + ∑ s : Fin 256, Rows.dy (zz X (r1 s)) (g2 X) (b2 X) (tgt X (r1 s)) d) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine (db1_at X _ d).trans ?_
  rw [← add_assoc]
  refine congrArg (· + _) ((db0_at X _ d).trans (congrArg (· + _) ?_))
  pointwise [k0_pay4]

/-- What is left at the first point: the squared errors so far. -/
theorem outA_18 (hc : cond0_0 i) (d : Fin 1024) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 (ix2 0 d)
      = 0 + ((∑ s : Fin 256, Rows.err (zz X (r0 s)) (g2 X) (b2 X) (tgt X (r0 s)) d * Rows.err (zz X (r0 s)) (g2 X) (b2 X) (tgt X (r0 s)) d) + ∑ s : Fin 256, Rows.err (zz X (r1 s)) (g2 X) (b2 X) (tgt X (r1 s)) d * Rows.err (zz X (r1 s)) (g2 X) (b2 X) (tgt X (r1 s)) d) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9)]
  unfold kernelRun0_A
  dsimp only
  frame_out
  refine (sq1_at X _ d).trans ?_
  rw [← add_assoc]
  refine congrArg (· + _) ((sq0_at X _ d).trans (congrArg (· + _) ?_))
  pointwise [k0_pay5]

/-- What is left at a later point: the first normalised rows. -/
theorem outB_10 (hc : ¬cond0_0 i) (r : Fin 512) (d : Fin 1024) :
    out0_B_10 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 r d) = (fun r d => Rows.xhat (z X r) d) r d := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine two_rows (el := .f32) (fun r d => Rows.xhat (z X r) d) _ _ _ _ ?_ ?_ r d
  · exact xhat0_at X
  · exact xhat1_at X

/-- What is left at a later point: the first reciprocal standard deviations. -/
theorem outB_11 (hc : ¬cond0_0 i) (r : Fin 512) (d : Fin 1) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 r d) = (fun r _ => Rows.rstd (z X r)) r d := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine two_rows (el := .f32) (fun r _ => Rows.rstd (z X r)) _ _ _ _ ?_ ?_ r d
  · intro s d; rw [Subsingleton.elim d 0]; exact rstd0_at X s
  · intro s d; rw [Subsingleton.elim d 0]; exact rstd1_at X s

/-- What is left at a later point: the first layer norm. -/
theorem outB_12 (hc : ¬cond0_0 i) (r : Fin 512) (d : Fin 1024) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 r d) = (fun r d => Rows.x1 (z X r) (g1 X) (b1 X) d) r d := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine two_rows (el := .bf16) (fun r d => Rows.x1 (z X r) (g1 X) (b1 X) d) _ _ _ _ ?_ ?_ r d
  · exact x10_at X
  · exact x11b_at X

/-- What is left at a later point: the loss's gradient in the second sum. -/
theorem outB_14 (hc : ¬cond0_0 i) (r : Fin 512) (d : Fin 1024) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 r d) = (fun r d => Rows.dz (zz X r) (g2 X) (b2 X) (tgt X r) d) r d := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine two_rows (el := .f32) (fun r d => Rows.dz (zz X r) (g2 X) (b2 X) (tgt X r) d) _ _ _ _ ?_ ?_ r d
  · exact dz0_at X
  · exact dz1_at X

/-- What is left at a later point: the rounded copy of the loss's gradient in the second sum. -/
theorem outB_15 (hc : ¬cond0_0 i) (r : Fin 512) (d : Fin 1024) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 r d) = (fun r d => Rows.dz (zz X r) (g2 X) (b2 X) (tgt X r) d) r d := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine two_rows (el := .bf16) (fun r d => Rows.dz (zz X r) (g2 X) (b2 X) (tgt X r) d) _ _ _ _ ?_ ?_ r d
  · exact dz0_at X
  · exact dz1_at X

/-- What is left at a later point: the rectified pre-activation. -/
theorem outB_13 (hc : ¬cond0_0 i) (r : Fin 512) (e : Fin 4096) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 r e) = (fun r e => Rows.relu (z X r) (g1 X) (b1 X) (w1 X) e) r e := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine eight (fun r e => Rows.relu (z X r) (g1 X) (b1 X) (w1 X) e) _ _ _ _ _ _ _ _ _ _ _ _ _ _ _ _ ?_ ?_ ?_ ?_ ?_ ?_ ?_ ?_ r e
  · exact relu00_at X
  · exact relu01_at X
  · exact relu02_at X
  · exact relu03_at X
  · exact relu10_at X
  · exact relu11_at X
  · exact relu12_at X
  · exact relu13_at X

/-- What is left at a later point: the second scale's gradient so far. -/
theorem outB_16 (hc : ¬cond0_0 i) (d : Fin 1024) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 0 d)
      = y16 (ix2 0 d) + ((∑ s : Fin 256, Rows.dy (zz X (r0 s)) (g2 X) (b2 X) (tgt X (r0 s)) d * Rows.xhat (zz X (r0 s)) d) + ∑ s : Fin 256, Rows.dy (zz X (r1 s)) (g2 X) (b2 X) (tgt X (r1 s)) d * Rows.xhat (zz X (r1 s)) d) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine (dg1_at X _ d).trans ?_
  rw [← add_assoc]
  refine congrArg (· + _) ((dg0_at X _ d).trans (congrArg (· + _) ?_))
  rfl

/-- What is left at a later point: the second shift's gradient so far. -/
theorem outB_17 (hc : ¬cond0_0 i) (d : Fin 1024) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 0 d)
      = y17 (ix2 0 d) + ((∑ s : Fin 256, Rows.dy (zz X (r0 s)) (g2 X) (b2 X) (tgt X (r0 s)) d) + ∑ s : Fin 256, Rows.dy (zz X (r1 s)) (g2 X) (b2 X) (tgt X (r1 s)) d) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine (db1_at X _ d).trans ?_
  rw [← add_assoc]
  refine congrArg (· + _) ((db0_at X _ d).trans (congrArg (· + _) ?_))
  rfl

/-- What is left at a later point: the squared errors so far. -/
theorem outB_18 (hc : ¬cond0_0 i) (d : Fin 1024) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18 (ix2 0 d)
      = y18 (ix2 0 d) + ((∑ s : Fin 256, Rows.err (zz X (r0 s)) (g2 X) (b2 X) (tgt X (r0 s)) d * Rows.err (zz X (r0 s)) (g2 X) (b2 X) (tgt X (r0 s)) d) + ∑ s : Fin 256, Rows.err (zz X (r1 s)) (g2 X) (b2 X) (tgt X (r1 s)) d * Rows.err (zz X (r1 s)) (g2 X) (b2 X) (tgt X (r1 s)) d) := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 hc X.x0 X.x1 X.x2 X.x3 X.x4 X.x5 X.x6 X.x7 X.x8 X.x9 y16 y17 y18)]
  unfold kernelRun0_B
  dsimp only
  frame_out
  refine (sq1_at X _ d).trans ?_
  rw [← add_assoc]
  refine congrArg (· + _) ((sq0_at X _ d).trans (congrArg (· + _) ?_))
  rfl

end Cert.Kernel3Ideal.Tile
-- ==== Proof.LPoint.lean ====
module

public import proofs.«01_k».proof.Proof.Gen.Kernel3Ideal.Value
public import proofs.«01_k».proof.Proof.LVal
public import Idealize.ShloMosaic.Lib.Claim

@[expose] public section

set_option maxRecDepth 16384

noncomputable section

/-! The nine results of the forward feed-forward call, as functions of the program's arguments: each grid point's tile of the arguments, what the points leave,
    and the result arrays after the whole grid. -/

namespace Cert.Kernel3Ideal.Tile

open Idealize.ShloMosaic Idealize.ShloMosaic.TcCoe Idealize.ShloMosaic.Tactic
open Idealize.ShloMosaic.Pipeline (Dat)
open Idealize.SL.Sem
open Cert.Kernel3Ideal Cert.Kernel3Ideal.Gen

variable (m : (ℓ : Loc nD τ sig) → Buf (Elt Ideal) ℓ)

/-- Token `i`'s first sum. -/
abbrev zr (c : Dev nD) (i : Fin 4096) : Fin 1024 → EReal :=
  Rows.z1 (Rows.mat (m ((c.tc : Thread nD τ).loc main_arg1)) i) (Rows.mat (m ((c.tc : Thread nD τ).loc main_arg0)) i) (Rows.mat (m ((c.tc : Thread nD τ).loc main_arg2)))
/-- The first layer norm's scale. -/
abbrev gr (c : Dev nD) : Fin 1024 → EReal := Rows.vec (m ((c.tc : Thread nD τ).loc main_arg3))
/-- The first layer norm's shift. -/
abbrev br (c : Dev nD) : Fin 1024 → EReal := Rows.vec (m ((c.tc : Thread nD τ).loc main_arg4))
/-- The first feed-forward matrix. -/
abbrev w1r (c : Dev nD) : Fin 1024 → Fin 4096 → EReal := Rows.mat (m ((c.tc : Thread nD τ).loc main_arg5))
/-- The second feed-forward matrix. -/
abbrev w2r (c : Dev nD) : Fin 4096 → Fin 1024 → EReal := Rows.mat (m ((c.tc : Thread nD τ).loc main_arg6))
/-- The second layer norm's scale. -/
abbrev hr (c : Dev nD) : Fin 1024 → EReal := Rows.vec (m ((c.tc : Thread nD τ).loc main_arg7))
/-- The second layer norm's shift. -/
abbrev sr (c : Dev nD) : Fin 1024 → EReal := Rows.vec (m ((c.tc : Thread nD τ).loc main_arg8))
/-- Token `i`'s target. -/
abbrev tr (c : Dev nD) (i : Fin 4096) : Fin 1024 → EReal := Rows.mat (m ((c.tc : Thread nD τ).loc main_arg9)) i
/-- Token `i`'s second sum. -/
abbrev zzr (c : Dev nD) (i : Fin 4096) : Fin 1024 → EReal := Rows.z2 (zr m c i) (gr m c) (br m c) (w1r m c) (w2r m c)

/-- The heads as the call reads them. -/
theorem entry_cat (c : Dev nD) (i : Fin 4096) (d : Fin 1024) : V m c main_v5 (ix2 i d) = Rows.mat (m ((c.tc : Thread nD τ).loc main_arg0)) i d := by
  entry_read
  pointwise [Rows.mat]
/-- The output projection as the call reads it. -/
theorem entry_wo (c : Dev nD) (k d : Fin 1024) : V m c main_v6 (ix2 k d) = Rows.mat (m ((c.tc : Thread nD τ).loc main_arg2)) k d := by
  entry_read
  pointwise [Rows.mat]
/-- The first feed-forward matrix as the call reads it, in quarters. -/
theorem entry_w1 (c : Dev nD) (j : Fin 4) (d e : Fin 1024) : V m c main_v2 (ix3 j d e) = w1r m c d ⟨j * 1024 + e, by omega⟩ := by
  entry_read
  pointwise [w1r, Rows.mat]
/-- The second feed-forward matrix as the call reads it, in quarters. -/
theorem entry_w2 (c : Dev nD) (j : Fin 4) (e d : Fin 1024) : V m c main_v4 (ix3 j e d) = w2r m c ⟨j * 1024 + e, by omega⟩ d := by
  entry_read
  pointwise [w2r, Rows.mat]

/-- Where the windows' blocks lie. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0, 0] ∧ win0_6.index t = ![0, 0, 0] ∧ win0_7.index t = ![0, 0] ∧ win0_8.index t = ![0, 0]
    ∧ win0_9.index t = ![t.val, 0] ∧ t.val < 8 := (by decide +kernel : ∀ t : Fin grid0.N, _)
/-- Where the output windows' blocks lie. -/
theorem idxOut : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![0, 0] ∧ win0_17.index t = ![0, 0]
    ∧ win0_18.index t = ![0, 0] ∧ t.val < 8 := (by decide +kernel : ∀ t : Fin grid0.N, _)

/-- The token at position `s` of grid point `t`'s tile. -/
def tok (t : Fin cfg0.N) (s : Fin 512) : Fin 4096 := ⟨t.val * 512 + s.val, by have := (idxOut t).2.2.2.2.2.2.2.2.2; omega⟩

/-- The inputs' blocks at grid point `t`. -/
abbrev ins (c : Dev nD) (t : Fin cfg0.N) : Ins where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

/-- Input 0's block at a grid point, read at one entry. -/
theorem block0 (c : Dev nD) (t : Fin cfg0.N) (s : Fin 512) (d : Fin 1024) : (show FVec Ideal S512x1024 .bf16 from iblk m c 0 t) (ix2 s d) = V m c main_v5 (ix2 (tok t s) d) := by
  unfold tok; blk_ext [iblk, idx t]
/-- Input 1's block at a grid point, read at one entry. -/
theorem block1 (c : Dev nD) (t : Fin cfg0.N) (s : Fin 512) (d : Fin 1024) : (show FVec Ideal S512x1024 .f32 from iblk m c 1 t) (ix2 s d) = V m c main_arg1 (ix2 (tok t s) d) := by
  unfold tok; blk_ext [iblk, idx t]
/-- Input 2's block at a grid point, read at one entry. -/
theorem block2 (c : Dev nD) (t : Fin cfg0.N) (k d : Fin 1024) : (show FVec Ideal S1024x1024 .bf16 from iblk m c 2 t) (ix2 k d) = V m c main_v6 (ix2 k d) := by
  blk_ext [iblk, idx t]
/-- Input 3's block at a grid point, read at one entry. -/
theorem block3 (c : Dev nD) (t : Fin cfg0.N) (d : Fin 1024) : (show FVec Ideal S1x1024 .f32 from iblk m c 3 t) (ix2 0 d) = V m c main_arg3 (ix2 0 d) := by
  blk_ext [iblk, idx t]
/-- Input 4's block at a grid point, read at one entry. -/
theorem block4 (c : Dev nD) (t : Fin cfg0.N) (d : Fin 1024) : (show FVec Ideal S1x1024 .f32 from iblk m c 4 t) (ix2 0 d) = V m c main_arg4 (ix2 0 d) := by
  blk_ext [iblk, idx t]
/-- Input 5's block at a grid point, read at one entry. -/
theorem block5 (c : Dev nD) (t : Fin cfg0.N) (j : Fin 4) (d e : Fin 1024) : (show FVec Ideal S4x1024x1024 .bf16 from iblk m c 5 t) (ix3 j d e) = V m c main_v2 (ix3 j d e) := by
  blk_ext [iblk, idx t]
/-- Input 6's block at a grid point, read at one entry. -/
theorem block6 (c : Dev nD) (t : Fin cfg0.N) (j : Fin 4) (d e : Fin 1024) : (show FVec Ideal S4x1024x1024 .bf16 from iblk m c 6 t) (ix3 j d e) = V m c main_v4 (ix3 j d e) := by
  blk_ext [iblk, idx t]
/-- Input 7's block at a grid point, read at one entry. -/
theorem block7 (c : Dev nD) (t : Fin cfg0.N) (d : Fin 1024) : (show FVec Ideal S1x1024 .f32 from iblk m c 7 t) (ix2 0 d) = V m c main_arg7 (ix2 0 d) := by
  blk_ext [iblk, idx t]
/-- Input 8's block at a grid point, read at one entry. -/
theorem block8 (c : Dev nD) (t : Fin cfg0.N) (d : Fin 1024) : (show FVec Ideal S1x1024 .f32 from iblk m c 8 t) (ix2 0 d) = V m c main_arg8 (ix2 0 d) := by
  blk_ext [iblk, idx t]
/-- Input 9's block at a grid point, read at one entry. -/
theorem block9 (c : Dev nD) (t : Fin cfg0.N) (s : Fin 512) (d : Fin 1024) : (show FVec Ideal S512x1024 .f32 from iblk m c 9 t) (ix2 s d) = V m c main_arg9 (ix2 (tok t s) d) := by
  unfold tok; blk_ext [iblk, idx t]

/-- A tile's first sums are its tokens' first sums. -/
theorem tile_z (c : Dev nD) (t : Fin cfg0.N) (s : Fin 512) : z (ins m c t) s = zr m c (tok t s) := by
  have h1 : (fun d => (ins m c t).x1 (ix2 s d)) = Rows.mat (m ((c.tc : Thread nD τ).loc main_arg1)) (tok t s) := funext fun d => (block1 m c t s d).trans (congrFun (V_main_arg1 m c) _)
  have h0 : (fun d => (ins m c t).x0 (ix2 s d)) = Rows.mat (m ((c.tc : Thread nD τ).loc main_arg0)) (tok t s) := funext fun d => (block0 m c t s d).trans (entry_cat m c (tok t s) d)
  have h2 : (fun k d => (ins m c t).x2 (ix2 k d)) = Rows.mat (m ((c.tc : Thread nD τ).loc main_arg2)) := funext fun k => funext fun d => (block2 m c t k d).trans (entry_wo m c k d)
  unfold z zr
  rw [h1, h0, h2]
/-- The first layer norm's scale of a tile. -/
theorem tile_g1 (c : Dev nD) (t : Fin cfg0.N) : g1 (ins m c t) = gr m c :=
  funext fun d => (block3 m c t d).trans (congrFun (V_main_arg3 m c) _)
/-- The first layer norm's shift of a tile. -/
theorem tile_b1 (c : Dev nD) (t : Fin cfg0.N) : b1 (ins m c t) = br m c :=
  funext fun d => (block4 m c t d).trans (congrFun (V_main_arg4 m c) _)
/-- The second layer norm's scale of a tile. -/
theorem tile_g2 (c : Dev nD) (t : Fin cfg0.N) : g2 (ins m c t) = hr m c :=
  funext fun d => (block7 m c t d).trans (congrFun (V_main_arg7 m c) _)
/-- The second layer norm's shift of a tile. -/
theorem tile_b2 (c : Dev nD) (t : Fin cfg0.N) : b2 (ins m c t) = sr m c :=
  funext fun d => (block8 m c t d).trans (congrFun (V_main_arg8 m c) _)
/-- A tile's targets are its tokens' targets. -/
theorem tile_t (c : Dev nD) (t : Fin cfg0.N) (s : Fin 512) : tgt (ins m c t) s = tr m c (tok t s) :=
  funext fun d => (block9 m c t s d).trans (congrFun (V_main_arg9 m c) _)
/-- The first feed-forward matrix of a tile. -/
theorem tile_w1 (c : Dev nD) (t : Fin cfg0.N) : w1 (ins m c t) = w1r m c := by
  funext d e
  have he : (⟨(⟨e.val / 1024, by omega⟩ : Fin 4).val * 1024 + (⟨e.val % 1024, by omega⟩ : Fin 1024).val, by omega⟩ : Fin 4096) = e := Fin.ext (by show e.val / 1024 * 1024 + e.val % 1024 = e.val; omega)
  exact (block5 m c t ⟨e.val / 1024, by omega⟩ d ⟨e.val % 1024, by omega⟩).trans
    ((entry_w1 m c ⟨e.val / 1024, by omega⟩ d ⟨e.val % 1024, by omega⟩).trans (congrArg _ he))
/-- The second feed-forward matrix of a tile. -/
theorem tile_w2 (c : Dev nD) (t : Fin cfg0.N) : w2 (ins m c t) = w2r m c := by
  funext e d
  have he : (⟨(⟨e.val / 1024, by omega⟩ : Fin 4).val * 1024 + (⟨e.val % 1024, by omega⟩ : Fin 1024).val, by omega⟩ : Fin 4096) = e := Fin.ext (by show e.val / 1024 * 1024 + e.val % 1024 = e.val; omega)
  exact (block6 m c t ⟨e.val / 1024, by omega⟩ ⟨e.val % 1024, by omega⟩ d).trans
    ((entry_w2 m c ⟨e.val / 1024, by omega⟩ ⟨e.val % 1024, by omega⟩ d).trans (congrArg (fun x => w2r m c x d) he))
/-- A tile's second sums are its tokens' second sums. -/
theorem tile_zz (c : Dev nD) (t : Fin cfg0.N) (s : Fin 512) : zz (ins m c t) s = zzr m c (tok t s) := by
  unfold zz zzr
  rw [tile_z, tile_g1, tile_b1, tile_w1, tile_w2]

/-! What the grid points leave. -/

/-- The first normalised row that every grid point leaves. -/
theorem at_10 (c : Dev nD) (t : Fin cfg0.N) (s : Fin 512) (d : Fin 1024) : (outsAt0 m c t.val t.isLt).1 (ix2 s d) = Rows.xhat (zr m c (tok t s)) d := by
  have h : (outsAt0 m c t.val t.isLt).1 (ix2 s d) = Rows.xhat (z (ins m c t) s) d := by
    by_cases h0 : t.val % 8 = 0
    · simp only [outsAt0_A m c t h0]; exact outA_10 c (grid0.coords t) _ _ _ _ _ _ _ _ _ _ _ _ _ _ _ _ _ _ _ _ _ _ _ _ _ _ _ _ _ _ _ _ _ _ _ _ _ _ (ins m c t) _ s d
    · simp only [outsAt0_B m c t h0]; exact outB_10 c (grid0.coords t) _ _ _ _ _ _ _ _ _ _ _ _ _ _ _ _ _ _ _ _ _ _ _ _ _ _ _ _ _ _ _ _ _ _ _ _ _ _ (ins m c t) _ _ _ _ s d
  rw [h, tile_z]
/-- The first reciprocal standard deviation that every grid point leaves. -/
theorem at_11 (c : Dev nD) (t : Fin cfg0.N) (s : Fin 512) (d : Fin 1) : (outsAt0 m c t.val t.isLt).2.1 (ix2 s d) = Rows.rstd (zr m c (tok t s)) := by
  have h : (outsAt0 m c t.val t.isLt).2.1 (ix2 s d) = Rows.rstd (z (ins m c t) s) := by
    by_cases h0 : t.val % 8 = 0
    · simp only [outsAt0_A m c t h0]; exact outA_11 c (grid0.coords t) _ _ _ _ _ _ _ _ _ _ _ _ _ _ _ _ _ _ _ _ _ _ _ _ _ _ _ _ _ _ _ _ _ _ _ _ _ _ (ins m c t) _ s d
    · simp only [outsAt0_B m c t h0]; exact outB_11 c (grid0.coords t) _ _ _ _ _ _ _ _ _ _ _ _ _ _ _ _ _ _ _ _ _ _ _ _ _ _ _ _ _ _ _ _ _ _ _ _ _ _ (ins m c t) _ _ _ _ s d
  rw [h, tile_z]
/-- The first layer norm that every grid point leaves. -/
theorem at_12 (c : Dev nD) (t : Fin cfg0.N) (s : Fin 512) (d : Fin 1024) : (outsAt0 m c t.val t.isLt).2.2.1 (ix2 s d) = Rows.x1 (zr m c (tok t s)) (gr m c) (br m c) d := by
  have h : (outsAt0 m c t.val t.isLt).2.2.1 (ix2 s d) = Rows.x1 (z (ins m c t) s) (g1 (ins m c t)) (b1 (ins m c t)) d := by
    by_cases h0 : t.val % 8 = 0
    · simp only [outsAt0_A m c t h0]; exact outA_12 c (grid0.coords t) _ _ _ _ _ _ _ _ _ _ _ _ _ _ _ _ _ _ _ _ _ _ _ _ _ _ _ _ _ _ _ _ _ _ _ _ _ _ (ins m c t) _ s d
    · simp only [outsAt0_B m c t h0]; exact outB_12 c (grid0.coords t) _ _ _ _ _ _ _ _ _ _ _ _ _ _ _ _ _ _ _ _ _ _ _ _ _ _ _ _ _ _ _ _ _ _ _ _ _ _ (ins m c t) _ _ _ _ s d
  rw [h, tile_z, tile_g1, tile_b1]
/-- The rectified pre-activation that every grid point leaves. -/
theorem at_13 (c : Dev nD) (t : Fin cfg0.N) (s : Fin 512) (d : Fin 4096) : (outsAt0 m c t.val t.isLt).2.2.2.1 (ix2 s d) = Rows.relu (zr m c (tok t s)) (gr m c) (br m c) (w1r m c) d := by
  have h : (outsAt0 m c t.val t.isLt).2.2.2.1 (ix2 s d) = Rows.relu (z (ins m c t) s) (g1 (ins m c t)) (b1 (ins m c t)) (w1 (ins m c t)) d := by
    by_cases h0 : t.val % 8 = 0
    · simp only [outsAt0_A m c t h0]; exact outA_13 c (grid0.coords t) _ _ _ _ _ _ _ _ _ _ _ _ _ _ _ _ _ _ _ _ _ _ _ _ _ _ _ _ _ _ _ _ _ _ _ _ _ _ (ins m c t) _ s d
    · simp only [outsAt0_B m c t h0]; exact outB_13 c (grid0.coords t) _ _ _ _ _ _ _ _ _ _ _ _ _ _ _ _ _ _ _ _ _ _ _ _ _ _ _ _ _ _ _ _ _ _ _ _ _ _ (ins m c t) _ _ _ _ s d
  rw [h, tile_z, tile_g1, tile_b1, tile_w1]
/-- The loss's gradient in the second sum that every grid point leaves. -/
theorem at_14 (c : Dev nD) (t : Fin cfg0.N) (s : Fin 512) (d : Fin 1024) : (outsAt0 m c t.val t.isLt).2.2.2.2.1 (ix2 s d) = Rows.dz (zzr m c (tok t s)) (hr m c) (sr m c) (tr m c (tok t s)) d := by
  have h : (outsAt0 m c t.val t.isLt).2.2.2.2.1 (ix2 s d) = Rows.dz (zz (ins m c t) s) (g2 (ins m c t)) (b2 (ins m c t)) (tgt (ins m c t) s) d := by
    by_cases h0 : t.val % 8 = 0
    · simp only [outsAt0_A m c t h0]; exact outA_14 c (grid0.coords t) _ _ _ _ _ _ _ _ _ _ _ _ _ _ _ _ _ _ _ _ _ _ _ _ _ _ _ _ _ _ _ _ _ _ _ _ _ _ (ins m c t) _ s d
    · simp only [outsAt0_B m c t h0]; exact outB_14 c (grid0.coords t) _ _ _ _ _ _ _ _ _ _ _ _ _ _ _ _ _ _ _ _ _ _ _ _ _ _ _ _ _ _ _ _ _ _ _ _ _ _ (ins m c t) _ _ _ _ s d
  rw [h, tile_zz, tile_g2, tile_b2, tile_t]
/-- Its rounded copy that every grid point leaves. -/
theorem at_15 (c : Dev nD) (t : Fin cfg0.N) (s : Fin 512) (d : Fin 1024) : (outsAt0 m c t.val t.isLt).2.2.2.2.2.1 (ix2 s d) = Rows.dz (zzr m c (tok t s)) (hr m c) (sr m c) (tr m c (tok t s)) d := by
  have h : (outsAt0 m c t.val t.isLt).2.2.2.2.2.1 (ix2 s d) = Rows.dz (zz (ins m c t) s) (g2 (ins m c t)) (b2 (ins m c t)) (tgt (ins m c t) s) d := by
    by_cases h0 : t.val % 8 = 0
    · simp only [outsAt0_A m c t h0]; exact outA_15 c (grid0.coords t) _ _ _ _ _ _ _ _ _ _ _ _ _ _ _ _ _ _ _ _ _ _ _ _ _ _ _ _ _ _ _ _ _ _ _ _ _ _ (ins m c t) _ s d
    · simp only [outsAt0_B m c t h0]; exact outB_15 c (grid0.coords t) _ _ _ _ _ _ _ _ _ _ _ _ _ _ _ _ _ _ _ _ _ _ _ _ _ _ _ _ _ _ _ _ _ _ _ _ _ _ (ins m c t) _ _ _ _ s d
  rw [h, tile_zz, tile_g2, tile_b2, tile_t]

/-- A quantity that the first point sets and every later one adds to is, after a point, the sum over the points so far. -/
theorem sum_points (f : (n : ℕ) → n < cfg0.N → EReal) (G : Fin cfg0.N → EReal) (h0 : ∀ h, f 0 h = 0 + G ⟨0, h⟩)
    (hs : ∀ n (h : n + 1 < cfg0.N), f (n + 1) h = f n (Nat.lt_of_succ_lt h) + G ⟨n + 1, h⟩) (n : ℕ) (h : n < cfg0.N) :
    f n h = ∑ k : Fin (n + 1), G ⟨k.val, by omega⟩ := by
  induction n with
  | zero => rw [h0]; simp
  | succ n ih => rw [hs, ih, Fin.sum_univ_castSucc (n := n + 1)]; rfl

/-- A sum over the grid's points and a tile's tokens is the sum over all tokens. -/
theorem sum_tokens (G : Fin 4096 → EReal) (h : 7 < cfg0.N) :
    ∑ k : Fin (7 + 1), (∑ s : Fin 512, G (tok ⟨k.val, by omega⟩ s)) = ∑ i : Fin 4096, G i := by
  rw [Fin.sum_univ_tiles 8 512 rfl G]; rfl

/-- The sums over a tile's two parts are the sum over the tile. -/
theorem sum_parts (G : Fin 512 → EReal) : (∑ s : Fin 256, G (r0 s)) + ∑ s : Fin 256, G (r1 s) = ∑ s : Fin 512, G s := by
  rw [Fin.sum_univ_tiles 2 256 rfl G, Fin.sum_univ_two]; rfl

/-- Token `i`'s term of the second scale's gradient. -/
def gdg (c : Dev nD) (i : Fin 4096) (d : Fin 1024) : EReal := Rows.dy (zzr m c i) (hr m c) (sr m c) (tr m c i) d * Rows.xhat (zzr m c i) d
/-- A tile's terms of the second scale's gradient are its tokens' terms. -/
theorem tile_gdg (c : Dev nD) (t : Fin cfg0.N) (d : Fin 1024) (a : EReal) :
    a + ((∑ s : Fin 256, (fun s => Rows.dy (zz (ins m c t) s) (g2 (ins m c t)) (b2 (ins m c t)) (tgt (ins m c t) s) d * Rows.xhat (zz (ins m c t) s) d) (r0 s)) + ∑ s : Fin 256, (fun s => Rows.dy (zz (ins m c t) s) (g2 (ins m c t)) (b2 (ins m c t)) (tgt (ins m c t) s) d * Rows.xhat (zz (ins m c t) s) d) (r1 s)) = a + ∑ s : Fin 512, gdg m c (tok t s) d := by
  refine (congrArg (a + ·) (sum_parts (fun s => Rows.dy (zz (ins m c t) s) (g2 (ins m c t)) (b2 (ins m c t)) (tgt (ins m c t) s) d * Rows.xhat (zz (ins m c t) s) d))).trans ?_
  simp only [tile_zz, tile_g2, tile_b2, tile_t]
  rfl
/-- The first point leaves its own terms of the second scale's gradient. -/
theorem first_16 (c : Dev nD) (t : Fin cfg0.N) (h0 : t.val % 8 = 0) (d : Fin 1024) : (outsAt0 m c t.val t.isLt).2.2.2.2.2.2.1 (ix2 0 d)
    = 0 + ∑ s : Fin 512, gdg m c (tok t s) d := by
  simp only [outsAt0_A m c t h0]; exact (outA_16 c (grid0.coords t) _ _ _ _ _ _ _ _ _ _ _ _ _ _ _ _ _ _ _ _ _ _ _ _ _ _ _ _ _ _ _ _ _ _ _ _ _ _ (ins m c t) _ d).trans (tile_gdg m c t d 0)
/-- A later point adds its own terms of the second scale's gradient. -/
theorem next_16 (c : Dev nD) (t : Fin cfg0.N) (h0 : ¬t.val % 8 = 0) (d : Fin 1024) : (outsAt0 m c t.val t.isLt).2.2.2.2.2.2.1 (ix2 0 d)
    = (outsAt0 m c (t.val - 1) (Nat.lt_of_le_of_lt (Nat.sub_le _ _) t.isLt)).2.2.2.2.2.2.1 (ix2 0 d) + ∑ s : Fin 512, gdg m c (tok t s) d := by
  simp only [outsAt0_B m c t h0]; exact (outB_16 c (grid0.coords t) _ _ _ _ _ _ _ _ _ _ _ _ _ _ _ _ _ _ _ _ _ _ _ _ _ _ _ _ _ _ _ _ _ _ _ _ _ _ (ins m c t) _ _ _ _ d).trans (tile_gdg m c t d _)
/-- After a point: the second scale's gradient, summed over the tokens of the points so far. -/
theorem at_16 (c : Dev nD) (n : ℕ) (h : n < cfg0.N) (d : Fin 1024) : (outsAt0 m c n h).2.2.2.2.2.2.1 (ix2 0 d)
    = ∑ k : Fin (n + 1), ∑ s : Fin 512, gdg m c (tok ⟨k.val, by omega⟩ s) d :=
  sum_points (fun n h => (outsAt0 m c n h).2.2.2.2.2.2.1 (ix2 0 d)) (fun t => ∑ s : Fin 512, gdg m c (tok t s) d)
    (fun h => first_16 m c ⟨0, h⟩ rfl d)
    (fun n h => next_16 m c ⟨n + 1, h⟩ (by have hN : n + 1 < 8 := lt_of_lt_of_eq h N_0; show ¬(n + 1) % 8 = 0; omega) d) n h
/-- After the last point: the second scale's gradient, summed over all tokens. -/
theorem last_16 (c : Dev nD) (h : 7 < cfg0.N) (d : Fin 1024) : (outsAt0 m c 7 h).2.2.2.2.2.2.1 (ix2 0 d) = ∑ i : Fin 4096, gdg m c i d :=
  (at_16 m c 7 h d).trans (sum_tokens (fun i => gdg m c i d) h)

/-- Token `i`'s term of the second shift's gradient. -/
def gdb (c : Dev nD) (i : Fin 4096) (d : Fin 1024) : EReal := Rows.dy (zzr m c i) (hr m c) (sr m c) (tr m c i) d
/-- A tile's terms of the second shift's gradient are its tokens' terms. -/
theorem tile_gdb (c : Dev nD) (t : Fin cfg0.N) (d : Fin 1024) (a : EReal) :
    a + ((∑ s : Fin 256, (fun s => Rows.dy (zz (ins m c t) s) (g2 (ins m c t)) (b2 (ins m c t)) (tgt (ins m c t) s) d) (r0 s)) + ∑ s : Fin 256, (fun s => Rows.dy (zz (ins m c t) s) (g2 (ins m c t)) (b2 (ins m c t)) (tgt (ins m c t) s) d) (r1 s)) = a + ∑ s : Fin 512, gdb m c (tok t s) d := by
  refine (congrArg (a + ·) (sum_parts (fun s => Rows.dy (zz (ins m c t) s) (g2 (ins m c t)) (b2 (ins m c t)) (tgt (ins m c t) s) d))).trans ?_
  simp only [tile_zz, tile_g2, tile_b2, tile_t]
  rfl
/-- The first point leaves its own terms of the second shift's gradient. -/
theorem first_17 (c : Dev nD) (t : Fin cfg0.N) (h0 : t.val % 8 = 0) (d : Fin 1024) : (outsAt0 m c t.val t.isLt).2.2.2.2.2.2.2.1 (ix2 0 d)
    = 0 + ∑ s : Fin 512, gdb m c (tok t s) d := by
  simp only [outsAt0_A m c t h0]; exact (outA_17 c (grid0.coords t) _ _ _ _ _ _ _ _ _ _ _ _ _ _ _ _ _ _ _ _ _ _ _ _ _ _ _ _ _ _ _ _ _ _ _ _ _ _ (ins m c t) _ d).trans (tile_gdb m c t d 0)
/-- A later point adds its own terms of the second shift's gradient. -/
theorem next_17 (c : Dev nD) (t : Fin cfg0.N) (h0 : ¬t.val % 8 = 0) (d : Fin 1024) : (outsAt0 m c t.val t.isLt).2.2.2.2.2.2.2.1 (ix2 0 d)
    = (outsAt0 m c (t.val - 1) (Nat.lt_of_le_of_lt (Nat.sub_le _ _) t.isLt)).2.2.2.2.2.2.2.1 (ix2 0 d) + ∑ s : Fin 512, gdb m c (tok t s) d := by
  simp only [outsAt0_B m c t h0]; exact (outB_17 c (grid0.coords t) _ _ _ _ _ _ _ _ _ _ _ _ _ _ _ _ _ _ _ _ _ _ _ _ _ _ _ _ _ _ _ _ _ _ _ _ _ _ (ins m c t) _ _ _ _ d).trans (tile_gdb m c t d _)
/-- After a point: the second shift's gradient, summed over the tokens of the points so far. -/
theorem at_17 (c : Dev nD) (n : ℕ) (h : n < cfg0.N) (d : Fin 1024) : (outsAt0 m c n h).2.2.2.2.2.2.2.1 (ix2 0 d)
    = ∑ k : Fin (n + 1), ∑ s : Fin 512, gdb m c (tok ⟨k.val, by omega⟩ s) d :=
  sum_points (fun n h => (outsAt0 m c n h).2.2.2.2.2.2.2.1 (ix2 0 d)) (fun t => ∑ s : Fin 512, gdb m c (tok t s) d)
    (fun h => first_17 m c ⟨0, h⟩ rfl d)
    (fun n h => next_17 m c ⟨n + 1, h⟩ (by have hN : n + 1 < 8 := lt_of_lt_of_eq h N_0; show ¬(n + 1) % 8 = 0; omega) d) n h
/-- After the last point: the second shift's gradient, summed over all tokens. -/
theorem last_17 (c : Dev nD) (h : 7 < cfg0.N) (d : Fin 1024) : (outsAt0 m c 7 h).2.2.2.2.2.2.2.1 (ix2 0 d) = ∑ i : Fin 4096, gdb m c i d :=
  (at_17 m c 7 h d).trans (sum_tokens (fun i => gdb m c i d) h)

/-- Token `i`'s term of the squared errors. -/
def gsq (c : Dev nD) (i : Fin 4096) (d : Fin 1024) : EReal := Rows.err (zzr m c i) (hr m c) (sr m c) (tr m c i) d * Rows.err (zzr m c i) (hr m c) (sr m c) (tr m c i) d
/-- A tile's terms of the squared errors are its tokens' terms. -/
theorem tile_gsq (c : Dev nD) (t : Fin cfg0.N) (d : Fin 1024) (a : EReal) :
    a + ((∑ s : Fin 256, (fun s => Rows.err (zz (ins m c t) s) (g2 (ins m c t)) (b2 (ins m c t)) (tgt (ins m c t) s) d * Rows.err (zz (ins m c t) s) (g2 (ins m c t)) (b2 (ins m c t)) (tgt (ins m c t) s) d) (r0 s)) + ∑ s : Fin 256, (fun s => Rows.err (zz (ins m c t) s) (g2 (ins m c t)) (b2 (ins m c t)) (tgt (ins m c t) s) d * Rows.err (zz (ins m c t) s) (g2 (ins m c t)) (b2 (ins m c t)) (tgt (ins m c t) s) d) (r1 s)) = a + ∑ s : Fin 512, gsq m c (tok t s) d := by
  refine (congrArg (a + ·) (sum_parts (fun s => Rows.err (zz (ins m c t) s) (g2 (ins m c t)) (b2 (ins m c t)) (tgt (ins m c t) s) d * Rows.err (zz (ins m c t) s) (g2 (ins m c t)) (b2 (ins m c t)) (tgt (ins m c t) s) d))).trans ?_
  simp only [tile_zz, tile_g2, tile_b2, tile_t]
  rfl
/-- The first point leaves its own terms of the squared errors. -/
theorem first_18 (c : Dev nD) (t : Fin cfg0.N) (h0 : t.val % 8 = 0) (d : Fin 1024) : (outsAt0 m c t.val t.isLt).2.2.2.2.2.2.2.2 (ix2 0 d)
    = 0 + ∑ s : Fin 512, gsq m c (tok t s) d := by
  simp only [outsAt0_A m c t h0]; exact (outA_18 c (grid0.coords t) _ _ _ _ _ _ _ _ _ _ _ _ _ _ _ _ _ _ _ _ _ _ _ _ _ _ _ _ _ _ _ _ _ _ _ _ _ _ (ins m c t) _ d).trans (tile_gsq m c t d 0)
/-- A later point adds its own terms of the squared errors. -/
theorem next_18 (c : Dev nD) (t : Fin cfg0.N) (h0 : ¬t.val % 8 = 0) (d : Fin 1024) : (outsAt0 m c t.val t.isLt).2.2.2.2.2.2.2.2 (ix2 0 d)
    = (outsAt0 m c (t.val - 1) (Nat.lt_of_le_of_lt (Nat.sub_le _ _) t.isLt)).2.2.2.2.2.2.2.2 (ix2 0 d) + ∑ s : Fin 512, gsq m c (tok t s) d := by
  simp only [outsAt0_B m c t h0]; exact (outB_18 c (grid0.coords t) _ _ _ _ _ _ _ _ _ _ _ _ _ _ _ _ _ _ _ _ _ _ _ _ _ _ _ _ _ _ _ _ _ _ _ _ _ _ (ins m c t) _ _ _ _ d).trans (tile_gsq m c t d _)
/-- After a point: the squared errors, summed over the tokens of the points so far. -/
theorem at_18 (c : Dev nD) (n : ℕ) (h : n < cfg0.N) (d : Fin 1024) : (outsAt0 m c n h).2.2.2.2.2.2.2.2 (ix2 0 d)
    = ∑ k : Fin (n + 1), ∑ s : Fin 512, gsq m c (tok ⟨k.val, by omega⟩ s) d :=
  sum_points (fun n h => (outsAt0 m c n h).2.2.2.2.2.2.2.2 (ix2 0 d)) (fun t => ∑ s : Fin 512, gsq m c (tok t s) d)
    (fun h => first_18 m c ⟨0, h⟩ rfl d)
    (fun n h => next_18 m c ⟨n + 1, h⟩ (by have hN : n + 1 < 8 := lt_of_lt_of_eq h N_0; show ¬(n + 1) % 8 = 0; omega) d) n h
/-- After the last point: the squared errors, summed over all tokens. -/
theorem last_18 (c : Dev nD) (h : 7 < cfg0.N) (d : Fin 1024) : (outsAt0 m c 7 h).2.2.2.2.2.2.2.2 (ix2 0 d) = ∑ i : Fin 4096, gsq m c i d :=
  (at_18 m c 7 h d).trans (sum_tokens (fun i => gsq m c i d) h)

/-! The result arrays after the whole grid. -/

/-- The first normalised row of every token, as one array. -/
def Axhat (c : Dev nD) : FVec Ideal S4096x1024 .f32 := fun y => (fun (i : Fin 4096) (d : Fin 1024) => Rows.xhat (zr m c i) d) (y 0) (y 1)
/-- The first reciprocal standard deviation of every token, as one array. -/
def Arstd (c : Dev nD) : FVec Ideal S4096x1 .f32 := fun y => (fun (i : Fin 4096) (d : Fin 1) => Rows.rstd (zr m c i)) (y 0) (y 1)
/-- The first layer norm of every token, as one array. -/
def Ax1 (c : Dev nD) : FVec Ideal S4096x1024 .f32 := fun y => (fun (i : Fin 4096) (d : Fin 1024) => Rows.x1 (zr m c i) (gr m c) (br m c) d) (y 0) (y 1)
/-- The rectified pre-activation of every token, as one array. -/
def Arelu (c : Dev nD) : FVec Ideal S4096x4096 .f32 := fun y => (fun (i : Fin 4096) (d : Fin 4096) => Rows.relu (zr m c i) (gr m c) (br m c) (w1r m c) d) (y 0) (y 1)
/-- The loss's gradient in the second sum of every token, as one array. -/
def Adz (c : Dev nD) : FVec Ideal S4096x1024 .f32 := fun y => (fun (i : Fin 4096) (d : Fin 1024) => Rows.dz (zzr m c i) (hr m c) (sr m c) (tr m c i) d) (y 0) (y 1)
/-- The second scale's gradient, summed over the tokens, as one array. -/
def Adg (c : Dev nD) : FVec Ideal S1x1024 .f32 := fun y => ∑ i : Fin 4096, gdg m c i (y 1)
/-- The second shift's gradient, summed over the tokens, as one array. -/
def Adb (c : Dev nD) : FVec Ideal S1x1024 .f32 := fun y => ∑ i : Fin 4096, gdb m c i (y 1)
/-- The squared errors, summed over the tokens, as one array. -/
def Asq (c : Dev nD) : FVec Ideal S1x1024 .f32 := fun y => ∑ i : Fin 4096, gsq m c i (y 1)
/-- Result 0 after the grid. -/
theorem final10 (c : Dev nD) : (dats m 0 c).arrAt 10 cfg0.N = Axhat m c := by
  refine (dats m 0 c).arrAt_eq_of_covers 10 _ (by decide +kernel) fun t hf y => ?_
  blk_simp
  rw [after0_10]
  obtain ⟨s, d, rfl⟩ : ∃ (s : Fin 512) (d : Fin 1024), y = ix2 s d := ⟨y 0, y 1, by blk_ext []⟩
  refine (at_10 m c t s d).trans ?_
  unfold Axhat
  refine congrArg₂ (fun (i : Fin 4096) (d : Fin 1024) => Rows.xhat (zr m c i) d) (Fin.ext ?_) (Fin.ext ?_)
  · blk_simp [idxOut t, tok]
  · blk_simp [idxOut t]
/-- Result 1 after the grid. -/
theorem final11 (c : Dev nD) : (dats m 0 c).arrAt 11 cfg0.N = Arstd m c := by
  refine (dats m 0 c).arrAt_eq_of_covers 11 _ (by decide +kernel) fun t hf y => ?_
  blk_simp
  rw [after0_11]
  obtain ⟨s, d, rfl⟩ : ∃ (s : Fin 512) (d : Fin 1), y = ix2 s d := ⟨y 0, y 1, by blk_ext []⟩
  refine (at_11 m c t s d).trans ?_
  unfold Arstd
  refine congrArg (fun (i : Fin 4096) => Rows.rstd (zr m c i)) (Fin.ext ?_)
  · blk_simp [idxOut t, tok]
/-- Result 2 after the grid. -/
theorem final12 (c : Dev nD) : (dats m 0 c).arrAt 12 cfg0.N = Ax1 m c := by
  refine (dats m 0 c).arrAt_eq_of_covers 12 _ (by decide +kernel) fun t hf y => ?_
  blk_simp
  rw [after0_12]
  obtain ⟨s, d, rfl⟩ : ∃ (s : Fin 512) (d : Fin 1024), y = ix2 s d := ⟨y 0, y 1, by blk_ext []⟩
  refine (at_12 m c t s d).trans ?_
  unfold Ax1
  refine congrArg₂ (fun (i : Fin 4096) (d : Fin 1024) => Rows.x1 (zr m c i) (gr m c) (br m c) d) (Fin.ext ?_) (Fin.ext ?_)
  · blk_simp [idxOut t, tok]
  · blk_simp [idxOut t]
/-- Result 3 after the grid. -/
theorem final13 (c : Dev nD) : (dats m 0 c).arrAt 13 cfg0.N = Arelu m c := by
  refine (dats m 0 c).arrAt_eq_of_covers 13 _ (by decide +kernel) fun t hf y => ?_
  blk_simp
  rw [after0_13]
  obtain ⟨s, d, rfl⟩ : ∃ (s : Fin 512) (d : Fin 4096), y = ix2 s d := ⟨y 0, y 1, by blk_ext []⟩
  refine (at_13 m c t s d).trans ?_
  unfold Arelu
  refine congrArg₂ (fun (i : Fin 4096) (d : Fin 4096) => Rows.relu (zr m c i) (gr m c) (br m c) (w1r m c) d) (Fin.ext ?_) (Fin.ext ?_)
  · blk_simp [idxOut t, tok]
  · blk_simp [idxOut t]
/-- Result 4 after the grid. -/
theorem final14 (c : Dev nD) : (dats m 0 c).arrAt 14 cfg0.N = Adz m c := by
  refine (dats m 0 c).arrAt_eq_of_covers 14 _ (by decide +kernel) fun t hf y => ?_
  blk_simp
  rw [after0_14]
  obtain ⟨s, d, rfl⟩ : ∃ (s : Fin 512) (d : Fin 1024), y = ix2 s d := ⟨y 0, y 1, by blk_ext []⟩
  refine (at_14 m c t s d).trans ?_
  unfold Adz
  refine congrArg₂ (fun (i : Fin 4096) (d : Fin 1024) => Rows.dz (zzr m c i) (hr m c) (sr m c) (tr m c i) d) (Fin.ext ?_) (Fin.ext ?_)
  · blk_simp [idxOut t, tok]
  · blk_simp [idxOut t]
/-- Result 5 after the grid. -/
theorem final15 (c : Dev nD) : (dats m 0 c).arrAt 15 cfg0.N = Adz m c := by
  refine (dats m 0 c).arrAt_eq_of_covers 15 _ (by decide +kernel) fun t hf y => ?_
  blk_simp
  rw [after0_15]
  obtain ⟨s, d, rfl⟩ : ∃ (s : Fin 512) (d : Fin 1024), y = ix2 s d := ⟨y 0, y 1, by blk_ext []⟩
  refine (at_15 m c t s d).trans ?_
  unfold Adz
  refine congrArg₂ (fun (i : Fin 4096) (d : Fin 1024) => Rows.dz (zzr m c i) (hr m c) (sr m c) (tr m c i) d) (Fin.ext ?_) (Fin.ext ?_)
  · blk_simp [idxOut t, tok]
  · blk_simp [idxOut t]
/-- Result 6 after the grid. -/
theorem final16 (c : Dev nD) : (dats m 0 c).arrAt 16 cfg0.N = Adg m c := by
  refine (dats m 0 c).arrAt_eq_of_covers 16 _ (by decide +kernel) fun t hf y => ?_
  have ht : t.val = 7 := by have h1 := (flush0_16 t).mp hf; have h2 := (idxOut t).2.2.2.2.2.2.2.2.2; omega
  blk_simp
  rw [after0_16]
  obtain ⟨d, rfl⟩ : ∃ (d : Fin 1024), y = ix2 0 d := ⟨y 1, by blk_ext []⟩
  have hn : ∀ (n : ℕ) (h : n < cfg0.N), n = 7 → (outsAt0 m c n h).2.2.2.2.2.2.1 (ix2 0 d) = Adg m c (ix2 0 d) := by
    intro n h e; subst e; exact last_16 m c h d
  refine (hn t.val t.isLt ht).trans ?_
  blk_ext [idxOut t]
/-- Result 7 after the grid. -/
theorem final17 (c : Dev nD) : (dats m 0 c).arrAt 17 cfg0.N = Adb m c := by
  refine (dats m 0 c).arrAt_eq_of_covers 17 _ (by decide +kernel) fun t hf y => ?_
  have ht : t.val = 7 := by have h1 := (flush0_17 t).mp hf; have h2 := (idxOut t).2.2.2.2.2.2.2.2.2; omega
  blk_simp
  rw [after0_17]
  obtain ⟨d, rfl⟩ : ∃ (d : Fin 1024), y = ix2 0 d := ⟨y 1, by blk_ext []⟩
  have hn : ∀ (n : ℕ) (h : n < cfg0.N), n = 7 → (outsAt0 m c n h).2.2.2.2.2.2.2.1 (ix2 0 d) = Adb m c (ix2 0 d) := by
    intro n h e; subst e; exact last_17 m c h d
  refine (hn t.val t.isLt ht).trans ?_
  blk_ext [idxOut t]
/-- Result 8 after the grid. -/
theorem final18 (c : Dev nD) : (dats m 0 c).arrAt 18 cfg0.N = Asq m c := by
  refine (dats m 0 c).arrAt_eq_of_covers 18 _ (by decide +kernel) fun t hf y => ?_
  have ht : t.val = 7 := by have h1 := (flush0_18 t).mp hf; have h2 := (idxOut t).2.2.2.2.2.2.2.2.2; omega
  blk_simp
  rw [after0_18]
  obtain ⟨d, rfl⟩ : ∃ (d : Fin 1024), y = ix2 0 d := ⟨y 1, by blk_ext []⟩
  have hn : ∀ (n : ℕ) (h : n < cfg0.N), n = 7 → (outsAt0 m c n h).2.2.2.2.2.2.2.2 (ix2 0 d) = Asq m c (ix2 0 d) := by
    intro n h e; subst e; exact last_18 m c h d
  refine (hn t.val t.isLt ht).trans ?_
  blk_ext [idxOut t]

end Cert.Kernel3Ideal.Tile
-- ==== Proof.LRef.lean ====
module

public import proofs.«01_k».proof.Proof.Gen.Reference3Ideal.Read
public import proofs.«01_k».proof.Proof.LRows
public import proofs.«01_k».proof.Proof.Norm
public import Idealize.ShloMosaic.Lib.Claim

@[expose] public section

set_option maxRecDepth 16384

noncomputable section

/-! The reference's results of the forward feed-forward call, in stages, and each stage read at an index. -/

namespace Cert.Reference3Ideal.Stage

open Cert.Reference3Ideal Cert.Reference3Ideal.Gen Idealize.ShloMosaic Idealize.ShloMosaic.TcCoe Idealize.ShloMosaic.Tactic

/-- The first sum. -/
def tZ (A0 : FVec Ideal S4096x1024 .f32) (A1 : FVec Ideal S4096x1024 .f32) (A2 : FVec Ideal S1024x1024 .f32) : FVec Ideal S4096x1024 .f32 :=
  addf (mulf (broadcastInDim S4096x1024 ![] bcast_S_S4096x1024 (constant S_ .f32 0x3F9837F0#32)) (A1)) (Host.dotGeneral dot_S4096x1024_S1024x1024_S4096x1024_1_0_0_1_n_n none (A0) (A2))

/-- The normalised rows. -/
def tH (Z : FVec Ideal S4096x1024 .f32) : FVec Ideal S4096x1024 .f32 :=
  mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))

/-- The reciprocal deviations. -/
def tS (Z : FVec Ideal S4096x1024 .f32) : FVec Ideal S4096x1 .f32 :=
  Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

/-- The normalised rows scaled and shifted. -/
def tX (H : FVec Ideal S4096x1024 .f32) (A3 : FVec Ideal S1x1024 .f32) (A4 : FVec Ideal S1x1024 .f32) : FVec Ideal S4096x1024 .f32 :=
  addf (mulf H (broadcastInDim S4096x1024 ![0, 1] bcast_S1x1024_S4096x1024_0_1 (broadcastInDim S1x1024 ![1] bcast_S1024_S1x1024_1 (shapeCast _ (A3) shapeCasts_S1x1024_S1024)))) (broadcastInDim S4096x1024 ![0, 1] bcast_S1x1024_S4096x1024_0_1 (broadcastInDim S1x1024 ![1] bcast_S1024_S1x1024_1 (shapeCast _ (A4) shapeCasts_S1x1024_S1024)))

/-- The rectified pre-activation. -/
def tR (X : FVec Ideal S4096x1024 .f32) (A5 : FVec Ideal S1024x4096 .f32) : FVec Ideal S4096x4096 .f32 :=
  maximumf (Host.dotGeneral dot_S4096x1024_S1024x4096_S4096x4096_1_0_0_1_n_n none X (A5)) (broadcastInDim S4096x4096 ![] bcast_S_S4096x4096 (constant S_ .f32 0x00000000#32))

/-- The second sum. -/
def tY (X : FVec Ideal S4096x1024 .f32) (R : FVec Ideal S4096x4096 .f32) (A6 : FVec Ideal S4096x1024 .f32) : FVec Ideal S4096x1024 .f32 :=
  addf (mulf (broadcastInDim S4096x1024 ![] bcast_S_S4096x1024 (constant S_ .f32 0x3F9837F0#32)) X) (Host.dotGeneral dot_S4096x4096_S4096x1024_S4096x1024_1_0_0_1_n_n none (mulf R R) (A6))

/-- The error: the second normalised rows, scaled and shifted, less the target. -/
def tE (H : FVec Ideal S4096x1024 .f32) (A7 : FVec Ideal S1x1024 .f32) (A8 : FVec Ideal S1x1024 .f32) (A9 : FVec Ideal S4096x1024 .f32) : FVec Ideal S4096x1024 .f32 :=
  subf (addf (mulf H (broadcastInDim S4096x1024 ![0, 1] bcast_S1x1024_S4096x1024_0_1 (broadcastInDim S1x1024 ![1] bcast_S1024_S1x1024_1 (shapeCast _ (A7) shapeCasts_S1x1024_S1024)))) (broadcastInDim S4096x1024 ![0, 1] bcast_S1x1024_S4096x1024_0_1 (broadcastInDim S1x1024 ![1] bcast_S1024_S1x1024_1 (shapeCast _ (A8) shapeCasts_S1x1024_S1024)))) (A9)

/-- The loss's gradient in the second layer norm's result. -/
def tD (E : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) E)

/-- The gradient through the second normalisation. -/
def tN (Z : FVec Ideal S4096x1024 .f32) (D : FVec Ideal S4096x1024 .f32) (A7 : FVec Ideal S1x1024 .f32) : FVec Ideal S4096x1024 .f32 :=
  addf (addf (mulf (mulf D (broadcastInDim S4096x1024 ![0, 1] bcast_S1x1024_S4096x1024_0_1 (broadcastInDim S1x1024 ![1] bcast_S1024_S1x1024_1 (shapeCast _ (A7) shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (mulf (broadcastInDim S4096x1024 ![0] bcast_S4096_S4096x1024_0 (Host.reduceAdd (Host.divf (mulf (shapeCast _ (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (mulf D (broadcastInDim S4096x1024 ![0, 1] bcast_S1x1024_S4096x1024_0_1 (broadcastInDim S1x1024 ![1] bcast_S1024_S1x1024_1 (shapeCast _ (A7) shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))) (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))))) (broadcastInDim S4096x1024 ![0] bcast_S4096_S4096x1024_0 (Host.reduceAdd (Host.divf (addf (shapeCast _ (Host.reduceAdd (Host.negf (mulf (mulf D (broadcastInDim S4096x1024 ![0, 1] bcast_S1x1024_S4096x1024_0_1 (broadcastInDim S1x1024 ![1] bcast_S1024_S1x1024_1 (shapeCast _ (A7) shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))))))) (constant S_ .f32 0x00000000#32) reducesTo_S4096x1024_S4096_d1 h_S_) shapeCasts_S4096_S4096x1) (shapeCast _ (Host.reduceAdd (Host.negf (mulf (broadcastInDim S4096x1024 ![0] bcast_S4096_S4096x1024_0 (Host.reduceAdd (Host.divf (mulf (shapeCast _ (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (mulf D (broadcastInDim S4096x1024 ![0, 1] bcast_S1x1024_S4096x1024_0_1 (broadcastInDim S1x1024 ![1] bcast_S1024_S1x1024_1 (shapeCast _ (A7) shapeCasts_S1x1024_S1024))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))) (addf (Host.divf (broadcastInDim S4096x1 ![0] bcast_S4096_S4096x1_0 (Host.reduceAdd (mulf (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32))))) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (subf Z (broadcastInDim S4096x1024 ![0, 1] bcast_S4096x1_S4096x1024_0_1 (Host.divf (broadcastInDim S4096x1 ![0] bcast_S4096_S4096x1_0 (Host.reduceAdd Z (constant S_ .f32 0x00000000#32) reducesTo_S4096x1024_S4096_d1 h_S_)) (broadcastInDim S4096x1 ![] bcast_S_S4096x1 (constant S_ .f32 0x44800000#32)))))))) (constant S_ .f32 0x00000000#32) reducesTo_S4096x1024_S4096_d1 h_S_) shapeCasts_S4096_S4096x1)) (broadcastInDim S4096x1 ![] bcast_S_S4096x1 (constant S_ .f32 0x44800000#32))) (constant S_ .f32 0x00000000#32) reducesTo_S4096x1_S4096_d1 h_S_))

/-- The gradient of the second scale. -/
def tG (H : FVec Ideal S4096x1024 .f32) (D : FVec Ideal S4096x1024 .f32) : FVec Ideal S1x1024 .f32 :=
  broadcastInDim S1x1024 ![1] bcast_S1024_S1x1024_1 (Host.reduceAdd (shapeCast _ (Host.reduceAdd (mulf H D) (constant S_ .f32 0x00000000#32) reducesTo_S4096x1024_S1024_d0 h_S_) shapeCasts_S1024_S1x1024) (constant S_ .f32 0x00000000#32) reducesTo_S1x1024_S1024_d0 h_S_)

/-- The gradient of the second shift. -/
def tB (D : FVec Ideal S4096x1024 .f32) : FVec Ideal S1x1024 .f32 :=
  broadcastInDim S1x1024 ![1] bcast_S1024_S1x1024_1 (Host.reduceAdd (shapeCast _ (Host.reduceAdd D (constant S_ .f32 0x00000000#32) reducesTo_S4096x1024_S1024_d0 h_S_) shapeCasts_S1024_S1x1024) (constant S_ .f32 0x00000000#32) reducesTo_S1x1024_S1024_d0 h_S_)

/-- The squared error, summed over the tokens. -/
def tQ (E : FVec Ideal S4096x1024 .f32) : FVec Ideal S1x1024 .f32 :=
  broadcastInDim S1x1024 ![1] bcast_S1024_S1x1024_1 (Host.reduceAdd (mulf E E) (constant S_ .f32 0x00000000#32) reducesTo_S4096x1024_S1024_d0 h_S_)

/-- The rounded rows. -/
def tXb (X : FVec Ideal S4096x1024 .f32) : FVec Ideal S4096x1024 .bf16 :=
  truncf .bf16 X bitsLt_bf16_f32

/-- The rounded rectified pre-activation. -/
def tRb (R : FVec Ideal S4096x4096 .f32) : FVec Ideal S4096x4096 .bf16 :=
  truncf .bf16 R bitsLt_bf16_f32

/-- The rounded gradient. -/
def tNb (N : FVec Ideal S4096x1024 .f32) : FVec Ideal S4096x1024 .bf16 :=
  truncf .bf16 N bitsLt_bf16_f32

end Cert.Reference3Ideal.Stage

namespace Cert.Rows

open Idealize.ShloMosaic

/-- The difference of real numbers is a real number. -/
theorem Finite.sub {x y : EReal} : Finite x → Finite y → Finite (x - y) := by
  rintro ⟨a, rfl⟩ ⟨b, rfl⟩; exact ⟨a - b, (EReal.coe_sub a b).symm⟩
/-- The loss's gradient in the second layer norm's result is a real number where scale, shift and target are. -/
theorem dy_finite (z g b t : Fin 1024 → EReal) (hg : ∀ k, Finite (g k)) (hb : ∀ k, Finite (b k)) (ht : ∀ k, Finite (t k)) (k : Fin 1024) : Finite (dy z g b t k) :=
  (((xhat_finite z k).mul (hg k)).add (hb k) |>.sub (ht k)).mul ⟨_, by simp [inv, Ideal.ofBits, Ideal.ieee]; rfl⟩

end Cert.Rows

namespace Cert.Reference3Ideal.Stage

open Cert.Reference3Ideal Cert.Reference3Ideal.Gen Idealize.ShloMosaic Idealize.ShloMosaic.TcCoe Idealize.ShloMosaic.Tactic

/-- The literal of one half. -/
abbrev half : EReal := Ideal.ofBits FTy.f32 0x3F000000#32

/-- Half of the mean's share, doubled, is one 1024th. -/
theorem share (e : EReal) : Ideal.div half Rows.len * (Rows.two * e) = e * Rows.inv := by
  have h : half = ((1 / 2 : ℝ) : EReal) := by simp [half, Ideal.ofBits, Ideal.ieee]; norm_num; rw [← EReal.coe_mul]; norm_num
  have v : Rows.inv = ((1 / 1024 : ℝ) : EReal) := by simp [Rows.inv, Ideal.ofBits, Ideal.ieee]; norm_num; rw [← EReal.coe_mul]; norm_num
  have q : Ideal.div half Rows.len = ((1 / 2048 : ℝ) : EReal) := by
    rw [h, Rows.div_len, ← EReal.coe_mul]; norm_num
  rw [q, ← mul_assoc, Rows.two_eq, ← EReal.coe_mul, v, mul_comm]; norm_num

/-- The first sum at a token. -/
theorem tZ_at (A0 A1 : FVec Ideal S4096x1024 .f32) (A2 : FVec Ideal S1024x1024 .f32) (i : Fin 4096) (d : Fin 1024) :
    tZ A0 A1 A2 (ix2 i d) = Rows.z1 (Rows.mat A1 i) (Rows.mat A0 i) (Rows.mat A2) d := by
  pointwise [tZ, Rows.z1, Rows.mat]
/-- A normalised row. -/
theorem tH_at (Z : FVec Ideal S4096x1024 .f32) (i : Fin 4096) (d : Fin 1024) : tH Z (ix2 i d) = Rows.xhat (fun d => Z (ix2 i d)) d := by
  pointwise [tH, Rows.xhat, Rows.rstd, Rows.var, Rows.cen, Rows.mean]
/-- A row's reciprocal deviation. -/
theorem tS_at (Z : FVec Ideal S4096x1024 .f32) (i : Fin 4096) : tS Z (ix2 i 0) = Rows.rstd (fun d => Z (ix2 i d)) := by
  pointwise [tS, Rows.rstd, Rows.var, Rows.cen, Rows.mean]
/-- A normalised row scaled and shifted. -/
theorem tX_at (H : FVec Ideal S4096x1024 .f32) (A3 A4 : FVec Ideal S1x1024 .f32) (i : Fin 4096) (d : Fin 1024) :
    tX H A3 A4 (ix2 i d) = H (ix2 i d) * Rows.vec A3 d + Rows.vec A4 d := by
  pointwise [tX, Rows.vec]
/-- The rectified pre-activation at a token. -/
theorem tR_at (X : FVec Ideal S4096x1024 .f32) (A5 : FVec Ideal S1024x4096 .f32) (i e : Fin 4096) :
    tR X A5 (ix2 i e) = max (∑ d : Fin 1024, X (ix2 i d) * Rows.mat A5 d e) 0 := by
  pointwise [tR, Rows.mat]
/-- The second sum at a token. -/
theorem tY_at (X : FVec Ideal S4096x1024 .f32) (R : FVec Ideal S4096x4096 .f32) (A6 : FVec Ideal S4096x1024 .f32) (i : Fin 4096) (d : Fin 1024) :
    tY X R A6 (ix2 i d) = Rows.alpha * X (ix2 i d) + ∑ e : Fin 4096, R (ix2 i e) * R (ix2 i e) * Rows.mat A6 e d := by
  pointwise [tY, Rows.mat]
/-- The error at a token. -/
theorem tE_at (H : FVec Ideal S4096x1024 .f32) (A7 A8 : FVec Ideal S1x1024 .f32) (A9 : FVec Ideal S4096x1024 .f32) (i : Fin 4096) (d : Fin 1024) :
    tE H A7 A8 A9 (ix2 i d) = H (ix2 i d) * Rows.vec A7 d + Rows.vec A8 d - Rows.mat A9 i d := by
  pointwise [tE, Rows.vec, Rows.mat]
/-- The loss's gradient in the second layer norm's result is the error over 1024. -/
theorem tD_at (E : FVec Ideal S4096x1024 .f32) (i : Fin 4096) (d : Fin 1024) : tD E (ix2 i d) = E (ix2 i d) * Rows.inv := by
  pointwise [tD]
  exact share _
/-- The chain of the reference's operations at a token: the gradient through the second normalisation. -/
theorem tN_at (Z D : FVec Ideal S4096x1024 .f32) (A7 : FVec Ideal S1x1024 .f32) (i : Fin 4096) (d : Fin 1024) :
    tN Z D A7 (ix2 i d) = Rows.vjp (fun d => Z (ix2 i d)) (fun d => D (ix2 i d) * A7 (ix2 0 d)) d := by
  pointwise [tN]
  simp only [Fin.sum_univ_one]
  rfl
/-- The gradient of the second scale. -/
theorem tG_at (H D : FVec Ideal S4096x1024 .f32) (d : Fin 1024) : tG H D (ix2 0 d) = ∑ i : Fin 4096, D (ix2 i d) * H (ix2 i d) := by
  pointwise [tG]
  rw [Fin.sum_univ_one]
  exact Finset.sum_congr rfl fun x _ => mul_comm _ _
/-- The gradient of the second shift. -/
theorem tB_at (D : FVec Ideal S4096x1024 .f32) (d : Fin 1024) : tB D (ix2 0 d) = ∑ i : Fin 4096, D (ix2 i d) := by
  pointwise [tB]
  rw [Fin.sum_univ_one]
/-- The squared error. -/
theorem tQ_at (E : FVec Ideal S4096x1024 .f32) (d : Fin 1024) : tQ E (ix2 0 d) = ∑ i : Fin 4096, E (ix2 i d) * E (ix2 i d) := by
  pointwise [tQ]
/-- The rounded rows are the same array over the extended reals. -/
theorem tXb_eq (X : FVec Ideal S4096x1024 .f32) : tXb X = X := rfl
/-- So is the rounded rectified pre-activation. -/
theorem tRb_eq (R : FVec Ideal S4096x4096 .f32) : tRb R = R := rfl
/-- So is the rounded gradient. -/
theorem tNb_eq (N : FVec Ideal S4096x1024 .f32) : tNb N = N := rfl

section
variable (A0 A1 : FVec Ideal S4096x1024 .f32) (A2 : FVec Ideal S1024x1024 .f32) (A3 A4 : FVec Ideal S1x1024 .f32)
  (A5 : FVec Ideal S1024x4096 .f32) (A6 : FVec Ideal S4096x1024 .f32) (A7 A8 : FVec Ideal S1x1024 .f32) (A9 : FVec Ideal S4096x1024 .f32)

/-- The stages over the arguments. -/
abbrev X₀ : FVec Ideal S4096x1024 .f32 := tX (tH (tZ A0 A1 A2)) A3 A4
/-- The second sum over the arguments. -/
abbrev Y₀ : FVec Ideal S4096x1024 .f32 := tY (X₀ A0 A1 A2 A3 A4) (tR (X₀ A0 A1 A2 A3 A4) A5) A6
/-- The error over the arguments. -/
abbrev E₀ : FVec Ideal S4096x1024 .f32 := tE (tH (Y₀ A0 A1 A2 A3 A4 A5 A6)) A7 A8 A9

/-! Each result of the run is its stage. -/

/-- The normalised rows. -/
theorem res_H : Read.val_main_v21 (F := Ideal) A0 A1 A2 = tH (tZ A0 A1 A2) := rfl
/-- The reciprocal deviations. -/
theorem res_S : Read.val_main_v17 (F := Ideal) A0 A1 A2 = tS (tZ A0 A1 A2) := rfl
/-- The rows scaled and shifted. -/
theorem res_X : Read.val_main_v148 (F := Ideal) A0 A1 A2 A3 A4 = tXb (X₀ A0 A1 A2 A3 A4) := rfl
/-- The rectified pre-activation. -/
theorem res_R : Read.val_main_v149 (F := Ideal) A0 A1 A2 A3 A4 A5 = tRb (tR (X₀ A0 A1 A2 A3 A4) A5) := rfl
/-- The gradient in the second sum. -/
theorem res_N : Read.val_main_v115 (F := Ideal) A0 A1 A2 A3 A4 A5 A6 A7 A8 A9 = tN (Y₀ A0 A1 A2 A3 A4 A5 A6) (tD (E₀ A0 A1 A2 A3 A4 A5 A6 A7 A8 A9)) A7 := rfl
/-- Its rounded copy. -/
theorem res_Nb : Read.val_main_v150 (F := Ideal) A0 A1 A2 A3 A4 A5 A6 A7 A8 A9 = tNb (tN (Y₀ A0 A1 A2 A3 A4 A5 A6) (tD (E₀ A0 A1 A2 A3 A4 A5 A6 A7 A8 A9)) A7) := rfl
/-- The gradient of the second scale. -/
theorem res_G : Read.val_main_v117 (F := Ideal) A0 A1 A2 A3 A4 A5 A6 A7 A8 A9 = tG (tH (Y₀ A0 A1 A2 A3 A4 A5 A6)) (tD (E₀ A0 A1 A2 A3 A4 A5 A6 A7 A8 A9)) := rfl
/-- The gradient of the second shift. -/
theorem res_B : Read.val_main_v116 (F := Ideal) A0 A1 A2 A3 A4 A5 A6 A7 A8 A9 = tB (tD (E₀ A0 A1 A2 A3 A4 A5 A6 A7 A8 A9)) := rfl
/-- The squared error. -/
theorem res_Q : Read.val_main_v147 (F := Ideal) A0 A1 A2 A3 A4 A5 A6 A7 A8 A9 = tQ (E₀ A0 A1 A2 A3 A4 A5 A6 A7 A8 A9) := rfl

/-- The first sum's rows. -/
theorem Z_row (i : Fin 4096) : (fun d => tZ A0 A1 A2 (ix2 i d)) = Rows.z1 (Rows.mat A1 i) (Rows.mat A0 i) (Rows.mat A2) := funext fun d => tZ_at A0 A1 A2 i d
/-- The rows scaled and shifted. -/
theorem X_at (i : Fin 4096) (d : Fin 1024) : X₀ A0 A1 A2 A3 A4 (ix2 i d) = Rows.x1 (Rows.z1 (Rows.mat A1 i) (Rows.mat A0 i) (Rows.mat A2)) (Rows.vec A3) (Rows.vec A4) d := by
  refine (tX_at _ A3 A4 i d).trans ?_
  rw [tH_at, Z_row]; rfl
/-- The rectified pre-activation. -/
theorem R_at (i e : Fin 4096) : tR (X₀ A0 A1 A2 A3 A4) A5 (ix2 i e)
    = Rows.relu (Rows.z1 (Rows.mat A1 i) (Rows.mat A0 i) (Rows.mat A2)) (Rows.vec A3) (Rows.vec A4) (Rows.mat A5) e :=
  (tR_at _ A5 i e).trans (congrArg (max · 0) (Finset.sum_congr rfl fun d _ => congrArg (· * _) (X_at A0 A1 A2 A3 A4 i d)))
/-- The second sum's rows. -/
theorem Y_row (i : Fin 4096) : (fun d => Y₀ A0 A1 A2 A3 A4 A5 A6 (ix2 i d))
    = Rows.z2 (Rows.z1 (Rows.mat A1 i) (Rows.mat A0 i) (Rows.mat A2)) (Rows.vec A3) (Rows.vec A4) (Rows.mat A5) (Rows.mat A6) := funext fun d => by
  refine (tY_at _ _ A6 i d).trans (congrArg₂ (· + ·) (congrArg (_ * ·) (X_at A0 A1 A2 A3 A4 i d)) (Finset.sum_congr rfl fun e _ => ?_))
  rw [R_at]
/-- The second normalised rows. -/
theorem H_at (i : Fin 4096) (d : Fin 1024) : tH (Y₀ A0 A1 A2 A3 A4 A5 A6) (ix2 i d)
    = Rows.xhat (Rows.z2 (Rows.z1 (Rows.mat A1 i) (Rows.mat A0 i) (Rows.mat A2)) (Rows.vec A3) (Rows.vec A4) (Rows.mat A5) (Rows.mat A6)) d := by
  rw [tH_at, Y_row]
/-- The error. -/
theorem E_at (i : Fin 4096) (d : Fin 1024) : E₀ A0 A1 A2 A3 A4 A5 A6 A7 A8 A9 (ix2 i d)
    = Rows.err (Rows.z2 (Rows.z1 (Rows.mat A1 i) (Rows.mat A0 i) (Rows.mat A2)) (Rows.vec A3) (Rows.vec A4) (Rows.mat A5) (Rows.mat A6)) (Rows.vec A7) (Rows.vec A8) (Rows.mat A9 i) d := by
  refine (tE_at _ A7 A8 A9 i d).trans ?_
  rw [H_at]; rfl
/-- The loss's gradient in the second layer norm's result. -/
theorem D_at (i : Fin 4096) (d : Fin 1024) : tD (E₀ A0 A1 A2 A3 A4 A5 A6 A7 A8 A9) (ix2 i d)
    = Rows.dy (Rows.z2 (Rows.z1 (Rows.mat A1 i) (Rows.mat A0 i) (Rows.mat A2)) (Rows.vec A3) (Rows.vec A4) (Rows.mat A5) (Rows.mat A6)) (Rows.vec A7) (Rows.vec A8) (Rows.mat A9 i) d := by
  refine (tD_at _ i d).trans ?_
  rw [E_at]; rfl
/-- The gradient in the second sum, where scale, shift and target are finite. -/
theorem N_at (h7 : ∀ i : S1x1024.Idx, Rows.Finite (A7 i)) (h8 : ∀ i : S1x1024.Idx, Rows.Finite (A8 i)) (h9 : ∀ i : S4096x1024.Idx, Rows.Finite (A9 i)) (i : Fin 4096) (d : Fin 1024) :
    tN (Y₀ A0 A1 A2 A3 A4 A5 A6) (tD (E₀ A0 A1 A2 A3 A4 A5 A6 A7 A8 A9)) A7 (ix2 i d)
      = Rows.dz (Rows.z2 (Rows.z1 (Rows.mat A1 i) (Rows.mat A0 i) (Rows.mat A2)) (Rows.vec A3) (Rows.vec A4) (Rows.mat A5) (Rows.mat A6)) (Rows.vec A7) (Rows.vec A8) (Rows.mat A9 i) d := by
  refine Eq.trans ?_ (Rows.dnorm_eq_vjp _ _ (fun k => (Rows.dy_finite _ _ _ _ (fun _ => h7 _) (fun _ => h8 _) (fun _ => h9 _) k).mul (h7 _)) d).symm
  rw [tN_at, Y_row]
  exact congrArg (fun f => Rows.vjp _ f d) (funext fun k => congrArg (· * _) (D_at A0 A1 A2 A3 A4 A5 A6 A7 A8 A9 i k))
end

end Cert.Reference3Ideal.Stage

end
-- ==== Proof.LJoin.lean ====
module

public import proofs.«01_k».proof.Proof.LPoint
public import proofs.«01_k».proof.Proof.LRef
public import proofs.«01_k».proof.Proof.Join

@[expose] public section

set_option maxRecDepth 16384

noncomputable section

/-! The forward feed-forward call's results and the reference's, over the same arguments. -/

namespace Cert.Join3

open Idealize.ShloMosaic Idealize.ShloMosaic.TcCoe Idealize.ShloMosaic.Tactic
open Idealize.SL.Sem
open Cert.Kernel3Ideal Cert.Kernel3Ideal.Gen Cert.Kernel3Ideal.Tile

/-- The precondition's side conditions. -/
theorem pre_facts : Cert.Pre_finite3.Facts := ⟨by decide, by decide⟩

/-- The precondition's side conditions, for the statements that cite them. -/
instance : Cert.Pre_finite3.Facts := pre_facts

variable (m : (ℓ : Loc nD τ sig) → Buf (Elt Ideal) ℓ)

/-- The program's finiteness precondition, element by element. -/
theorem finite_args (h : Cert.Pre_Kernel3Ideal_finite3 m) (c : Dev nD) :
    (∀ i : S1x1024.Idx, Rows.Finite (m ((c.tc : Thread nD τ).loc main_arg7) i)) ∧ (∀ i : S1x1024.Idx, Rows.Finite (m ((c.tc : Thread nD τ).loc main_arg8) i))
      ∧ (∀ i : S4096x1024.Idx, Rows.Finite (m ((c.tc : Thread nD τ).loc main_arg9) i)) := by
  obtain ⟨h7, h8, h9⟩ := h c
  exact ⟨fun i => Join.finite_of_lt _ _ i (congrFun h7 i), fun i => Join.finite_of_lt _ _ i (congrFun h8 i), fun i => Join.finite_of_lt _ _ i (congrFun h9 i)⟩

/-- Every execution of the call ends with the nine results at these arrays and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v7_0) = Axhat m c
      ∧ r.2.mem ((c.tc : Thread nD τ).loc main_v7_1) = Arstd m c
      ∧ r.2.mem ((c.tc : Thread nD τ).loc main_v7_2) = Ax1 m c
      ∧ r.2.mem ((c.tc : Thread nD τ).loc main_v7_3) = Arelu m c
      ∧ r.2.mem ((c.tc : Thread nD τ).loc main_v7_4) = Adz m c
      ∧ r.2.mem ((c.tc : Thread nD τ).loc main_v7_5) = Adz m c
      ∧ r.2.mem ((c.tc : Thread nD τ).loc main_v7_6) = Adg m c
      ∧ r.2.mem ((c.tc : Thread nD τ).loc main_v7_7) = Adb m c
      ∧ r.2.mem ((c.tc : Thread nD τ).loc main_v7_8) = Asq m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
    obtain ⟨r0, r1, r2, r3, r4, r5, r6, r7, r8, k⟩ := h c
    exact ⟨r0.trans (final10 m c), r1.trans (final11 m c), r2.trans (final12 m c), r3.trans (final13 m c), r4.trans (final14 m c), r5.trans (final15 m c), r6.trans (final16 m c), r7.trans (final17 m c), r8.trans (final18 m c), k⟩) (Value.run_blocks m ρ)

/-- The call's argument 0. -/
abbrev k0 (c : Dev nD) : FVec Ideal S4096x1024 .f32 := m ((c.tc : Thread nD τ).loc main_arg0)
/-- The call's argument 1. -/
abbrev k1 (c : Dev nD) : FVec Ideal S4096x1024 .f32 := m ((c.tc : Thread nD τ).loc main_arg1)
/-- The call's argument 2. -/
abbrev k2 (c : Dev nD) : FVec Ideal S1024x1024 .f32 := m ((c.tc : Thread nD τ).loc main_arg2)
/-- The call's argument 3. -/
abbrev k3 (c : Dev nD) : FVec Ideal S1x1024 .f32 := m ((c.tc : Thread nD τ).loc main_arg3)
/-- The call's argument 4. -/
abbrev k4 (c : Dev nD) : FVec Ideal S1x1024 .f32 := m ((c.tc : Thread nD τ).loc main_arg4)
/-- The call's argument 5. -/
abbrev k5 (c : Dev nD) : FVec Ideal S1024x4096 .f32 := m ((c.tc : Thread nD τ).loc main_arg5)
/-- The call's argument 6. -/
abbrev k6 (c : Dev nD) : FVec Ideal S4096x1024 .f32 := m ((c.tc : Thread nD τ).loc main_arg6)
/-- The call's argument 7. -/
abbrev k7 (c : Dev nD) : FVec Ideal S1x1024 .f32 := m ((c.tc : Thread nD τ).loc main_arg7)
/-- The call's argument 8. -/
abbrev k8 (c : Dev nD) : FVec Ideal S1x1024 .f32 := m ((c.tc : Thread nD τ).loc main_arg8)
/-- The call's argument 9. -/
abbrev k9 (c : Dev nD) : FVec Ideal S4096x1024 .f32 := m ((c.tc : Thread nD τ).loc main_arg9)

/-- The normalised rows. -/
theorem norm (c : Dev nD) : Cert.Reference3Ideal.Read.val_main_v21 (F := Ideal) (k0 m c) (k1 m c) (k2 m c) = Axhat m c := by
  rw [Cert.Reference3Ideal.Stage.res_H]
  funext y
  obtain ⟨i, d, rfl⟩ : ∃ (i : Fin 4096) (d : Fin 1024), y = ix2 i d := ⟨y 0, y 1, by blk_ext []⟩
  refine (Cert.Reference3Ideal.Stage.tH_at _ i d).trans ?_
  rw [Cert.Reference3Ideal.Stage.Z_row]; rfl

/-- The reciprocal deviations. -/
theorem dev (c : Dev nD) : Cert.Reference3Ideal.Read.val_main_v17 (F := Ideal) (k0 m c) (k1 m c) (k2 m c) = Arstd m c := by
  rw [Cert.Reference3Ideal.Stage.res_S]
  funext y
  obtain ⟨i, rfl⟩ : ∃ (i : Fin 4096), y = ix2 i 0 := ⟨y 0, by blk_ext []⟩
  refine (Cert.Reference3Ideal.Stage.tS_at _ i).trans ?_
  rw [Cert.Reference3Ideal.Stage.Z_row]; rfl

/-- The rows scaled and shifted. -/
theorem rows (c : Dev nD) : Cert.Reference3Ideal.Read.val_main_v148 (F := Ideal) (k0 m c) (k1 m c) (k2 m c) (k3 m c) (k4 m c) = Ax1 m c := by
  rw [Cert.Reference3Ideal.Stage.res_X, Cert.Reference3Ideal.Stage.tXb_eq]
  funext y
  obtain ⟨i, d, rfl⟩ : ∃ (i : Fin 4096) (d : Fin 1024), y = ix2 i d := ⟨y 0, y 1, by blk_ext []⟩
  exact Cert.Reference3Ideal.Stage.X_at (k0 m c) (k1 m c) (k2 m c) (k3 m c) (k4 m c) i d

/-- The rectified pre-activation. -/
theorem act (c : Dev nD) : Cert.Reference3Ideal.Read.val_main_v149 (F := Ideal) (k0 m c) (k1 m c) (k2 m c) (k3 m c) (k4 m c) (k5 m c) = Arelu m c := by
  rw [Cert.Reference3Ideal.Stage.res_R, Cert.Reference3Ideal.Stage.tRb_eq]
  funext y
  obtain ⟨i, d, rfl⟩ : ∃ (i : Fin 4096) (d : Fin 4096), y = ix2 i d := ⟨y 0, y 1, by blk_ext []⟩
  exact Cert.Reference3Ideal.Stage.R_at (k0 m c) (k1 m c) (k2 m c) (k3 m c) (k4 m c) (k5 m c) i d

/-- The loss's gradient in the second sum. -/
theorem grad (hpre : Cert.Pre_Kernel3Ideal_finite3 m) (c : Dev nD) : Cert.Reference3Ideal.Read.val_main_v115 (F := Ideal) (k0 m c) (k1 m c) (k2 m c) (k3 m c) (k4 m c) (k5 m c) (k6 m c) (k7 m c) (k8 m c) (k9 m c) = Adz m c := by
  rw [Cert.Reference3Ideal.Stage.res_N]
  funext y
  obtain ⟨i, d, rfl⟩ : ∃ (i : Fin 4096) (d : Fin 1024), y = ix2 i d := ⟨y 0, y 1, by blk_ext []⟩
  obtain ⟨h7, h8, h9⟩ := finite_args m hpre c
  exact Cert.Reference3Ideal.Stage.N_at (k0 m c) (k1 m c) (k2 m c) (k3 m c) (k4 m c) (k5 m c) (k6 m c) (k7 m c) (k8 m c) (k9 m c) h7 h8 h9 i d

/-- Its rounded copy. -/
theorem gradb (hpre : Cert.Pre_Kernel3Ideal_finite3 m) (c : Dev nD) : Cert.Reference3Ideal.Read.val_main_v150 (F := Ideal) (k0 m c) (k1 m c) (k2 m c) (k3 m c) (k4 m c) (k5 m c) (k6 m c) (k7 m c) (k8 m c) (k9 m c) = Adz m c := by
  rw [Cert.Reference3Ideal.Stage.res_Nb, Cert.Reference3Ideal.Stage.tNb_eq]
  funext y
  obtain ⟨i, d, rfl⟩ : ∃ (i : Fin 4096) (d : Fin 1024), y = ix2 i d := ⟨y 0, y 1, by blk_ext []⟩
  obtain ⟨h7, h8, h9⟩ := finite_args m hpre c
  exact Cert.Reference3Ideal.Stage.N_at (k0 m c) (k1 m c) (k2 m c) (k3 m c) (k4 m c) (k5 m c) (k6 m c) (k7 m c) (k8 m c) (k9 m c) h7 h8 h9 i d

/-- The gradient of the second scale. -/
theorem scale (c : Dev nD) : Cert.Reference3Ideal.Read.val_main_v117 (F := Ideal) (k0 m c) (k1 m c) (k2 m c) (k3 m c) (k4 m c) (k5 m c) (k6 m c) (k7 m c) (k8 m c) (k9 m c) = Adg m c := by
  rw [Cert.Reference3Ideal.Stage.res_G]
  funext y
  obtain ⟨d, rfl⟩ : ∃ (d : Fin 1024), y = ix2 0 d := ⟨y 1, by blk_ext []⟩
  exact (Cert.Reference3Ideal.Stage.tG_at _ _ d).trans (Finset.sum_congr rfl fun i _ => congrArg₂ (· * ·) (Cert.Reference3Ideal.Stage.D_at (k0 m c) (k1 m c) (k2 m c) (k3 m c) (k4 m c) (k5 m c) (k6 m c) (k7 m c) (k8 m c) (k9 m c) i d) (Cert.Reference3Ideal.Stage.H_at (k0 m c) (k1 m c) (k2 m c) (k3 m c) (k4 m c) (k5 m c) (k6 m c) i d))

/-- The gradient of the second shift. -/
theorem shift (c : Dev nD) : Cert.Reference3Ideal.Read.val_main_v116 (F := Ideal) (k0 m c) (k1 m c) (k2 m c) (k3 m c) (k4 m c) (k5 m c) (k6 m c) (k7 m c) (k8 m c) (k9 m c) = Adb m c := by
  rw [Cert.Reference3Ideal.Stage.res_B]
  funext y
  obtain ⟨d, rfl⟩ : ∃ (d : Fin 1024), y = ix2 0 d := ⟨y 1, by blk_ext []⟩
  exact (Cert.Reference3Ideal.Stage.tB_at _ d).trans (Finset.sum_congr rfl fun i _ => Cert.Reference3Ideal.Stage.D_at (k0 m c) (k1 m c) (k2 m c) (k3 m c) (k4 m c) (k5 m c) (k6 m c) (k7 m c) (k8 m c) (k9 m c) i d)

/-- The squared error. -/
theorem squares (c : Dev nD) : Cert.Reference3Ideal.Read.val_main_v147 (F := Ideal) (k0 m c) (k1 m c) (k2 m c) (k3 m c) (k4 m c) (k5 m c) (k6 m c) (k7 m c) (k8 m c) (k9 m c) = Asq m c := by
  rw [Cert.Reference3Ideal.Stage.res_Q]
  funext y
  obtain ⟨d, rfl⟩ : ∃ (d : Fin 1024), y = ix2 0 d := ⟨y 1, by blk_ext []⟩
  exact (Cert.Reference3Ideal.Stage.tQ_at _ d).trans (Finset.sum_congr rfl fun i _ => congrArg₂ (· * ·) (Cert.Reference3Ideal.Stage.E_at (k0 m c) (k1 m c) (k2 m c) (k3 m c) (k4 m c) (k5 m c) (k6 m c) (k7 m c) (k8 m c) (k9 m c) i d) (Cert.Reference3Ideal.Stage.E_at (k0 m c) (k1 m c) (k2 m c) (k3 m c) (k4 m c) (k5 m c) (k6 m c) (k7 m c) (k8 m c) (k9 m c) i d))

variable (m' : (ℓ : Loc Cert.Reference3Ideal.nD Cert.Reference3Ideal.τ Cert.Reference3Ideal.sig) → Buf (Elt Ideal) ℓ)

/-- The two memories agree on the arguments at device `c`. -/
abbrev Agree (c : Dev nD) : Prop := m' ((c.tc : Thread Cert.Reference3Ideal.nD Cert.Reference3Ideal.τ).loc Cert.Reference3Ideal.main_arg0) = m ((c.tc : Thread nD τ).loc main_arg0)
    ∧ m' ((c.tc : Thread Cert.Reference3Ideal.nD Cert.Reference3Ideal.τ).loc Cert.Reference3Ideal.main_arg1) = m ((c.tc : Thread nD τ).loc main_arg1)
    ∧ m' ((c.tc : Thread Cert.Reference3Ideal.nD Cert.Reference3Ideal.τ).loc Cert.Reference3Ideal.main_arg2) = m ((c.tc : Thread nD τ).loc main_arg2)
    ∧ m' ((c.tc : Thread Cert.Reference3Ideal.nD Cert.Reference3Ideal.τ).loc Cert.Reference3Ideal.main_arg3) = m ((c.tc : Thread nD τ).loc main_arg3)
    ∧ m' ((c.tc : Thread Cert.Reference3Ideal.nD Cert.Reference3Ideal.τ).loc Cert.Reference3Ideal.main_arg4) = m ((c.tc : Thread nD τ).loc main_arg4)
    ∧ m' ((c.tc : Thread Cert.Reference3Ideal.nD Cert.Reference3Ideal.τ).loc Cert.Reference3Ideal.main_arg5) = m ((c.tc : Thread nD τ).loc main_arg5)
    ∧ m' ((c.tc : Thread Cert.Reference3Ideal.nD Cert.Reference3Ideal.τ).loc Cert.Reference3Ideal.main_arg6) = m ((c.tc : Thread nD τ).loc main_arg6)
    ∧ m' ((c.tc : Thread Cert.Reference3Ideal.nD Cert.Reference3Ideal.τ).loc Cert.Reference3Ideal.main_arg7) = m ((c.tc : Thread nD τ).loc main_arg7)
    ∧ m' ((c.tc : Thread Cert.Reference3Ideal.nD Cert.Reference3Ideal.τ).loc Cert.Reference3Ideal.main_arg8) = m ((c.tc : Thread nD τ).loc main_arg8)
    ∧ m' ((c.tc : Thread Cert.Reference3Ideal.nD Cert.Reference3Ideal.τ).loc Cert.Reference3Ideal.main_arg9) = m ((c.tc : Thread nD τ).loc main_arg9)

/-- What is computed from the arguments is the same over memories that agree on them. -/
theorem of_agree {α : Type} {c : Dev nD} (h : Agree m m' c)
    (f : FVec Ideal S4096x1024 .f32 → FVec Ideal S4096x1024 .f32 → FVec Ideal S1024x1024 .f32 → FVec Ideal S1x1024 .f32 → FVec Ideal S1x1024 .f32 → FVec Ideal S1024x4096 .f32 → FVec Ideal S4096x1024 .f32 → FVec Ideal S1x1024 .f32 → FVec Ideal S1x1024 .f32 → FVec Ideal S4096x1024 .f32 → α) :
    f (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) = f (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  obtain ⟨a0, a1, a2, a3, a4, a5, a6, a7, a8, a9⟩ := h
  rw [a0, a1, a2, a3, a4, a5, a6, a7, a8, a9]

/-- From arguments that agree, and are finite where the precondition says so, call and reference end with equal results. -/
theorem values : Cert.algebraic_Kernel3Ideal_Reference3Ideal_pre_finite3 := by
  pair_intro
  · run_from run_values m g
  · run_from Cert.Reference3Ideal.Value.run m' g'
    · exact (Cert.Reference3Ideal.Read.val_main_v21_eq _).trans ((of_agree m m' (hagree c) (fun A0 A1 A2 A3 A4 A5 A6 A7 A8 A9 => Cert.Reference3Ideal.Read.val_main_v21 (F := Ideal) A0 A1 A2)).trans (norm m c))
    · exact (Cert.Reference3Ideal.Read.val_main_v17_eq _).trans ((of_agree m m' (hagree c) (fun A0 A1 A2 A3 A4 A5 A6 A7 A8 A9 => Cert.Reference3Ideal.Read.val_main_v17 (F := Ideal) A0 A1 A2)).trans (dev m c))
    · exact (Cert.Reference3Ideal.Read.val_main_v148_eq _).trans ((of_agree m m' (hagree c) (fun A0 A1 A2 A3 A4 A5 A6 A7 A8 A9 => Cert.Reference3Ideal.Read.val_main_v148 (F := Ideal) A0 A1 A2 A3 A4)).trans (rows m c))
    · exact (Cert.Reference3Ideal.Read.val_main_v149_eq _).trans ((of_agree m m' (hagree c) (fun A0 A1 A2 A3 A4 A5 A6 A7 A8 A9 => Cert.Reference3Ideal.Read.val_main_v149 (F := Ideal) A0 A1 A2 A3 A4 A5)).trans (act m c))
    · exact (Cert.Reference3Ideal.Read.val_main_v115_eq _).trans ((of_agree m m' (hagree c) (fun A0 A1 A2 A3 A4 A5 A6 A7 A8 A9 => Cert.Reference3Ideal.Read.val_main_v115 (F := Ideal) A0 A1 A2 A3 A4 A5 A6 A7 A8 A9)).trans (grad m hpre c))
    · exact (Cert.Reference3Ideal.Read.val_main_v150_eq _).trans ((of_agree m m' (hagree c) (fun A0 A1 A2 A3 A4 A5 A6 A7 A8 A9 => Cert.Reference3Ideal.Read.val_main_v150 (F := Ideal) A0 A1 A2 A3 A4 A5 A6 A7 A8 A9)).trans (gradb m hpre c))
    · exact (Cert.Reference3Ideal.Read.val_main_v117_eq _).trans ((of_agree m m' (hagree c) (fun A0 A1 A2 A3 A4 A5 A6 A7 A8 A9 => Cert.Reference3Ideal.Read.val_main_v117 (F := Ideal) A0 A1 A2 A3 A4 A5 A6 A7 A8 A9)).trans (scale m c))
    · exact (Cert.Reference3Ideal.Read.val_main_v116_eq _).trans ((of_agree m m' (hagree c) (fun A0 A1 A2 A3 A4 A5 A6 A7 A8 A9 => Cert.Reference3Ideal.Read.val_main_v116 (F := Ideal) A0 A1 A2 A3 A4 A5 A6 A7 A8 A9)).trans (shift m c))
    · exact (Cert.Reference3Ideal.Read.val_main_v147_eq _).trans ((of_agree m m' (hagree c) (fun A0 A1 A2 A3 A4 A5 A6 A7 A8 A9 => Cert.Reference3Ideal.Read.val_main_v147 (F := Ideal) A0 A1 A2 A3 A4 A5 A6 A7 A8 A9)).trans (squares m c))

end Cert.Join3

end
-- ==== Proof.GSame.lean ====
module

public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel4Ideal.Frame
public import proofs.«01_k».proof.Proof.Gen.Kernel5Ideal.Frame
public import proofs.«01_k».proof.Proof.Gen.Kernel6Ideal.Frame
public import proofs.«01_k».proof.Proof.Gen.Kernel7Ideal.Frame
public import proofs.«01_k».proof.Proof.Gen.Kernel8Ideal.Frame
public import proofs.«01_k».proof.Proof.Gen.Kernel9Ideal.Frame
public import proofs.«01_k».proof.Proof.Gen.Kernel10Ideal.Frame
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Defs

@[expose] public section

set_option maxRecDepth 16384

noncomputable section

/-! The calls of plain products and of the optimiser: the frames. -/

namespace Cert.SameG

open Idealize.ShloMosaic Idealize.SL.Sem

/-- The frame of the input's gradient on the machine. -/
theorem frame_kernel4 : Cert.quiescent_Kernel4 := fun m ρ _ => Cert.Kernel4.Gen.frame m ρ
/-- The frame of the input's gradient over the extended reals. -/
theorem frame_ideal4 : Cert.quiescent_Kernel4Ideal := fun m ρ _ => Cert.Kernel4Ideal.Gen.frame m ρ
/-- The reference of the input's gradient runs to its end and leaves its arguments. -/
theorem frame_reference4 : Cert.quiescent_Reference4Ideal := fun m ρ _ =>
  (θ_run Cert.Reference4Ideal.defs _ _).mono (fun _ h => ⟨fun c => (h c).2, sem_eq_zero_of_no_sems (by decide) _⟩) (Cert.Reference4Ideal.Value.run m ρ)
/-- The frame of the output projection's gradient on the machine. -/
theorem frame_kernel5 : Cert.quiescent_Kernel5 := fun m ρ _ => Cert.Kernel5.Gen.frame m ρ
/-- The frame of the output projection's gradient over the extended reals. -/
theorem frame_ideal5 : Cert.quiescent_Kernel5Ideal := fun m ρ _ => Cert.Kernel5Ideal.Gen.frame m ρ
/-- The reference of the output projection's gradient runs to its end and leaves its arguments. -/
theorem frame_reference5 : Cert.quiescent_Reference5Ideal := fun m ρ _ =>
  (θ_run Cert.Reference5Ideal.defs _ _).mono (fun _ h => ⟨fun c => (h c).2, sem_eq_zero_of_no_sems (by decide) _⟩) (Cert.Reference5Ideal.Value.run m ρ)
/-- The frame of the input projection on the machine. -/
theorem frame_kernel6 : Cert.quiescent_Kernel6 := fun m ρ _ => Cert.Kernel6.Gen.frame m ρ
/-- The frame of the input projection over the extended reals. -/
theorem frame_ideal6 : Cert.quiescent_Kernel6Ideal := fun m ρ _ => Cert.Kernel6Ideal.Gen.frame m ρ
/-- The reference of the input projection runs to its end and leaves its arguments. -/
theorem frame_reference6 : Cert.quiescent_Reference6Ideal := fun m ρ _ =>
  (θ_run Cert.Reference6Ideal.defs _ _).mono (fun _ h => ⟨fun c => (h c).2.2.2.2.2, sem_eq_zero_of_no_sems (by decide) _⟩) (Cert.Reference6Ideal.Value.run m ρ)
/-- The frame of the optimiser's step of `w_ff1` on the machine. -/
theorem frame_kernel7 : Cert.quiescent_Kernel7 := fun m ρ _ => Cert.Kernel7.Gen.frame m ρ
/-- The frame of the optimiser's step of `w_ff1` over the extended reals. -/
theorem frame_ideal7 : Cert.quiescent_Kernel7Ideal := fun m ρ _ => Cert.Kernel7Ideal.Gen.frame m ρ
/-- The reference of the optimiser's step of `w_ff1` runs to its end and leaves its arguments. -/
theorem frame_reference7 : Cert.quiescent_Reference7Ideal := fun m ρ _ =>
  (θ_run Cert.Reference7Ideal.defs _ _).mono (fun _ h => ⟨fun c => (h c).2.2.2.2, sem_eq_zero_of_no_sems (by decide) _⟩) (Cert.Reference7Ideal.Value.run m ρ)
/-- The frame of the optimiser's step of `w_ff2` on the machine. -/
theorem frame_kernel8 : Cert.quiescent_Kernel8 := fun m ρ _ => Cert.Kernel8.Gen.frame m ρ
/-- The frame of the optimiser's step of `w_ff2` over the extended reals. -/
theorem frame_ideal8 : Cert.quiescent_Kernel8Ideal := fun m ρ _ => Cert.Kernel8Ideal.Gen.frame m ρ
/-- The reference of the optimiser's step of `w_ff2` runs to its end and leaves its arguments. -/
theorem frame_reference8 : Cert.quiescent_Reference8Ideal := fun m ρ _ =>
  (θ_run Cert.Reference8Ideal.defs _ _).mono (fun _ h => ⟨fun c => (h c).2.2.2.2, sem_eq_zero_of_no_sems (by decide) _⟩) (Cert.Reference8Ideal.Value.run m ρ)
/-- The frame of the optimiser's step of `w_out` on the machine. -/
theorem frame_kernel9 : Cert.quiescent_Kernel9 := fun m ρ _ => Cert.Kernel9.Gen.frame m ρ
/-- The frame of the optimiser's step of `w_out` over the extended reals. -/
theorem frame_ideal9 : Cert.quiescent_Kernel9Ideal := fun m ρ _ => Cert.Kernel9Ideal.Gen.frame m ρ
/-- The reference of the optimiser's step of `w_out` runs to its end and leaves its arguments. -/
theorem frame_reference9 : Cert.quiescent_Reference9Ideal := fun m ρ _ =>
  (θ_run Cert.Reference9Ideal.defs _ _).mono (fun _ h => ⟨fun c => (h c).2.2.2.2, sem_eq_zero_of_no_sems (by decide) _⟩) (Cert.Reference9Ideal.Value.run m ρ)
/-- The frame of the optimiser's step of `w_in` on the machine. -/
theorem frame_kernel10 : Cert.quiescent_Kernel10 := fun m ρ _ => Cert.Kernel10.Gen.frame m ρ
/-- The frame of the optimiser's step of `w_in` over the extended reals. -/
theorem frame_ideal10 : Cert.quiescent_Kernel10Ideal := fun m ρ _ => Cert.Kernel10Ideal.Gen.frame m ρ
/-- The reference of the optimiser's step of `w_in` runs to its end and leaves its arguments. -/
theorem frame_reference10 : Cert.quiescent_Reference10Ideal := fun m ρ _ =>
  (θ_run Cert.Reference10Ideal.defs _ _).mono (fun _ h => ⟨fun c => (h c).2.2.2.2, sem_eq_zero_of_no_sems (by decide) _⟩) (Cert.Reference10Ideal.Value.run m ρ)

end Cert.SameG

end
-- ==== Proof.Gx.lean ====
module

public import proofs.«01_k».proof.Proof.Gen.Kernel4Ideal.Value
public import proofs.«01_k».proof.Proof.Gen.Reference4Ideal.Read
public import proofs.«01_k».proof.Defs
public import proofs.«01_k».proof.Proof.Rows
public import proofs.«01_k».proof.Proof.Blocks
public import Idealize.ShloMosaic.Lib.Claim

@[expose] public section

set_option maxRecDepth 16384

noncomputable section

/-! The gradient of the block's input: what the call leaves, and the reference's result over the same arguments. -/

namespace Cert.Kernel4Ideal.Tile

open Idealize.ShloMosaic Idealize.ShloMosaic.TcCoe Idealize.ShloMosaic.Tactic
open Idealize.ShloMosaic.Pipeline (Dat)
open Idealize.SL.Sem
open Cert.Kernel4Ideal Cert.Kernel4Ideal.Gen

/-- A sum over the 1792 columns is the sum over the first 1536 and the sum over the last 256. -/
theorem sum_split (f : Fin 1792 → EReal) : (∑ k : Fin 1536, f ⟨k.val, by omega⟩) + ∑ k : Fin 256, f ⟨1536 + k.val, by omega⟩ = ∑ k, f k :=
  (Fin.sum_univ_add (a := 1536) (b := 256) f).symm

/-- What a grid point leaves, read at one entry: the scaled residual branch and the two products. -/
theorem out_at (x0 : FVec Ideal S1024x1536 .bf16) (x1 : FVec Ideal S1024x256 .f32) (x2 : FVec Ideal S1024x1024 .f32) (x3 : FVec Ideal S1792x1024 .bf16) (s d : Fin 1024) :
    (show FVec Ideal S1024x1024 .f32 from out0_4 (F := Ideal) x0 x1 x2 x3) (ix2 s d) = Rows.alpha * x2 (ix2 s d) + (∑ k : Fin 1536, x0 (ix2 s k) * x3 (ix2 ⟨k.val, by omega⟩ d))
      + ∑ k : Fin 256, x1 (ix2 s k) * x3 (ix2 ⟨1536 + k.val, by omega⟩ d) := by
  unfold out0_4
  refine (Blocks.canon_hit 0 _ _ _ s s d (Nat.zero_add _).symm).trans ?_
  unfold k0_pay1
  pointwise [Rows.alpha]

variable (m : (ℓ : Loc nD τ sig) → Buf (Elt Ideal) ℓ)

/-- The input projection. -/
abbrev W (c : Dev nD) : FVec Ideal S1024x1792 .f32 := m ((c.tc : Thread nD τ).loc main_arg0)
/-- The gradient of the projected heads. -/
abbrev G (c : Dev nD) : FVec Ideal S4096x1792 .f32 := m ((c.tc : Thread nD τ).loc main_arg1)
/-- The gradient of the sum. -/
abbrev Z (c : Dev nD) : FVec Ideal S4096x1024 .f32 := m ((c.tc : Thread nD τ).loc main_arg2)

/-- The first columns of the gradient as the call reads them. -/
theorem entry_lo (c : Dev nD) (i : Fin 4096) (k : Fin 1536) : V m c main_v1 (ix2 i k) = G m c (ix2 i ⟨k.val, by omega⟩) := by
  entry_read
  pointwise
/-- The last columns of the gradient as the call reads them. -/
theorem entry_hi (c : Dev nD) (i : Fin 4096) (k : Fin 256) : V m c main_v2 (ix2 i k) = G m c (ix2 i ⟨1536 + k.val, by omega⟩) := by
  entry_read
  pointwise
/-- The input projection as the call reads it. -/
theorem entry_w (c : Dev nD) (k : Fin 1792) (d : Fin 1024) : V m c main_v4 (ix2 k d) = W m c (ix2 d k) := by
  entry_read
  pointwise

/-- Where the windows' blocks lie. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ t.val < 4 := (by decide +kernel : ∀ t : Fin grid0.N, _)

/-- The token at position `s` of grid point `t`'s tile. -/
def tok (t : Fin cfg0.N) (s : Fin 1024) : Fin 4096 := ⟨t.val * 1024 + s.val, by have := (idx t).2.2.2.2.2; omega⟩

/-- Input 0's block at a grid point, read at one entry. -/
theorem block0 (c : Dev nD) (t : Fin cfg0.N) (s : Fin 1024) (k : Fin 1536) : (show FVec Ideal S1024x1536 .bf16 from iblk m c 0 t) (ix2 s k) = V m c main_v1 (ix2 (tok t s) k) := by
  unfold tok; blk_ext [iblk, idx t]
/-- Input 1's block at a grid point, read at one entry. -/
theorem block1 (c : Dev nD) (t : Fin cfg0.N) (s : Fin 1024) (k : Fin 256) : (show FVec Ideal S1024x256 .f32 from iblk m c 1 t) (ix2 s k) = V m c main_v2 (ix2 (tok t s) k) := by
  unfold tok; blk_ext [iblk, idx t]
/-- Input 2's block at a grid point, read at one entry. -/
theorem block2 (c : Dev nD) (t : Fin cfg0.N) (s d : Fin 1024) : (show FVec Ideal S1024x1024 .f32 from iblk m c 2 t) (ix2 s d) = V m c main_arg2 (ix2 (tok t s) d) := by
  unfold tok; blk_ext [iblk, idx t]
/-- Input 3's block at a grid point, read at one entry. -/
theorem block3 (c : Dev nD) (t : Fin cfg0.N) (k : Fin 1792) (d : Fin 1024) : (show FVec Ideal S1792x1024 .bf16 from iblk m c 3 t) (ix2 k d) = V m c main_v4 (ix2 k d) := by
  blk_ext [iblk, idx t]

/-- The gradient of the input: the scaled gradient of the sum and the product with the projection. -/
def A (c : Dev nD) : FVec Ideal S4096x1024 .f32 := fun y => Rows.alpha * Z m c y + ∑ k : Fin 1792, G m c (ix2 (y 0) k) * W m c (ix2 (y 1) k)

/-- What a grid point leaves is its tokens' gradient. -/
theorem at_4 (c : Dev nD) (t : Fin cfg0.N) (s d : Fin 1024) : out0_4 (iblk m c 0 t) (iblk m c 1 t) (iblk m c 2 t) (iblk m c 3 t) (ix2 s d) = A m c (ix2 (tok t s) d) := by
  refine (out_at (iblk m c 0 t) (iblk m c 1 t) (iblk m c 2 t) (iblk m c 3 t) s d).trans ?_
  have h2 := (block2 m c t s d).trans (congrFun (V_main_arg2 m c) _)
  have h0 := fun k => (block0 m c t s k).trans (entry_lo m c (tok t s) k)
  have h1 := fun k => (block1 m c t s k).trans (entry_hi m c (tok t s) k)
  have h3 := fun k => (block3 m c t k d).trans (entry_w m c k d)
  rw [add_assoc]
  unfold A
  refine congrArg₂ (· + ·) (congrArg (Rows.alpha * ·) h2) (Eq.trans (congrArg₂ (· + ·) (Finset.sum_congr rfl fun k _ => congrArg₂ (· * ·) (h0 k) (h3 _)) (Finset.sum_congr rfl fun k _ => congrArg₂ (· * ·) (h1 k) (h3 _))) ?_)
  exact sum_split (fun k => G m c (ix2 (tok t s) k) * W m c (ix2 d k))

/-- The result array after the whole grid. -/
theorem final4 (c : Dev nD) : (dats m 0 c).arrAt 4 cfg0.N = A m c := by
  refine (dats m 0 c).arrAt_eq_of_covers 4 _ (by decide +kernel) fun t hf y => ?_
  blk_simp
  rw [after0_4]
  obtain ⟨s, d, rfl⟩ : ∃ (s d : Fin 1024), y = ix2 s d := ⟨y 0, y 1, by blk_ext []⟩
  refine (at_4 m c t s d).trans (congrArg (A m c) ?_)
  unfold tok; blk_ext [idx t]

/-- Every execution of the call ends with the result at this array and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v5) = A m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final4 m c), (h c).2⟩) (Value.run_blocks m ρ)

/-- The reference's result from the same arguments is the same array. -/
theorem ref (c : Dev nD) : Cert.Reference4Ideal.Read.val_main_v7 (F := Ideal) (W m c) (G m c) (Z m c) = A m c := by
  rw [← Cert.Reference4Ideal.Read.val_main_v7_eq]
  funext y
  obtain ⟨i, d, rfl⟩ : ∃ (i : Fin 4096) (d : Fin 1024), y = ix2 i d := ⟨y 0, y 1, by blk_ext []⟩
  pointwise [A, Rows.alpha]

/-- From arguments that agree, call and reference end with equal results. -/
theorem values : Cert.algebraic_Kernel4Ideal_Reference4Ideal := by
  pair_intro
  · run_from run_values m g
  · run_from Cert.Reference4Ideal.Value.run m' g'
    exact (Cert.Reference4Ideal.Read.val_main_v7_eq _ _ _).trans (ref m c)

end Cert.Kernel4Ideal.Tile

end
-- ==== Proof.Gw.lean ====
module

public import proofs.«01_k».proof.Proof.Gen.Kernel5Ideal.Value
public import proofs.«01_k».proof.Proof.Gen.Reference5Ideal.Read
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

/-! The gradient of the output projection: what the call leaves, and the reference's result over the same arguments. -/

namespace Cert.Kernel5Ideal.Tile

open Idealize.ShloMosaic Idealize.ShloMosaic.TcCoe Idealize.ShloMosaic.Tactic
open Idealize.SL.Sem
open Cert.Kernel5Ideal Cert.Kernel5Ideal.Gen

/-- What a grid point leaves over what it found, read at one entry: its tile's product is added. -/
theorem step_at (x y : FVec Ideal S1024x1024 .bf16) (acc : FVec Ideal S1024x1024 .f32) (a b : Fin 1024) :
    k0_pay2 (F := Ideal) x y acc (ix2 a b) = acc (ix2 a b) + ∑ s : Fin 1024, x (ix2 s a) * y (ix2 s b) := by
  pointwise [k0_pay2]
/-- The cleared sum is zero everywhere. -/
theorem zero_at (a b : Fin 1024) : k0_pay1 (F := Ideal) (ix2 a b) = 0 := by
  pointwise [k0_pay1]

variable (m : (ℓ : Loc nD τ sig) → Buf (Elt Ideal) ℓ)

/-- The heads. -/
abbrev X (c : Dev nD) : FVec Ideal S4096x1024 .f32 := m ((c.tc : Thread nD τ).loc main_arg0)
/-- The gradient of the product. -/
abbrev Z (c : Dev nD) : FVec Ideal S4096x1024 .f32 := m ((c.tc : Thread nD τ).loc main_arg1)

/-- The heads as the call reads them. -/
theorem entry_x (c : Dev nD) (i : Fin 4096) (k : Fin 1024) : V m c main_v0 (ix2 i k) = X m c (ix2 i k) := by
  entry_read
  pointwise
/-- The gradient as the call reads it. -/
theorem entry_z (c : Dev nD) (i : Fin 4096) (k : Fin 1024) : V m c main_v1 (ix2 i k) = Z m c (ix2 i k) := by
  entry_read
  pointwise

/-- Where the windows' blocks lie. -/
theorem idx : ∀ t : Fin cfg0.N, win0_0.index t = ![t.val, 0] ∧ win0_1.index t = ![t.val, 0] ∧ t.val < 4 := (by decide +kernel : ∀ t : Fin grid0.N, _)

/-- The token at position `s` of grid point `t`'s tile. -/
def tok (t : Fin cfg0.N) (s : Fin 1024) : Fin 4096 := ⟨t.val * 1024 + s.val, by have := (idx t).2.2; omega⟩

/-- Input 0's block at a grid point, read at one entry. -/
theorem block0 (c : Dev nD) (t : Fin cfg0.N) (s k : Fin 1024) : (show FVec Ideal S1024x1024 .bf16 from iblk m c 0 t) (ix2 s k) = V m c main_v0 (ix2 (tok t s) k) := by
  unfold tok; blk_ext [iblk, idx t]
/-- Input 1's block at a grid point, read at one entry. -/
theorem block1 (c : Dev nD) (t : Fin cfg0.N) (s k : Fin 1024) : (show FVec Ideal S1024x1024 .bf16 from iblk m c 1 t) (ix2 s k) = V m c main_v1 (ix2 (tok t s) k) := by
  unfold tok; blk_ext [iblk, idx t]

/-- The gradient of the projection: the heads' product with the gradient, over all tokens. -/
def A (c : Dev nD) : FVec Ideal S1024x1024 .f32 := fun y => ∑ i : Fin 4096, X m c (ix2 i (y 0)) * Z m c (ix2 i (y 1))

/-- A grid point adds its tokens' products to what it found. -/
theorem add_at (c : Dev nD) (t : Fin cfg0.N) (acc : FVec Ideal S1024x1024 .f32) (a b : Fin 1024) :
    k0_pay2 (F := Ideal) (iblk m c 0 t) (iblk m c 1 t) acc (ix2 a b) = acc (ix2 a b) + ∑ s : Fin 1024, X m c (ix2 (tok t s) a) * Z m c (ix2 (tok t s) b) :=
  (step_at (iblk m c 0 t) (iblk m c 1 t) acc a b).trans (congrArg (acc (ix2 a b) + ·) (Finset.sum_congr rfl fun s _ =>
    congrArg₂ (· * ·) ((block0 m c t s a).trans (entry_x m c _ a)) ((block1 m c t s b).trans (entry_z m c _ b))))

/-- The four points' sums are the sum over all tokens. -/
theorem fold (c : Dev nD) (h : 0 + 3 < cfg0.N) (a b : Fin 1024) :
    (show FVec Ideal S1024x1024 .f32 from Pipeline.accAt (Value.reset2 m c) (Value.step2 m c) 0 3 h) (ix2 a b) = A m c (ix2 a b) := by
  refine (add_at m c ⟨3, h⟩ _ a b).trans ?_
  refine (congrArg (· + _) ((add_at m c ⟨2, by omega⟩ _ a b).trans (congrArg (· + _) ((add_at m c ⟨1, by omega⟩ _ a b).trans (congrArg (· + _) ((add_at m c ⟨0, by omega⟩ _ a b).trans
    ((congrArg (· + _) (zero_at a b)).trans (zero_add _)))))))).trans ?_
  unfold A
  rw [Fin.sum_univ_tiles 4 1024 rfl, Fin.sum_univ_four]
  rfl

/-- The result array after the whole grid. -/
theorem final (c : Dev nD) : Value.G2 m c = A m c := by
  funext y
  obtain ⟨a, b, rfl⟩ : ∃ (a b : Fin 1024), y = ix2 a b := ⟨y 0, y 1, by blk_ext []⟩
  have hN : cfg0.N = 4 := N_0
  have hq : Value.run2Of (ix2 a b) = 0 := by
    show 1 * (a.val / 1024 - 0) + 1 * (b.val / 1024 - 0) = 0
    omega
  have hl : Value.loc2Of (ix2 a b) = ix2 a b := by blk_ext []
  have key : ∀ q (h : 4 * q + 3 < cfg0.N), q = 0 → (show FVec Ideal S1024x1024 .f32 from Pipeline.accAt (Value.reset2 m c) (Value.step2 m c) (4 * q) 3 h) (ix2 a b) = A m c (ix2 a b) := by
    rintro _ h rfl
    exact fold m c h a b
  unfold Value.G2
  rw [dif_pos (by rw [hq, hN]; decide), hl]
  exact key _ _ hq

/-- Every execution of the call ends with the result at this array and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v2) = A m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run m ρ)

/-- The reference's result from the same arguments is the same array. -/
theorem ref (c : Dev nD) : Cert.Reference5Ideal.Read.val_main_v3 (F := Ideal) (X m c) (Z m c) = A m c := by
  rw [← Cert.Reference5Ideal.Read.val_main_v3_eq]
  funext y
  obtain ⟨a, b, rfl⟩ : ∃ (a b : Fin 1024), y = ix2 a b := ⟨y 0, y 1, by blk_ext []⟩
  pointwise [A]
  exact Finset.sum_congr rfl fun i _ => mul_comm _ _

/-- From arguments that agree, call and reference end with equal results. -/
theorem values : Cert.algebraic_Kernel5Ideal_Reference5Ideal := by
  pair_intro
  · run_from run_values m g
  · run_from Cert.Reference5Ideal.Value.run m' g'
    exact (Cert.Reference5Ideal.Read.val_main_v3_eq _ _).trans (ref m c)

end Cert.Kernel5Ideal.Tile

end
-- ==== Proof.Ip.lean ====
module

public import proofs.«01_k».proof.Proof.Gen.Kernel6Ideal.Value
public import proofs.«01_k».proof.Proof.Gen.Reference6Ideal.Read
public import proofs.«01_k».proof.Defs
public import proofs.«01_k».proof.Proof.Blocks
public import Idealize.ShloMosaic.Lib.Claim

@[expose] public section

set_option maxRecDepth 16384

noncomputable section

/-! The input projection with the rotary positions: what the call leaves, and the reference's results over the same arguments. -/

namespace Cert.Rows

open Idealize.ShloMosaic

/-- A row turned by its position's angles: lane `n` of the columns from `b` on, from the row's projection, cosines and sines. -/
def rope (P : Fin 1792 → EReal) (C S : Fin 32 → EReal) (b n : ℕ) (h : b + n + 32 < 1792) : EReal :=
  if n / 32 % 2 = 0 then P ⟨b + n, by omega⟩ * C ⟨n % 32, by omega⟩ - P ⟨b + n + 32, h⟩ * S ⟨n % 32, by omega⟩
  else P ⟨b + n, by omega⟩ * C ⟨n % 32, by omega⟩ + P ⟨b + (n - 32), by omega⟩ * S ⟨n % 32, by omega⟩

/-- The turned row as a lane's own product plus its partner's, the partner negated in the first half of a head. -/
theorem rope_lane (P : Fin 1792 → EReal) (C S : Fin 32 → EReal) (b n : ℕ) (h : b + n + 32 < 1792) (e g : Fin 1792)
    (he : n / 32 % 2 = 0 → e.val = b + n + 32) (hg : ¬n / 32 % 2 = 0 → g.val = b + (n - 32)) :
    P ⟨b + n, by omega⟩ * C ⟨n % 32, by omega⟩ + (if n / 32 % 2 = 0 then 0 - P e else P g) * S ⟨n % 32, by omega⟩ = rope P C S b n h := by
  unfold rope
  split
  · rename_i hn
    rw [show e = ⟨b + n + 32, h⟩ from Fin.ext (he hn), zero_sub, EReal.neg_mul, ← sub_eq_add_neg]
  · rename_i hn
    rw [show g = ⟨b + (n - 32), by omega⟩ from Fin.ext (hg hn)]

/-- The turned row in halves: lane `n` of its head of 64 lanes. -/
theorem rope_half (P : Fin 1792 → EReal) (C S : Fin 32 → EReal) (b n : ℕ) (h : b + n + 32 < 1792) :
    (if h : n % 64 < 32 then P ⟨b + n, by omega⟩ * C ⟨n % 64, h⟩ - P ⟨b + (n / 64 * 64 + (32 + n % 64)), by omega⟩ * S ⟨n % 64, h⟩
     else P ⟨b + (n / 64 * 64 + (32 + (n % 64 - 32))), by omega⟩ * C ⟨n % 64 - 32, by omega⟩ + P ⟨b + (n / 64 * 64 + (n % 64 - 32)), by omega⟩ * S ⟨n % 64 - 32, by omega⟩)
      = rope P C S b n h := by
  unfold rope
  split
  · rename_i hn
    rw [if_pos (by omega)]
    refine congrArg₂ (· - ·) (congrArg₂ (· * ·) rfl (congrArg C (Fin.ext ?_))) (congrArg₂ (· * ·) (congrArg P (Fin.ext ?_)) (congrArg S (Fin.ext ?_))) <;> simp only <;> omega
  · rename_i hn
    rw [if_neg (by omega)]
    refine congrArg₂ (· + ·) (congrArg₂ (· * ·) (congrArg P (Fin.ext ?_)) (congrArg C (Fin.ext ?_))) (congrArg₂ (· * ·) (congrArg P (Fin.ext ?_)) (congrArg S (Fin.ext ?_))) <;> simp only <;> omega

end Cert.Rows

namespace Cert.Reference6Ideal.Stage

open Cert.Reference6Ideal Cert.Reference6Ideal.Gen Cert.Reference6Ideal.Read Idealize.ShloMosaic Idealize.ShloMosaic.TcCoe Idealize.ShloMosaic.Tactic

variable (A0 : FVec Ideal S4096x1024 .f32) (A1 : FVec Ideal S1024x1792 .f32) (A2 : IVec S4096 32)

/-- A token's projection. -/
def proj (i : Fin 4096) (n : Fin 1792) : EReal := ∑ d : Fin 1024, A0 (ix2 i d) * A1 (ix2 d n)
/-- A token's cosines. -/
def cosr (i : Fin 4096) (j : Fin 32) : EReal := val_main_v23 (F := Ideal) A2 (ix2 i j)
/-- A token's sines. -/
def sinr (i : Fin 4096) (j : Fin 32) : EReal := val_main_v25 (F := Ideal) A2 (ix2 i j)

/-- The first columns of the projection. -/
theorem u_at (i : Fin 4096) (n : Fin 512) : val_main_v1 (F := Ideal) A0 A1 (ix2 i n) = proj A0 A1 i ⟨n.val, by omega⟩ := by
  pointwise [val_main_v1, val_main_v0, proj]
/-- The gate's columns of the projection. -/
theorem vg_at (i : Fin 4096) (n : Fin 512) : val_main_v2 (F := Ideal) A0 A1 (ix2 i n) = proj A0 A1 i ⟨512 + n.val, by omega⟩ := by
  pointwise [val_main_v2, val_main_v0, proj]
/-- The values' columns of the projection. -/
theorem va_at (i : Fin 4096) (n : Fin 128) : val_main_v78 (F := Ideal) A0 A1 (ix2 i n) = proj A0 A1 i ⟨1664 + n.val, by omega⟩ := by
  pointwise [val_main_v78, val_main_v5, val_main_v0, proj]
/-- The turned queries. -/
theorem q_at (i : Fin 4096) (n : Fin 512) : val_main_v76 (F := Ideal) A0 A1 A2 (ix2 i n)
    = Rows.rope (proj A0 A1 i) (cosr A2 i) (sinr A2 i) 1024 n.val (by omega) := by
  refine Eq.trans ?_ (Rows.rope_half (proj A0 A1 i) (cosr A2 i) (sinr A2 i) 1024 n.val (by omega))
  pointwise [val_main_v76, val_main_v40, val_main_v39, val_main_v38, val_main_v37, val_main_v36, val_main_v35, val_main_v34, val_main_v33, val_main_v32, val_main_v31,
    val_main_v30, val_main_v29, val_main_v28, val_main_v27, val_main_v26, val_main_v24, val_main_v6, val_main_v3, val_main_v0, proj, cosr, sinr]
/-- The turned keys. -/
theorem k_at (i : Fin 4096) (n : Fin 128) : val_main_v77 (F := Ideal) A0 A1 A2 (ix2 i n)
    = Rows.rope (proj A0 A1 i) (cosr A2 i) (sinr A2 i) 1536 n.val (by omega) := by
  refine Eq.trans ?_ (Rows.rope_half (proj A0 A1 i) (cosr A2 i) (sinr A2 i) 1536 n.val (by omega))
  have hc : val_main_v58 (F := Ideal) A2 = val_main_v23 A2 := rfl
  have hs : val_main_v60 (F := Ideal) A2 = val_main_v25 A2 := rfl
  pointwise [val_main_v77, val_main_v75, val_main_v74, val_main_v73, val_main_v72, val_main_v71, val_main_v70, val_main_v69, val_main_v68, val_main_v67, val_main_v66,
    val_main_v65, val_main_v64, val_main_v63, val_main_v62, val_main_v61, val_main_v59, val_main_v41, val_main_v4, val_main_v0, proj, cosr, sinr, hc, hs]

/-- Every execution of the reference ends with its results at its stages and the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = val_main_v1 (F := Ideal) (m ((c.tc : Thread nD τ).loc main_arg0)) (m ((c.tc : Thread nD τ).loc main_arg1))
      ∧ r.2.mem ((c.tc : Thread nD τ).loc main_v2) = val_main_v2 (F := Ideal) (m ((c.tc : Thread nD τ).loc main_arg0)) (m ((c.tc : Thread nD τ).loc main_arg1))
      ∧ r.2.mem ((c.tc : Thread nD τ).loc main_v76) = val_main_v76 (F := Ideal) (m ((c.tc : Thread nD τ).loc main_arg0)) (m ((c.tc : Thread nD τ).loc main_arg1)) (m ((c.tc : Thread nD τ).loc main_arg2))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2))
      ∧ r.2.mem ((c.tc : Thread nD τ).loc main_v78) = val_main_v78 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c =>
    have ⟨h1, h2, h3, h4, h5, ha⟩ := h c
    ⟨h1.trans (val_main_v1_eq _ _), h2.trans (val_main_v2_eq _ _),
      h3.trans (val_main_v76_eq m c), h4.trans (val_main_v77_eq m c), h5.trans (val_main_v78_eq _ _), ha⟩)
    (Value.run m ρ)

end Cert.Reference6Ideal.Stage

namespace Cert.Kernel6Ideal.Tile

open Idealize.ShloMosaic Idealize.ShloMosaic.TcCoe Idealize.ShloMosaic.Tactic
open Idealize.ShloMosaic.Pipeline (Dat)
open Idealize.SL.Sem
open Cert.Kernel6Ideal Cert.Kernel6Ideal.Gen
open Cert.Reference6Ideal.Stage (proj cosr sinr)

/-- The test for the first half of a head's lanes. -/
theorem mask_eq : ∀ n : Fin 512, IntOp.cmpi CmpIPredicate.eq (IntOp.andi (BitVec.ofNat 32 n.val) 32#32) 0#32 = if n.val / 32 % 2 = 0 then 1#1 else 0#1 := by decide +kernel

/-- A choice by a test's bit is the choice by the test. -/
theorem select_if (p : Prop) [Decidable p] (x y : EReal) : Scalar.select (if p then 1#1 else 0#1) x y = if p then x else y := by
  split <;> rfl

/-- The queries' turn read at one entry. -/
theorem pay1_at (p w z : FVec Ideal S1024x512 .f32) (s : Fin 1024) (n : Fin 512) : k0_pay1 (F := Ideal) p w z (iota .tc S1024x512 32 [1] iota_S1024x512_d1_w32) (ix2 s n)
    = z (ix2 s n) + (if n.val / 32 % 2 = 0 then 0 - p (ix2 s ⟨(n.val + 512 - 480) % 512, by omega⟩) else p (ix2 s ⟨(n.val + 512 - 32) % 512, by omega⟩)) * w (ix2 s n) := by
  pointwise [k0_pay1]
  rw [mask_eq n, select_if]
/-- The keys' turn read at one entry. -/
theorem pay2_at (p x y : FVec Ideal S1024x128 .f32) (s : Fin 1024) (n : Fin 128) : k0_pay2 (F := Ideal) p x y (ix2 s n)
    = p (ix2 s n) * x (ix2 s n) + (if n.val / 32 % 2 = 0 then 0 - p (ix2 s ⟨(n.val + 128 - 96) % 128, by omega⟩) else p (ix2 s ⟨(n.val + 128 - 32) % 128, by omega⟩)) * y (ix2 s n) := by
  pointwise [k0_pay2]
  rw [mask_eq ⟨n.val, by omega⟩, select_if]
/-- Four copies of a table side by side, read at one entry. -/
theorem wide_at (x : FVec Ideal S1024x128 .f32) (s : Fin 1024) (n : Fin 512) : k0_pay11 (F := Ideal) (View.ld x r0_7) (ix2 s n) = x (ix2 s ⟨n.val % 128, by omega⟩) := by
  pointwise [k0_pay11, k0_pay10]
  split_ifs <;> refine congrArg (fun k => x (ix2 s k)) (Fin.ext ?_) <;> simp only <;> omega

/-- A tile's projection. -/
def projt (x0 : FVec Ideal S1024x1024 .f32) (x1 : FVec Ideal S1792x1024 .bf16) (s : Fin 1024) (n : Fin 1792) : EReal := ∑ d : Fin 1024, x0 (ix2 s d) * x1 (ix2 n d)

variable (x0 : FVec Ideal S1024x1024 .f32) (x1 : FVec Ideal S1792x1024 .bf16) (x2 x3 : FVec Ideal S1024x128 .f32) (s : Fin 1024)

/-- The first columns that a grid point leaves. -/
theorem out4 (n : Fin 512) : (show FVec Ideal S1024x512 .f32 from out0_4 (F := Ideal) x0 x1 x2 x3) (ix2 s n) = projt x0 x1 s ⟨n.val, by omega⟩ := by
  unfold out0_4
  refine (Blocks.canon_hit 0 _ _ _ s s n (Nat.zero_add _).symm).trans ?_
  pointwise [k0_pay4, k0_pay3, projt]
/-- The gate's columns that a grid point leaves. -/
theorem out5 (n : Fin 512) : (show FVec Ideal S1024x512 .f32 from out0_5 (F := Ideal) x0 x1 x2 x3) (ix2 s n) = projt x0 x1 s ⟨512 + n.val, by omega⟩ := by
  unfold out0_5
  refine (Blocks.canon_hit 0 _ _ _ s s n (Nat.zero_add _).symm).trans ?_
  pointwise [k0_pay5, k0_pay3, projt]
/-- The values' columns that a grid point leaves. -/
theorem out8 (n : Fin 128) : (show FVec Ideal S1024x128 .bf16 from out0_8 (F := Ideal) x0 x1 x2 x3) (ix2 s n) = projt x0 x1 s ⟨1664 + n.val, by omega⟩ := by
  unfold out0_8
  refine (Blocks.canon_hit 0 _ _ _ s s n (Nat.zero_add _).symm).trans ?_
  pointwise [k0_pay8, k0_pay3, projt]
/-- The queries' product of a tile. -/
theorem pay6_at (n : Fin 512) : k0_pay6 (F := Ideal) (View.ld x0 r0_0) (View.ld x1 r0_4) (ix2 s n) = projt x0 x1 s ⟨1024 + n.val, by omega⟩ := by
  pointwise [k0_pay6, k0_pay3, projt]
/-- The keys' product of a tile. -/
theorem pay7_at (n : Fin 128) : k0_pay7 (F := Ideal) (View.ld x0 r0_0) (View.ld x1 r0_5) (ix2 s n) = projt x0 x1 s ⟨1536 + n.val, by omega⟩ := by
  pointwise [k0_pay7, k0_pay3, projt]

variable (C S : Fin 32 → EReal) (hC : ∀ l : Fin 128, x2 (ix2 s l) = C ⟨l.val % 32, by omega⟩) (hS : ∀ l : Fin 128, x3 (ix2 s l) = S ⟨l.val % 32, by omega⟩)

include hC hS in
/-- The queries that a grid point leaves, its tables being the angles' in four copies. -/
theorem out6 (n : Fin 512) : (show FVec Ideal S1024x512 .bf16 from out0_6 (F := Ideal) x0 x1 x2 x3) (ix2 s n) = Rows.rope (projt x0 x1 s) C S 1024 n.val (by omega) := by
  unfold out0_6
  refine (Blocks.canon_hit 0 _ _ _ s s n (Nat.zero_add _).symm).trans ?_
  have h12 : k0_pay12 (F := Ideal) (View.ld x0 r0_0) (View.ld x1 r0_4) (View.ld x2 r0_7) (ix2 s n)
      = k0_pay6 (F := Ideal) (View.ld x0 r0_0) (View.ld x1 r0_4) (ix2 s n) * k0_pay11 (F := Ideal) (View.ld x2 r0_7) (ix2 s n) := rfl
  have hc : x2 (ix2 s ⟨n.val % 128, by omega⟩) = C ⟨n.val % 32, by omega⟩ := (hC _).trans (congrArg C (Fin.ext (by simp only; omega)))
  have hs : x3 (ix2 s ⟨n.val % 128, by omega⟩) = S ⟨n.val % 32, by omega⟩ := (hS _).trans (congrArg S (Fin.ext (by simp only; omega)))
  refine (pay1_at _ _ _ s n).trans ?_
  rw [h12, wide_at, wide_at, pay6_at, pay6_at, pay6_at, hc, hs]
  exact Rows.rope_lane (projt x0 x1 s) C S 1024 n.val (by omega) _ _ (fun h => by simp only; omega) (fun h => by simp only; omega)

include hC hS in
/-- The keys that a grid point leaves, its tables being the angles' in four copies. -/
theorem out7 (n : Fin 128) : (show FVec Ideal S1024x128 .bf16 from out0_7 (F := Ideal) x0 x1 x2 x3) (ix2 s n) = Rows.rope (projt x0 x1 s) C S 1536 n.val (by omega) := by
  unfold out0_7
  refine (Blocks.canon_hit 0 _ _ _ s s n (Nat.zero_add _).symm).trans ?_
  have hc : k0_pay9 (F := Ideal) (View.ld x2 r0_7) (ix2 s n) = C ⟨n.val % 32, by omega⟩ :=
    (show _ = x2 (ix2 s n) by pointwise [k0_pay9]).trans (hC _)
  have hs : k0_pay10 (F := Ideal) (View.ld x3 r0_7) (ix2 s n) = S ⟨n.val % 32, by omega⟩ :=
    (show _ = x3 (ix2 s n) by pointwise [k0_pay10]).trans (hS _)
  refine (pay2_at _ _ _ s n).trans ?_
  rw [pay7_at, pay7_at, pay7_at, hc, hs]
  exact Rows.rope_lane (projt x0 x1 s) C S 1536 n.val (by omega) _ _ (fun h => by simp only; omega) (fun h => by simp only; omega)

variable (m : (ℓ : Loc nD τ sig) → Buf (Elt Ideal) ℓ)

/-- The block's input. -/
abbrev X (c : Dev nD) : FVec Ideal S4096x1024 .f32 := m ((c.tc : Thread nD τ).loc main_arg0)
/-- The input projection. -/
abbrev W (c : Dev nD) : FVec Ideal S1024x1792 .f32 := m ((c.tc : Thread nD τ).loc main_arg1)
/-- The positions. -/
abbrev Q (c : Dev nD) : IVec S4096 32 := m ((c.tc : Thread nD τ).loc main_arg2)

/-- Four copies of a table, side by side. -/
abbrev four (x : FVec Ideal S4096x32 .f32) : FVec Ideal S4096x128 .f32 :=
  concatenate S4096x128 1 [⟨S4096x32, x⟩, ⟨S4096x32, x⟩, ⟨S4096x32, x⟩, ⟨S4096x32, x⟩] concatenates_S4096x32_S4096x32_S4096x32_S4096x32_S4096x128_d1

/-- Four copies of a table, read at one entry. -/
theorem four_at (x : FVec Ideal S4096x32 .f32) (i : Fin 4096) (l : Fin 128) : four x (ix2 i l) = x (ix2 i ⟨l.val % 32, by omega⟩) := by
  pointwise
  split_ifs <;> refine congrArg (fun k => x (ix2 i k)) (Fin.ext ?_) <;> simp only <;> omega

/-- The last operations before the call leave the angles and make the two tables of them. -/
theorem tail_read (σ : Valuation τ sig (Elt Ideal)) :
    (StableHlo.after (hostOps0.drop 20) σ (Proc.devRef .tc main_v15) = σ (Proc.devRef .tc main_v15))
    ∧ (StableHlo.after (hostOps0.drop 20) σ (Proc.devRef .tc main_v17) = four (Host.cos (σ (Proc.devRef .tc main_v15))))
    ∧ (StableHlo.after (hostOps0.drop 20) σ (Proc.devRef .tc main_v19) = four (Host.sin (σ (Proc.devRef .tc main_v15)))) := by
  refine ⟨?_, ?_, ?_⟩ <;> show StableHlo.after [_, _, _, _, _, _] σ _ = _ <;> after_results_simp <;> rfl

set_option maxHeartbeats 4000000 in
set_option maxRecDepth 200000 in
/-- The angles before the call are the reference's. -/
theorem entry_angles (c : Dev nD) : V m c main_v15 = Cert.Reference6Ideal.Read.val_main_v22 (F := Ideal) (Q m c) := by
  entry_read
  rfl

/-- The table of cosines as the call reads it. -/
theorem entry_cos (c : Dev nD) (i : Fin 4096) (l : Fin 128) : V m c main_v17 (ix2 i l) = cosr (Q m c) i ⟨l.val % 32, by omega⟩ := by
  obtain ⟨h15, h17, -⟩ := tail_read (StableHlo.after (hostOps0.take 20) fun b => m (c, b))
  have e : V m c main_v17 = four (Host.cos (V m c main_v15)) := h17.trans (congrArg (fun x => four (Host.cos x)) h15.symm)
  rw [e, entry_angles]
  exact four_at _ i l
/-- The table of sines as the call reads it. -/
theorem entry_sin (c : Dev nD) (i : Fin 4096) (l : Fin 128) : V m c main_v19 (ix2 i l) = sinr (Q m c) i ⟨l.val % 32, by omega⟩ := by
  obtain ⟨h15, -, h19⟩ := tail_read (StableHlo.after (hostOps0.take 20) fun b => m (c, b))
  have e : V m c main_v19 = four (Host.sin (V m c main_v15)) := h19.trans (congrArg (fun x => four (Host.sin x)) h15.symm)
  rw [e, entry_angles]
  exact four_at _ i l
set_option maxHeartbeats 4000000 in
set_option maxRecDepth 200000 in
/-- The input projection as the call reads it. -/
theorem entry_w (c : Dev nD) (k : Fin 1792) (d : Fin 1024) : V m c main_v21 (ix2 k d) = W m c (ix2 d k) := by
  entry_read
  pointwise

/-- Where the windows' blocks lie. -/
theorem idx : ∀ t : Fin cfg0.N, win0_0.index t = ![t.val, 0] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] ∧ t.val < 4 := (by decide +kernel : ∀ t : Fin grid0.N, _)

/-- The token at position `s` of grid point `t`'s tile. -/
def tok (t : Fin cfg0.N) (s : Fin 1024) : Fin 4096 := ⟨t.val * 1024 + s.val, by have := (idx t).2.2.2.2.2.2.2.2.2; omega⟩

/-- Input 0's block at a grid point, read at one entry. -/
theorem block0 (c : Dev nD) (t : Fin cfg0.N) (s d : Fin 1024) : (show FVec Ideal S1024x1024 .f32 from iblk m c 0 t) (ix2 s d) = V m c main_arg0 (ix2 (tok t s) d) := by
  unfold tok; blk_ext [iblk, idx t]
/-- Input 1's block at a grid point, read at one entry. -/
theorem block1 (c : Dev nD) (t : Fin cfg0.N) (k : Fin 1792) (d : Fin 1024) : (show FVec Ideal S1792x1024 .bf16 from iblk m c 1 t) (ix2 k d) = V m c main_v21 (ix2 k d) := by
  blk_ext [iblk, idx t]
/-- Input 2's block at a grid point, read at one entry. -/
theorem block2 (c : Dev nD) (t : Fin cfg0.N) (s : Fin 1024) (l : Fin 128) : (show FVec Ideal S1024x128 .f32 from iblk m c 2 t) (ix2 s l) = V m c main_v17 (ix2 (tok t s) l) := by
  unfold tok; blk_ext [iblk, idx t]
/-- Input 3's block at a grid point, read at one entry. -/
theorem block3 (c : Dev nD) (t : Fin cfg0.N) (s : Fin 1024) (l : Fin 128) : (show FVec Ideal S1024x128 .f32 from iblk m c 3 t) (ix2 s l) = V m c main_v19 (ix2 (tok t s) l) := by
  unfold tok; blk_ext [iblk, idx t]

/-- A grid point's projection is its tokens'. -/
theorem projt_eq (c : Dev nD) (t : Fin cfg0.N) (s : Fin 1024) : projt (iblk m c 0 t) (iblk m c 1 t) s = proj (X m c) (W m c) (tok t s) :=
  funext fun n => Finset.sum_congr rfl fun d _ =>
    congrArg₂ (· * ·) ((block0 m c t s d).trans (congrFun (V_main_arg0 m c) _)) ((block1 m c t n d).trans (entry_w m c n d))

/-- The first result after the whole grid. -/
theorem final4 (c : Dev nD) : (dats m 0 c).arrAt 4 cfg0.N = Cert.Reference6Ideal.Read.val_main_v1 (F := Ideal) (X m c) (W m c) := by
  refine (dats m 0 c).arrAt_eq_of_covers 4 _ (by decide +kernel) fun t hf y => ?_
  blk_simp
  rw [after0_4]
  obtain ⟨s, n, rfl⟩ : ∃ (s : Fin 1024) (n : Fin 512), y = ix2 s n := ⟨y 0, y 1, by blk_ext []⟩
  refine ((out4 (iblk m c 0 t) (iblk m c 1 t) (iblk m c 2 t) (iblk m c 3 t) s n).trans (congrFun (projt_eq m c t s) _)).trans ?_
  refine (Cert.Reference6Ideal.Stage.u_at (X m c) (W m c) (tok t s) n).symm.trans (congrArg (Cert.Reference6Ideal.Read.val_main_v1 (F := Ideal) (X m c) (W m c)) ?_)
  unfold tok; blk_ext [idx t]
/-- The second result after the whole grid. -/
theorem final5 (c : Dev nD) : (dats m 0 c).arrAt 5 cfg0.N = Cert.Reference6Ideal.Read.val_main_v2 (F := Ideal) (X m c) (W m c) := by
  refine (dats m 0 c).arrAt_eq_of_covers 5 _ (by decide +kernel) fun t hf y => ?_
  blk_simp
  rw [after0_5]
  obtain ⟨s, n, rfl⟩ : ∃ (s : Fin 1024) (n : Fin 512), y = ix2 s n := ⟨y 0, y 1, by blk_ext []⟩
  refine ((out5 (iblk m c 0 t) (iblk m c 1 t) (iblk m c 2 t) (iblk m c 3 t) s n).trans (congrFun (projt_eq m c t s) _)).trans ?_
  refine (Cert.Reference6Ideal.Stage.vg_at (X m c) (W m c) (tok t s) n).symm.trans (congrArg (Cert.Reference6Ideal.Read.val_main_v2 (F := Ideal) (X m c) (W m c)) ?_)
  unfold tok; blk_ext [idx t]
/-- The fifth result after the whole grid. -/
theorem final8 (c : Dev nD) : (dats m 0 c).arrAt 8 cfg0.N = Cert.Reference6Ideal.Read.val_main_v78 (F := Ideal) (X m c) (W m c) := by
  refine (dats m 0 c).arrAt_eq_of_covers 8 _ (by decide +kernel) fun t hf y => ?_
  blk_simp
  rw [after0_8]
  obtain ⟨s, n, rfl⟩ : ∃ (s : Fin 1024) (n : Fin 128), y = ix2 s n := ⟨y 0, y 1, by blk_ext []⟩
  refine ((out8 (iblk m c 0 t) (iblk m c 1 t) (iblk m c 2 t) (iblk m c 3 t) s n).trans (congrFun (projt_eq m c t s) _)).trans ?_
  refine (Cert.Reference6Ideal.Stage.va_at (X m c) (W m c) (tok t s) n).symm.trans (congrArg (Cert.Reference6Ideal.Read.val_main_v78 (F := Ideal) (X m c) (W m c)) ?_)
  unfold tok; blk_ext [idx t]
/-- The third result after the whole grid. -/
theorem final6 (c : Dev nD) : (dats m 0 c).arrAt 6 cfg0.N = Cert.Reference6Ideal.Read.val_main_v76 (F := Ideal) (X m c) (W m c) (Q m c) := by
  refine (dats m 0 c).arrAt_eq_of_covers 6 _ (by decide +kernel) fun t hf y => ?_
  blk_simp
  rw [after0_6]
  obtain ⟨s, n, rfl⟩ : ∃ (s : Fin 1024) (n : Fin 512), y = ix2 s n := ⟨y 0, y 1, by blk_ext []⟩
  refine (out6 (iblk m c 0 t) (iblk m c 1 t) (iblk m c 2 t) (iblk m c 3 t) s (cosr (Q m c) (tok t s)) (sinr (Q m c) (tok t s))
    (fun l => (block2 m c t s l).trans (entry_cos m c _ l)) (fun l => (block3 m c t s l).trans (entry_sin m c _ l)) n).trans ?_
  rw [projt_eq]
  refine (Cert.Reference6Ideal.Stage.q_at (X m c) (W m c) (Q m c) (tok t s) n).symm.trans (congrArg (Cert.Reference6Ideal.Read.val_main_v76 (F := Ideal) (X m c) (W m c) (Q m c)) ?_)
  unfold tok; blk_ext [idx t]
/-- The fourth result after the whole grid. -/
theorem final7 (c : Dev nD) : (dats m 0 c).arrAt 7 cfg0.N = Cert.Reference6Ideal.Read.val_main_v77 (F := Ideal) (X m c) (W m c) (Q m c) := by
  refine (dats m 0 c).arrAt_eq_of_covers 7 _ (by decide +kernel) fun t hf y => ?_
  blk_simp
  rw [after0_7]
  obtain ⟨s, n, rfl⟩ : ∃ (s : Fin 1024) (n : Fin 128), y = ix2 s n := ⟨y 0, y 1, by blk_ext []⟩
  refine (out7 (iblk m c 0 t) (iblk m c 1 t) (iblk m c 2 t) (iblk m c 3 t) s (cosr (Q m c) (tok t s)) (sinr (Q m c) (tok t s))
    (fun l => (block2 m c t s l).trans (entry_cos m c _ l)) (fun l => (block3 m c t s l).trans (entry_sin m c _ l)) n).trans ?_
  rw [projt_eq]
  refine (Cert.Reference6Ideal.Stage.k_at (X m c) (W m c) (Q m c) (tok t s) n).symm.trans (congrArg (Cert.Reference6Ideal.Read.val_main_v77 (F := Ideal) (X m c) (W m c) (Q m c)) ?_)
  unfold tok; blk_ext [idx t]

/-- Every execution of the call ends with its results at the reference's stages and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v22_0) = Cert.Reference6Ideal.Read.val_main_v1 (F := Ideal) (X m c) (W m c)
      ∧ r.2.mem ((c.tc : Thread nD τ).loc main_v22_1) = Cert.Reference6Ideal.Read.val_main_v2 (F := Ideal) (X m c) (W m c)
      ∧ r.2.mem ((c.tc : Thread nD τ).loc main_v22_2) = Cert.Reference6Ideal.Read.val_main_v76 (F := Ideal) (X m c) (W m c) (Q m c)
      ∧ r.2.mem ((c.tc : Thread nD τ).loc main_v22_3) = Cert.Reference6Ideal.Read.val_main_v77 (F := Ideal) (X m c) (W m c) (Q m c)
      ∧ r.2.mem ((c.tc : Thread nD τ).loc main_v22_4) = Cert.Reference6Ideal.Read.val_main_v78 (F := Ideal) (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    have ⟨h4, h5, h6, h7, h8, ha⟩ := h c
    ⟨h4.trans (final4 m c), h5.trans (final5 m c), h6.trans (final6 m c), h7.trans (final7 m c), h8.trans (final8 m c), ha⟩) (Value.run_blocks m ρ)

attribute [local irreducible] Cert.Reference6Ideal.Read.val_main_v1 Cert.Reference6Ideal.Read.val_main_v2 Cert.Reference6Ideal.Read.val_main_v76 Cert.Reference6Ideal.Read.val_main_v77 Cert.Reference6Ideal.Read.val_main_v78 in
/-- From arguments that agree, call and reference end with equal results. -/
theorem values : Cert.algebraic_Kernel6Ideal_Reference6Ideal := by
  pair_intro
  · run_from run_values m g
  · run_from Cert.Reference6Ideal.Stage.run_ref m' g'

end Cert.Kernel6Ideal.Tile

end
-- ==== Proof.Adam.lean ====
module

public import Idealize.ShloMosaic.Lib.Pointwise

@[expose] public section

noncomputable section

/-! The optimiser's step of one weight, as the arithmetic of four numbers. -/

namespace Cert.Adam

open Idealize.ShloMosaic

/-- A constant of the optimiser, from its word. -/
abbrev k (b : BitVec 32) : EReal := Ideal.ofBits FTy.f32 b
/-- The new first moment. -/
def mom (g m : EReal) : EReal := k 0x3F666666#32 * m + k 0x3DCCCCCD#32 * g
/-- The new second moment. -/
def sec (g v : EReal) : EReal := k 0x3F7FBE77#32 * v + k 0x3A83126F#32 * (g * g)
/-- The weight's change. -/
def delta (w g m v : EReal) : EReal :=
  k 0xBA83126F#32 * (Ideal.div (Ideal.div (mom g m) (k 0x3F26BD02#32)) (Ideal.sqrt (Ideal.div (sec g v) (k 0x3C231ACC#32)) + k 0x322BCC77#32)
    + k 0x3C23D70A#32 * w)

end Cert.Adam

end
-- ==== Proof.Ad.lean ====
module

public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Defs
public import proofs.«01_k».proof.Proof.Adam
public import proofs.«01_k».proof.Proof.Blocks
public import Idealize.ShloMosaic.Lib.Claim

@[expose] public section

set_option maxRecDepth 16384

noncomputable section

/-! The optimiser's steps: what each call leaves in its four results, and the reference's results over the same arguments. -/

open Idealize.ShloMosaic Idealize.ShloMosaic.TcCoe Idealize.ShloMosaic.Tactic Idealize.SL.Sem
open Idealize.ShloMosaic.Pipeline (Dat)

/-! ## A chip's shard of `w_ff1` -/

namespace Cert.Kernel7Ideal.Tile

open Cert.Kernel7Ideal Cert.Kernel7Ideal.Gen

variable (m : (ℓ : Loc nD τ sig) → Buf (Elt Ideal) ℓ) (c : Dev nD)

/-- The weight. -/
abbrev W : FVec Ideal S1024x1024 .f32 := m ((c.tc : Thread nD τ).loc main_arg0)
/-- The gradient. -/
abbrev G : FVec Ideal S1024x1024 .f32 := m ((c.tc : Thread nD τ).loc main_arg1)
/-- The first moment. -/
abbrev M : FVec Ideal S1024x1024 .f32 := m ((c.tc : Thread nD τ).loc main_arg2)
/-- The second moment. -/
abbrev U : FVec Ideal S1024x1024 .f32 := m ((c.tc : Thread nD τ).loc main_arg3)
/-- The gradient handed on. -/
def A0 : FVec Ideal S1024x1024 .f32 := fun y => G m c y
/-- The weight's change. -/
def A1 : FVec Ideal S1024x1024 .f32 := fun y => Adam.delta (W m c y) (G m c y) (M m c y) (U m c y)
/-- The new first moment. -/
def A2 : FVec Ideal S1024x1024 .f32 := fun y => Adam.mom (G m c y) (M m c y)
/-- The new second moment. -/
def A3 : FVec Ideal S1024x1024 .f32 := fun y => Adam.sec (G m c y) (U m c y)

/-- Where the windows' blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ t.val < 2 := (by decide +kernel : ∀ t : Fin grid0.N, _)

/-- The row at position `s` of grid point `t`'s tile. -/
def row (t : Fin cfg0.N) (s : Fin 512) : Fin 1024 := ⟨t.val * 512 + s.val, by have := (idx t).2.2.2.2.2.2.2.2; omega⟩

/-- The inputs' blocks at a grid point, read at one entry. -/
theorem blocks (t : Fin cfg0.N) (s : Fin 512) (d : Fin 1024) :
    (show FVec Ideal S512x1024 .f32 from iblk m c 0 t) (ix2 s d) = W m c (ix2 (row t s) d) ∧ (show FVec Ideal S512x1024 .f32 from iblk m c 1 t) (ix2 s d) = G m c (ix2 (row t s) d)
    ∧ (show FVec Ideal S512x1024 .f32 from iblk m c 2 t) (ix2 s d) = M m c (ix2 (row t s) d) ∧ (show FVec Ideal S512x1024 .f32 from iblk m c 3 t) (ix2 s d) = U m c (ix2 (row t s) d) := by
  have h0 : (show FVec Ideal S512x1024 .f32 from iblk m c 0 t) (ix2 s d) = V m c main_arg0 (ix2 (row t s) d) := by unfold row; blk_ext [iblk, idx t]
  have h1 : (show FVec Ideal S512x1024 .f32 from iblk m c 1 t) (ix2 s d) = V m c main_arg1 (ix2 (row t s) d) := by unfold row; blk_ext [iblk, idx t]
  have h2 : (show FVec Ideal S512x1024 .f32 from iblk m c 2 t) (ix2 s d) = V m c main_arg2 (ix2 (row t s) d) := by unfold row; blk_ext [iblk, idx t]
  have h3 : (show FVec Ideal S512x1024 .f32 from iblk m c 3 t) (ix2 s d) = V m c main_arg3 (ix2 (row t s) d) := by unfold row; blk_ext [iblk, idx t]
  exact ⟨h0.trans (congrFun (V_main_arg0 m c) _), h1.trans (congrFun (V_main_arg1 m c) _), h2.trans (congrFun (V_main_arg2 m c) _), h3.trans (congrFun (V_main_arg3 m c) _)⟩

/-- What a grid point leaves in the outputs, at one entry. -/
theorem outs (x0 x1 x2 x3 : FVec Ideal S512x1024 .f32) (s : Fin 512) (d : Fin 1024) :
    (show FVec Ideal S512x1024 .f32 from out0_4 (F := Ideal) x0 x1 x2 x3) (ix2 s d) = x1 (ix2 s d)
    ∧ (show FVec Ideal S512x1024 .f32 from out0_5 (F := Ideal) x0 x1 x2 x3) (ix2 s d) = Adam.delta (x0 (ix2 s d)) (x1 (ix2 s d)) (x2 (ix2 s d)) (x3 (ix2 s d))
    ∧ (show FVec Ideal S512x1024 .f32 from out0_6 (F := Ideal) x0 x1 x2 x3) (ix2 s d) = Adam.mom (x1 (ix2 s d)) (x2 (ix2 s d))
    ∧ (show FVec Ideal S512x1024 .f32 from out0_7 (F := Ideal) x0 x1 x2 x3) (ix2 s d) = Adam.sec (x1 (ix2 s d)) (x3 (ix2 s d)) := by
  refine ⟨?_, ?_, ?_, ?_⟩ <;> refine (Blocks.canon_hit 0 _ _ _ s s d (Nat.zero_add _).symm).trans ?_
  all_goals pointwise [k0_pay1, k0_pay2, k0_pay3, Adam.delta, Adam.mom, Adam.sec]

set_option maxHeartbeats 2000000 in
/-- The results after the whole grid. -/
theorem finals : (dats m 0 c).arrAt 4 cfg0.N = A0 m c ∧ (dats m 0 c).arrAt 5 cfg0.N = A1 m c ∧ (dats m 0 c).arrAt 6 cfg0.N = A2 m c ∧ (dats m 0 c).arrAt 7 cfg0.N = A3 m c := by
  have h (t s d) := outs (iblk m c 0 t) (iblk m c 1 t) (iblk m c 2 t) (iblk m c 3 t) s d
  refine ⟨?_, ?_, ?_, ?_⟩ <;> refine (dats m 0 c).arrAt_eq_of_covers _ _ (by decide +kernel) fun t hf y => ?_
  all_goals
    blk_simp
    obtain ⟨s, d, rfl⟩ : ∃ (s : Fin 512) (d : Fin 1024), y = ix2 s d := ⟨y 0, y 1, by blk_ext []⟩
    obtain ⟨b0, b1, b2, b3⟩ := blocks m c t s d
  · rw [after0_4]; refine ((h t s d).1.trans b1).trans (congrArg (A0 m c) (?_ : ix2 (row t s) d = _)); unfold row; blk_ext [idx t]
  · rw [after0_5]; refine ((h t s d).2.1.trans (congr (congr (congr (congrArg Adam.delta b0) b1) b2) b3)).trans (congrArg (A1 m c) (?_ : ix2 (row t s) d = _)); unfold row; blk_ext [idx t]
  · rw [after0_6]; refine ((h t s d).2.2.1.trans (congrArg₂ Adam.mom b1 b2)).trans (congrArg (A2 m c) (?_ : ix2 (row t s) d = _)); unfold row; blk_ext [idx t]
  · rw [after0_7]; refine ((h t s d).2.2.2.trans (congrArg₂ Adam.sec b1 b3)).trans (congrArg (A3 m c) (?_ : ix2 (row t s) d = _)); unfold row; blk_ext [idx t]

/-- From arguments that agree, call and reference end with equal results. -/
theorem values : Cert.algebraic_Kernel7Ideal_Reference7Ideal := by
  pair_intro
  · run_from Value.run_blocks m g
  · run_from Cert.Reference7Ideal.Value.run m' g'
    all_goals
      first | rw [(finals m c).1] | rw [(finals m c).2.1] | rw [(finals m c).2.2.1] | rw [(finals m c).2.2.2]
      funext y
      obtain ⟨i, d, rfl⟩ : ∃ (i : Fin 1024) (d : Fin 1024), y = ix2 i d := ⟨y 0, y 1, by blk_ext []⟩
      pointwise [A0, A1, A2, A3, Adam.delta, Adam.mom, Adam.sec]

end Cert.Kernel7Ideal.Tile

/-! ## A chip's shard of `w_ff2` -/

namespace Cert.Kernel8Ideal.Tile

open Cert.Kernel8Ideal Cert.Kernel8Ideal.Gen

variable (m : (ℓ : Loc nD τ sig) → Buf (Elt Ideal) ℓ) (c : Dev nD)

/-- The weight. -/
abbrev W : FVec Ideal S1024x1024 .f32 := m ((c.tc : Thread nD τ).loc main_arg0)
/-- The gradient. -/
abbrev G : FVec Ideal S1024x1024 .f32 := m ((c.tc : Thread nD τ).loc main_arg1)
/-- The first moment. -/
abbrev M : FVec Ideal S1024x1024 .f32 := m ((c.tc : Thread nD τ).loc main_arg2)
/-- The second moment. -/
abbrev U : FVec Ideal S1024x1024 .f32 := m ((c.tc : Thread nD τ).loc main_arg3)
/-- The gradient handed on. -/
def A0 : FVec Ideal S1024x1024 .f32 := fun y => G m c y
/-- The weight's change. -/
def A1 : FVec Ideal S1024x1024 .f32 := fun y => Adam.delta (W m c y) (G m c y) (M m c y) (U m c y)
/-- The new first moment. -/
def A2 : FVec Ideal S1024x1024 .f32 := fun y => Adam.mom (G m c y) (M m c y)
/-- The new second moment. -/
def A3 : FVec Ideal S1024x1024 .f32 := fun y => Adam.sec (G m c y) (U m c y)

/-- Where the windows' blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ t.val < 2 := (by decide +kernel : ∀ t : Fin grid0.N, _)

/-- The row at position `s` of grid point `t`'s tile. -/
def row (t : Fin cfg0.N) (s : Fin 512) : Fin 1024 := ⟨t.val * 512 + s.val, by have := (idx t).2.2.2.2.2.2.2.2; omega⟩

/-- The inputs' blocks at a grid point, read at one entry. -/
theorem blocks (t : Fin cfg0.N) (s : Fin 512) (d : Fin 1024) :
    (show FVec Ideal S512x1024 .f32 from iblk m c 0 t) (ix2 s d) = W m c (ix2 (row t s) d) ∧ (show FVec Ideal S512x1024 .f32 from iblk m c 1 t) (ix2 s d) = G m c (ix2 (row t s) d)
    ∧ (show FVec Ideal S512x1024 .f32 from iblk m c 2 t) (ix2 s d) = M m c (ix2 (row t s) d) ∧ (show FVec Ideal S512x1024 .f32 from iblk m c 3 t) (ix2 s d) = U m c (ix2 (row t s) d) := by
  have h0 : (show FVec Ideal S512x1024 .f32 from iblk m c 0 t) (ix2 s d) = V m c main_arg0 (ix2 (row t s) d) := by unfold row; blk_ext [iblk, idx t]
  have h1 : (show FVec Ideal S512x1024 .f32 from iblk m c 1 t) (ix2 s d) = V m c main_arg1 (ix2 (row t s) d) := by unfold row; blk_ext [iblk, idx t]
  have h2 : (show FVec Ideal S512x1024 .f32 from iblk m c 2 t) (ix2 s d) = V m c main_arg2 (ix2 (row t s) d) := by unfold row; blk_ext [iblk, idx t]
  have h3 : (show FVec Ideal S512x1024 .f32 from iblk m c 3 t) (ix2 s d) = V m c main_arg3 (ix2 (row t s) d) := by unfold row; blk_ext [iblk, idx t]
  exact ⟨h0.trans (congrFun (V_main_arg0 m c) _), h1.trans (congrFun (V_main_arg1 m c) _), h2.trans (congrFun (V_main_arg2 m c) _), h3.trans (congrFun (V_main_arg3 m c) _)⟩

/-- What a grid point leaves in the outputs, at one entry. -/
theorem outs (x0 x1 x2 x3 : FVec Ideal S512x1024 .f32) (s : Fin 512) (d : Fin 1024) :
    (show FVec Ideal S512x1024 .f32 from out0_4 (F := Ideal) x0 x1 x2 x3) (ix2 s d) = x1 (ix2 s d)
    ∧ (show FVec Ideal S512x1024 .f32 from out0_5 (F := Ideal) x0 x1 x2 x3) (ix2 s d) = Adam.delta (x0 (ix2 s d)) (x1 (ix2 s d)) (x2 (ix2 s d)) (x3 (ix2 s d))
    ∧ (show FVec Ideal S512x1024 .f32 from out0_6 (F := Ideal) x0 x1 x2 x3) (ix2 s d) = Adam.mom (x1 (ix2 s d)) (x2 (ix2 s d))
    ∧ (show FVec Ideal S512x1024 .f32 from out0_7 (F := Ideal) x0 x1 x2 x3) (ix2 s d) = Adam.sec (x1 (ix2 s d)) (x3 (ix2 s d)) := by
  refine ⟨?_, ?_, ?_, ?_⟩ <;> refine (Blocks.canon_hit 0 _ _ _ s s d (Nat.zero_add _).symm).trans ?_
  all_goals pointwise [k0_pay1, k0_pay2, k0_pay3, Adam.delta, Adam.mom, Adam.sec]

set_option maxHeartbeats 2000000 in
/-- The results after the whole grid. -/
theorem finals : (dats m 0 c).arrAt 4 cfg0.N = A0 m c ∧ (dats m 0 c).arrAt 5 cfg0.N = A1 m c ∧ (dats m 0 c).arrAt 6 cfg0.N = A2 m c ∧ (dats m 0 c).arrAt 7 cfg0.N = A3 m c := by
  have h (t s d) := outs (iblk m c 0 t) (iblk m c 1 t) (iblk m c 2 t) (iblk m c 3 t) s d
  refine ⟨?_, ?_, ?_, ?_⟩ <;> refine (dats m 0 c).arrAt_eq_of_covers _ _ (by decide +kernel) fun t hf y => ?_
  all_goals
    blk_simp
    obtain ⟨s, d, rfl⟩ : ∃ (s : Fin 512) (d : Fin 1024), y = ix2 s d := ⟨y 0, y 1, by blk_ext []⟩
    obtain ⟨b0, b1, b2, b3⟩ := blocks m c t s d
  · rw [after0_4]; refine ((h t s d).1.trans b1).trans (congrArg (A0 m c) (?_ : ix2 (row t s) d = _)); unfold row; blk_ext [idx t]
  · rw [after0_5]; refine ((h t s d).2.1.trans (congr (congr (congr (congrArg Adam.delta b0) b1) b2) b3)).trans (congrArg (A1 m c) (?_ : ix2 (row t s) d = _)); unfold row; blk_ext [idx t]
  · rw [after0_6]; refine ((h t s d).2.2.1.trans (congrArg₂ Adam.mom b1 b2)).trans (congrArg (A2 m c) (?_ : ix2 (row t s) d = _)); unfold row; blk_ext [idx t]
  · rw [after0_7]; refine ((h t s d).2.2.2.trans (congrArg₂ Adam.sec b1 b3)).trans (congrArg (A3 m c) (?_ : ix2 (row t s) d = _)); unfold row; blk_ext [idx t]

/-- From arguments that agree, call and reference end with equal results. -/
theorem values : Cert.algebraic_Kernel8Ideal_Reference8Ideal := by
  pair_intro
  · run_from Value.run_blocks m g
  · run_from Cert.Reference8Ideal.Value.run m' g'
    all_goals
      first | rw [(finals m c).1] | rw [(finals m c).2.1] | rw [(finals m c).2.2.1] | rw [(finals m c).2.2.2]
      funext y
      obtain ⟨i, d, rfl⟩ : ∃ (i : Fin 1024) (d : Fin 1024), y = ix2 i d := ⟨y 0, y 1, by blk_ext []⟩
      pointwise [A0, A1, A2, A3, Adam.delta, Adam.mom, Adam.sec]

end Cert.Kernel8Ideal.Tile

/-! ## A chip's shard of `w_out` -/

namespace Cert.Kernel9Ideal.Tile

open Cert.Kernel9Ideal Cert.Kernel9Ideal.Gen

variable (m : (ℓ : Loc nD τ sig) → Buf (Elt Ideal) ℓ) (c : Dev nD)

/-- The weight. -/
abbrev W : FVec Ideal S256x1024 .f32 := m ((c.tc : Thread nD τ).loc main_arg0)
/-- The gradient. -/
abbrev G : FVec Ideal S256x1024 .f32 := m ((c.tc : Thread nD τ).loc main_arg1)
/-- The first moment. -/
abbrev M : FVec Ideal S256x1024 .f32 := m ((c.tc : Thread nD τ).loc main_arg2)
/-- The second moment. -/
abbrev U : FVec Ideal S256x1024 .f32 := m ((c.tc : Thread nD τ).loc main_arg3)
/-- The gradient handed on. -/
def A0 : FVec Ideal S256x1024 .f32 := fun y => G m c y
/-- The weight's change. -/
def A1 : FVec Ideal S256x1024 .f32 := fun y => Adam.delta (W m c y) (G m c y) (M m c y) (U m c y)
/-- The new first moment. -/
def A2 : FVec Ideal S256x1024 .f32 := fun y => Adam.mom (G m c y) (M m c y)
/-- The new second moment. -/
def A3 : FVec Ideal S256x1024 .f32 := fun y => Adam.sec (G m c y) (U m c y)

/-- Where the windows' blocks lie. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ t.val < 1 := (by decide +kernel : ∀ t : Fin grid0.N, _)

/-- The row at position `s` of grid point `t`'s tile. -/
def row (t : Fin cfg0.N) (s : Fin 256) : Fin 256 := ⟨t.val * 256 + s.val, by have := (idx t).2.2.2.2.2.2.2.2; omega⟩

/-- The inputs' blocks at a grid point, read at one entry. -/
theorem blocks (t : Fin cfg0.N) (s : Fin 256) (d : Fin 1024) :
    (show FVec Ideal S256x1024 .f32 from iblk m c 0 t) (ix2 s d) = W m c (ix2 (row t s) d) ∧ (show FVec Ideal S256x1024 .f32 from iblk m c 1 t) (ix2 s d) = G m c (ix2 (row t s) d)
    ∧ (show FVec Ideal S256x1024 .f32 from iblk m c 2 t) (ix2 s d) = M m c (ix2 (row t s) d) ∧ (show FVec Ideal S256x1024 .f32 from iblk m c 3 t) (ix2 s d) = U m c (ix2 (row t s) d) := by
  have h0 : (show FVec Ideal S256x1024 .f32 from iblk m c 0 t) (ix2 s d) = V m c main_arg0 (ix2 (row t s) d) := by unfold row; blk_ext [iblk, idx t]
  have h1 : (show FVec Ideal S256x1024 .f32 from iblk m c 1 t) (ix2 s d) = V m c main_arg1 (ix2 (row t s) d) := by unfold row; blk_ext [iblk, idx t]
  have h2 : (show FVec Ideal S256x1024 .f32 from iblk m c 2 t) (ix2 s d) = V m c main_arg2 (ix2 (row t s) d) := by unfold row; blk_ext [iblk, idx t]
  have h3 : (show FVec Ideal S256x1024 .f32 from iblk m c 3 t) (ix2 s d) = V m c main_arg3 (ix2 (row t s) d) := by unfold row; blk_ext [iblk, idx t]
  exact ⟨h0.trans (congrFun (V_main_arg0 m c) _), h1.trans (congrFun (V_main_arg1 m c) _), h2.trans (congrFun (V_main_arg2 m c) _), h3.trans (congrFun (V_main_arg3 m c) _)⟩

/-- What a grid point leaves in the outputs, at one entry. -/
theorem outs (x0 x1 x2 x3 : FVec Ideal S256x1024 .f32) (s : Fin 256) (d : Fin 1024) :
    (show FVec Ideal S256x1024 .f32 from out0_4 (F := Ideal) x0 x1 x2 x3) (ix2 s d) = x1 (ix2 s d)
    ∧ (show FVec Ideal S256x1024 .f32 from out0_5 (F := Ideal) x0 x1 x2 x3) (ix2 s d) = Adam.delta (x0 (ix2 s d)) (x1 (ix2 s d)) (x2 (ix2 s d)) (x3 (ix2 s d))
    ∧ (show FVec Ideal S256x1024 .f32 from out0_6 (F := Ideal) x0 x1 x2 x3) (ix2 s d) = Adam.mom (x1 (ix2 s d)) (x2 (ix2 s d))
    ∧ (show FVec Ideal S256x1024 .f32 from out0_7 (F := Ideal) x0 x1 x2 x3) (ix2 s d) = Adam.sec (x1 (ix2 s d)) (x3 (ix2 s d)) := by
  refine ⟨?_, ?_, ?_, ?_⟩ <;> refine (Blocks.canon_hit 0 _ _ _ s s d (Nat.zero_add _).symm).trans ?_
  all_goals pointwise [k0_pay1, k0_pay2, k0_pay3, Adam.delta, Adam.mom, Adam.sec]

set_option maxHeartbeats 2000000 in
/-- The results after the whole grid. -/
theorem finals : (dats m 0 c).arrAt 4 cfg0.N = A0 m c ∧ (dats m 0 c).arrAt 5 cfg0.N = A1 m c ∧ (dats m 0 c).arrAt 6 cfg0.N = A2 m c ∧ (dats m 0 c).arrAt 7 cfg0.N = A3 m c := by
  have h (t s d) := outs (iblk m c 0 t) (iblk m c 1 t) (iblk m c 2 t) (iblk m c 3 t) s d
  refine ⟨?_, ?_, ?_, ?_⟩ <;> refine (dats m 0 c).arrAt_eq_of_covers _ _ (by decide +kernel) fun t hf y => ?_
  all_goals
    blk_simp
    obtain ⟨s, d, rfl⟩ : ∃ (s : Fin 256) (d : Fin 1024), y = ix2 s d := ⟨y 0, y 1, by blk_ext []⟩
    obtain ⟨b0, b1, b2, b3⟩ := blocks m c t s d
  · rw [after0_4]; refine ((h t s d).1.trans b1).trans (congrArg (A0 m c) (?_ : ix2 (row t s) d = _)); unfold row; blk_ext [idx t]
  · rw [after0_5]; refine ((h t s d).2.1.trans (congr (congr (congr (congrArg Adam.delta b0) b1) b2) b3)).trans (congrArg (A1 m c) (?_ : ix2 (row t s) d = _)); unfold row; blk_ext [idx t]
  · rw [after0_6]; refine ((h t s d).2.2.1.trans (congrArg₂ Adam.mom b1 b2)).trans (congrArg (A2 m c) (?_ : ix2 (row t s) d = _)); unfold row; blk_ext [idx t]
  · rw [after0_7]; refine ((h t s d).2.2.2.trans (congrArg₂ Adam.sec b1 b3)).trans (congrArg (A3 m c) (?_ : ix2 (row t s) d = _)); unfold row; blk_ext [idx t]

/-- From arguments that agree, call and reference end with equal results. -/
theorem values : Cert.algebraic_Kernel9Ideal_Reference9Ideal := by
  pair_intro
  · run_from Value.run_blocks m g
  · run_from Cert.Reference9Ideal.Value.run m' g'
    all_goals
      first | rw [(finals m c).1] | rw [(finals m c).2.1] | rw [(finals m c).2.2.1] | rw [(finals m c).2.2.2]
      funext y
      obtain ⟨i, d, rfl⟩ : ∃ (i : Fin 256) (d : Fin 1024), y = ix2 i d := ⟨y 0, y 1, by blk_ext []⟩
      pointwise [A0, A1, A2, A3, Adam.delta, Adam.mom, Adam.sec]

end Cert.Kernel9Ideal.Tile

/-! ## A chip's shard of `w_in`, transposed -/

namespace Cert.Kernel10Ideal.Tile

open Cert.Kernel10Ideal Cert.Kernel10Ideal.Gen

variable (m : (ℓ : Loc nD τ sig) → Buf (Elt Ideal) ℓ) (c : Dev nD)

/-- The weight. -/
def W : FVec Ideal S448x1024 .f32 := fun y => (show FVec Ideal S1024x448 .f32 from m ((c.tc : Thread nD τ).loc main_arg0)) (ix2 (y 1) (y 0))
/-- The gradient. -/
def G : FVec Ideal S448x1024 .f32 := fun y => (show FVec Ideal S1024x448 .f32 from m ((c.tc : Thread nD τ).loc main_arg1)) (ix2 (y 1) (y 0))
/-- The first moment. -/
def M : FVec Ideal S448x1024 .f32 := fun y => (show FVec Ideal S1024x448 .f32 from m ((c.tc : Thread nD τ).loc main_arg2)) (ix2 (y 1) (y 0))
/-- The second moment. -/
def U : FVec Ideal S448x1024 .f32 := fun y => (show FVec Ideal S1024x448 .f32 from m ((c.tc : Thread nD τ).loc main_arg3)) (ix2 (y 1) (y 0))
/-- The gradient handed on. -/
def A0 : FVec Ideal S448x1024 .f32 := fun y => G m c y
/-- The weight's change. -/
def A1 : FVec Ideal S448x1024 .f32 := fun y => Adam.delta (W m c y) (G m c y) (M m c y) (U m c y)
/-- The new first moment. -/
def A2 : FVec Ideal S448x1024 .f32 := fun y => Adam.mom (G m c y) (M m c y)
/-- The new second moment. -/
def A3 : FVec Ideal S448x1024 .f32 := fun y => Adam.sec (G m c y) (U m c y)

/-- Where the windows' blocks lie. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ t.val < 1 := (by decide +kernel : ∀ t : Fin grid0.N, _)

/-- The row at position `s` of grid point `t`'s tile. -/
def row (t : Fin cfg0.N) (s : Fin 448) : Fin 448 := ⟨t.val * 448 + s.val, by have := (idx t).2.2.2.2.2.2.2.2; omega⟩

/-- The inputs' blocks at a grid point, read at one entry. -/
theorem blocks (t : Fin cfg0.N) (s : Fin 448) (d : Fin 1024) :
    (show FVec Ideal S448x1024 .f32 from iblk m c 0 t) (ix2 s d) = W m c (ix2 (row t s) d) ∧ (show FVec Ideal S448x1024 .f32 from iblk m c 1 t) (ix2 s d) = G m c (ix2 (row t s) d)
    ∧ (show FVec Ideal S448x1024 .f32 from iblk m c 2 t) (ix2 s d) = M m c (ix2 (row t s) d) ∧ (show FVec Ideal S448x1024 .f32 from iblk m c 3 t) (ix2 s d) = U m c (ix2 (row t s) d) := by
  have h0 : (show FVec Ideal S448x1024 .f32 from iblk m c 0 t) (ix2 s d) = V m c main_v0 (ix2 (row t s) d) := by unfold row; blk_ext [iblk, idx t]
  have h1 : (show FVec Ideal S448x1024 .f32 from iblk m c 1 t) (ix2 s d) = V m c main_v1 (ix2 (row t s) d) := by unfold row; blk_ext [iblk, idx t]
  have h2 : (show FVec Ideal S448x1024 .f32 from iblk m c 2 t) (ix2 s d) = V m c main_v2 (ix2 (row t s) d) := by unfold row; blk_ext [iblk, idx t]
  have h3 : (show FVec Ideal S448x1024 .f32 from iblk m c 3 t) (ix2 s d) = V m c main_v3 (ix2 (row t s) d) := by unfold row; blk_ext [iblk, idx t]
  exact ⟨h0.trans (by entry_read; pointwise [W]), h1.trans (by entry_read; pointwise [G]), h2.trans (by entry_read; pointwise [M]), h3.trans (by entry_read; pointwise [U])⟩

/-- What a grid point leaves in the outputs, at one entry. -/
theorem outs (x0 x1 x2 x3 : FVec Ideal S448x1024 .f32) (s : Fin 448) (d : Fin 1024) :
    (show FVec Ideal S448x1024 .f32 from out0_4 (F := Ideal) x0 x1 x2 x3) (ix2 s d) = x1 (ix2 s d)
    ∧ (show FVec Ideal S448x1024 .f32 from out0_5 (F := Ideal) x0 x1 x2 x3) (ix2 s d) = Adam.delta (x0 (ix2 s d)) (x1 (ix2 s d)) (x2 (ix2 s d)) (x3 (ix2 s d))
    ∧ (show FVec Ideal S448x1024 .f32 from out0_6 (F := Ideal) x0 x1 x2 x3) (ix2 s d) = Adam.mom (x1 (ix2 s d)) (x2 (ix2 s d))
    ∧ (show FVec Ideal S448x1024 .f32 from out0_7 (F := Ideal) x0 x1 x2 x3) (ix2 s d) = Adam.sec (x1 (ix2 s d)) (x3 (ix2 s d)) := by
  refine ⟨?_, ?_, ?_, ?_⟩ <;> refine (Blocks.canon_hit 0 _ _ _ s s d (Nat.zero_add _).symm).trans ?_
  all_goals pointwise [k0_pay1, k0_pay2, k0_pay3, k0_pay4, Adam.delta, Adam.mom, Adam.sec]

set_option maxHeartbeats 2000000 in
/-- The results after the whole grid. -/
theorem finals : (dats m 0 c).arrAt 4 cfg0.N = A0 m c ∧ (dats m 0 c).arrAt 5 cfg0.N = A1 m c ∧ (dats m 0 c).arrAt 6 cfg0.N = A2 m c ∧ (dats m 0 c).arrAt 7 cfg0.N = A3 m c := by
  have h (t s d) := outs (iblk m c 0 t) (iblk m c 1 t) (iblk m c 2 t) (iblk m c 3 t) s d
  refine ⟨?_, ?_, ?_, ?_⟩ <;> refine (dats m 0 c).arrAt_eq_of_covers _ _ (by decide +kernel) fun t hf y => ?_
  all_goals
    blk_simp
    obtain ⟨s, d, rfl⟩ : ∃ (s : Fin 448) (d : Fin 1024), y = ix2 s d := ⟨y 0, y 1, by blk_ext []⟩
    obtain ⟨b0, b1, b2, b3⟩ := blocks m c t s d
  · rw [after0_4]; refine ((h t s d).1.trans b1).trans (congrArg (A0 m c) (?_ : ix2 (row t s) d = _)); unfold row; blk_ext [idx t]
  · rw [after0_5]; refine ((h t s d).2.1.trans (congr (congr (congr (congrArg Adam.delta b0) b1) b2) b3)).trans (congrArg (A1 m c) (?_ : ix2 (row t s) d = _)); unfold row; blk_ext [idx t]
  · rw [after0_6]; refine ((h t s d).2.2.1.trans (congrArg₂ Adam.mom b1 b2)).trans (congrArg (A2 m c) (?_ : ix2 (row t s) d = _)); unfold row; blk_ext [idx t]
  · rw [after0_7]; refine ((h t s d).2.2.2.trans (congrArg₂ Adam.sec b1 b3)).trans (congrArg (A3 m c) (?_ : ix2 (row t s) d = _)); unfold row; blk_ext [idx t]

/-- From arguments that agree, call and reference end with equal results. -/
theorem values : Cert.algebraic_Kernel10Ideal_Reference10Ideal := by
  pair_intro
  · run_from Value.run_blocks m g
  · run_from Cert.Reference10Ideal.Value.run m' g'
    all_goals
      first | rw [(finals m c).1] | rw [(finals m c).2.1] | rw [(finals m c).2.2.1] | rw [(finals m c).2.2.2]
      funext y
      obtain ⟨i, d, rfl⟩ : ∃ (i : Fin 448) (d : Fin 1024), y = ix2 i d := ⟨y 0, y 1, by blk_ext []⟩
      pointwise [W, G, M, U, A0, A1, A2, A3, Adam.delta, Adam.mom, Adam.sec]

end Cert.Kernel10Ideal.Tile

end
-- ==== Proof.lean ====
/- The proof of the certificate's claims. -/
module

public import proofs.«01_k».proof.Defs
public import proofs.«01_k».proof.Proof.Gen.Kernel
public import proofs.«01_k».proof.Proof.Frame
public import proofs.«01_k».proof.Proof.Join
public import proofs.«01_k».proof.Proof.MSame
public import proofs.«01_k».proof.Proof.MJoin
public import proofs.«01_k».proof.Proof.LSame
public import proofs.«01_k».proof.Proof.LJoin
public import proofs.«01_k».proof.Proof.GSame
public import proofs.«01_k».proof.Proof.Gx
public import proofs.«01_k».proof.Proof.Gw
public import proofs.«01_k».proof.Proof.Ip
public import proofs.«01_k».proof.Proof.Ad

@[expose] public section

set_option maxRecDepth 16384

noncomputable section

namespace Cert.Proof

open Idealize.ShloMosaic Idealize.SL.Sem Idealize.ShloMosaic.Tactic

/-- The side conditions of the precondition's operations. -/
theorem pre_facts : Cert.Pre_finite.Facts := ⟨by decide, by decide, by decide⟩

section
set_option backward.isDefEq.respectTransparency.types false

/-- The body printed for the machine is the body printed for the reals. -/
theorem body_same : @Kernel.cc0_ffn_bwd_ln1 Bits _ _ = @KernelIdeal.cc0_ffn_bwd_ln1 Bits _ _ := rfl

set_option maxHeartbeats 1000000 in
/-- So are the two tables of bodies. -/
theorem table_same : Kernel.defs₀ (F := Bits) = KernelIdeal.defs₀ (F := Bits) := by
  refine congrArg Defs.onTc (funext fun l => funext fun x => ?_)
  match l, x with
  | 0, (t, s) =>
    change Kernel.cc0_ffn_bwd_ln1 (F := Bits) _ _ _ _ _ _ _ _ _ _ _ _ _ _ _ _ _ _ _ _ _ _ _ _ _ _ _ _ _ _ _ _ _ _ = KernelIdeal.cc0_ffn_bwd_ln1 (F := Bits) _ _ _ _ _ _ _ _ _ _ _ _ _ _ _ _ _ _ _ _ _ _ _ _ _ _ _ _ _ _ _ _ _ _
    rw [body_same]
    rfl
  | ⟨_ + 1, h⟩, _ => exact absurd h (Nat.not_lt.2 (Nat.le_add_left _ _))

/-- The two programs have the same table of bodies, pipelines included. -/
theorem defs_same : Kernel.defs (F := Bits) = KernelIdeal.defs (F := Bits) := congrArg (Pipeline.defs KernelIdeal.pcfgs) table_same

set_option maxHeartbeats 4000000 in
/-- The two programs have the same main function. -/
theorem main_same : Kernel.main (F := Bits) = KernelIdeal.main (F := Bits) := funext fun _ => by
  unfold Kernel.main KernelIdeal.main
  rfl

/-- The machine program's frame is the run at every float instance, taken at the machine's words. -/
theorem frame_kernel : Cert.quiescent_Kernel := fun m ρ _ => by
  have h := Cert.KernelIdeal.Run.frame (F := Bits) m ρ
  rw [← main_same, ← defs_same] at h
  exact h

end

/-- The frame of the call over the extended reals is the same run, taken there. -/
theorem frame_ideal : Cert.quiescent_KernelIdeal := fun m ρ _ => Cert.KernelIdeal.Run.frame (F := Ideal) m ρ

/-- The reference runs to its end, leaves its arguments, and has no semaphore to leave raised. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The precondition's side conditions, for the statements that cite them. -/
instance : Cert.Pre_finite.Facts := pre_facts

/-- From arguments that agree, and are finite where the precondition says so, call and reference end with equal results. -/
theorem values : Cert.algebraic_KernelIdeal_ReferenceIdeal_pre_finite := by
  pair_intro
  · run_from Cert.KernelIdeal.Run.run_values m g
  · run_from Cert.ReferenceIdeal.Value.run m' g'
    · exact Join.join_W m m' c (hagree c)
    · exact Join.join_N m m' c hpre (hagree c)
    · exact Join.join_Nb m m' c hpre (hagree c)
    · exact Join.join_C m m' c hpre (hagree c)
    · exact Join.join_G m m' c (hagree c)
    · exact Join.join_B m m' c (hagree c)

/-- All the claims together. -/
theorem claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    pre_facts, Cert.Join3.pre_facts,
    frame_kernel, frame_ideal, fun m ρ _ => frame_ideal m ρ trivial, frame_reference, fun m ρ _ => frame_reference m ρ trivial,
    Cert.Same2.frame_kernel, Cert.Same2.frame_ideal, Cert.Same2.frame_reference,
    Cert.Same3.frame_kernel, Cert.Same3.frame_ideal, fun m ρ _ => Cert.Same3.frame_ideal m ρ trivial, Cert.Same3.frame_reference,
    fun m ρ _ => Cert.Same3.frame_reference m ρ trivial,
    Cert.SameG.frame_kernel4, Cert.SameG.frame_ideal4, Cert.SameG.frame_reference4,
    Cert.SameG.frame_kernel5, Cert.SameG.frame_ideal5, Cert.SameG.frame_reference5,
    Cert.SameG.frame_kernel6, Cert.SameG.frame_ideal6, Cert.SameG.frame_reference6,
    Cert.SameG.frame_kernel7, Cert.SameG.frame_ideal7, Cert.SameG.frame_reference7,
    Cert.SameG.frame_kernel8, Cert.SameG.frame_ideal8, Cert.SameG.frame_reference8,
    Cert.SameG.frame_kernel9, Cert.SameG.frame_ideal9, Cert.SameG.frame_reference9,
    Cert.SameG.frame_kernel10, Cert.SameG.frame_ideal10, Cert.SameG.frame_reference10,
    trivial, values, trivial, Cert.Join2.values, trivial, Cert.Join3.values,
    trivial, Cert.Kernel4Ideal.Tile.values, trivial, Cert.Kernel5Ideal.Tile.values, trivial, Cert.Kernel6Ideal.Tile.values,
    trivial, Cert.Kernel7Ideal.Tile.values, trivial, Cert.Kernel8Ideal.Tile.values, trivial, Cert.Kernel9Ideal.Tile.values, trivial, Cert.Kernel10Ideal.Tile.values⟩

end Cert.Proof

end
